-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_QuantiseReferenceIdeal (m : (ℓ : Loc Cert.QuantiseReferenceIdeal.nD Cert.QuantiseReferenceIdeal.τ Cert.QuantiseReferenceIdeal.sig) → Buf (Elt Ideal) ℓ) : Prop :=
  True

def Pre_Both (m : (ℓ : Loc Cert.Both.nD Cert.Both.τ Cert.Both.sig) → Buf (Elt Bits) ℓ) : Prop :=
  True

def Pre_BothIdeal (m : (ℓ : Loc Cert.BothIdeal.nD Cert.BothIdeal.τ Cert.BothIdeal.sig) → Buf (Elt Ideal) ℓ) : Prop :=
  True

def Pre_BothReferenceIdeal (m : (ℓ : Loc Cert.BothReferenceIdeal.nD Cert.BothReferenceIdeal.τ Cert.BothReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0)
      ∧ r.2.mem ((c.tc : Thread Cert.Quantise.nD Cert.Quantise.τ).loc Cert.Quantise.main_arg1) = m ((c.tc : Thread Cert.Quantise.nD Cert.Quantise.τ).loc Cert.Quantise.main_arg1))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
      ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1))
      ∧ r.2.sem = fun _ => 0)

def quiescent_QuantiseReferenceIdeal [hQuantiseReferenceIdeal : Cert.QuantiseReferenceIdeal.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0)
      ∧ r.2.mem ((c.tc : Thread Cert.QuantiseReferenceIdeal.nD Cert.QuantiseReferenceIdeal.τ).loc Cert.QuantiseReferenceIdeal.main_arg1) = m ((c.tc : Thread Cert.QuantiseReferenceIdeal.nD Cert.QuantiseReferenceIdeal.τ).loc Cert.QuantiseReferenceIdeal.main_arg1))
      ∧ r.2.sem = fun _ => 0)

def quiescent_Both [hBoth : Cert.Both.Facts] : Prop :=
  ∀ (m : (ℓ : Loc Cert.Both.nD Cert.Both.τ Cert.Both.sig) → Buf (Elt Bits) ℓ) (g : Dev Cert.Both.nD → PrngReg), Pre_Both m →
    θ_run (Cert.Both.defs (F := Bits)) (onTc (τ := Cert.Both.τ) (Cert.Both.main (F := Bits))) ⟨m, fun _ => 0, g⟩ (fun r => (∀ c : Dev Cert.Both.nD,
      r.2.mem ((c.tc : Thread Cert.Both.nD Cert.Both.τ).loc Cert.Both.main_arg0) = m ((c.tc : Thread Cert.Both.nD Cert.Both.τ).loc Cert.Both.main_arg0)
      ∧ r.2.mem ((c.tc : Thread Cert.Both.nD Cert.Both.τ).loc Cert.Both.main_arg1) = m ((c.tc : Thread Cert.Both.nD Cert.Both.τ).loc Cert.Both.main_arg1)
      ∧ r.2.mem ((c.tc : Thread Cert.Both.nD Cert.Both.τ).loc Cert.Both.main_arg2) = m ((c.tc : Thread Cert.Both.nD Cert.Both.τ).loc Cert.Both.main_arg2)
      ∧ r.2.mem ((c.tc : Thread Cert.Both.nD Cert.Both.τ).loc Cert.Both.main_arg3) = m ((c.tc : Thread Cert.Both.nD Cert.Both.τ).loc Cert.Both.main_arg3))
      ∧ r.2.sem = fun _ => 0)

def quiescent_BothIdeal [hBothIdeal : Cert.BothIdeal.Facts] : Prop :=
  ∀ (m : (ℓ : Loc Cert.BothIdeal.nD Cert.BothIdeal.τ Cert.BothIdeal.sig) → Buf (Elt Ideal) ℓ) (g : Dev Cert.BothIdeal.nD → PrngReg), Pre_BothIdeal m →
    θ_run (Cert.BothIdeal.defs (F := Ideal)) (onTc (τ := Cert.BothIdeal.τ) (Cert.BothIdeal.main (F := Ideal))) ⟨m, fun _ => 0, g⟩ (fun r => (∀ c : Dev Cert.BothIdeal.nD,
      r.2.mem ((c.tc : Thread Cert.BothIdeal.nD Cert.BothIdeal.τ).loc Cert.BothIdeal.main_arg0) = m ((c.tc : Thread Cert.BothIdeal.nD Cert.BothIdeal.τ).loc Cert.BothIdeal.main_arg0)
      ∧ r.2.mem ((c.tc : Thread Cert.BothIdeal.nD Cert.BothIdeal.τ).loc Cert.BothIdeal.main_arg1) = m ((c.tc : Thread Cert.BothIdeal.nD Cert.BothIdeal.τ).loc Cert.BothIdeal.main_arg1)
      ∧ r.2.mem ((c.tc : Thread Cert.BothIdeal.nD Cert.BothIdeal.τ).loc Cert.BothIdeal.main_arg2) = m ((c.tc : Thread Cert.BothIdeal.nD Cert.BothIdeal.τ).loc Cert.BothIdeal.main_arg2)
      ∧ r.2.mem ((c.tc : Thread Cert.BothIdeal.nD Cert.BothIdeal.τ).loc Cert.BothIdeal.main_arg3) = m ((c.tc : Thread Cert.BothIdeal.nD Cert.BothIdeal.τ).loc Cert.BothIdeal.main_arg3))
      ∧ r.2.sem = fun _ => 0)

def quiescent_BothReferenceIdeal [hBothReferenceIdeal : Cert.BothReferenceIdeal.Facts] : Prop :=
  ∀ (m : (ℓ : Loc Cert.BothReferenceIdeal.nD Cert.BothReferenceIdeal.τ Cert.BothReferenceIdeal.sig) → Buf (Elt Ideal) ℓ) (g : Dev Cert.BothReferenceIdeal.nD → PrngReg), Pre_BothReferenceIdeal m →
    θ_run (Cert.BothReferenceIdeal.defs (F := Ideal)) (onTc (τ := Cert.BothReferenceIdeal.τ) (Cert.BothReferenceIdeal.main (F := Ideal))) ⟨m, fun _ => 0, g⟩ (fun r => (∀ c : Dev Cert.BothReferenceIdeal.nD,
      r.2.mem ((c.tc : Thread Cert.BothReferenceIdeal.nD Cert.BothReferenceIdeal.τ).loc Cert.BothReferenceIdeal.main_arg0) = m ((c.tc : Thread Cert.BothReferenceIdeal.nD Cert.BothReferenceIdeal.τ).loc Cert.BothReferenceIdeal.main_arg0)
      ∧ r.2.mem ((c.tc : Thread Cert.BothReferenceIdeal.nD Cert.BothReferenceIdeal.τ).loc Cert.BothReferenceIdeal.main_arg1) = m ((c.tc : Thread Cert.BothReferenceIdeal.nD Cert.BothReferenceIdeal.τ).loc Cert.BothReferenceIdeal.main_arg1)
      ∧ r.2.mem ((c.tc : Thread Cert.BothReferenceIdeal.nD Cert.BothReferenceIdeal.τ).loc Cert.BothReferenceIdeal.main_arg2) = m ((c.tc : Thread Cert.BothReferenceIdeal.nD Cert.BothReferenceIdeal.τ).loc Cert.BothReferenceIdeal.main_arg2)
      ∧ r.2.mem ((c.tc : Thread Cert.BothReferenceIdeal.nD Cert.BothReferenceIdeal.τ).loc Cert.BothReferenceIdeal.main_arg3) = m ((c.tc : Thread Cert.BothReferenceIdeal.nD Cert.BothReferenceIdeal.τ).loc Cert.BothReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Quantise_QuantiseIdeal : Prop :=
  True

def algebraic_QuantiseIdeal_QuantiseReferenceIdeal [hQuantiseIdeal : Cert.QuantiseIdeal.Facts] [hQuantiseReferenceIdeal : Cert.QuantiseReferenceIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg), Pre_QuantiseIdeal m →
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)
      ∧ m' ((c.tc : Thread Cert.QuantiseReferenceIdeal.nD Cert.QuantiseReferenceIdeal.τ).loc Cert.QuantiseReferenceIdeal.main_arg1) = m ((c.tc : Thread Cert.QuantiseIdeal.nD Cert.QuantiseIdeal.τ).loc Cert.QuantiseIdeal.main_arg1)) →
    ∃ (v0 : (c : Dev Cert.QuantiseIdeal.nD) → Buf (Elt Ideal) ((c.tc : Thread Cert.QuantiseIdeal.nD Cert.QuantiseIdeal.τ).loc Cert.QuantiseIdeal.main_v2_0)) (v1 : (c : Dev Cert.QuantiseIdeal.nD) → Buf (Elt Ideal) ((c.tc : Thread Cert.QuantiseIdeal.nD Cert.QuantiseIdeal.τ).loc Cert.QuantiseIdeal.main_v2_1)) (v2 : (c : Dev Cert.QuantiseIdeal.nD) → Buf (Elt Ideal) ((c.tc : Thread Cert.QuantiseIdeal.nD Cert.QuantiseIdeal.τ).loc Cert.QuantiseIdeal.main_v2_4)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v2_0) = v0 c
          ∧ r.2.mem ((c.tc : Thread Cert.QuantiseIdeal.nD Cert.QuantiseIdeal.τ).loc Cert.QuantiseIdeal.main_v2_1) = v1 c
          ∧ r.2.mem ((c.tc : Thread Cert.QuantiseIdeal.nD Cert.QuantiseIdeal.τ).loc Cert.QuantiseIdeal.main_v2_4) = v2 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
          ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          r.2.mem ((c.tc : Thread Cert.QuantiseReferenceIdeal.nD Cert.QuantiseReferenceIdeal.τ).loc Cert.QuantiseReferenceIdeal.main_v15) = v0 c
          ∧ r.2.mem ((c.tc : Thread Cert.QuantiseReferenceIdeal.nD Cert.QuantiseReferenceIdeal.τ).loc Cert.QuantiseReferenceIdeal.main_v35) = v1 c
          ∧ r.2.mem ((c.tc : Thread Cert.QuantiseReferenceIdeal.nD Cert.QuantiseReferenceIdeal.τ).loc Cert.QuantiseReferenceIdeal.main_v76) = v2 c
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0)
          ∧ r.2.mem ((c.tc : Thread Cert.QuantiseReferenceIdeal.nD Cert.QuantiseReferenceIdeal.τ).loc Cert.QuantiseReferenceIdeal.main_arg1) = m' ((c.tc : Thread Cert.QuantiseReferenceIdeal.nD Cert.QuantiseReferenceIdeal.τ).loc Cert.QuantiseReferenceIdeal.main_arg1))

def preserves_Both_BothIdeal : Prop :=
  True

def algebraic_BothIdeal_BothReferenceIdeal [hBothIdeal : Cert.BothIdeal.Facts] [hBothReferenceIdeal : Cert.BothReferenceIdeal.Facts] : Prop :=
  ∀ (m : (ℓ : Loc Cert.BothIdeal.nD Cert.BothIdeal.τ Cert.BothIdeal.sig) → Buf (Elt Ideal) ℓ) (g : Dev Cert.BothIdeal.nD → PrngReg)
    (m' : (ℓ : Loc Cert.BothReferenceIdeal.nD Cert.BothReferenceIdeal.τ Cert.BothReferenceIdeal.sig) → Buf (Elt Ideal) ℓ) (g' : Dev Cert.BothReferenceIdeal.nD → PrngReg), Pre_BothIdeal m →
    (∀ c : Dev Cert.BothIdeal.nD,
      m' ((c.tc : Thread Cert.BothReferenceIdeal.nD Cert.BothReferenceIdeal.τ).loc Cert.BothReferenceIdeal.main_arg0) = m ((c.tc : Thread Cert.BothIdeal.nD Cert.BothIdeal.τ).loc Cert.BothIdeal.main_arg0)
      ∧ m' ((c.tc : Thread Cert.BothReferenceIdeal.nD Cert.BothReferenceIdeal.τ).loc Cert.BothReferenceIdeal.main_arg1) = m ((c.tc : Thread Cert.BothIdeal.nD Cert.BothIdeal.τ).loc Cert.BothIdeal.main_arg1)
      ∧ m' ((c.tc : Thread Cert.BothReferenceIdeal.nD Cert.BothReferenceIdeal.τ).loc Cert.BothReferenceIdeal.main_arg2) = m ((c.tc : Thread Cert.BothIdeal.nD Cert.BothIdeal.τ).loc Cert.BothIdeal.main_arg2)
      ∧ m' ((c.tc : Thread Cert.BothReferenceIdeal.nD Cert.BothReferenceIdeal.τ).loc Cert.BothReferenceIdeal.main_arg3) = m ((c.tc : Thread Cert.BothIdeal.nD Cert.BothIdeal.τ).loc Cert.BothIdeal.main_arg3)) →
    ∃ (v0 : (c : Dev Cert.BothIdeal.nD) → Buf (Elt Ideal) ((c.tc : Thread Cert.BothIdeal.nD Cert.BothIdeal.τ).loc Cert.BothIdeal.main_v6)) (v1 : (c : Dev Cert.BothIdeal.nD) → Buf (Elt Ideal) ((c.tc : Thread Cert.BothIdeal.nD Cert.BothIdeal.τ).loc Cert.BothIdeal.main_v2_0)) (v2 : (c : Dev Cert.BothIdeal.nD) → Buf (Elt Ideal) ((c.tc : Thread Cert.BothIdeal.nD Cert.BothIdeal.τ).loc Cert.BothIdeal.main_v2_1)) (v3 : (c : Dev Cert.BothIdeal.nD) → Buf (Elt Ideal) ((c.tc : Thread Cert.BothIdeal.nD Cert.BothIdeal.τ).loc Cert.BothIdeal.main_v2_4)),
      θ_run (Cert.BothIdeal.defs (F := Ideal)) (onTc (τ := Cert.BothIdeal.τ) (Cert.BothIdeal.main (F := Ideal))) ⟨m, fun _ => 0, g⟩ (fun r => ∀ c : Dev Cert.BothIdeal.nD,
          r.2.mem ((c.tc : Thread Cert.BothIdeal.nD Cert.BothIdeal.τ).loc Cert.BothIdeal.main_v6) = v0 c
          ∧ r.2.mem ((c.tc : Thread Cert.BothIdeal.nD Cert.BothIdeal.τ).loc Cert.BothIdeal.main_v2_0) = v1 c
          ∧ r.2.mem ((c.tc : Thread Cert.BothIdeal.nD Cert.BothIdeal.τ).loc Cert.BothIdeal.main_v2_1) = v2 c
          ∧ r.2.mem ((c.tc : Thread Cert.BothIdeal.nD Cert.BothIdeal.τ).loc Cert.BothIdeal.main_v2_4) = v3 c
          ∧ r.2.mem ((c.tc : Thread Cert.BothIdeal.nD Cert.BothIdeal.τ).loc Cert.BothIdeal.main_arg0) = m ((c.tc : Thread Cert.BothIdeal.nD Cert.BothIdeal.τ).loc Cert.BothIdeal.main_arg0)
          ∧ r.2.mem ((c.tc : Thread Cert.BothIdeal.nD Cert.BothIdeal.τ).loc Cert.BothIdeal.main_arg1) = m ((c.tc : Thread Cert.BothIdeal.nD Cert.BothIdeal.τ).loc Cert.BothIdeal.main_arg1)
          ∧ r.2.mem ((c.tc : Thread Cert.BothIdeal.nD Cert.BothIdeal.τ).loc Cert.BothIdeal.main_arg2) = m ((c.tc : Thread Cert.BothIdeal.nD Cert.BothIdeal.τ).loc Cert.BothIdeal.main_arg2)
          ∧ r.2.mem ((c.tc : Thread Cert.BothIdeal.nD Cert.BothIdeal.τ).loc Cert.BothIdeal.main_arg3) = m ((c.tc : Thread Cert.BothIdeal.nD Cert.BothIdeal.τ).loc Cert.BothIdeal.main_arg3))
      ∧ θ_run (Cert.BothReferenceIdeal.defs (F := Ideal)) (onTc (τ := Cert.BothReferenceIdeal.τ) (Cert.BothReferenceIdeal.main (F := Ideal))) ⟨m', fun _ => 0, g'⟩ (fun r => ∀ c : Dev Cert.BothReferenceIdeal.nD,
          r.2.mem ((c.tc : Thread Cert.BothReferenceIdeal.nD Cert.BothReferenceIdeal.τ).loc Cert.BothReferenceIdeal.main_v140) = v0 c
          ∧ r.2.mem ((c.tc : Thread Cert.BothReferenceIdeal.nD Cert.BothReferenceIdeal.τ).loc Cert.BothReferenceIdeal.main_v15) = v1 c
          ∧ r.2.mem ((c.tc : Thread Cert.BothReferenceIdeal.nD Cert.BothReferenceIdeal.τ).loc Cert.BothReferenceIdeal.main_v35) = v2 c
          ∧ r.2.mem ((c.tc : Thread Cert.BothReferenceIdeal.nD Cert.BothReferenceIdeal.τ).loc Cert.BothReferenceIdeal.main_v76) = v3 c
          ∧ r.2.mem ((c.tc : Thread Cert.BothReferenceIdeal.nD Cert.BothReferenceIdeal.τ).loc Cert.BothReferenceIdeal.main_arg0) = m' ((c.tc : Thread Cert.BothReferenceIdeal.nD Cert.BothReferenceIdeal.τ).loc Cert.BothReferenceIdeal.main_arg0)
          ∧ r.2.mem ((c.tc : Thread Cert.BothReferenceIdeal.nD Cert.BothReferenceIdeal.τ).loc Cert.BothReferenceIdeal.main_arg1) = m' ((c.tc : Thread Cert.BothReferenceIdeal.nD Cert.BothReferenceIdeal.τ).loc Cert.BothReferenceIdeal.main_arg1)
          ∧ r.2.mem ((c.tc : Thread Cert.BothReferenceIdeal.nD Cert.BothReferenceIdeal.τ).loc Cert.BothReferenceIdeal.main_arg2) = m' ((c.tc : Thread Cert.BothReferenceIdeal.nD Cert.BothReferenceIdeal.τ).loc Cert.BothReferenceIdeal.main_arg2)
          ∧ r.2.mem ((c.tc : Thread Cert.BothReferenceIdeal.nD Cert.BothReferenceIdeal.τ).loc Cert.BothReferenceIdeal.main_arg3) = m' ((c.tc : Thread Cert.BothReferenceIdeal.nD Cert.BothReferenceIdeal.τ).loc Cert.BothReferenceIdeal.main_arg3))

def Claim : Prop :=
  ∃ (hKernel : Cert.Kernel.Facts) (hKernelIdeal : Cert.KernelIdeal.Facts) (hReferenceIdeal : Cert.ReferenceIdeal.Facts) (hQuantise : Cert.Quantise.Facts) (hQuantiseIdeal : Cert.QuantiseIdeal.Facts) (hQuantiseReferenceIdeal : Cert.QuantiseReferenceIdeal.Facts) (hBoth : Cert.Both.Facts) (hBothIdeal : Cert.BothIdeal.Facts) (hBothReferenceIdeal : Cert.BothReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Quantise (hQuantise := hQuantise)
    ∧ quiescent_QuantiseIdeal (hQuantiseIdeal := hQuantiseIdeal)
    ∧ quiescent_QuantiseReferenceIdeal (hQuantiseReferenceIdeal := hQuantiseReferenceIdeal)
    ∧ quiescent_Both (hBoth := hBoth)
    ∧ quiescent_BothIdeal (hBothIdeal := hBothIdeal)
    ∧ quiescent_BothReferenceIdeal (hBothReferenceIdeal := hBothReferenceIdeal)
    ∧ preserves_Kernel_KernelIdeal
    ∧ algebraic_KernelIdeal_ReferenceIdeal (hKernelIdeal := hKernelIdeal) (hReferenceIdeal := hReferenceIdeal)
    ∧ preserves_Quantise_QuantiseIdeal
    ∧ algebraic_QuantiseIdeal_QuantiseReferenceIdeal (hQuantiseIdeal := hQuantiseIdeal) (hQuantiseReferenceIdeal := hQuantiseReferenceIdeal)
    ∧ preserves_Both_BothIdeal
    ∧ algebraic_BothIdeal_BothReferenceIdeal (hBothIdeal := hBothIdeal) (hBothReferenceIdeal := hBothReferenceIdeal)
-- ==== Kernel.lean ====
abbrev S1536x18944 : Shape := ⟨2, ![1536, 18944]⟩
abbrev S18944x1792 : Shape := ⟨2, ![18944, 1792]⟩
abbrev S3584 : Shape := ⟨1, ![3584]⟩
abbrev S1536x128 : Shape := ⟨2, ![1536, 128]⟩
abbrev S14x128x2 : Shape := ⟨3, ![14, 128, 2]⟩
abbrev S14x2x128 : Shape := ⟨3, ![14, 2, 128]⟩
abbrev S14x1x256 : Shape := ⟨3, ![14, 1, 256]⟩
abbrev S1536x3584 : Shape := ⟨2, ![1536, 3584]⟩
abbrev S18944x128 : Shape := ⟨2, ![18944, 128]⟩
abbrev S384x18944 : Shape := ⟨2, ![384, 18944]⟩
abbrev S1x1x256 : Shape := ⟨3, ![1, 1, 256]⟩
abbrev S384x128 : Shape := ⟨2, ![384, 128]⟩
abbrev S384x256 : Shape := ⟨2, ![384, 256]⟩
abbrev S768x18944 : Shape := ⟨2, ![768, 18944]⟩
abbrev S18944x256 : Shape := ⟨2, ![18944, 256]⟩
abbrev S256x128 : Shape := ⟨2, ![256, 128]⟩
abbrev S768x256 : Shape := ⟨2, ![768, 256]⟩
abbrev S384x1 : Shape := ⟨2, ![384, 1]⟩
abbrev S1x256 : Shape := ⟨2, ![1, 256]⟩
abbrev S256x256 : Shape := ⟨2, ![256, 256]⟩

abbrev nBuf : Space → Nat
  | .hbm => 9
  | .vmem => 12
  | .smem => 0
  | _ => 0

abbrev bufTy : (tb : Table) → Fin (tcTables nBuf tb) → BufTy
  | .hbm, ⟨0, _⟩ => ⟨S1536x18944, .i8⟩
  | .hbm, ⟨1, _⟩ => ⟨S1536x18944, .i8⟩
  | .hbm, ⟨2, _⟩ => ⟨S18944x1792, .i8⟩
  | .hbm, ⟨3, _⟩ => ⟨S3584, .f32⟩
  | .hbm, ⟨4, _⟩ => ⟨S1536x128, .f32⟩
  | .hbm, ⟨5, _⟩ => ⟨S14x128x2, .f32⟩
  | .hbm, ⟨6, _⟩ => ⟨S14x2x128, .f32⟩
  | .hbm, ⟨7, _⟩ => ⟨S14x1x256, .f32⟩
  | .hbm, ⟨8, _⟩ => ⟨S1536x3584, .bf16⟩
  | .local _ .vmem, ⟨0, _⟩ => ⟨S18944x128, .i8⟩
  | .local _ .vmem, ⟨1, _⟩ => ⟨S18944x128, .i8⟩
  | .local _ .vmem, ⟨2, _⟩ => ⟨S384x18944, .i8⟩
  | .local _ .vmem, ⟨3, _⟩ => ⟨S384x18944, .i8⟩
  | .local _ .vmem, ⟨4, _⟩ => ⟨S1x1x256, .f32⟩
  | .local _ .vmem, ⟨5, _⟩ => ⟨S1x1x256, .f32⟩
  | .local _ .vmem, ⟨6, _⟩ => ⟨S384x128, .f32⟩
  | .local _ .vmem, ⟨7, _⟩ => ⟨S384x128, .f32⟩
  | .local _ .vmem, ⟨8, _⟩ => ⟨S384x256, .bf16⟩
  | .local _ .vmem, ⟨9, _⟩ => ⟨S384x256, .bf16⟩
  | .local _ .vmem, ⟨10, _⟩ => ⟨S768x18944, .fp8e4m3⟩
  | .local _ .vmem, ⟨11, _⟩ => ⟨S18944x256, .fp8e4m3⟩
  | _, _ => ⟨S1536x18944, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 14], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_16 : BitVec 32 := 0#32
  let c148_i32 : BitVec 32 := 148#32
  let v38 : BitVec 32 := Scalar.addi c0_i32_16 c148_i32
  let c1_i32_17 : BitVec 32 := 1#32
  ⟨c0_i32_16, v38, c1_i32_17⟩
def k0_mult1 (k0_t1 : Fin k0_t1_loop.trips) : BitVec 32 :=
  let c0_i32_16 : BitVec 32 := 0#32
  let c1_i32_17 : BitVec 32 := 1#32
  let arg10 : BitVec 32 := Scf.iv c0_i32_16 c1_i32_17 k0_t1
  let c128_i32_19 : BitVec 32 := 128#32
  let v39 : BitVec 32 := Scalar.muli arg10 c128_i32_19
  v39
def k0_off1 (k0_t1 : Fin k0_t1_loop.trips) : Fin 2 → Nat :=
  let c0_20 : Index := 0#32
  let c0_i32_16 : BitVec 32 := 0#32
  let c1_i32_17 : BitVec 32 := 1#32
  let arg10 : BitVec 32 := Scf.iv c0_i32_16 c1_i32_17 k0_t1
  let c128_i32_19 : BitVec 32 := 128#32
  let v39 : BitVec 32 := Scalar.muli arg10 c128_i32_19
  let v40 : BitVec 32 := v39
  let v41 : Index := Scalar.indexCast v40
  ![0, v41.toNat]
def k0_off2 (k0_t1 : Fin k0_t1_loop.trips) : Fin 2 → Nat :=
  let c0_21 : Index := 0#32
  let c0_i32_16 : BitVec 32 := 0#32
  let c1_i32_17 : BitVec 32 := 1#32
  let arg10 : BitVec 32 := Scf.iv c0_i32_16 c1_i32_17 k0_t1
  let c128_i32_19 : BitVec 32 := 128#32
  let v39 : BitVec 32 := Scalar.muli arg10 c128_i32_19
  let v40 : BitVec 32 := v39
  let v45 : Index := Scalar.indexCast v40
  ![0, v45.toNat]
def k0_off3 (k0_t1 : Fin k0_t1_loop.trips) : Fin 2 → Nat :=
  let c384 : Index := 384#32
  let c0_i32_16 : BitVec 32 := 0#32
  let c1_i32_17 : BitVec 32 := 1#32
  let arg10 : BitVec 32 := Scf.iv c0_i32_16 c1_i32_17 k0_t1
  let c128_i32_19 : BitVec 32 := 128#32
  let v39 : BitVec 32 := Scalar.muli arg10 c128_i32_19
  let v40 : BitVec 32 := v39
  let v53 : Index := Scalar.indexCast v40
  ![384, v53.toNat]
@[reducible] def k0_t2_loop : Scf.Loop 32 :=
  let c0_i32_1 : BitVec 32 := 0#32
  let c74_i32 : BitVec 32 := 74#32
  let v3 : BitVec 32 := Scalar.addi c0_i32_1 c74_i32
  let c1_i32 : BitVec 32 := 1#32
  ⟨c0_i32_1, v3, c1_i32⟩
def k0_mult2 (k0_t2 : Fin k0_t2_loop.trips) : BitVec 32 :=
  let c0_i32_1 : BitVec 32 := 0#32
  let c1_i32 : BitVec 32 := 1#32
  let arg10 : BitVec 32 := Scf.iv c0_i32_1 c1_i32 k0_t2
  let c256_i32 : BitVec 32 := 256#32
  let v38 : BitVec 32 := Scalar.muli arg10 c256_i32
  v38
def k0_off4 (k0_t2 : Fin k0_t2_loop.trips) : Fin 2 → Nat :=
  let c0_i32_1 : BitVec 32 := 0#32
  let c1_i32 : BitVec 32 := 1#32
  let arg10 : BitVec 32 := Scf.iv c0_i32_1 c1_i32 k0_t2
  let c256_i32 : BitVec 32 := 256#32
  let v38 : BitVec 32 := Scalar.muli arg10 c256_i32
  let v39 : BitVec 32 := v38
  let v40 : Index := Scalar.indexCast v39
  let c0_16 : Index := 0#32
  ![v40.toNat, 0]
def k0_off5 (k0_t2 : Fin k0_t2_loop.trips) : Fin 2 → Nat :=
  let c0_i32_1 : BitVec 32 := 0#32
  let c1_i32 : BitVec 32 := 1#32
  let arg10 : BitVec 32 := Scf.iv c0_i32_1 c1_i32 k0_t2
  let c256_i32 : BitVec 32 := 256#32
  let v38 : BitVec 32 := Scalar.muli arg10 c256_i32
  let v39 : BitVec 32 := v38
  let v54 : Index := Scalar.indexCast v39
  let c0_19 : Index := 0#32
  ![v54.toNat, 0]
def k0_off6 (k0_t2 : Fin k0_t2_loop.trips) : Fin 2 → Nat :=
  let c0_i32_1 : BitVec 32 := 0#32
  let c1_i32 : BitVec 32 := 1#32
  let arg10 : BitVec 32 := Scf.iv c0_i32_1 c1_i32 k0_t2
  let c256_i32 : BitVec 32 := 256#32
  let v38 : BitVec 32 := Scalar.muli arg10 c256_i32
  let v39 : BitVec 32 := v38
  let v61 : Index := Scalar.indexCast v39
  let c128 : Index := 128#32
  ![v61.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S18944x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S384x18944 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S384x18944 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S384x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S1536x18944 : Shape := ⟨2, ![1536, 18944]⟩
abbrev S18944x1792 : Shape := ⟨2, ![18944, 1792]⟩
abbrev S3584 : Shape := ⟨1, ![3584]⟩
abbrev S1536x128 : Shape := ⟨2, ![1536, 128]⟩
abbrev S_ : Shape := ⟨0, ![]⟩
abbrev S1x1536x18944 : Shape := ⟨3, ![1, 1536, 18944]⟩
abbrev S2x1536x18944 : Shape := ⟨3, ![2, 1536, 18944]⟩
abbrev S2x1536x1792 : Shape := ⟨3, ![2, 1536, 1792]⟩
abbrev S1536x1 : Shape := ⟨2, ![1536, 1]⟩
abbrev S1x1536x1792 : Shape := ⟨3, ![1, 1536, 1792]⟩
abbrev S1536x1792 : Shape := ⟨2, ![1536, 1792]⟩
abbrev S1792 : Shape := ⟨1, ![1792]⟩
abbrev S1x1792 : Shape := ⟨2, ![1, 1792]⟩
abbrev S1536x1792x1 : Shape := ⟨3, ![1536, 1792, 1]⟩
abbrev S1536x1792x2 : Shape := ⟨3, ![1536, 1792, 2]⟩
abbrev S1536x3584 : Shape := ⟨2, ![1536, 3584]⟩

abbrev nBuf : Space → Nat
  | .hbm => 76
  | .vmem => 0
  | .smem => 0
  | _ => 0

abbrev bufTy : (tb : Table) → Fin (tcTables nBuf tb) → BufTy
  | .hbm, ⟨0, _⟩ => ⟨S1536x18944, .i8⟩
  | .hbm, ⟨1, _⟩ => ⟨S1536x18944, .i8⟩
  | .hbm, ⟨2, _⟩ => ⟨S18944x1792, .i8⟩
  | .hbm, ⟨3, _⟩ => ⟨S3584, .f32⟩
  | .hbm, ⟨4, _⟩ => ⟨S1536x128, .f32⟩
  | .hbm, ⟨5, _⟩ => ⟨S18944x1792, .i32⟩
  | .hbm, ⟨6, _⟩ => ⟨S_, .i32⟩
  | .hbm, ⟨7, _⟩ => ⟨S18944x1792, .i32⟩
  | .hbm, ⟨8, _⟩ => ⟨S18944x1792, .i32⟩
  | .hbm, ⟨9, _⟩ => ⟨S_, .i32⟩
  | .hbm, ⟨10, _⟩ => ⟨S18944x1792, .i32⟩
  | .hbm, ⟨11, _⟩ => ⟨S18944x1792, .i32⟩
  | .hbm, ⟨12, _⟩ => ⟨S_, .i32⟩
  | .hbm, ⟨13, _⟩ => ⟨S18944x1792, .i32⟩
  | .hbm, ⟨14, _⟩ => ⟨S18944x1792, .i32⟩
  | .hbm, ⟨15, _⟩ => ⟨S_, .i32⟩
  | .hbm, ⟨16, _⟩ => ⟨S18944x1792, .i32⟩
  | .hbm, ⟨17, _⟩ => ⟨S18944x1792, .i1⟩
  | .hbm, ⟨18, _⟩ => ⟨S18944x1792, .i32⟩
  | .hbm, ⟨19, _⟩ => ⟨S_, .i32⟩
  | .hbm, ⟨20, _⟩ => ⟨S18944x1792, .i32⟩
  | .hbm, ⟨21, _⟩ => ⟨S18944x1792, .i32⟩
  | .hbm, ⟨22, _⟩ => ⟨S18944x1792, .i32⟩
  | .hbm, ⟨23, _⟩ => ⟨S_, .i32⟩
  | .hbm, ⟨24, _⟩ => ⟨S18944x1792, .i32⟩
  | .hbm, ⟨25, _⟩ => ⟨S18944x1792, .i1⟩
  | .hbm, ⟨26, _⟩ => ⟨S18944x1792, .i32⟩
  | .hbm, ⟨27, _⟩ => ⟨S_, .i32⟩
  | .hbm, ⟨28, _⟩ => ⟨S18944x1792, .i32⟩
  | .hbm, ⟨29, _⟩ => ⟨S18944x1792, .i32⟩
  | .hbm, ⟨30, _⟩ => ⟨S18944x1792, .i32⟩
  | .hbm, ⟨31, _⟩ => ⟨S18944x1792, .f32⟩
  | .hbm, ⟨32, _⟩ => ⟨S18944x1792, .bf16⟩
  | .hbm, ⟨33, _⟩ => ⟨S18944x1792, .f32⟩
  | .hbm, ⟨34, _⟩ => ⟨S18944x1792, .bf16⟩
  | .hbm, ⟨35, _⟩ => ⟨S1x1536x18944, .i8⟩
  | .hbm, ⟨36, _⟩ => ⟨S1x1536x18944, .i8⟩
  | .hbm, ⟨37, _⟩ => ⟨S2x1536x18944, .i8⟩
  | .hbm, ⟨38, _⟩ => ⟨S2x1536x18944, .i32⟩
  | .hbm, ⟨39, _⟩ => ⟨S2x1536x18944, .f32⟩
  | .hbm, ⟨40, _⟩ => ⟨S2x1536x18944, .bf16⟩
  | .hbm, ⟨41, _⟩ => ⟨S2x1536x1792, .f32⟩
  | .hbm, ⟨42, _⟩ => ⟨S2x1536x1792, .f32⟩
  | .hbm, ⟨43, _⟩ => ⟨S1536x1, .f32⟩
  | .hbm, ⟨44, _⟩ => ⟨S1536x1, .f32⟩
  | .hbm, ⟨45, _⟩ => ⟨S1x1536x1792, .f32⟩
  | .hbm, ⟨46, _⟩ => ⟨S1536x1792, .f32⟩
  | .hbm, ⟨47, _⟩ => ⟨S1536x1792, .f32⟩
  | .hbm, ⟨48, _⟩ => ⟨S1536x1792, .f32⟩
  | .hbm, ⟨49, _⟩ => ⟨S1x1536x1792, .f32⟩
  | .hbm, ⟨50, _⟩ => ⟨S1536x1792, .f32⟩
  | .hbm, ⟨51, _⟩ => ⟨S1536x1792, .f32⟩
  | .hbm, ⟨52, _⟩ => ⟨S1536x1792, .f32⟩
  | .hbm, ⟨53, _⟩ => ⟨S1536x1792, .f32⟩
  | .hbm, ⟨54, _⟩ => ⟨S1792, .f32⟩
  | .hbm, ⟨55, _⟩ => ⟨S1x1792, .f32⟩
  | .hbm, ⟨56, _⟩ => ⟨S1536x1792, .f32⟩
  | .hbm, ⟨57, _⟩ => ⟨S1536x1792, .f32⟩
  | .hbm, ⟨58, _⟩ => ⟨S1x1536x1792, .f32⟩
  | .hbm, ⟨59, _⟩ => ⟨S1536x1792, .f32⟩
  | .hbm, ⟨60, _⟩ => ⟨S1536x1792, .f32⟩
  | .hbm, ⟨61, _⟩ => ⟨S1536x1792, .f32⟩
  | .hbm, ⟨62, _⟩ => ⟨S1x1536x1792, .f32⟩
  | .hbm, ⟨63, _⟩ => ⟨S1536x1792, .f32⟩
  | .hbm, ⟨64, _⟩ => ⟨S1536x1792, .f32⟩
  | .hbm, ⟨65, _⟩ => ⟨S1536x1792, .f32⟩
  | .hbm, ⟨66, _⟩ => ⟨S1536x1792, .f32⟩
  | .hbm, ⟨67, _⟩ => ⟨S1792, .f32⟩
  | .hbm, ⟨68, _⟩ => ⟨S1x1792, .f32⟩
  | .hbm, ⟨69, _⟩ => ⟨S1536x1792, .f32⟩
  | .hbm, ⟨70, _⟩ => ⟨S1536x1792, .f32⟩
  | .hbm, ⟨71, _⟩ => ⟨S1536x1792x1, .f32⟩
  | .hbm, ⟨72, _⟩ => ⟨S1536x1792x1, .f32⟩
  | .hbm, ⟨73, _⟩ => ⟨S1536x1792x2, .f32⟩
  | .hbm, ⟨74, _⟩ => ⟨S1536x3584, .f32⟩
  | .hbm, ⟨75, _⟩ => ⟨S1536x3584, .bf16⟩
  | _, _ => ⟨S1536x18944, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩

abbrev nD : Nat := 1
abbrev τ : Topo := Topo.v7x

variable {F : FTy → Type} [FloatOps F]
-- ==== Quantise.lean ====
abbrev S6x256x18944 : Shape := ⟨3, ![6, 256, 18944]⟩
abbrev S6x256x1792 : Shape := ⟨3, ![6, 256, 1792]⟩
abbrev S1536x18944 : Shape := ⟨2, ![1536, 18944]⟩
abbrev S1536x1792 : Shape := ⟨2, ![1536, 1792]⟩
abbrev S61440x128 : Shape := ⟨2, ![61440, 128]⟩
abbrev S12288x128 : Shape := ⟨2, ![12288, 128]⟩
abbrev S1536x128 : Shape := ⟨2, ![1536, 128]⟩
abbrev S32x18944 : Shape := ⟨2, ![32, 18944]⟩
abbrev S32x1792 : Shape := ⟨2, ![32, 1792]⟩
abbrev S1280x128 : Shape := ⟨2, ![1280, 128]⟩
abbrev S256x128 : Shape := ⟨2, ![256, 128]⟩
abbrev S32x128 : Shape := ⟨2, ![32, 128]⟩
abbrev S32 : Shape := ⟨1, ![32]⟩
abbrev S32x1 : Shape := ⟨2, ![32, 1]⟩

abbrev nBuf : Space → Nat
  | .hbm => 9
  | .vmem => 15
  | .smem => 0
  | _ => 0

abbrev bufTy : (tb : Table) → Fin (tcTables nBuf tb) → BufTy
  | .hbm, ⟨0, _⟩ => ⟨S6x256x18944, .bf16⟩
  | .hbm, ⟨1, _⟩ => ⟨S6x256x1792, .i8⟩
  | .hbm, ⟨2, _⟩ => ⟨S1536x18944, .bf16⟩
  | .hbm, ⟨3, _⟩ => ⟨S1536x1792, .i8⟩
  | .hbm, ⟨4, _⟩ => ⟨S1536x18944, .i8⟩
  | .hbm, ⟨5, _⟩ => ⟨S1536x18944, .i8⟩
  | .hbm, ⟨6, _⟩ => ⟨S61440x128, .i32⟩
  | .hbm, ⟨7, _⟩ => ⟨S12288x128, .i32⟩
  | .hbm, ⟨8, _⟩ => ⟨S1536x128, .f32⟩
  | .local _ .vmem, ⟨0, _⟩ => ⟨S32x18944, .bf16⟩
  | .local _ .vmem, ⟨1, _⟩ => ⟨S32x18944, .bf16⟩
  | .local _ .vmem, ⟨2, _⟩ => ⟨S32x1792, .i8⟩
  | .local _ .vmem, ⟨3, _⟩ => ⟨S32x1792, .i8⟩
  | .local _ .vmem, ⟨4, _⟩ => ⟨S32x18944, .i8⟩
  | .local _ .vmem, ⟨5, _⟩ => ⟨S32x18944, .i8⟩
  | .local _ .vmem, ⟨6, _⟩ => ⟨S32x18944, .i8⟩
  | .local _ .vmem, ⟨7, _⟩ => ⟨S32x18944, .i8⟩
  | .local _ .vmem, ⟨8, _⟩ => ⟨S1280x128, .i32⟩
  | .local _ .vmem, ⟨9, _⟩ => ⟨S1280x128, .i32⟩
  | .local _ .vmem, ⟨10, _⟩ => ⟨S256x128, .i32⟩
  | .local _ .vmem, ⟨11, _⟩ => ⟨S256x128, .i32⟩
  | .local _ .vmem, ⟨12, _⟩ => ⟨S32x128, .f32⟩
  | .local _ .vmem, ⟨13, _⟩ => ⟨S32x128, .f32⟩
  | .local _ .vmem, ⟨14, _⟩ => ⟨S32x18944, .f32⟩
  | _, _ => ⟨S6x256x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32 : BitVec 32 := 0#32
  let c37_i32 : BitVec 32 := 37#32
  let v2 : BitVec 32 := Scalar.addi c0_i32 c37_i32
  let c1_i32 : BitVec 32 := 1#32
  ⟨c0_i32, v2, c1_i32⟩
def k0_mult1 (k0_t1 : Fin k0_t1_loop.trips) : BitVec 32 :=
  let c0_i32_128 : BitVec 32 := 0#32
  let c0_i32 : BitVec 32 := 0#32
  let c1_i32 : BitVec 32 := 1#32
  let arg9 : BitVec 32 := Scf.iv c0_i32 c1_i32 k0_t1
  let c128_i32 : BitVec 32 := 128#32
  let v350 : BitVec 32 := Scalar.muli arg9 c128_i32
  let v351 : BitVec 32 := Scalar.addi c0_i32_128 v350
  v351
def k0_off1 (k0_t1 : Fin k0_t1_loop.trips) (c0_i32_128 : BitVec 32) : Fin 2 → Nat :=
  let c0_129 : Index := 0#32
  let c0_i32 : BitVec 32 := 0#32
  let c1_i32 : BitVec 32 := 1#32
  let arg9 : BitVec 32 := Scf.iv c0_i32 c1_i32 k0_t1
  let c128_i32 : BitVec 32 := 128#32
  let v350 : BitVec 32 := Scalar.muli arg9 c128_i32
  let v351 : BitVec 32 := Scalar.addi c0_i32_128 v350
  let v352 : BitVec 32 := v351
  let v353 : Index := Scalar.indexCast v352
  ![0, v353.toNat]
def k0_mult2 (k0_t1 : Fin k0_t1_loop.trips) : BitVec 32 :=
  let c4736_i32 : BitVec 32 := 4736#32
  let c0_i32 : BitVec 32 := 0#32
  let c1_i32 : BitVec 32 := 1#32
  let arg9 : BitVec 32 := Scf.iv c0_i32 c1_i32 k0_t1
  let c128_i32_130 : BitVec 32 := 128#32
  let v358 : BitVec 32 := Scalar.muli arg9 c128_i32_130
  let v359 : BitVec 32 := Scalar.addi c4736_i32 v358
  v359
def k0_mult3 (k0_t1 : Fin k0_t1_loop.trips) : BitVec 32 :=
  let c9472_i32 : BitVec 32 := 9472#32
  let c0_i32 : BitVec 32 := 0#32
  let c1_i32 : BitVec 32 := 1#32
  let arg9 : BitVec 32 := Scf.iv c0_i32 c1_i32 k0_t1
  let c128_i32_132 : BitVec 32 := 128#32
  let v366 : BitVec 32 := Scalar.muli arg9 c128_i32_132
  let v367 : BitVec 32 := Scalar.addi c9472_i32 v366
  v367
def k0_mult4 (k0_t1 : Fin k0_t1_loop.trips) : BitVec 32 :=
  let c14208_i32 : BitVec 32 := 14208#32
  let c0_i32 : BitVec 32 := 0#32
  let c1_i32 : BitVec 32 := 1#32
  let arg9 : BitVec 32 := Scf.iv c0_i32 c1_i32 k0_t1
  let c128_i32_134 : BitVec 32 := 128#32
  let v374 : BitVec 32 := Scalar.muli arg9 c128_i32_134
  let v375 : BitVec 32 := Scalar.addi c14208_i32 v374
  v375
@[reducible] def k0_t2_loop : Scf.Loop 32 :=
  let c0_i32_6 : BitVec 32 := 0#32
  let c37_i32_7 : BitVec 32 := 37#32
  let v15 : BitVec 32 := Scalar.addi c0_i32_6 c37_i32_7
  let c1_i32_8 : BitVec 32 := 1#32
  ⟨c0_i32_6, v15, c1_i32_8⟩
def k0_mult5 (k0_t2 : Fin k0_t2_loop.trips) : BitVec 32 :=
  let c0_i32_128 : BitVec 32 := 0#32
  let c0_i32_6 : BitVec 32 := 0#32
  let c1_i32_8 : BitVec 32 := 1#32
  let arg9 : BitVec 32 := Scf.iv c0_i32_6 c1_i32_8 k0_t2
  let c128_i32 : BitVec 32 := 128#32
  let v350 : BitVec 32 := Scalar.muli arg9 c128_i32
  let v351 : BitVec 32 := Scalar.addi c0_i32_128 v350
  v351
def k0_off2 (k0_t2 : Fin k0_t2_loop.trips) (c0_i32_128 : BitVec 32) : Fin 2 → Nat :=
  let c0_129 : Index := 0#32
  let c0_i32_6 : BitVec 32 := 0#32
  let c1_i32_8 : BitVec 32 := 1#32
  let arg9 : BitVec 32 := Scf.iv c0_i32_6 c1_i32_8 k0_t2
  let c128_i32 : BitVec 32 := 128#32
  let v350 : BitVec 32 := Scalar.muli arg9 c128_i32
  let v351 : BitVec 32 := Scalar.addi c0_i32_128 v350
  let v352 : BitVec 32 := v351
  let v353 : Index := Scalar.indexCast v352
  ![0, v353.toNat]
def k0_mult6 (k0_t2 : Fin k0_t2_loop.trips) : BitVec 32 :=
  let c0_i32_133 : BitVec 32 := 0#32
  let c0_i32_6 : BitVec 32 := 0#32
  let c1_i32_8 : BitVec 32 := 1#32
  let arg9 : BitVec 32 := Scf.iv c0_i32_6 c1_i32_8 k0_t2
  let c128_i32_132 : BitVec 32 := 128#32
  let v365 : BitVec 32 := Scalar.muli arg9 c128_i32_132
  let v366 : BitVec 32 := Scalar.addi c0_i32_133 v365
  v366
def k0_mult7 (k0_t2 : Fin k0_t2_loop.trips) : BitVec 32 :=
  let c0_i32_136 : BitVec 32 := 0#32
  let c0_i32_6 : BitVec 32 := 0#32
  let c1_i32_8 : BitVec 32 := 1#32
  let arg9 : BitVec 32 := Scf.iv c0_i32_6 c1_i32_8 k0_t2
  let c128_i32_135 : BitVec 32 := 128#32
  let v373 : BitVec 32 := Scalar.muli arg9 c128_i32_135
  let v374 : BitVec 32 := Scalar.addi c0_i32_136 v373
  v374
def k0_mult8 (k0_t2 : Fin k0_t2_loop.trips) : BitVec 32 :=
  let c4736_i32 : BitVec 32 := 4736#32
  let c0_i32_6 : BitVec 32 := 0#32
  let c1_i32_8 : BitVec 32 := 1#32
  let arg9 : BitVec 32 := Scf.iv c0_i32_6 c1_i32_8 k0_t2
  let c128_i32_138 : BitVec 32 := 128#32
  let v382 : BitVec 32 := Scalar.muli arg9 c128_i32_138
  let v383 : BitVec 32 := Scalar.addi c4736_i32 v382
  v383
def k0_mult9 (k0_t2 : Fin k0_t2_loop.trips) : BitVec 32 :=
  let c4736_i32_143 : BitVec 32 := 4736#32
  let c0_i32_6 : BitVec 32 := 0#32
  let c1_i32_8 : BitVec 32 := 1#32
  let arg9 : BitVec 32 := Scf.iv c0_i32_6 c1_i32_8 k0_t2
  let c128_i32_142 : BitVec 32 := 128#32
  let v397 : BitVec 32 := Scalar.muli arg9 c128_i32_142
  let v398 : BitVec 32 := Scalar.addi c4736_i32_143 v397
  v398
def k0_mult10 (k0_t2 : Fin k0_t2_loop.trips) : BitVec 32 :=
  let c4736_i32_146 : BitVec 32 := 4736#32
  let c0_i32_6 : BitVec 32 := 0#32
  let c1_i32_8 : BitVec 32 := 1#32
  let arg9 : BitVec 32 := Scf.iv c0_i32_6 c1_i32_8 k0_t2
  let c128_i32_145 : BitVec 32 := 128#32
  let v405 : BitVec 32 := Scalar.muli arg9 c128_i32_145
  let v406 : BitVec 32 := Scalar.addi c4736_i32_146 v405
  v406
def k0_mult11 (k0_t2 : Fin k0_t2_loop.trips) : BitVec 32 :=
  let c9472_i32 : BitVec 32 := 9472#32
  let c0_i32_6 : BitVec 32 := 0#32
  let c1_i32_8 : BitVec 32 := 1#32
  let arg9 : BitVec 32 := Scf.iv c0_i32_6 c1_i32_8 k0_t2
  let c128_i32_148 : BitVec 32 := 128#32
  let v414 : BitVec 32 := Scalar.muli arg9 c128_i32_148
  let v415 : BitVec 32 := Scalar.addi c9472_i32 v414
  v415
def k0_mult12 (k0_t2 : Fin k0_t2_loop.trips) : BitVec 32 :=
  let c9472_i32_153 : BitVec 32 := 9472#32
  let c0_i32_6 : BitVec 32 := 0#32
  let c1_i32_8 : BitVec 32 := 1#32
  let arg9 : BitVec 32 := Scf.iv c0_i32_6 c1_i32_8 k0_t2
  let c128_i32_152 : BitVec 32 := 128#32
  let v429 : BitVec 32 := Scalar.muli arg9 c128_i32_152
  let v430 : BitVec 32 := Scalar.addi c9472_i32_153 v429
  v430
def k0_mult13 (k0_t2 : Fin k0_t2_loop.trips) : BitVec 32 :=
  let c9472_i32_156 : BitVec 32 := 9472#32
  let c0_i32_6 : BitVec 32 := 0#32
  let c1_i32_8 : BitVec 32 := 1#32
  let arg9 : BitVec 32 := Scf.iv c0_i32_6 c1_i32_8 k0_t2
  let c128_i32_155 : BitVec 32 := 128#32
  let v437 : BitVec 32 := Scalar.muli arg9 c128_i32_155
  let v438 : BitVec 32 := Scalar.addi c9472_i32_156 v437
  v438
def k0_mult14 (k0_t2 : Fin k0_t2_loop.trips) : BitVec 32 :=
  let c14208_i32 : BitVec 32 := 14208#32
  let c0_i32_6 : BitVec 32 := 0#32
  let c1_i32_8 : BitVec 32 := 1#32
  let arg9 : BitVec 32 := Scf.iv c0_i32_6 c1_i32_8 k0_t2
  let c128_i32_158 : BitVec 32 := 128#32
  let v446 : BitVec 32 := Scalar.muli arg9 c128_i32_158
  let v447 : BitVec 32 := Scalar.addi c14208_i32 v446
  v447
def k0_mult15 (k0_t2 : Fin k0_t2_loop.trips) : BitVec 32 :=
  let c14208_i32_163 : BitVec 32 := 14208#32
  let c0_i32_6 : BitVec 32 := 0#32
  let c1_i32_8 : BitVec 32 := 1#32
  let arg9 : BitVec 32 := Scf.iv c0_i32_6 c1_i32_8 k0_t2
  let c128_i32_162 : BitVec 32 := 128#32
  let v461 : BitVec 32 := Scalar.muli arg9 c128_i32_162
  let v462 : BitVec 32 := Scalar.addi c14208_i32_163 v461
  v462
def k0_mult16 (k0_t2 : Fin k0_t2_loop.trips) : BitVec 32 :=
  let c14208_i32_166 : BitVec 32 := 14208#32
  let c0_i32_6 : BitVec 32 := 0#32
  let c1_i32_8 : BitVec 32 := 1#32
  let arg9 : BitVec 32 := Scf.iv c0_i32_6 c1_i32_8 k0_t2
  let c128_i32_165 : BitVec 32 := 128#32
  let v469 : BitVec 32 := Scalar.muli arg9 c128_i32_165
  let v470 : BitVec 32 := Scalar.addi c14208_i32_166 v469
  v470
@[reducible] def k0_t3_loop : Scf.Loop 32 :=
  let c0_i32_14 : BitVec 32 := 0#32
  let c37_i32_15 : BitVec 32 := 37#32
  let v27 : BitVec 32 := Scalar.addi c0_i32_14 c37_i32_15
  let c1_i32_16 : BitVec 32 := 1#32
  ⟨c0_i32_14, v27, c1_i32_16⟩
def k0_mult17 (k0_t3 : Fin k0_t3_loop.trips) : BitVec 32 :=
  let c0_i32_129 : BitVec 32 := 0#32
  let c0_i32_14 : BitVec 32 := 0#32
  let c1_i32_16 : BitVec 32 := 1#32
  let arg9 : BitVec 32 := Scf.iv c0_i32_14 c1_i32_16 k0_t3
  let c128_i32 : BitVec 32 := 128#32
  let v351 : BitVec 32 := Scalar.muli arg9 c128_i32
  let v352 : BitVec 32 := Scalar.addi c0_i32_129 v351
  v352
def k0_off3 (k0_t3 : Fin k0_t3_loop.trips) (c0_i32_129 : BitVec 32) : Fin 2 → Nat :=
  let c0_130 : Index := 0#32
  let c0_i32_14 : BitVec 32 := 0#32
  let c1_i32_16 : BitVec 32 := 1#32
  let arg9 : BitVec 32 := Scf.iv c0_i32_14 c1_i32_16 k0_t3
  let c128_i32 : BitVec 32 := 128#32
  let v351 : BitVec 32 := Scalar.muli arg9 c128_i32
  let v352 : BitVec 32 := Scalar.addi c0_i32_129 v351
  let v353 : BitVec 32 := v352
  let v354 : Index := Scalar.indexCast v353
  ![0, v354.toNat]
def k0_mult18 (k0_t3 : Fin k0_t3_loop.trips) : BitVec 32 :=
  let c0_i32_134 : BitVec 32 := 0#32
  let c0_i32_14 : BitVec 32 := 0#32
  let c1_i32_16 : BitVec 32 := 1#32
  let arg9 : BitVec 32 := Scf.iv c0_i32_14 c1_i32_16 k0_t3
  let c128_i32_133 : BitVec 32 := 128#32
  let v363 : BitVec 32 := Scalar.muli arg9 c128_i32_133
  let v364 : BitVec 32 := Scalar.addi c0_i32_134 v363
  v364
def k0_mult19 (k0_t3 : Fin k0_t3_loop.trips) : BitVec 32 :=
  let c0_i32_137 : BitVec 32 := 0#32
  let c0_i32_14 : BitVec 32 := 0#32
  let c1_i32_16 : BitVec 32 := 1#32
  let arg9 : BitVec 32 := Scf.iv c0_i32_14 c1_i32_16 k0_t3
  let c128_i32_136 : BitVec 32 := 128#32
  let v370 : BitVec 32 := Scalar.muli arg9 c128_i32_136
  let v371 : BitVec 32 := Scalar.addi c0_i32_137 v370
  v371
def k0_mult20 (k0_t3 : Fin k0_t3_loop.trips) : BitVec 32 :=
  let c4736_i32 : BitVec 32 := 4736#32
  let c0_i32_14 : BitVec 32 := 0#32
  let c1_i32_16 : BitVec 32 := 1#32
  let arg9 : BitVec 32 := Scf.iv c0_i32_14 c1_i32_16 k0_t3
  let c128_i32_141 : BitVec 32 := 128#32
  let v384 : BitVec 32 := Scalar.muli arg9 c128_i32_141
  let v385 : BitVec 32 := Scalar.addi c4736_i32 v384
  v385
def k0_mult21 (k0_t3 : Fin k0_t3_loop.trips) : BitVec 32 :=
  let c4736_i32_146 : BitVec 32 := 4736#32
  let c0_i32_14 : BitVec 32 := 0#32
  let c1_i32_16 : BitVec 32 := 1#32
  let arg9 : BitVec 32 := Scf.iv c0_i32_14 c1_i32_16 k0_t3
  let c128_i32_145 : BitVec 32 := 128#32
  let v396 : BitVec 32 := Scalar.muli arg9 c128_i32_145
  let v397 : BitVec 32 := Scalar.addi c4736_i32_146 v396
  v397
def k0_mult22 (k0_t3 : Fin k0_t3_loop.trips) : BitVec 32 :=
  let c4736_i32_149 : BitVec 32 := 4736#32
  let c0_i32_14 : BitVec 32 := 0#32
  let c1_i32_16 : BitVec 32 := 1#32
  let arg9 : BitVec 32 := Scf.iv c0_i32_14 c1_i32_16 k0_t3
  let c128_i32_148 : BitVec 32 := 128#32
  let v403 : BitVec 32 := Scalar.muli arg9 c128_i32_148
  let v404 : BitVec 32 := Scalar.addi c4736_i32_149 v403
  v404
def k0_mult23 (k0_t3 : Fin k0_t3_loop.trips) : BitVec 32 :=
  let c9472_i32 : BitVec 32 := 9472#32
  let c0_i32_14 : BitVec 32 := 0#32
  let c1_i32_16 : BitVec 32 := 1#32
  let arg9 : BitVec 32 := Scf.iv c0_i32_14 c1_i32_16 k0_t3
  let c128_i32_153 : BitVec 32 := 128#32
  let v417 : BitVec 32 := Scalar.muli arg9 c128_i32_153
  let v418 : BitVec 32 := Scalar.addi c9472_i32 v417
  v418
def k0_mult24 (k0_t3 : Fin k0_t3_loop.trips) : BitVec 32 :=
  let c9472_i32_158 : BitVec 32 := 9472#32
  let c0_i32_14 : BitVec 32 := 0#32
  let c1_i32_16 : BitVec 32 := 1#32
  let arg9 : BitVec 32 := Scf.iv c0_i32_14 c1_i32_16 k0_t3
  let c128_i32_157 : BitVec 32 := 128#32
  let v429 : BitVec 32 := Scalar.muli arg9 c128_i32_157
  let v430 : BitVec 32 := Scalar.addi c9472_i32_158 v429
  v430
def k0_mult25 (k0_t3 : Fin k0_t3_loop.trips) : BitVec 32 :=
  let c9472_i32_161 : BitVec 32 := 9472#32
  let c0_i32_14 : BitVec 32 := 0#32
  let c1_i32_16 : BitVec 32 := 1#32
  let arg9 : BitVec 32 := Scf.iv c0_i32_14 c1_i32_16 k0_t3
  let c128_i32_160 : BitVec 32 := 128#32
  let v436 : BitVec 32 := Scalar.muli arg9 c128_i32_160
  let v437 : BitVec 32 := Scalar.addi c9472_i32_161 v436
  v437
def k0_mult26 (k0_t3 : Fin k0_t3_loop.trips) : BitVec 32 :=
  let c14208_i32 : BitVec 32 := 14208#32
  let c0_i32_14 : BitVec 32 := 0#32
  let c1_i32_16 : BitVec 32 := 1#32
  let arg9 : BitVec 32 := Scf.iv c0_i32_14 c1_i32_16 k0_t3
  let c128_i32_165 : BitVec 32 := 128#32
  let v450 : BitVec 32 := Scalar.muli arg9 c128_i32_165
  let v451 : BitVec 32 := Scalar.addi c14208_i32 v450
  v451
def k0_mult27 (k0_t3 : Fin k0_t3_loop.trips) : BitVec 32 :=
  let c14208_i32_170 : BitVec 32 := 14208#32
  let c0_i32_14 : BitVec 32 := 0#32
  let c1_i32_16 : BitVec 32 := 1#32
  let arg9 : BitVec 32 := Scf.iv c0_i32_14 c1_i32_16 k0_t3
  let c128_i32_169 : BitVec 32 := 128#32
  let v462 : BitVec 32 := Scalar.muli arg9 c128_i32_169
  let v463 : BitVec 32 := Scalar.addi c14208_i32_170 v462
  v463
def k0_mult28 (k0_t3 : Fin k0_t3_loop.trips) : BitVec 32 :=
  let c14208_i32_173 : BitVec 32 := 14208#32
  let c0_i32_14 : BitVec 32 := 0#32
  let c1_i32_16 : BitVec 32 := 1#32
  let arg9 : BitVec 32 := Scf.iv c0_i32_14 c1_i32_16 k0_t3
  let c128_i32_172 : BitVec 32 := 128#32
  let v469 : BitVec 32 := Scalar.muli arg9 c128_i32_172
  let v470 : BitVec 32 := Scalar.addi c14208_i32_173 v469
  v470
def k0_off4 (k0_t3 : Fin k0_t3_loop.trips) : Fin 2 → Nat :=
  let c0_i32_14 : BitVec 32 := 0#32
  let c1_i32_16 : BitVec 32 := 1#32
  let arg9 : BitVec 32 := Scf.iv c0_i32_14 c1_i32_16 k0_t3
  let v485 : Index := Scalar.indexCast arg9
  let c0_177 : Index := 0#32
  ![v485.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x18944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1792 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x18944 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x18944 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QuantiseReferenceIdeal.lean ====
abbrev S6x256x18944 : Shape := ⟨3, ![6, 256, 18944]⟩
abbrev S6x256x1792 : Shape := ⟨3, ![6, 256, 1792]⟩
abbrev S1536x18944 : Shape := ⟨2, ![1536, 18944]⟩
abbrev S_ : Shape := ⟨0, ![]⟩
abbrev S1536 : Shape := ⟨1, ![1536]⟩
abbrev S1536x1 : Shape := ⟨2, ![1536, 1]⟩
abbrev S1536x1792 : Shape := ⟨2, ![1536, 1792]⟩
abbrev S1536x5 : Shape := ⟨2, ![1536, 5]⟩
abbrev S1536x123 : Shape := ⟨2, ![1536, 123]⟩
abbrev S1536x128 : Shape := ⟨2, ![1536, 128]⟩

abbrev nBuf : Space → Nat
  | .hbm => 117
  | .vmem => 0
  | .smem => 0
  | _ => 0

abbrev bufTy : (tb : Table) → Fin (tcTables nBuf tb) → BufTy
  | .hbm, ⟨0, _⟩ => ⟨S6x256x18944, .bf16⟩
  | .hbm, ⟨1, _⟩ => ⟨S6x256x1792, .i8⟩
  | .hbm, ⟨2, _⟩ => ⟨S1536x18944, .bf16⟩
  | .hbm, ⟨3, _⟩ => ⟨S1536x18944, .f32⟩
  | .hbm, ⟨4, _⟩ => ⟨S1536x18944, .f32⟩
  | .hbm, ⟨5, _⟩ => ⟨S_, .f32⟩
  | .hbm, ⟨6, _⟩ => ⟨S1536, .f32⟩
  | .hbm, ⟨7, _⟩ => ⟨S_, .f32⟩
  | .hbm, ⟨8, _⟩ => ⟨S1536, .f32⟩
  | .hbm, ⟨9, _⟩ => ⟨S1536, .i1⟩
  | .hbm, ⟨10, _⟩ => ⟨S_, .f32⟩
  | .hbm, ⟨11, _⟩ => ⟨S1536, .f32⟩
  | .hbm, ⟨12, _⟩ => ⟨S1536, .f32⟩
  | .hbm, ⟨13, _⟩ => ⟨S_, .f32⟩
  | .hbm, ⟨14, _⟩ => ⟨S_, .f32⟩
  | .hbm, ⟨15, _⟩ => ⟨S1536, .f32⟩
  | .hbm, ⟨16, _⟩ => ⟨S1536, .f32⟩
  | .hbm, ⟨17, _⟩ => ⟨S1536x1, .f32⟩
  | .hbm, ⟨18, _⟩ => ⟨S1536x18944, .f32⟩
  | .hbm, ⟨19, _⟩ => ⟨S1536x18944, .f32⟩
  | .hbm, ⟨20, _⟩ => ⟨S1536x18944, .f32⟩
  | .hbm, ⟨21, _⟩ => ⟨S_, .i32⟩
  | .hbm, ⟨22, _⟩ => ⟨S_, .i32⟩
  | .hbm, ⟨23, _⟩ => ⟨S_, .f32⟩
  | .hbm, ⟨24, _⟩ => ⟨S1536x18944, .f32⟩
  | .hbm, ⟨25, _⟩ => ⟨S1536x18944, .f32⟩
  | .hbm, ⟨26, _⟩ => ⟨S_, .f32⟩
  | .hbm, ⟨27, _⟩ => ⟨S1536x18944, .f32⟩
  | .hbm, ⟨28, _⟩ => ⟨S1536x18944, .f32⟩
  | .hbm, ⟨29, _⟩ => ⟨S1536x18944, .i32⟩
  | .hbm, ⟨30, _⟩ => ⟨S1536x18944, .i8⟩
  | .hbm, ⟨31, _⟩ => ⟨S1536x18944, .i32⟩
  | .hbm, ⟨32, _⟩ => ⟨S1536x18944, .f32⟩
  | .hbm, ⟨33, _⟩ => ⟨S1536x1, .f32⟩
  | .hbm, ⟨34, _⟩ => ⟨S1536x18944, .f32⟩
  | .hbm, ⟨35, _⟩ => ⟨S1536x18944, .f32⟩
  | .hbm, ⟨36, _⟩ => ⟨S1536x18944, .f32⟩
  | .hbm, ⟨37, _⟩ => ⟨S1536x18944, .f32⟩
  | .hbm, ⟨38, _⟩ => ⟨S_, .f32⟩
  | .hbm, ⟨39, _⟩ => ⟨S1536, .f32⟩
  | .hbm, ⟨40, _⟩ => ⟨S_, .f32⟩
  | .hbm, ⟨41, _⟩ => ⟨S1536, .f32⟩
  | .hbm, ⟨42, _⟩ => ⟨S1536, .i1⟩
  | .hbm, ⟨43, _⟩ => ⟨S_, .f32⟩
  | .hbm, ⟨44, _⟩ => ⟨S1536, .f32⟩
  | .hbm, ⟨45, _⟩ => ⟨S1536, .f32⟩
  | .hbm, ⟨46, _⟩ => ⟨S_, .f32⟩
  | .hbm, ⟨47, _⟩ => ⟨S_, .f32⟩
  | .hbm, ⟨48, _⟩ => ⟨S1536, .f32⟩
  | .hbm, ⟨49, _⟩ => ⟨S1536, .f32⟩
  | .hbm, ⟨50, _⟩ => ⟨S1536x1, .f32⟩
  | .hbm, ⟨51, _⟩ => ⟨S1536x18944, .f32⟩
  | .hbm, ⟨52, _⟩ => ⟨S1536x18944, .f32⟩
  | .hbm, ⟨53, _⟩ => ⟨S1536x18944, .f32⟩
  | .hbm, ⟨54, _⟩ => ⟨S_, .i32⟩
  | .hbm, ⟨55, _⟩ => ⟨S_, .i32⟩
  | .hbm, ⟨56, _⟩ => ⟨S_, .f32⟩
  | .hbm, ⟨57, _⟩ => ⟨S1536x18944, .f32⟩
  | .hbm, ⟨58, _⟩ => ⟨S1536x18944, .f32⟩
  | .hbm, ⟨59, _⟩ => ⟨S_, .f32⟩
  | .hbm, ⟨60, _⟩ => ⟨S1536x18944, .f32⟩
  | .hbm, ⟨61, _⟩ => ⟨S1536x18944, .f32⟩
  | .hbm, ⟨62, _⟩ => ⟨S1536x18944, .i32⟩
  | .hbm, ⟨63, _⟩ => ⟨S1536x18944, .i8⟩
  | .hbm, ⟨64, _⟩ => ⟨S1536x18944, .i32⟩
  | .hbm, ⟨65, _⟩ => ⟨S1536x18944, .f32⟩
  | .hbm, ⟨66, _⟩ => ⟨S1536x1792, .i8⟩
  | .hbm, ⟨67, _⟩ => ⟨S1536x1792, .i32⟩
  | .hbm, ⟨68, _⟩ => ⟨S_, .i32⟩
  | .hbm, ⟨69, _⟩ => ⟨S1536x1792, .i32⟩
  | .hbm, ⟨70, _⟩ => ⟨S1536x1792, .i32⟩
  | .hbm, ⟨71, _⟩ => ⟨S_, .i32⟩
  | .hbm, ⟨72, _⟩ => ⟨S1536x1792, .i32⟩
  | .hbm, ⟨73, _⟩ => ⟨S1536x1792, .i32⟩
  | .hbm, ⟨74, _⟩ => ⟨S_, .i32⟩
  | .hbm, ⟨75, _⟩ => ⟨S1536x1792, .i32⟩
  | .hbm, ⟨76, _⟩ => ⟨S1536x1792, .i32⟩
  | .hbm, ⟨77, _⟩ => ⟨S_, .i32⟩
  | .hbm, ⟨78, _⟩ => ⟨S1536x1792, .i32⟩
  | .hbm, ⟨79, _⟩ => ⟨S1536x1792, .i1⟩
  | .hbm, ⟨80, _⟩ => ⟨S1536x1792, .i32⟩
  | .hbm, ⟨81, _⟩ => ⟨S_, .i32⟩
  | .hbm, ⟨82, _⟩ => ⟨S1536x1792, .i32⟩
  | .hbm, ⟨83, _⟩ => ⟨S1536x1792, .i32⟩
  | .hbm, ⟨84, _⟩ => ⟨S1536x1792, .i32⟩
  | .hbm, ⟨85, _⟩ => ⟨S_, .i32⟩
  | .hbm, ⟨86, _⟩ => ⟨S1536x1792, .i32⟩
  | .hbm, ⟨87, _⟩ => ⟨S1536x1792, .i1⟩
  | .hbm, ⟨88, _⟩ => ⟨S1536x1792, .i32⟩
  | .hbm, ⟨89, _⟩ => ⟨S_, .i32⟩
  | .hbm, ⟨90, _⟩ => ⟨S1536x1792, .i32⟩
  | .hbm, ⟨91, _⟩ => ⟨S1536x1792, .i32⟩
  | .hbm, ⟨92, _⟩ => ⟨S1536x1792, .i32⟩
  | .hbm, ⟨93, _⟩ => ⟨S1536x1792, .f32⟩
  | .hbm, ⟨94, _⟩ => ⟨S1536x1792, .f32⟩
  | .hbm, ⟨95, _⟩ => ⟨S1536x18944, .f32⟩
  | .hbm, ⟨96, _⟩ => ⟨S_, .f32⟩
  | .hbm, ⟨97, _⟩ => ⟨S1536, .f32⟩
  | .hbm, ⟨98, _⟩ => ⟨S1536x18944, .f32⟩
  | .hbm, ⟨99, _⟩ => ⟨S_, .f32⟩
  | .hbm, ⟨100, _⟩ => ⟨S1536, .f32⟩
  | .hbm, ⟨101, _⟩ => ⟨S1536x1792, .f32⟩
  | .hbm, ⟨102, _⟩ => ⟨S_, .f32⟩
  | .hbm, ⟨103, _⟩ => ⟨S1536, .f32⟩
  | .hbm, ⟨104, _⟩ => ⟨S1536x1792, .f32⟩
  | .hbm, ⟨105, _⟩ => ⟨S_, .f32⟩
  | .hbm, ⟨106, _⟩ => ⟨S1536, .f32⟩
  | .hbm, ⟨107, _⟩ => ⟨S1536, .f32⟩
  | .hbm, ⟨108, _⟩ => ⟨S1536x1, .f32⟩
  | .hbm, ⟨109, _⟩ => ⟨S1536x1, .f32⟩
  | .hbm, ⟨110, _⟩ => ⟨S1536x1, .f32⟩
  | .hbm, ⟨111, _⟩ => ⟨S1536x1, .f32⟩
  | .hbm, ⟨112, _⟩ => ⟨S1536x1, .f32⟩
  | .hbm, ⟨113, _⟩ => ⟨S1536x5, .f32⟩
  | .hbm, ⟨114, _⟩ => ⟨S_, .f32⟩
  | .hbm, ⟨115, _⟩ => ⟨S1536x123, .f32⟩
  | .hbm, ⟨116, _⟩ => ⟨S1536x128, .f32⟩
  | _, _ => ⟨S6x256x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_c_3 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_call3_v0 : Ref sig .tc := ⟨.hbm, 47, rfl⟩
abbrev main_call3_v1 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_c_9 : Ref sig .tc := ⟨.hbm, 55, rfl⟩
abbrev main_call5_v0 : Ref sig .tc := ⟨.hbm, 56, rfl⟩
abbrev main_call5_v1 : Ref sig .tc := ⟨.hbm, 57, rfl⟩
abbrev main_call5_v2 : Ref sig .tc := ⟨.hbm, 58, rfl⟩
abbrev main_call5_v3 : Ref sig .tc := ⟨.hbm, 59, rfl⟩
abbrev main_call5_v4 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_10 : Ref sig .tc := ⟨.hbm, 68, rfl⟩
abbrev main_v40 : Ref sig .tc := ⟨.hbm, 69, rfl⟩
abbrev main_v41 : Ref sig .tc := ⟨.hbm, 70, rfl⟩
abbrev main_c_11 : Ref sig .tc := ⟨.hbm, 71, rfl⟩
abbrev main_v42 : Ref sig .tc := ⟨.hbm, 72, rfl⟩
abbrev main_v43 : Ref sig .tc := ⟨.hbm, 73, rfl⟩
abbrev main_c_12 : Ref sig .tc := ⟨.hbm, 74, rfl⟩
abbrev main_v44 : Ref sig .tc := ⟨.hbm, 75, rfl⟩
abbrev main_v45 : Ref sig .tc := ⟨.hbm, 76, rfl⟩
abbrev main_c_13 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_14 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_c_15 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_16 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_17 : Ref sig .tc := ⟨.hbm, 96, rfl⟩
abbrev main_v61 : Ref sig .tc := ⟨.hbm, 97, rfl⟩
abbrev main_v62 : Ref sig .tc := ⟨.hbm, 98, rfl⟩
abbrev main_cst_18 : Ref sig .tc := ⟨.hbm, 99, rfl⟩
abbrev main_v63 : Ref sig .tc := ⟨.hbm, 100, rfl⟩
abbrev main_v64 : Ref sig .tc := ⟨.hbm, 101, rfl⟩
abbrev main_cst_19 : Ref sig .tc := ⟨.hbm, 102, rfl⟩
abbrev main_v65 : Ref sig .tc := ⟨.hbm, 103, rfl⟩
abbrev main_v66 : Ref sig .tc := ⟨.hbm, 104, rfl⟩
abbrev main_cst_20 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_21 : Ref sig .tc := ⟨.hbm, 114, rfl⟩
abbrev main_v75 : Ref sig .tc := ⟨.hbm, 115, rfl⟩
abbrev main_v76 : Ref sig .tc := ⟨.hbm, 116, rfl⟩

abbrev nD : Nat := 1
abbrev τ : Topo := Topo.v7x

variable {F : FTy → Type} [FloatOps F]
-- ==== Both.lean ====
abbrev S6x256x18944 : Shape := ⟨3, ![6, 256, 18944]⟩
abbrev S6x256x1792 : Shape := ⟨3, ![6, 256, 1792]⟩
abbrev S18944x1792 : Shape := ⟨2, ![18944, 1792]⟩
abbrev S3584 : Shape := ⟨1, ![3584]⟩
abbrev S1536x18944 : Shape := ⟨2, ![1536, 18944]⟩
abbrev S1536x1792 : Shape := ⟨2, ![1536, 1792]⟩
abbrev S61440x128 : Shape := ⟨2, ![61440, 128]⟩
abbrev S12288x128 : Shape := ⟨2, ![12288, 128]⟩
abbrev S1536x128 : Shape := ⟨2, ![1536, 128]⟩
abbrev S32x18944 : Shape := ⟨2, ![32, 18944]⟩
abbrev S32x1792 : Shape := ⟨2, ![32, 1792]⟩
abbrev S1280x128 : Shape := ⟨2, ![1280, 128]⟩
abbrev S256x128 : Shape := ⟨2, ![256, 128]⟩
abbrev S32x128 : Shape := ⟨2, ![32, 128]⟩
abbrev S32 : Shape := ⟨1, ![32]⟩
abbrev S32x1 : Shape := ⟨2, ![32, 1]⟩
abbrev S14x128x2 : Shape := ⟨3, ![14, 128, 2]⟩
abbrev S14x2x128 : Shape := ⟨3, ![14, 2, 128]⟩
abbrev S14x1x256 : Shape := ⟨3, ![14, 1, 256]⟩
abbrev S1536x3584 : Shape := ⟨2, ![1536, 3584]⟩
abbrev S18944x128 : Shape := ⟨2, ![18944, 128]⟩
abbrev S384x18944 : Shape := ⟨2, ![384, 18944]⟩
abbrev S1x1x256 : Shape := ⟨3, ![1, 1, 256]⟩
abbrev S384x128 : Shape := ⟨2, ![384, 128]⟩
abbrev S384x256 : Shape := ⟨2, ![384, 256]⟩
abbrev S768x18944 : Shape := ⟨2, ![768, 18944]⟩
abbrev S18944x256 : Shape := ⟨2, ![18944, 256]⟩
abbrev S768x256 : Shape := ⟨2, ![768, 256]⟩
abbrev S384x1 : Shape := ⟨2, ![384, 1]⟩
abbrev S1x256 : Shape := ⟨2, ![1, 256]⟩
abbrev S256x256 : Shape := ⟨2, ![256, 256]⟩

abbrev nBuf : Space → Nat
  | .hbm => 15
  | .vmem => 27
  | .smem => 0
  | _ => 0

abbrev bufTy : (tb : Table) → Fin (tcTables nBuf tb) → BufTy
  | .hbm, ⟨0, _⟩ => ⟨S6x256x18944, .bf16⟩
  | .hbm, ⟨1, _⟩ => ⟨S6x256x1792, .i8⟩
  | .hbm, ⟨2, _⟩ => ⟨S18944x1792, .i8⟩
  | .hbm, ⟨3, _⟩ => ⟨S3584, .f32⟩
  | .hbm, ⟨4, _⟩ => ⟨S1536x18944, .bf16⟩
  | .hbm, ⟨5, _⟩ => ⟨S1536x1792, .i8⟩
  | .hbm, ⟨6, _⟩ => ⟨S1536x18944, .i8⟩
  | .hbm, ⟨7, _⟩ => ⟨S1536x18944, .i8⟩
  | .hbm, ⟨8, _⟩ => ⟨S61440x128, .i32⟩
  | .hbm, ⟨9, _⟩ => ⟨S12288x128, .i32⟩
  | .hbm, ⟨10, _⟩ => ⟨S1536x128, .f32⟩
  | .hbm, ⟨11, _⟩ => ⟨S14x128x2, .f32⟩
  | .hbm, ⟨12, _⟩ => ⟨S14x2x128, .f32⟩
  | .hbm, ⟨13, _⟩ => ⟨S14x1x256, .f32⟩
  | .hbm, ⟨14, _⟩ => ⟨S1536x3584, .bf16⟩
  | .local _ .vmem, ⟨0, _⟩ => ⟨S32x18944, .bf16⟩
  | .local _ .vmem, ⟨1, _⟩ => ⟨S32x18944, .bf16⟩
  | .local _ .vmem, ⟨2, _⟩ => ⟨S32x1792, .i8⟩
  | .local _ .vmem, ⟨3, _⟩ => ⟨S32x1792, .i8⟩
  | .local _ .vmem, ⟨4, _⟩ => ⟨S32x18944, .i8⟩
  | .local _ .vmem, ⟨5, _⟩ => ⟨S32x18944, .i8⟩
  | .local _ .vmem, ⟨6, _⟩ => ⟨S32x18944, .i8⟩
  | .local _ .vmem, ⟨7, _⟩ => ⟨S32x18944, .i8⟩
  | .local _ .vmem, ⟨8, _⟩ => ⟨S1280x128, .i32⟩
  | .local _ .vmem, ⟨9, _⟩ => ⟨S1280x128, .i32⟩
  | .local _ .vmem, ⟨10, _⟩ => ⟨S256x128, .i32⟩
  | .local _ .vmem, ⟨11, _⟩ => ⟨S256x128, .i32⟩
  | .local _ .vmem, ⟨12, _⟩ => ⟨S32x128, .f32⟩
  | .local _ .vmem, ⟨13, _⟩ => ⟨S32x128, .f32⟩
  | .local _ .vmem, ⟨14, _⟩ => ⟨S32x18944, .f32⟩
  | .local _ .vmem, ⟨15, _⟩ => ⟨S18944x128, .i8⟩
  | .local _ .vmem, ⟨16, _⟩ => ⟨S18944x128, .i8⟩
  | .local _ .vmem, ⟨17, _⟩ => ⟨S384x18944, .i8⟩
  | .local _ .vmem, ⟨18, _⟩ => ⟨S384x18944, .i8⟩
  | .local _ .vmem, ⟨19, _⟩ => ⟨S1x1x256, .f32⟩
  | .local _ .vmem, ⟨20, _⟩ => ⟨S1x1x256, .f32⟩
  | .local _ .vmem, ⟨21, _⟩ => ⟨S384x128, .f32⟩
  | .local _ .vmem, ⟨22, _⟩ => ⟨S384x128, .f32⟩
  | .local _ .vmem, ⟨23, _⟩ => ⟨S384x256, .bf16⟩
  | .local _ .vmem, ⟨24, _⟩ => ⟨S384x256, .bf16⟩
  | .local _ .vmem, ⟨25, _⟩ => ⟨S768x18944, .fp8e4m3⟩
  | .local _ .vmem, ⟨26, _⟩ => ⟨S18944x256, .fp8e4m3⟩
  | _, _ => ⟨S6x256x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_scratch0 : Ref sig .tc := ⟨.vmem, 25, rfl⟩
abbrev cc1_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32 : BitVec 32 := 0#32
  let c37_i32 : BitVec 32 := 37#32
  let v2 : BitVec 32 := Scalar.addi c0_i32 c37_i32
  let c1_i32 : BitVec 32 := 1#32
  ⟨c0_i32, v2, c1_i32⟩
def k0_mult1 (k0_t1 : Fin k0_t1_loop.trips) : BitVec 32 :=
  let c0_i32_128 : BitVec 32 := 0#32
  let c0_i32 : BitVec 32 := 0#32
  let c1_i32 : BitVec 32 := 1#32
  let arg9 : BitVec 32 := Scf.iv c0_i32 c1_i32 k0_t1
  let c128_i32 : BitVec 32 := 128#32
  let v350 : BitVec 32 := Scalar.muli arg9 c128_i32
  let v351 : BitVec 32 := Scalar.addi c0_i32_128 v350
  v351
def k0_off1 (k0_t1 : Fin k0_t1_loop.trips) (c0_i32_128 : BitVec 32) : Fin 2 → Nat :=
  let c0_129 : Index := 0#32
  let c0_i32 : BitVec 32 := 0#32
  let c1_i32 : BitVec 32 := 1#32
  let arg9 : BitVec 32 := Scf.iv c0_i32 c1_i32 k0_t1
  let c128_i32 : BitVec 32 := 128#32
  let v350 : BitVec 32 := Scalar.muli arg9 c128_i32
  let v351 : BitVec 32 := Scalar.addi c0_i32_128 v350
  let v352 : BitVec 32 := v351
  let v353 : Index := Scalar.indexCast v352
  ![0, v353.toNat]
def k0_mult2 (k0_t1 : Fin k0_t1_loop.trips) : BitVec 32 :=
  let c4736_i32 : BitVec 32 := 4736#32
  let c0_i32 : BitVec 32 := 0#32
  let c1_i32 : BitVec 32 := 1#32
  let arg9 : BitVec 32 := Scf.iv c0_i32 c1_i32 k0_t1
  let c128_i32_130 : BitVec 32 := 128#32
  let v358 : BitVec 32 := Scalar.muli arg9 c128_i32_130
  let v359 : BitVec 32 := Scalar.addi c4736_i32 v358
  v359
def k0_mult3 (k0_t1 : Fin k0_t1_loop.trips) : BitVec 32 :=
  let c9472_i32 : BitVec 32 := 9472#32
  let c0_i32 : BitVec 32 := 0#32
  let c1_i32 : BitVec 32 := 1#32
  let arg9 : BitVec 32 := Scf.iv c0_i32 c1_i32 k0_t1
  let c128_i32_132 : BitVec 32 := 128#32
  let v366 : BitVec 32 := Scalar.muli arg9 c128_i32_132
  let v367 : BitVec 32 := Scalar.addi c9472_i32 v366
  v367
def k0_mult4 (k0_t1 : Fin k0_t1_loop.trips) : BitVec 32 :=
  let c14208_i32 : BitVec 32 := 14208#32
  let c0_i32 : BitVec 32 := 0#32
  let c1_i32 : BitVec 32 := 1#32
  let arg9 : BitVec 32 := Scf.iv c0_i32 c1_i32 k0_t1
  let c128_i32_134 : BitVec 32 := 128#32
  let v374 : BitVec 32 := Scalar.muli arg9 c128_i32_134
  let v375 : BitVec 32 := Scalar.addi c14208_i32 v374
  v375
@[reducible] def k0_t2_loop : Scf.Loop 32 :=
  let c0_i32_6 : BitVec 32 := 0#32
  let c37_i32_7 : BitVec 32 := 37#32
  let v15 : BitVec 32 := Scalar.addi c0_i32_6 c37_i32_7
  let c1_i32_8 : BitVec 32 := 1#32
  ⟨c0_i32_6, v15, c1_i32_8⟩
def k0_mult5 (k0_t2 : Fin k0_t2_loop.trips) : BitVec 32 :=
  let c0_i32_128 : BitVec 32 := 0#32
  let c0_i32_6 : BitVec 32 := 0#32
  let c1_i32_8 : BitVec 32 := 1#32
  let arg9 : BitVec 32 := Scf.iv c0_i32_6 c1_i32_8 k0_t2
  let c128_i32 : BitVec 32 := 128#32
  let v350 : BitVec 32 := Scalar.muli arg9 c128_i32
  let v351 : BitVec 32 := Scalar.addi c0_i32_128 v350
  v351
def k0_off2 (k0_t2 : Fin k0_t2_loop.trips) (c0_i32_128 : BitVec 32) : Fin 2 → Nat :=
  let c0_129 : Index := 0#32
  let c0_i32_6 : BitVec 32 := 0#32
  let c1_i32_8 : BitVec 32 := 1#32
  let arg9 : BitVec 32 := Scf.iv c0_i32_6 c1_i32_8 k0_t2
  let c128_i32 : BitVec 32 := 128#32
  let v350 : BitVec 32 := Scalar.muli arg9 c128_i32
  let v351 : BitVec 32 := Scalar.addi c0_i32_128 v350
  let v352 : BitVec 32 := v351
  let v353 : Index := Scalar.indexCast v352
  ![0, v353.toNat]
def k0_mult6 (k0_t2 : Fin k0_t2_loop.trips) : BitVec 32 :=
  let c0_i32_133 : BitVec 32 := 0#32
  let c0_i32_6 : BitVec 32 := 0#32
  let c1_i32_8 : BitVec 32 := 1#32
  let arg9 : BitVec 32 := Scf.iv c0_i32_6 c1_i32_8 k0_t2
  let c128_i32_132 : BitVec 32 := 128#32
  let v365 : BitVec 32 := Scalar.muli arg9 c128_i32_132
  let v366 : BitVec 32 := Scalar.addi c0_i32_133 v365
  v366
def k0_mult7 (k0_t2 : Fin k0_t2_loop.trips) : BitVec 32 :=
  let c0_i32_136 : BitVec 32 := 0#32
  let c0_i32_6 : BitVec 32 := 0#32
  let c1_i32_8 : BitVec 32 := 1#32
  let arg9 : BitVec 32 := Scf.iv c0_i32_6 c1_i32_8 k0_t2
  let c128_i32_135 : BitVec 32 := 128#32
  let v373 : BitVec 32 := Scalar.muli arg9 c128_i32_135
  let v374 : BitVec 32 := Scalar.addi c0_i32_136 v373
  v374
def k0_mult8 (k0_t2 : Fin k0_t2_loop.trips) : BitVec 32 :=
  let c4736_i32 : BitVec 32 := 4736#32
  let c0_i32_6 : BitVec 32 := 0#32
  let c1_i32_8 : BitVec 32 := 1#32
  let arg9 : BitVec 32 := Scf.iv c0_i32_6 c1_i32_8 k0_t2
  let c128_i32_138 : BitVec 32 := 128#32
  let v382 : BitVec 32 := Scalar.muli arg9 c128_i32_138
  let v383 : BitVec 32 := Scalar.addi c4736_i32 v382
  v383
def k0_mult9 (k0_t2 : Fin k0_t2_loop.trips) : BitVec 32 :=
  let c4736_i32_143 : BitVec 32 := 4736#32
  let c0_i32_6 : BitVec 32 := 0#32
  let c1_i32_8 : BitVec 32 := 1#32
  let arg9 : BitVec 32 := Scf.iv c0_i32_6 c1_i32_8 k0_t2
  let c128_i32_142 : BitVec 32 := 128#32
  let v397 : BitVec 32 := Scalar.muli arg9 c128_i32_142
  let v398 : BitVec 32 := Scalar.addi c4736_i32_143 v397
  v398
def k0_mult10 (k0_t2 : Fin k0_t2_loop.trips) : BitVec 32 :=
  let c4736_i32_146 : BitVec 32 := 4736#32
  let c0_i32_6 : BitVec 32 := 0#32
  let c1_i32_8 : BitVec 32 := 1#32
  let arg9 : BitVec 32 := Scf.iv c0_i32_6 c1_i32_8 k0_t2
  let c128_i32_145 : BitVec 32 := 128#32
  let v405 : BitVec 32 := Scalar.muli arg9 c128_i32_145
  let v406 : BitVec 32 := Scalar.addi c4736_i32_146 v405
  v406
def k0_mult11 (k0_t2 : Fin k0_t2_loop.trips) : BitVec 32 :=
  let c9472_i32 : BitVec 32 := 9472#32
  let c0_i32_6 : BitVec 32 := 0#32
  let c1_i32_8 : BitVec 32 := 1#32
  let arg9 : BitVec 32 := Scf.iv c0_i32_6 c1_i32_8 k0_t2
  let c128_i32_148 : BitVec 32 := 128#32
  let v414 : BitVec 32 := Scalar.muli arg9 c128_i32_148
  let v415 : BitVec 32 := Scalar.addi c9472_i32 v414
  v415
def k0_mult12 (k0_t2 : Fin k0_t2_loop.trips) : BitVec 32 :=
  let c9472_i32_153 : BitVec 32 := 9472#32
  let c0_i32_6 : BitVec 32 := 0#32
  let c1_i32_8 : BitVec 32 := 1#32
  let arg9 : BitVec 32 := Scf.iv c0_i32_6 c1_i32_8 k0_t2
  let c128_i32_152 : BitVec 32 := 128#32
  let v429 : BitVec 32 := Scalar.muli arg9 c128_i32_152
  let v430 : BitVec 32 := Scalar.addi c9472_i32_153 v429
  v430
def k0_mult13 (k0_t2 : Fin k0_t2_loop.trips) : BitVec 32 :=
  let c9472_i32_156 : BitVec 32 := 9472#32
  let c0_i32_6 : BitVec 32 := 0#32
  let c1_i32_8 : BitVec 32 := 1#32
  let arg9 : BitVec 32 := Scf.iv c0_i32_6 c1_i32_8 k0_t2
  let c128_i32_155 : BitVec 32 := 128#32
  let v437 : BitVec 32 := Scalar.muli arg9 c128_i32_155
  let v438 : BitVec 32 := Scalar.addi c9472_i32_156 v437
  v438
def k0_mult14 (k0_t2 : Fin k0_t2_loop.trips) : BitVec 32 :=
  let c14208_i32 : BitVec 32 := 14208#32
  let c0_i32_6 : BitVec 32 := 0#32
  let c1_i32_8 : BitVec 32 := 1#32
  let arg9 : BitVec 32 := Scf.iv c0_i32_6 c1_i32_8 k0_t2
  let c128_i32_158 : BitVec 32 := 128#32
  let v446 : BitVec 32 := Scalar.muli arg9 c128_i32_158
  let v447 : BitVec 32 := Scalar.addi c14208_i32 v446
  v447
def k0_mult15 (k0_t2 : Fin k0_t2_loop.trips) : BitVec 32 :=
  let c14208_i32_163 : BitVec 32 := 14208#32
  let c0_i32_6 : BitVec 32 := 0#32
  let c1_i32_8 : BitVec 32 := 1#32
  let arg9 : BitVec 32 := Scf.iv c0_i32_6 c1_i32_8 k0_t2
  let c128_i32_162 : BitVec 32 := 128#32
  let v461 : BitVec 32 := Scalar.muli arg9 c128_i32_162
  let v462 : BitVec 32 := Scalar.addi c14208_i32_163 v461
  v462
def k0_mult16 (k0_t2 : Fin k0_t2_loop.trips) : BitVec 32 :=
  let c14208_i32_166 : BitVec 32 := 14208#32
  let c0_i32_6 : BitVec 32 := 0#32
  let c1_i32_8 : BitVec 32 := 1#32
  let arg9 : BitVec 32 := Scf.iv c0_i32_6 c1_i32_8 k0_t2
  let c128_i32_165 : BitVec 32 := 128#32
  let v469 : BitVec 32 := Scalar.muli arg9 c128_i32_165
  let v470 : BitVec 32 := Scalar.addi c14208_i32_166 v469
  v470
@[reducible] def k0_t3_loop : Scf.Loop 32 :=
  let c0_i32_14 : BitVec 32 := 0#32
  let c37_i32_15 : BitVec 32 := 37#32
  let v27 : BitVec 32 := Scalar.addi c0_i32_14 c37_i32_15
  let c1_i32_16 : BitVec 32 := 1#32
  ⟨c0_i32_14, v27, c1_i32_16⟩
def k0_mult17 (k0_t3 : Fin k0_t3_loop.trips) : BitVec 32 :=
  let c0_i32_129 : BitVec 32 := 0#32
  let c0_i32_14 : BitVec 32 := 0#32
  let c1_i32_16 : BitVec 32 := 1#32
  let arg9 : BitVec 32 := Scf.iv c0_i32_14 c1_i32_16 k0_t3
  let c128_i32 : BitVec 32 := 128#32
  let v351 : BitVec 32 := Scalar.muli arg9 c128_i32
  let v352 : BitVec 32 := Scalar.addi c0_i32_129 v351
  v352
def k0_off3 (k0_t3 : Fin k0_t3_loop.trips) (c0_i32_129 : BitVec 32) : Fin 2 → Nat :=
  let c0_130 : Index := 0#32
  let c0_i32_14 : BitVec 32 := 0#32
  let c1_i32_16 : BitVec 32 := 1#32
  let arg9 : BitVec 32 := Scf.iv c0_i32_14 c1_i32_16 k0_t3
  let c128_i32 : BitVec 32 := 128#32
  let v351 : BitVec 32 := Scalar.muli arg9 c128_i32
  let v352 : BitVec 32 := Scalar.addi c0_i32_129 v351
  let v353 : BitVec 32 := v352
  let v354 : Index := Scalar.indexCast v353
  ![0, v354.toNat]
def k0_mult18 (k0_t3 : Fin k0_t3_loop.trips) : BitVec 32 :=
  let c0_i32_134 : BitVec 32 := 0#32
  let c0_i32_14 : BitVec 32 := 0#32
  let c1_i32_16 : BitVec 32 := 1#32
  let arg9 : BitVec 32 := Scf.iv c0_i32_14 c1_i32_16 k0_t3
  let c128_i32_133 : BitVec 32 := 128#32
  let v363 : BitVec 32 := Scalar.muli arg9 c128_i32_133
  let v364 : BitVec 32 := Scalar.addi c0_i32_134 v363
  v364
def k0_mult19 (k0_t3 : Fin k0_t3_loop.trips) : BitVec 32 :=
  let c0_i32_137 : BitVec 32 := 0#32
  let c0_i32_14 : BitVec 32 := 0#32
  let c1_i32_16 : BitVec 32 := 1#32
  let arg9 : BitVec 32 := Scf.iv c0_i32_14 c1_i32_16 k0_t3
  let c128_i32_136 : BitVec 32 := 128#32
  let v370 : BitVec 32 := Scalar.muli arg9 c128_i32_136
  let v371 : BitVec 32 := Scalar.addi c0_i32_137 v370
  v371
def k0_mult20 (k0_t3 : Fin k0_t3_loop.trips) : BitVec 32 :=
  let c4736_i32 : BitVec 32 := 4736#32
  let c0_i32_14 : BitVec 32 := 0#32
  let c1_i32_16 : BitVec 32 := 1#32
  let arg9 : BitVec 32 := Scf.iv c0_i32_14 c1_i32_16 k0_t3
  let c128_i32_141 : BitVec 32 := 128#32
  let v384 : BitVec 32 := Scalar.muli arg9 c128_i32_141
  let v385 : BitVec 32 := Scalar.addi c4736_i32 v384
  v385
def k0_mult21 (k0_t3 : Fin k0_t3_loop.trips) : BitVec 32 :=
  let c4736_i32_146 : BitVec 32 := 4736#32
  let c0_i32_14 : BitVec 32 := 0#32
  let c1_i32_16 : BitVec 32 := 1#32
  let arg9 : BitVec 32 := Scf.iv c0_i32_14 c1_i32_16 k0_t3
  let c128_i32_145 : BitVec 32 := 128#32
  let v396 : BitVec 32 := Scalar.muli arg9 c128_i32_145
  let v397 : BitVec 32 := Scalar.addi c4736_i32_146 v396
  v397
def k0_mult22 (k0_t3 : Fin k0_t3_loop.trips) : BitVec 32 :=
  let c4736_i32_149 : BitVec 32 := 4736#32
  let c0_i32_14 : BitVec 32 := 0#32
  let c1_i32_16 : BitVec 32 := 1#32
  let arg9 : BitVec 32 := Scf.iv c0_i32_14 c1_i32_16 k0_t3
  let c128_i32_148 : BitVec 32 := 128#32
  let v403 : BitVec 32 := Scalar.muli arg9 c128_i32_148
  let v404 : BitVec 32 := Scalar.addi c4736_i32_149 v403
  v404
def k0_mult23 (k0_t3 : Fin k0_t3_loop.trips) : BitVec 32 :=
  let c9472_i32 : BitVec 32 := 9472#32
  let c0_i32_14 : BitVec 32 := 0#32
  let c1_i32_16 : BitVec 32 := 1#32
  let arg9 : BitVec 32 := Scf.iv c0_i32_14 c1_i32_16 k0_t3
  let c128_i32_153 : BitVec 32 := 128#32
  let v417 : BitVec 32 := Scalar.muli arg9 c128_i32_153
  let v418 : BitVec 32 := Scalar.addi c9472_i32 v417
  v418
def k0_mult24 (k0_t3 : Fin k0_t3_loop.trips) : BitVec 32 :=
  let c9472_i32_158 : BitVec 32 := 9472#32
  let c0_i32_14 : BitVec 32 := 0#32
  let c1_i32_16 : BitVec 32 := 1#32
  let arg9 : BitVec 32 := Scf.iv c0_i32_14 c1_i32_16 k0_t3
  let c128_i32_157 : BitVec 32 := 128#32
  let v429 : BitVec 32 := Scalar.muli arg9 c128_i32_157
  let v430 : BitVec 32 := Scalar.addi c9472_i32_158 v429
  v430
def k0_mult25 (k0_t3 : Fin k0_t3_loop.trips) : BitVec 32 :=
  let c9472_i32_161 : BitVec 32 := 9472#32
  let c0_i32_14 : BitVec 32 := 0#32
  let c1_i32_16 : BitVec 32 := 1#32
  let arg9 : BitVec 32 := Scf.iv c0_i32_14 c1_i32_16 k0_t3
  let c128_i32_160 : BitVec 32 := 128#32
  let v436 : BitVec 32 := Scalar.muli arg9 c128_i32_160
  let v437 : BitVec 32 := Scalar.addi c9472_i32_161 v436
  v437
def k0_mult26 (k0_t3 : Fin k0_t3_loop.trips) : BitVec 32 :=
  let c14208_i32 : BitVec 32 := 14208#32
  let c0_i32_14 : BitVec 32 := 0#32
  let c1_i32_16 : BitVec 32 := 1#32
  let arg9 : BitVec 32 := Scf.iv c0_i32_14 c1_i32_16 k0_t3
  let c128_i32_165 : BitVec 32 := 128#32
  let v450 : BitVec 32 := Scalar.muli arg9 c128_i32_165
  let v451 : BitVec 32 := Scalar.addi c14208_i32 v450
  v451
def k0_mult27 (k0_t3 : Fin k0_t3_loop.trips) : BitVec 32 :=
  let c14208_i32_170 : BitVec 32 := 14208#32
  let c0_i32_14 : BitVec 32 := 0#32
  let c1_i32_16 : BitVec 32 := 1#32
  let arg9 : BitVec 32 := Scf.iv c0_i32_14 c1_i32_16 k0_t3
  let c128_i32_169 : BitVec 32 := 128#32
  let v462 : BitVec 32 := Scalar.muli arg9 c128_i32_169
  let v463 : BitVec 32 := Scalar.addi c14208_i32_170 v462
  v463
def k0_mult28 (k0_t3 : Fin k0_t3_loop.trips) : BitVec 32 :=
  let c14208_i32_173 : BitVec 32 := 14208#32
  let c0_i32_14 : BitVec 32 := 0#32
  let c1_i32_16 : BitVec 32 := 1#32
  let arg9 : BitVec 32 := Scf.iv c0_i32_14 c1_i32_16 k0_t3
  let c128_i32_172 : BitVec 32 := 128#32
  let v469 : BitVec 32 := Scalar.muli arg9 c128_i32_172
  let v470 : BitVec 32 := Scalar.addi c14208_i32_173 v469
  v470
def k0_off4 (k0_t3 : Fin k0_t3_loop.trips) : Fin 2 → Nat :=
  let c0_i32_14 : BitVec 32 := 0#32
  let c1_i32_16 : BitVec 32 := 1#32
  let arg9 : BitVec 32 := Scf.iv c0_i32_14 c1_i32_16 k0_t3
  let v485 : Index := Scalar.indexCast arg9
  let c0_177 : Index := 0#32
  ![v485.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x18944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1792 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x18944 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x18944 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 14], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_16 : BitVec 32 := 0#32
  let c148_i32 : BitVec 32 := 148#32
  let v39 : BitVec 32 := Scalar.addi c0_i32_16 c148_i32
  let c1_i32_17 : BitVec 32 := 1#32
  ⟨c0_i32_16, v39, c1_i32_17⟩
def k1_mult1 (k1_t1 : Fin k1_t1_loop.trips) : BitVec 32 :=
  let c0_i32_16 : BitVec 32 := 0#32
  let c1_i32_17 : BitVec 32 := 1#32
  let arg10 : BitVec 32 := Scf.iv c0_i32_16 c1_i32_17 k1_t1
  let c128_i32_19 : BitVec 32 := 128#32
  let v40 : BitVec 32 := Scalar.muli arg10 c128_i32_19
  v40
def k1_off1 (k1_t1 : Fin k1_t1_loop.trips) : Fin 2 → Nat :=
  let c0_20 : Index := 0#32
  let c0_i32_16 : BitVec 32 := 0#32
  let c1_i32_17 : BitVec 32 := 1#32
  let arg10 : BitVec 32 := Scf.iv c0_i32_16 c1_i32_17 k1_t1
  let c128_i32_19 : BitVec 32 := 128#32
  let v40 : BitVec 32 := Scalar.muli arg10 c128_i32_19
  let v41 : BitVec 32 := v40
  let v42 : Index := Scalar.indexCast v41
  ![0, v42.toNat]
def k1_off2 (k1_t1 : Fin k1_t1_loop.trips) : Fin 2 → Nat :=
  let c0_21 : Index := 0#32
  let c0_i32_16 : BitVec 32 := 0#32
  let c1_i32_17 : BitVec 32 := 1#32
  let arg10 : BitVec 32 := Scf.iv c0_i32_16 c1_i32_17 k1_t1
  let c128_i32_19 : BitVec 32 := 128#32
  let v40 : BitVec 32 := Scalar.muli arg10 c128_i32_19
  let v41 : BitVec 32 := v40
  let v47 : Index := Scalar.indexCast v41
  ![0, v47.toNat]
def k1_off3 (k1_t1 : Fin k1_t1_loop.trips) : Fin 2 → Nat :=
  let c384 : Index := 384#32
  let c0_i32_16 : BitVec 32 := 0#32
  let c1_i32_17 : BitVec 32 := 1#32
  let arg10 : BitVec 32 := Scf.iv c0_i32_16 c1_i32_17 k1_t1
  let c128_i32_19 : BitVec 32 := 128#32
  let v40 : BitVec 32 := Scalar.muli arg10 c128_i32_19
  let v41 : BitVec 32 := v40
  let v56 : Index := Scalar.indexCast v41
  ![384, v56.toNat]
@[reducible] def k1_t2_loop : Scf.Loop 32 :=
  let c0_i32_1 : BitVec 32 := 0#32
  let c74_i32 : BitVec 32 := 74#32
  let v3 : BitVec 32 := Scalar.addi c0_i32_1 c74_i32
  let c1_i32 : BitVec 32 := 1#32
  ⟨c0_i32_1, v3, c1_i32⟩
def k1_mult2 (k1_t2 : Fin k1_t2_loop.trips) : BitVec 32 :=
  let c0_i32_1 : BitVec 32 := 0#32
  let c1_i32 : BitVec 32 := 1#32
  let arg10 : BitVec 32 := Scf.iv c0_i32_1 c1_i32 k1_t2
  let c256_i32 : BitVec 32 := 256#32
  let v39 : BitVec 32 := Scalar.muli arg10 c256_i32
  v39
def k1_off4 (k1_t2 : Fin k1_t2_loop.trips) : Fin 2 → Nat :=
  let c0_i32_1 : BitVec 32 := 0#32
  let c1_i32 : BitVec 32 := 1#32
  let arg10 : BitVec 32 := Scf.iv c0_i32_1 c1_i32 k1_t2
  let c256_i32 : BitVec 32 := 256#32
  let v39 : BitVec 32 := Scalar.muli arg10 c256_i32
  let v40 : BitVec 32 := v39
  let v41 : Index := Scalar.indexCast v40
  let c0_16 : Index := 0#32
  ![v41.toNat, 0]
def k1_off5 (k1_t2 : Fin k1_t2_loop.trips) : Fin 2 → Nat :=
  let c0_i32_1 : BitVec 32 := 0#32
  let c1_i32 : BitVec 32 := 1#32
  let arg10 : BitVec 32 := Scf.iv c0_i32_1 c1_i32 k1_t2
  let c256_i32 : BitVec 32 := 256#32
  let v39 : BitVec 32 := Scalar.muli arg10 c256_i32
  let v40 : BitVec 32 := v39
  let v55 : Index := Scalar.indexCast v40
  let c0_19 : Index := 0#32
  ![v55.toNat, 0]
def k1_off6 (k1_t2 : Fin k1_t2_loop.trips) : Fin 2 → Nat :=
  let c0_i32_1 : BitVec 32 := 0#32
  let c1_i32 : BitVec 32 := 1#32
  let arg10 : BitVec 32 := Scf.iv c0_i32_1 c1_i32 k1_t2
  let c256_i32 : BitVec 32 := 256#32
  let v39 : BitVec 32 := Scalar.muli arg10 c256_i32
  let v40 : BitVec 32 := v39
  let v62 : Index := Scalar.indexCast v40
  let c128 : Index := 128#32
  ![v62.toNat, 128]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S18944x128 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S384x18944 .i8 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S384x18944 .i8 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S384x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S384x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== BothReferenceIdeal.lean ====
abbrev S6x256x18944 : Shape := ⟨3, ![6, 256, 18944]⟩
abbrev S6x256x1792 : Shape := ⟨3, ![6, 256, 1792]⟩
abbrev S18944x1792 : Shape := ⟨2, ![18944, 1792]⟩
abbrev S3584 : Shape := ⟨1, ![3584]⟩
abbrev S1536x18944 : Shape := ⟨2, ![1536, 18944]⟩
abbrev S_ : Shape := ⟨0, ![]⟩
abbrev S1536 : Shape := ⟨1, ![1536]⟩
abbrev S1536x1 : Shape := ⟨2, ![1536, 1]⟩
abbrev S1536x1792 : Shape := ⟨2, ![1536, 1792]⟩
abbrev S1536x5 : Shape := ⟨2, ![1536, 5]⟩
abbrev S1536x123 : Shape := ⟨2, ![1536, 123]⟩
abbrev S1536x128 : Shape := ⟨2, ![1536, 128]⟩
abbrev S1x1536x18944 : Shape := ⟨3, ![1, 1536, 18944]⟩
abbrev S2x1536x18944 : Shape := ⟨3, ![2, 1536, 18944]⟩
abbrev S2x1536x1792 : Shape := ⟨3, ![2, 1536, 1792]⟩
abbrev S1x1536x1792 : Shape := ⟨3, ![1, 1536, 1792]⟩
abbrev S1792 : Shape := ⟨1, ![1792]⟩
abbrev S1x1792 : Shape := ⟨2, ![1, 1792]⟩
abbrev S1536x1792x1 : Shape := ⟨3, ![1536, 1792, 1]⟩
abbrev S1536x1792x2 : Shape := ⟨3, ![1536, 1792, 2]⟩
abbrev S1536x3584 : Shape := ⟨2, ![1536, 3584]⟩

abbrev nBuf : Space → Nat
  | .hbm => 190
  | .vmem => 0
  | .smem => 0
  | _ => 0

abbrev hbmTy0_0 (i : Nat) : BufTy := match i % 128 with
  | 0 => ⟨S6x256x18944, .bf16⟩
  | 1 => ⟨S6x256x1792, .i8⟩
  | 2 => ⟨S18944x1792, .i8⟩
  | 3 => ⟨S3584, .f32⟩
  | 4 => ⟨S1536x18944, .bf16⟩
  | 5 => ⟨S1536x18944, .f32⟩
  | 6 => ⟨S1536x18944, .f32⟩
  | 7 => ⟨S_, .f32⟩
  | 8 => ⟨S1536, .f32⟩
  | 9 => ⟨S_, .f32⟩
  | 10 => ⟨S1536, .f32⟩
  | 11 => ⟨S1536, .i1⟩
  | 12 => ⟨S_, .f32⟩
  | 13 => ⟨S1536, .f32⟩
  | 14 => ⟨S1536, .f32⟩
  | 15 => ⟨S_, .f32⟩
  | 16 => ⟨S_, .f32⟩
  | 17 => ⟨S1536, .f32⟩
  | 18 => ⟨S1536, .f32⟩
  | 19 => ⟨S1536x1, .f32⟩
  | 20 => ⟨S1536x18944, .f32⟩
  | 21 => ⟨S1536x18944, .f32⟩
  | 22 => ⟨S1536x18944, .f32⟩
  | 23 => ⟨S_, .i32⟩
  | 24 => ⟨S_, .i32⟩
  | 25 => ⟨S_, .f32⟩
  | 26 => ⟨S1536x18944, .f32⟩
  | 27 => ⟨S1536x18944, .f32⟩
  | 28 => ⟨S_, .f32⟩
  | 29 => ⟨S1536x18944, .f32⟩
  | 30 => ⟨S1536x18944, .f32⟩
  | 31 => ⟨S1536x18944, .i32⟩
  | 32 => ⟨S1536x18944, .i8⟩
  | 33 => ⟨S1536x18944, .i32⟩
  | 34 => ⟨S1536x18944, .f32⟩
  | 35 => ⟨S1536x1, .f32⟩
  | 36 => ⟨S1536x18944, .f32⟩
  | 37 => ⟨S1536x18944, .f32⟩
  | 38 => ⟨S1536x18944, .f32⟩
  | 39 => ⟨S1536x18944, .f32⟩
  | 40 => ⟨S_, .f32⟩
  | 41 => ⟨S1536, .f32⟩
  | 42 => ⟨S_, .f32⟩
  | 43 => ⟨S1536, .f32⟩
  | 44 => ⟨S1536, .i1⟩
  | 45 => ⟨S_, .f32⟩
  | 46 => ⟨S1536, .f32⟩
  | 47 => ⟨S1536, .f32⟩
  | 48 => ⟨S_, .f32⟩
  | 49 => ⟨S_, .f32⟩
  | 50 => ⟨S1536, .f32⟩
  | 51 => ⟨S1536, .f32⟩
  | 52 => ⟨S1536x1, .f32⟩
  | 53 => ⟨S1536x18944, .f32⟩
  | 54 => ⟨S1536x18944, .f32⟩
  | 55 => ⟨S1536x18944, .f32⟩
  | 56 => ⟨S_, .i32⟩
  | 57 => ⟨S_, .i32⟩
  | 58 => ⟨S_, .f32⟩
  | 59 => ⟨S1536x18944, .f32⟩
  | 60 => ⟨S1536x18944, .f32⟩
  | 61 => ⟨S_, .f32⟩
  | 62 => ⟨S1536x18944, .f32⟩
  | 63 => ⟨S1536x18944, .f32⟩
  | 64 => ⟨S1536x18944, .i32⟩
  | 65 => ⟨S1536x18944, .i8⟩
  | 66 => ⟨S1536x18944, .i32⟩
  | 67 => ⟨S1536x18944, .f32⟩
  | 68 => ⟨S1536x1792, .i8⟩
  | 69 => ⟨S1536x1792, .i32⟩
  | 70 => ⟨S_, .i32⟩
  | 71 => ⟨S1536x1792, .i32⟩
  | 72 => ⟨S1536x1792, .i32⟩
  | 73 => ⟨S_, .i32⟩
  | 74 => ⟨S1536x1792, .i32⟩
  | 75 => ⟨S1536x1792, .i32⟩
  | 76 => ⟨S_, .i32⟩
  | 77 => ⟨S1536x1792, .i32⟩
  | 78 => ⟨S1536x1792, .i32⟩
  | 79 => ⟨S_, .i32⟩
  | 80 => ⟨S1536x1792, .i32⟩
  | 81 => ⟨S1536x1792, .i1⟩
  | 82 => ⟨S1536x1792, .i32⟩
  | 83 => ⟨S_, .i32⟩
  | 84 => ⟨S1536x1792, .i32⟩
  | 85 => ⟨S1536x1792, .i32⟩
  | 86 => ⟨S1536x1792, .i32⟩
  | 87 => ⟨S_, .i32⟩
  | 88 => ⟨S1536x1792, .i32⟩
  | 89 => ⟨S1536x1792, .i1⟩
  | 90 => ⟨S1536x1792, .i32⟩
  | 91 => ⟨S_, .i32⟩
  | 92 => ⟨S1536x1792, .i32⟩
  | 93 => ⟨S1536x1792, .i32⟩
  | 94 => ⟨S1536x1792, .i32⟩
  | 95 => ⟨S1536x1792, .f32⟩
  | 96 => ⟨S1536x1792, .f32⟩
  | 97 => ⟨S1536x18944, .f32⟩
  | 98 => ⟨S_, .f32⟩
  | 99 => ⟨S1536, .f32⟩
  | 100 => ⟨S1536x18944, .f32⟩
  | 101 => ⟨S_, .f32⟩
  | 102 => ⟨S1536, .f32⟩
  | 103 => ⟨S1536x1792, .f32⟩
  | 104 => ⟨S_, .f32⟩
  | 105 => ⟨S1536, .f32⟩
  | 106 => ⟨S1536x1792, .f32⟩
  | 107 => ⟨S_, .f32⟩
  | 108 => ⟨S1536, .f32⟩
  | 109 => ⟨S1536, .f32⟩
  | 110 => ⟨S1536x1, .f32⟩
  | 111 => ⟨S1536x1, .f32⟩
  | 112 => ⟨S1536x1, .f32⟩
  | 113 => ⟨S1536x1, .f32⟩
  | 114 => ⟨S1536x1, .f32⟩
  | 115 => ⟨S1536x5, .f32⟩
  | 116 => ⟨S_, .f32⟩
  | 117 => ⟨S1536x123, .f32⟩
  | 118 => ⟨S1536x128, .f32⟩
  | 119 => ⟨S18944x1792, .i32⟩
  | 120 => ⟨S_, .i32⟩
  | 121 => ⟨S18944x1792, .i32⟩
  | 122 => ⟨S18944x1792, .i32⟩
  | 123 => ⟨S_, .i32⟩
  | 124 => ⟨S18944x1792, .i32⟩
  | 125 => ⟨S18944x1792, .i32⟩
  | 126 => ⟨S_, .i32⟩
  | 127 => ⟨S18944x1792, .i32⟩
  | _ => ⟨S6x256x18944, .bf16⟩

abbrev hbmTy0_1 (i : Nat) : BufTy := match i % 128 with
  | 0 => ⟨S18944x1792, .i32⟩
  | 1 => ⟨S_, .i32⟩
  | 2 => ⟨S18944x1792, .i32⟩
  | 3 => ⟨S18944x1792, .i1⟩
  | 4 => ⟨S18944x1792, .i32⟩
  | 5 => ⟨S_, .i32⟩
  | 6 => ⟨S18944x1792, .i32⟩
  | 7 => ⟨S18944x1792, .i32⟩
  | 8 => ⟨S18944x1792, .i32⟩
  | 9 => ⟨S_, .i32⟩
  | 10 => ⟨S18944x1792, .i32⟩
  | 11 => ⟨S18944x1792, .i1⟩
  | 12 => ⟨S18944x1792, .i32⟩
  | 13 => ⟨S_, .i32⟩
  | 14 => ⟨S18944x1792, .i32⟩
  | 15 => ⟨S18944x1792, .i32⟩
  | 16 => ⟨S18944x1792, .i32⟩
  | 17 => ⟨S18944x1792, .f32⟩
  | 18 => ⟨S18944x1792, .bf16⟩
  | 19 => ⟨S18944x1792, .f32⟩
  | 20 => ⟨S18944x1792, .bf16⟩
  | 21 => ⟨S1x1536x18944, .i8⟩
  | 22 => ⟨S1x1536x18944, .i8⟩
  | 23 => ⟨S2x1536x18944, .i8⟩
  | 24 => ⟨S2x1536x18944, .i32⟩
  | 25 => ⟨S2x1536x18944, .f32⟩
  | 26 => ⟨S2x1536x18944, .bf16⟩
  | 27 => ⟨S2x1536x1792, .f32⟩
  | 28 => ⟨S2x1536x1792, .f32⟩
  | 29 => ⟨S1536x1, .f32⟩
  | 30 => ⟨S1536x1, .f32⟩
  | 31 => ⟨S1x1536x1792, .f32⟩
  | 32 => ⟨S1536x1792, .f32⟩
  | 33 => ⟨S1536x1792, .f32⟩
  | 34 => ⟨S1536x1792, .f32⟩
  | 35 => ⟨S1x1536x1792, .f32⟩
  | 36 => ⟨S1536x1792, .f32⟩
  | 37 => ⟨S1536x1792, .f32⟩
  | 38 => ⟨S1536x1792, .f32⟩
  | 39 => ⟨S1536x1792, .f32⟩
  | 40 => ⟨S1792, .f32⟩
  | 41 => ⟨S1x1792, .f32⟩
  | 42 => ⟨S1536x1792, .f32⟩
  | 43 => ⟨S1536x1792, .f32⟩
  | 44 => ⟨S1x1536x1792, .f32⟩
  | 45 => ⟨S1536x1792, .f32⟩
  | 46 => ⟨S1536x1792, .f32⟩
  | 47 => ⟨S1536x1792, .f32⟩
  | 48 => ⟨S1x1536x1792, .f32⟩
  | 49 => ⟨S1536x1792, .f32⟩
  | 50 => ⟨S1536x1792, .f32⟩
  | 51 => ⟨S1536x1792, .f32⟩
  | 52 => ⟨S1536x1792, .f32⟩
  | 53 => ⟨S1792, .f32⟩
  | 54 => ⟨S1x1792, .f32⟩
  | 55 => ⟨S1536x1792, .f32⟩
  | 56 => ⟨S1536x1792, .f32⟩
  | 57 => ⟨S1536x1792x1, .f32⟩
  | 58 => ⟨S1536x1792x1, .f32⟩
  | 59 => ⟨S1536x1792x2, .f32⟩
  | 60 => ⟨S1536x3584, .f32⟩
  | 61 => ⟨S1536x3584, .bf16⟩
  | _ => ⟨S6x256x18944, .bf16⟩

abbrev hbmTy (i : Nat) : BufTy := match i / 128 with
  | 0 => hbmTy0_0 i
  | 1 => hbmTy0_1 i
  | _ => ⟨S6x256x18944, .bf16⟩

abbrev bufTy : (tb : Table) → Fin (tcTables nBuf tb) → BufTy
  | .hbm, ⟨i, _⟩ => hbmTy i
  | _, _ => ⟨S6x256x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_c_3 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_call3_v0 : Ref sig .tc := ⟨.hbm, 49, rfl⟩
abbrev main_call3_v1 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_c_9 : Ref sig .tc := ⟨.hbm, 57, rfl⟩
abbrev main_call5_v0 : Ref sig .tc := ⟨.hbm, 58, rfl⟩
abbrev main_call5_v1 : Ref sig .tc := ⟨.hbm, 59, rfl⟩
abbrev main_call5_v2 : Ref sig .tc := ⟨.hbm, 60, rfl⟩
abbrev main_call5_v3 : Ref sig .tc := ⟨.hbm, 61, rfl⟩
abbrev main_call5_v4 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_10 : Ref sig .tc := ⟨.hbm, 70, rfl⟩
abbrev main_v40 : Ref sig .tc := ⟨.hbm, 71, rfl⟩
abbrev main_v41 : Ref sig .tc := ⟨.hbm, 72, rfl⟩
abbrev main_c_11 : Ref sig .tc := ⟨.hbm, 73, rfl⟩
abbrev main_v42 : Ref sig .tc := ⟨.hbm, 74, rfl⟩
abbrev main_v43 : Ref sig .tc := ⟨.hbm, 75, rfl⟩
abbrev main_c_12 : Ref sig .tc := ⟨.hbm, 76, rfl⟩
abbrev main_v44 : Ref sig .tc := ⟨.hbm, 77, rfl⟩
abbrev main_v45 : Ref sig .tc := ⟨.hbm, 78, rfl⟩
abbrev main_c_13 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_14 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_15 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_c_16 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_17 : Ref sig .tc := ⟨.hbm, 98, rfl⟩
abbrev main_v61 : Ref sig .tc := ⟨.hbm, 99, rfl⟩
abbrev main_v62 : Ref sig .tc := ⟨.hbm, 100, rfl⟩
abbrev main_cst_18 : Ref sig .tc := ⟨.hbm, 101, rfl⟩
abbrev main_v63 : Ref sig .tc := ⟨.hbm, 102, rfl⟩
abbrev main_v64 : Ref sig .tc := ⟨.hbm, 103, rfl⟩
abbrev main_cst_19 : Ref sig .tc := ⟨.hbm, 104, rfl⟩
abbrev main_v65 : Ref sig .tc := ⟨.hbm, 105, rfl⟩
abbrev main_v66 : Ref sig .tc := ⟨.hbm, 106, rfl⟩
abbrev main_cst_20 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_21 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_c_22 : Ref sig .tc := ⟨.hbm, 120, rfl⟩
abbrev main_v78 : Ref sig .tc := ⟨.hbm, 121, rfl⟩
abbrev main_v79 : Ref sig .tc := ⟨.hbm, 122, rfl⟩
abbrev main_c_23 : Ref sig .tc := ⟨.hbm, 123, rfl⟩
abbrev main_v80 : Ref sig .tc := ⟨.hbm, 124, rfl⟩
abbrev main_v81 : Ref sig .tc := ⟨.hbm, 125, rfl⟩
abbrev main_c_24 : Ref sig .tc := ⟨.hbm, 126, rfl⟩
abbrev main_v82 : Ref sig .tc := ⟨.hbm, 127, rfl⟩
abbrev main_v83 : Ref sig .tc := ⟨.hbm, 128, rfl⟩
abbrev main_c_25 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_c_26 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_c_27 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_c_28 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩

abbrev nD : Nat := 1
abbrev τ : Topo := Topo.v7x

variable {F : FTy → Type} [FloatOps F]
-- ==== Proof.DxSpec.lean ====
module

public import Idealize.ShloMosaic.PureOps.Ideal
public import Idealize.ShloMosaic.Lib.Pointwise.Index

@[expose] public section

noncomputable section

/-! The gradient `dx` as plain mathematics: what the kernel and the reference both compute, over the extended reals. -/

namespace Cert.Dx

open Idealize.ShloMosaic
open scoped BigOperators

/-- An 8-bit code as a number. -/
def num (b : BitVec 8) : EReal := ((b.toInt : ℝ) : EReal)

/-- The low four bits of a packed weight, in two's complement. -/
def low (b : BitVec 8) : Int := (b.setWidth 4).toInt

/-- The high four bits of a packed weight, in two's complement. -/
def high (b : BitVec 8) : Int := ((b >>> 4).setWidth 4).toInt

/-- The weight code of row `o` and column `q`: byte `q / 2` of the row holds column `q` in its low bits when `q` is even
    and in its high bits when `q` is odd. -/
def weight (wp : (⟨2, ![18944, 1792]⟩ : Shape).Idx → BitVec 8) (o : Fin 18944) (q : Fin 3584) : EReal :=
  if q.val % 2 < 1 then ((low (wp (ix2 o ⟨q.val / 2, by omega⟩)) : ℝ) : EReal)
  else ((high (wp (ix2 o ⟨q.val / 2, by omega⟩)) : ℝ) : EReal)

/-- `dx` at row `r` and column `q`: the two planes of codes against the weight codes, weighted by the row's two scales,
    times the column's weight scale. -/
def out (qh ql : (⟨2, ![1536, 18944]⟩ : Shape).Idx → BitVec 8) (wp : (⟨2, ![18944, 1792]⟩ : Shape).Idx → BitVec 8)
    (sc : (⟨1, ![3584]⟩ : Shape).Idx → EReal) (st : (⟨2, ![1536, 128]⟩ : Shape).Idx → EReal) (r : Fin 1536) (q : Fin 3584) : EReal :=
  (st (ix2 r 0) * (∑ o : Fin 18944, num (qh (ix2 r o)) * weight wp o q)
    + st (ix2 r 1) * (∑ o : Fin 18944, num (ql (ix2 r o)) * weight wp o q)) * sc (ix1 q)

/-- Widening a code to 32 bits keeps its number. -/
theorem signExtend_toInt : ∀ b : BitVec 8, (b.signExtend 32).toInt = b.toInt := by decide +kernel

end Cert.Dx
end
-- ==== Proof.DxBody.lean ====
module

public import proofs.«01_k».proof.Proof.Gen.KernelIdeal.Value
public import proofs.«01_k».proof.Proof.DxSpec
public import Idealize.ShloMosaic.Lib.Pointwise
public import Idealize.ShloMosaic.Lib.Pipeline.ValueKit.Tiles

@[expose] public section

noncomputable section

/-! What one grid point's body leaves: the two scratches the loops fill, read at an index, and the block it stores. -/

namespace Cert.DxBody

open Cert.KernelIdeal Cert.KernelIdeal.Gen Idealize.ShloMosaic Idealize.ShloMosaic.TcCoe
open scoped BigOperators

/-- The left operand: the first codes on rows 0 to 383, the second codes below. -/
def lhs (x1 x2 : S384x18944.Idx → BitVec 8) : S768x18944.Idx → EReal := fun y =>
  if h : (y 0).val < 384 then Dx.num (x1 (ix2 ⟨(y 0).val, h⟩ (y 1)))
  else Dx.num (x2 (ix2 ⟨(y 0).val - 384, by have := (y 0).isLt; change (y 0).val < 768 at this; omega⟩ (y 1)))

/-- The right operand: the low halves of a block of packed weights on columns 0 to 127, the high halves beside them. -/
def rhs (x0 : S18944x128.Idx → BitVec 8) : S18944x256.Idx → EReal := fun y =>
  if h : (y 1).val < 128 then ((Dx.low (x0 (ix2 (y 0) ⟨(y 1).val, h⟩)) : ℝ) : EReal)
  else ((Dx.high (x0 (ix2 (y 0) ⟨(y 1).val - 128, by have := (y 1).isLt; change (y 1).val < 256 at this; omega⟩)) : ℝ) : EReal)

/-- A code widened to a number, from the first plane. -/
theorem pay2_apply (v : S384x128.Idx → BitVec 8) (x : S384x128.Idx) : k0_pay2 (F := Ideal) v x = Dx.num (v x) := by
  unfold k0_pay2
  pointwise
  rfl

/-- A code widened to a number, from the second plane. -/
theorem pay3_apply (v : S384x128.Idx → BitVec 8) (x : S384x128.Idx) : k0_pay3 (F := Ideal) v x = Dx.num (v x) := by
  unfold k0_pay3
  pointwise
  rfl

/-- Shifting the byte up by 28 and back down, signed, leaves the low half's two's complement value. -/
theorem low_shift : ∀ b : BitVec 8, (IntOp.shrsi .vector (IntOp.shli .vector (BitVec.setWidth 32 b) 28#32) 28#32).toInt = Dx.low b := by
  decide +kernel

/-- Shifting the byte up by 24 and down by 28, signed, leaves the high half's two's complement value. -/
theorem high_shift : ∀ b : BitVec 8, (IntOp.shrsi .vector (IntOp.shli .vector (BitVec.setWidth 32 b) 24#32) 28#32).toInt = Dx.high b := by
  decide +kernel

/-- The low half of a packed weight. -/
theorem pay5_apply (v : S256x128.Idx → BitVec 8) (x : S256x128.Idx) : k0_pay5 (F := Ideal) v x = ((Dx.low (v x) : ℝ) : EReal) := by
  unfold k0_pay5 k0_pay4
  pointwise
  exact congrArg (fun n : Int => (((n : ℝ)) : EReal)) (low_shift _)

/-- The high half of a packed weight. -/
theorem pay6_apply (v : S256x128.Idx → BitVec 8) (x : S256x128.Idx) : k0_pay6 (F := Ideal) v x = ((Dx.high (v x) : ℝ) : EReal) := by
  unfold k0_pay6 k0_pay4
  pointwise
  exact congrArg (fun n : Int => (((n : ℝ)) : EReal)) (high_shift _)

/-- The zero offsets of a whole load. -/
theorem hz2 : (![0, 0] : Fin 2 → ℕ) = fun _ => 0 := by decide
theorem hz3 : (![0, 0, 0] : Fin 3 → ℕ) = fun _ => 0 := by decide
/-- Where access 1 starts, row and column. -/
theorem k0_off1_row (k : Fin k0_t1_loop.trips) : k0_off1 k 0 = 0 := by rw [k0_off1_eq]; rfl
theorem k0_off1_col (k : Fin k0_t1_loop.trips) : k0_off1 k 1 = 128 * k.val := by rw [k0_off1_eq]; rfl
/-- Where access 2 starts, row and column. -/
theorem k0_off2_row (k : Fin k0_t1_loop.trips) : k0_off2 k 0 = 0 := by rw [k0_off2_eq]; rfl
theorem k0_off2_col (k : Fin k0_t1_loop.trips) : k0_off2 k 1 = 128 * k.val := by rw [k0_off2_eq]; rfl
/-- Where access 3 starts, row and column. -/
theorem k0_off3_row (k : Fin k0_t1_loop.trips) : k0_off3 k 0 = 384 := by rw [k0_off3_eq]; rfl
theorem k0_off3_col (k : Fin k0_t1_loop.trips) : k0_off3 k 1 = 128 * k.val := by rw [k0_off3_eq]; rfl
/-- Where access 4 starts, row and column. -/
theorem k0_off4_row (k : Fin k0_t2_loop.trips) : k0_off4 k 0 = 256 * k.val := by rw [k0_off4_eq]; rfl
theorem k0_off4_col (k : Fin k0_t2_loop.trips) : k0_off4 k 1 = 0 := by rw [k0_off4_eq]; rfl
/-- Where access 5 starts, row and column. -/
theorem k0_off5_row (k : Fin k0_t2_loop.trips) : k0_off5 k 0 = 256 * k.val := by rw [k0_off5_eq]; rfl
theorem k0_off5_col (k : Fin k0_t2_loop.trips) : k0_off5 k 1 = 0 := by rw [k0_off5_eq]; rfl
/-- Where access 6 starts, row and column. -/
theorem k0_off6_row (k : Fin k0_t2_loop.trips) : k0_off6 k 0 = 256 * k.val := by rw [k0_off6_eq]; rfl
theorem k0_off6_col (k : Fin k0_t2_loop.trips) : k0_off6 k 1 = 128 := by rw [k0_off6_eq]; rfl

section
variable (𝒱 : Variants) (c : Dev nD) (bd : Option 𝒱.V) (i : grid0.Coords) (arg2 : Memref sig .tc .vmem S18944x128 .i8) (harg2 : arg2.IsWhole) (arg3 : Memref sig .tc .vmem S384x18944 .i8) (harg3 : arg3.IsWhole) (arg4 : Memref sig .tc .vmem S384x18944 .i8) (harg4 : arg4.IsWhole) (arg5 : Memref sig .tc .vmem S1x1x256 .f32) (harg5 : arg5.IsWhole) (arg6 : Memref sig .tc .vmem S384x128 .f32) (harg6 : arg6.IsWhole) (arg7 : Memref sig .tc .vmem S384x256 .bf16) (harg7 : arg7.IsWhole) (arg8 : Memref sig .tc .vmem S768x18944 .fp8e4m3) (harg8 : arg8.IsWhole) (arg9 : Memref sig .tc .vmem S18944x256 .fp8e4m3) (harg9 : arg9.IsWhole)

/-- The two pieces of one trip of the first loop: a block of columns of the second codes on the lower rows, of the first
    codes on the upper rows. -/
theorem trip1_eq (k0_h1 : k0_cond1 i = 1#1) (X3 : BufTy.Contents (Elt Ideal) arg3.view.ty) (X4 : BufTy.Contents (Elt Ideal) arg4.view.ty) (k : Fin k0_t1_loop.trips) :
    tripL_k0_t1 (F := Ideal) 𝒱 c bd i arg2 harg2 arg3 harg3 arg4 harg4 arg5 harg5 arg6 harg6 arg7 harg7 arg8 harg8 arg9 harg9 k0_h1 X3 X4 k =
      [⟨Rect.unit (k0_off3 k) S384x128.size (k0_off3_inb i k k0_h1), k0_pay3 (F := Ideal) (arg4.view.readAt (Elt Ideal) (Rect.unit (s := S384x18944) (k0_off1 k) S384x128.size (k0_off1_inb i k k0_h1)).toLoadRect X4)⟩,
       ⟨Rect.unit (k0_off2 k) S384x128.size (k0_off2_inb i k k0_h1), k0_pay2 (F := Ideal) (arg3.view.readAt (Elt Ideal) (Rect.unit (s := S384x18944) (k0_off1 k) S384x128.size (k0_off1_inb i k k0_h1)).toLoadRect X3)⟩] := by
  unfold tripL_k0_t1 trip_k0_t1
  rfl

/-- Every piece of one trip of the first loop is the left operand on its rectangle. -/
theorem trip1_pieces (k0_h1 : k0_cond1 i = 1#1) (X3 : BufTy.Contents (Elt Ideal) arg3.view.ty) (X4 : BufTy.Contents (Elt Ideal) arg4.view.ty) (k : Fin k0_t1_loop.trips) :
    ∀ p ∈ tripL_k0_t1 (F := Ideal) 𝒱 c bd i arg2 harg2 arg3 harg3 arg4 harg4 arg5 harg5 arg6 harg6 arg7 harg7 arg8 harg8 arg9 harg9 k0_h1 X3 X4 k,
      ∀ x : p.1.shape.Idx, p.2 x = lhs (arg3.view.read (Elt Ideal) X3) (arg4.view.read (Elt Ideal) X4) (p.1.emb x) := by
  rw [trip1_eq]
  intro p hp
  simp only [List.mem_cons, List.not_mem_nil, or_false] at hp
  rcases hp with rfl | rfl
  · intro x
    have h0 : ((Rect.unit (s := S768x18944) (k0_off3 k) S384x128.size (k0_off3_inb i k k0_h1)).emb x 0).val = 384 + (x 0).val := by
      exact (Rect.idx_unit_val _ _ _ x 0).trans (congrArg (· + (x 0).val) (k0_off3_row k))
    have h1 : ((Rect.unit (s := S768x18944) (k0_off3 k) S384x128.size (k0_off3_inb i k k0_h1)).emb x 1).val = 128 * k.val + (x 1).val := by
      exact (Rect.idx_unit_val _ _ _ x 1).trans (congrArg (· + (x 1).val) (k0_off3_col k))
    refine (pay3_apply _ x).trans ?_
    unfold lhs
    rw [dif_neg (by rw [h0]; omega)]
    refine congrArg Dx.num (congrArg (arg4.view.read (Elt Ideal) X4) (funext fun a => Fin.ext ?_))
    match a with
    | ⟨0, _⟩ =>
      refine (Rect.idx_unit_val (s := S384x18944) (k0_off1 k) S384x128.size (k0_off1_inb i k k0_h1) x 0).trans ((congrArg (· + (x 0).val) (k0_off1_row k)).trans ?_)
      show (0 + (x 0).val : ℕ) = ((Rect.unit (s := S768x18944) (k0_off3 k) S384x128.size (k0_off3_inb i k k0_h1)).emb x 0).val - 384; rw [h0]; omega
    | ⟨1, _⟩ =>
      refine (Rect.idx_unit_val (s := S384x18944) (k0_off1 k) S384x128.size (k0_off1_inb i k k0_h1) x 1).trans ((congrArg (· + (x 1).val) (k0_off1_col k)).trans ?_)
      exact h1.symm
  · intro x
    have hx : (x 0).val < 384 := (x 0).isLt
    have h0 : ((Rect.unit (s := S768x18944) (k0_off2 k) S384x128.size (k0_off2_inb i k k0_h1)).emb x 0).val = 0 + (x 0).val := by
      exact (Rect.idx_unit_val _ _ _ x 0).trans (congrArg (· + (x 0).val) (k0_off2_row k))
    have h1 : ((Rect.unit (s := S768x18944) (k0_off2 k) S384x128.size (k0_off2_inb i k k0_h1)).emb x 1).val = 128 * k.val + (x 1).val := by
      exact (Rect.idx_unit_val _ _ _ x 1).trans (congrArg (· + (x 1).val) (k0_off2_col k))
    refine (pay2_apply _ x).trans ?_
    unfold lhs
    rw [dif_pos (by rw [h0]; omega)]
    refine congrArg Dx.num (congrArg (arg3.view.read (Elt Ideal) X3) (funext fun a => Fin.ext ?_))
    match a with
    | ⟨0, _⟩ =>
      refine (Rect.idx_unit_val (s := S384x18944) (k0_off1 k) S384x128.size (k0_off1_inb i k k0_h1) x 0).trans ((congrArg (· + (x 0).val) (k0_off1_row k)).trans ?_)
      exact h0.symm
    | ⟨1, _⟩ =>
      refine (Rect.idx_unit_val (s := S384x18944) (k0_off1 k) S384x128.size (k0_off1_inb i k k0_h1) x 1).trans ((congrArg (· + (x 1).val) (k0_off1_col k)).trans ?_)
      exact h1.symm

/-- So is every piece of the trips before `k`. -/
theorem loop1_pieces (k0_h1 : k0_cond1 i = 1#1) (X3 : BufTy.Contents (Elt Ideal) arg3.view.ty) (X4 : BufTy.Contents (Elt Ideal) arg4.view.ty) :
    ∀ k : ℕ, k ≤ k0_t1_loop.trips → ∀ p ∈ pb_k0_t1 (F := Ideal) 𝒱 c bd i arg2 harg2 arg3 harg3 arg4 harg4 arg5 harg5 arg6 harg6 arg7 harg7 arg8 harg8 arg9 harg9 k0_h1 X3 X4 k,
      ∀ x : p.1.shape.Idx, p.2 x = lhs (arg3.view.read (Elt Ideal) X3) (arg4.view.read (Elt Ideal) X4) (p.1.emb x)
  | 0, _, p, hp => absurd hp List.not_mem_nil
  | k + 1, hk, p, hp => by
    rw [pb_k0_t1_succ (F := Ideal) 𝒱 c bd i arg2 harg2 arg3 harg3 arg4 harg4 arg5 harg5 arg6 harg6 arg7 harg7 arg8 harg8 arg9 harg9 k0_h1 X3 X4 ⟨k, hk⟩] at hp
    rcases List.mem_append.mp hp with h | h
    · exact trip1_pieces 𝒱 c bd i arg2 harg2 arg3 harg3 arg4 harg4 arg5 harg5 arg6 harg6 arg7 harg7 arg8 harg8 arg9 harg9 k0_h1 X3 X4 ⟨k, hk⟩ p h
    · exact loop1_pieces k0_h1 X3 X4 k (Nat.le_of_succ_le hk) p h

/-- After the first loop the scratch holds the left operand. -/
theorem loop1_canon (k0_h1 : k0_cond1 i = 1#1) (x1 x2 : Vec Ideal S384x18944 .i8) :
    View.canon (pb_k0_t1 (F := Ideal) 𝒱 c bd i arg2 harg2 arg3 harg3 arg4 harg4 arg5 harg5 arg6 harg6 arg7 harg7 arg8 harg8 arg9 harg9 k0_h1 (harg3.unread x1) (harg4.unread x2) k0_t1_loop.trips) = lhs x1 x2 := by
  funext y
  refine (View.canon_apply_of_pieces _ _ (loop1_pieces 𝒱 c bd i arg2 harg2 arg3 harg3 arg4 harg4 arg5 harg5 arg6 harg6 arg7 harg7 arg8 harg8 arg9 harg9 k0_h1 _ _ _ le_rfl) y ?_).trans ?_
  · exact View.cover_of_tiledL (pb_k0_t1 (F := Ideal) 𝒱 c bd i arg2 harg2 arg3 harg3 arg4 harg4 arg5 harg5 arg6 harg6 arg7 harg7 arg8 harg8 arg9 harg9 k0_h1 (harg3.unread x1) (harg4.unread x2) k0_t1_loop.trips) S384x128.size (by sl_kernel_rfl) y
  · rw [harg3.read_unread, harg4.read_unread]

/-- The two pieces of one trip of the second loop: a block of rows of the weights' high halves on the right columns, of
    their low halves on the left ones. -/
theorem trip2_eq (X2 : BufTy.Contents (Elt Ideal) arg2.view.ty) (k : Fin k0_t2_loop.trips) :
    tripL_k0_t2 (F := Ideal) 𝒱 c bd i arg2 harg2 arg3 harg3 arg4 harg4 arg5 harg5 arg6 harg6 arg7 harg7 arg8 harg8 arg9 harg9 X2 k =
      [⟨Rect.unit (k0_off6 k) S256x128.size (k0_off6_inb k), k0_pay6 (F := Ideal) (arg2.view.readAt (Elt Ideal) (Rect.unit (s := S18944x128) (k0_off4 k) S256x128.size (k0_off4_inb k)).toLoadRect X2)⟩,
       ⟨Rect.unit (k0_off5 k) S256x128.size (k0_off5_inb k), k0_pay5 (F := Ideal) (arg2.view.readAt (Elt Ideal) (Rect.unit (s := S18944x128) (k0_off4 k) S256x128.size (k0_off4_inb k)).toLoadRect X2)⟩] := by
  unfold tripL_k0_t2 trip_k0_t2
  rfl

/-- Every piece of one trip of the second loop is the right operand on its rectangle. -/
theorem trip2_pieces (X2 : BufTy.Contents (Elt Ideal) arg2.view.ty) (k : Fin k0_t2_loop.trips) :
    ∀ p ∈ tripL_k0_t2 (F := Ideal) 𝒱 c bd i arg2 harg2 arg3 harg3 arg4 harg4 arg5 harg5 arg6 harg6 arg7 harg7 arg8 harg8 arg9 harg9 X2 k,
      ∀ x : p.1.shape.Idx, p.2 x = rhs (arg2.view.read (Elt Ideal) X2) (p.1.emb x) := by
  rw [trip2_eq]
  intro p hp
  simp only [List.mem_cons, List.not_mem_nil, or_false] at hp
  rcases hp with rfl | rfl
  · intro x
    have h0 : ((Rect.unit (s := S18944x256) (k0_off6 k) S256x128.size (k0_off6_inb k)).emb x 0).val = 256 * k.val + (x 0).val := by
      exact (Rect.idx_unit_val _ _ _ x 0).trans (congrArg (· + (x 0).val) (k0_off6_row k))
    have h1 : ((Rect.unit (s := S18944x256) (k0_off6 k) S256x128.size (k0_off6_inb k)).emb x 1).val = 128 + (x 1).val := by
      exact (Rect.idx_unit_val _ _ _ x 1).trans (congrArg (· + (x 1).val) (k0_off6_col k))
    refine (pay6_apply _ x).trans ?_
    unfold rhs
    rw [dif_neg (by rw [h1]; omega)]
    refine congrArg (fun b => ((Dx.high b : ℝ) : EReal)) (congrArg (arg2.view.read (Elt Ideal) X2) (funext fun a => Fin.ext ?_))
    match a with
    | ⟨0, _⟩ =>
      refine (Rect.idx_unit_val (s := S18944x128) (k0_off4 k) S256x128.size (k0_off4_inb k) x 0).trans ((congrArg (· + (x 0).val) (k0_off4_row k)).trans ?_)
      exact h0.symm
    | ⟨1, _⟩ =>
      refine (Rect.idx_unit_val (s := S18944x128) (k0_off4 k) S256x128.size (k0_off4_inb k) x 1).trans ((congrArg (· + (x 1).val) (k0_off4_col k)).trans ?_)
      show (0 + (x 1).val : ℕ) = ((Rect.unit (s := S18944x256) (k0_off6 k) S256x128.size (k0_off6_inb k)).emb x 1).val - 128; rw [h1]; omega
  · intro x
    have hx : (x 1).val < 128 := (x 1).isLt
    have h0 : ((Rect.unit (s := S18944x256) (k0_off5 k) S256x128.size (k0_off5_inb k)).emb x 0).val = 256 * k.val + (x 0).val := by
      exact (Rect.idx_unit_val _ _ _ x 0).trans (congrArg (· + (x 0).val) (k0_off5_row k))
    have h1 : ((Rect.unit (s := S18944x256) (k0_off5 k) S256x128.size (k0_off5_inb k)).emb x 1).val = 0 + (x 1).val := by
      exact (Rect.idx_unit_val _ _ _ x 1).trans (congrArg (· + (x 1).val) (k0_off5_col k))
    refine (pay5_apply _ x).trans ?_
    unfold rhs
    rw [dif_pos (by rw [h1]; omega)]
    refine congrArg (fun b => ((Dx.low b : ℝ) : EReal)) (congrArg (arg2.view.read (Elt Ideal) X2) (funext fun a => Fin.ext ?_))
    match a with
    | ⟨0, _⟩ =>
      refine (Rect.idx_unit_val (s := S18944x128) (k0_off4 k) S256x128.size (k0_off4_inb k) x 0).trans ((congrArg (· + (x 0).val) (k0_off4_row k)).trans ?_)
      exact h0.symm
    | ⟨1, _⟩ =>
      refine (Rect.idx_unit_val (s := S18944x128) (k0_off4 k) S256x128.size (k0_off4_inb k) x 1).trans ((congrArg (· + (x 1).val) (k0_off4_col k)).trans ?_)
      exact h1.symm

/-- So is every piece of the trips before `k`. -/
theorem loop2_pieces (X2 : BufTy.Contents (Elt Ideal) arg2.view.ty) :
    ∀ k : ℕ, k ≤ k0_t2_loop.trips → ∀ p ∈ pb_k0_t2 (F := Ideal) 𝒱 c bd i arg2 harg2 arg3 harg3 arg4 harg4 arg5 harg5 arg6 harg6 arg7 harg7 arg8 harg8 arg9 harg9 X2 k,
      ∀ x : p.1.shape.Idx, p.2 x = rhs (arg2.view.read (Elt Ideal) X2) (p.1.emb x)
  | 0, _, p, hp => absurd hp List.not_mem_nil
  | k + 1, hk, p, hp => by
    rw [pb_k0_t2_succ (F := Ideal) 𝒱 c bd i arg2 harg2 arg3 harg3 arg4 harg4 arg5 harg5 arg6 harg6 arg7 harg7 arg8 harg8 arg9 harg9 X2 ⟨k, hk⟩] at hp
    rcases List.mem_append.mp hp with h | h
    · exact trip2_pieces 𝒱 c bd i arg2 harg2 arg3 harg3 arg4 harg4 arg5 harg5 arg6 harg6 arg7 harg7 arg8 harg8 arg9 harg9 X2 ⟨k, hk⟩ p h
    · exact loop2_pieces X2 k (Nat.le_of_succ_le hk) p h

/-- After the second loop the scratch holds the right operand. -/
theorem loop2_canon (x0 : Vec Ideal S18944x128 .i8) :
    View.canon (pb_k0_t2 (F := Ideal) 𝒱 c bd i arg2 harg2 arg3 harg3 arg4 harg4 arg5 harg5 arg6 harg6 arg7 harg7 arg8 harg8 arg9 harg9 (harg2.unread x0) k0_t2_loop.trips) = rhs x0 := by
  funext y
  refine (View.canon_apply_of_pieces _ _ (loop2_pieces 𝒱 c bd i arg2 harg2 arg3 harg3 arg4 harg4 arg5 harg5 arg6 harg6 arg7 harg7 arg8 harg8 arg9 harg9 _ _ le_rfl) y ?_).trans ?_
  · exact View.cover_of_tiledL (pb_k0_t2 (F := Ideal) 𝒱 c bd i arg2 harg2 arg3 harg3 arg4 harg4 arg5 harg5 arg6 harg6 arg7 harg7 arg8 harg8 arg9 harg9 (harg2.unread x0) k0_t2_loop.trips) S256x128.size (by sl_kernel_rfl) y
  · rw [harg2.read_unread]

end

/-- The block a point stores, from its two operands, its rows' scales and its columns' scales. -/
abbrev block (a : Vec Ideal S768x18944 .fp8e4m3) (b : Vec Ideal S18944x256 .fp8e4m3) (x4 : Vec Ideal S384x128 .f32) (x3 : Vec Ideal S1x1x256 .f32) : Vec Ideal S384x256 .bf16 :=
  k0_pay1 (F := Ideal) (k0_pay7 (F := Ideal) a b x4 x3)

section
variable (c : Dev nD) (i : grid0.Coords) (arg2 : Memref sig .tc .vmem S18944x128 .i8) (harg2 : arg2.IsWhole) (arg3 : Memref sig .tc .vmem S384x18944 .i8) (harg3 : arg3.IsWhole) (arg4 : Memref sig .tc .vmem S384x18944 .i8) (harg4 : arg4.IsWhole) (arg5 : Memref sig .tc .vmem S1x1x256 .f32) (harg5 : arg5.IsWhole) (arg6 : Memref sig .tc .vmem S384x128 .f32) (harg6 : arg6.IsWhole) (arg7 : Memref sig .tc .vmem S384x256 .bf16) (harg7 : arg7.IsWhole) (arg8 : Memref sig .tc .vmem S768x18944 .fp8e4m3) (harg8 : arg8.IsWhole) (arg9 : Memref sig .tc .vmem S18944x256 .fp8e4m3) (harg9 : arg9.IsWhole)
  (x0 : Vec Ideal S18944x128 .i8) (x1 : Vec Ideal S384x18944 .i8) (x2 : Vec Ideal S384x18944 .i8) (x3 : Vec Ideal S1x1x256 .f32) (x4 : Vec Ideal S384x128 .f32)

/-- Where the first loop runs, it leaves the left operand in its scratch. -/
theorem sout_A (hc0 : cond0_0 i) : sout0_A_0 (F := Ideal) c i arg2 harg2 arg3 harg3 arg4 harg4 arg5 harg5 arg6 harg6 arg7 harg7 arg8 harg8 arg9 harg9 hc0 x0 x1 x2 x3 x4 = lhs x1 x2 := by
  unfold sout0_A_0
  rw [View.read_writes_junk_eq_canon]
  unfold kernelRun0_A
  exact loop1_canon Variants.none c none i arg2 harg2 arg3 harg3 arg4 harg4 arg5 harg5 arg6 harg6 arg7 harg7 arg8 harg8 arg9 harg9 hc0 x1 x2

/-- Where the first loop runs, the point stores the block of the two operands. -/
theorem out_A (hc0 : cond0_0 i) : out0_A_5 (F := Ideal) c i arg2 harg2 arg3 harg3 arg4 harg4 arg5 harg5 arg6 harg6 arg7 harg7 arg8 harg8 arg9 harg9 hc0 x0 x1 x2 x3 x4 = block (lhs x1 x2) (rhs x0) x4 x3 := by
  unfold out0_A_5
  rw [View.read_writes_junk_eq_canon]
  unfold kernelRun0_A
  dsimp only
  sl_unfold_words
  have e1 := loop1_canon Variants.none c none i arg2 harg2 arg3 harg3 arg4 harg4 arg5 harg5 arg6 harg6 arg7 harg7 arg8 harg8 arg9 harg9 hc0 x1 x2
  have e2 := loop2_canon Variants.none c none i arg2 harg2 arg3 harg3 arg4 harg4 arg5 harg5 arg6 harg6 arg7 harg7 arg8 harg8 arg9 harg9 x0
  rw [View.canon_unit_zero hz2]
  refine congrArg (k0_pay1 (F := Ideal)) (congr (congr (congr (congrArg (k0_pay7 (F := Ideal)) ?_) ?_) ?_) ?_)
  · rw [View.readCov_eq_canon']
    exact (View.ld_unit_zero hz2 _ _).trans e1
  · rw [View.readCov_eq_canon']
    exact (View.ld_unit_zero hz2 _ _).trans e2
  · rw [View.readAt_eq_ld, View.ld_unit_zero hz2, harg6.read_unread]
  · rw [View.readAt_eq_ld, View.ld_unit_zero hz3, harg5.read_unread]

/-- Elsewhere, the point stores the block of what the scratch held and the right operand. -/
theorem out_B (hc0 : ¬ cond0_0 i) (xs : Vec Ideal S768x18944 .fp8e4m3) :
    out0_B_5 (F := Ideal) c i arg2 harg2 arg3 harg3 arg4 harg4 arg5 harg5 arg6 harg6 arg7 harg7 arg8 harg8 arg9 harg9 hc0 x0 x1 x2 x3 x4 xs = block xs (rhs x0) x4 x3 := by
  unfold out0_B_5
  rw [View.read_writes_junk_eq_canon]
  unfold kernelRun0_B
  dsimp only
  sl_unfold_words
  have e2 := loop2_canon Variants.none c none i arg2 harg2 arg3 harg3 arg4 harg4 arg5 harg5 arg6 harg6 arg7 harg7 arg8 harg8 arg9 harg9 x0
  rw [View.canon_unit_zero hz2]
  refine congrArg (k0_pay1 (F := Ideal)) (congr (congr (congr (congrArg (k0_pay7 (F := Ideal)) ?_) ?_) ?_) ?_)
  · rw [View.readAt_eq_ld, View.ld_unit_zero hz2, harg8.read_unread]
  · rw [View.readCov_eq_canon']
    exact (View.ld_unit_zero hz2 _ _).trans e2
  · rw [View.readAt_eq_ld, View.ld_unit_zero hz2, harg6.read_unread]
  · rw [View.readAt_eq_ld, View.ld_unit_zero hz3, harg5.read_unread]

end
end Cert.DxBody
end
-- ==== Proof.DxTile.lean ====
module

public import proofs.«01_k».proof.Proof.DxBody
public import Idealize.ShloMosaic.Lib.Pointwise

@[expose] public section

noncomputable section

/-! The block a grid point stores, read at an index. -/

namespace Cert.DxBody

open Cert.KernelIdeal Cert.KernelIdeal.Gen Idealize.ShloMosaic Idealize.ShloMosaic.TcCoe
open scoped BigOperators

/-- The product of the two operands. -/
abbrev prod (a : FVec Ideal S768x18944 .fp8e4m3) (b : FVec Ideal S18944x256 .fp8e4m3) : FVec Ideal S768x256 .f32 :=
  matmul dot_S768x18944_S18944x256_S768x256_1_0_0_1_n_n none a b (constant S768x256 .f32 0x00000000#32)

/-- The product at an index. -/
theorem prod_apply (a : FVec Ideal S768x18944 .fp8e4m3) (b : FVec Ideal S18944x256 .fp8e4m3) (r : Fin 768) (j : Fin 256) :
    prod a b (ix2 r j) = (∑ o : Fin 18944, a (ix2 r o) * b (ix2 o j) : EReal) := by
  unfold prod
  pointwise

/-- The upper and lower rows of the product, weighted by the two scales of a row and the scale of a column. -/
abbrev weighted (p : FVec Ideal S768x256 .f32) (st : FVec Ideal S384x128 .f32) (ws : FVec Ideal S1x1x256 .f32) : FVec Ideal S384x256 .bf16 :=
  truncf .bf16 (mulf (addf (mulf (broadcastTo S384x256 (extractStridedSlice S384x1 ![0, 0] st slices_S384x128_o0_0_S384x1) broadcasts_S384x1_S384x256) (extractStridedSlice S384x256 ![0, 0] p slices_S768x256_o0_0_S384x256)) (mulf (broadcastTo S384x256 (extractStridedSlice S384x1 ![0, 1] st slices_S384x128_o0_1_S384x1) broadcasts_S384x1_S384x256) (extractStridedSlice S384x256 ![384, 0] p slices_S768x256_o384_0_S384x256))) (broadcastTo S384x256 (shapeCast S1x256 ws shapeCasts_S1x1x256_S1x256) broadcasts_S1x256_S384x256)) bitsLt_bf16_f32

/-- The weighted product at an index. -/
theorem weighted_apply (p : FVec Ideal S768x256 .f32) (st : FVec Ideal S384x128 .f32) (ws : FVec Ideal S1x1x256 .f32) (r : Fin 384) (j : Fin 256) :
    weighted p st ws (ix2 r j) = ((st (ix2 r 0) * p (ix2 ⟨r.val, by omega⟩ j) + st (ix2 r 1) * p (ix2 ⟨384 + r.val, by omega⟩ j)) * ws (ix3 0 0 j) : EReal) := by
  unfold weighted
  pointwise

/-- The 0-1 matrix that reorders the columns. -/
abbrev hot : FVec Ideal S256x256 .bf16 :=
  truncf .bf16 (sitofp .f32 (extui 32 (cmpi .eq (iota .tc S256x256 32 [0] iota_S256x256_d0_w32) (addi (shrsi (iota .tc S256x256 32 [1] iota_S256x256_d1_w32) (broadcast S256x256 1#32)) (muli (andi (iota .tc S256x256 32 [1] iota_S256x256_d1_w32) (broadcast S256x256 1#32)) (broadcast S256x256 128#32)))) natLt_1_32)) bitsLt_bf16_f32

/-- The column of the weighted product that column `cc` of the block is. -/
def src (cc : Fin 256) : Fin 256 := ⟨cc.val / 2 + cc.val % 2 * 128, by omega⟩

/-- The word the kernel computes for it. -/
theorem src_word : ∀ cc : Fin 256, IntOp.addi (IntOp.shrsi ArithUnit.vector (BitVec.ofNat 32 ↑cc) 1#32)
    (IntOp.muli (IntOp.andi (BitVec.ofNat 32 ↑cc) 1#32) 128#32) = BitVec.ofNat 32 (src cc).val := by
  decide +kernel

/-- Comparing two column numbers as words is comparing them. -/
theorem eq_word (j k : Fin 256) : (BitVec.setWidth 32 (IntOp.cmpi CmpIPredicate.eq (BitVec.ofNat 32 j.val) (BitVec.ofNat 32 k.val))).toInt = if j = k then 1 else 0 := by
  by_cases h : j = k
  · subst h
    rw [if_pos rfl]
    simp [IntOp.cmpi]
  · rw [if_neg h]
    have hn : BitVec.ofNat 32 j.val ≠ BitVec.ofNat 32 k.val := fun e => h (Fin.ext (by
      have := congrArg BitVec.toNat e
      simp only [BitVec.toNat_ofNat] at this
      omega))
    have hb : (BitVec.ofNat 32 j.val == BitVec.ofNat 32 k.val) = false := beq_false_of_ne hn
    simp [IntOp.cmpi, hb]

/-- The 0-1 matrix at an index. -/
theorem hot_apply (j cc : Fin 256) : hot (ix2 j cc) = (if j = src cc then (1 : EReal) else 0) := by
  unfold hot
  pointwise
  rw [src_word cc]
  exact (congrArg (fun n : Int => (((n : ℝ)) : EReal)) (eq_word j (src cc))).trans (by split <;> norm_num)

/-- The reordered columns. -/
abbrev reorder (w : FVec Ideal S384x256 .bf16) (h : FVec Ideal S256x256 .bf16) : FVec Ideal S384x256 .bf16 :=
  truncf .bf16 (matmul dot_S384x256_S256x256_S384x256_1_0_0_1_n_n none w h (constant S384x256 .f32 0x00000000#32)) bitsLt_bf16_f32

theorem reorder_apply (w : FVec Ideal S384x256 .bf16) (h : FVec Ideal S256x256 .bf16) (r : Fin 384) (cc : Fin 256) :
    reorder w h (ix2 r cc) = (∑ j : Fin 256, w (ix2 r j) * h (ix2 j cc) : EReal) := by
  unfold reorder
  pointwise

/-- The block is the reordered weighted product. -/
theorem block_eq (a : Vec Ideal S768x18944 .fp8e4m3) (b : Vec Ideal S18944x256 .fp8e4m3) (x4 : Vec Ideal S384x128 .f32) (x3 : Vec Ideal S1x1x256 .f32) :
    block a b x4 x3 = reorder (weighted (prod a b) x4 x3) hot := rfl

/-- The block at a row and a column. -/
theorem block_apply (a : Vec Ideal S768x18944 .fp8e4m3) (b : Vec Ideal S18944x256 .fp8e4m3) (x4 : Vec Ideal S384x128 .f32) (x3 : Vec Ideal S1x1x256 .f32)
    (r : Fin 384) (cc : Fin 256) :
    block a b x4 x3 (ix2 r cc) =
      ((x4 (ix2 r 0) * ∑ o : Fin 18944, a (ix2 ⟨r.val, by omega⟩ o) * b (ix2 o (src cc))
        + x4 (ix2 r 1) * ∑ o : Fin 18944, a (ix2 ⟨384 + r.val, by omega⟩ o) * b (ix2 o (src cc))) * x3 (ix3 0 0 (src cc)) : EReal) := by
  rw [block_eq, reorder_apply, Finset.sum_eq_single (src cc)]
  · rw [hot_apply, if_pos rfl, weighted_apply, prod_apply, prod_apply]
    exact mul_one _
  · intro j _ hj
    rw [hot_apply, if_neg hj]
    exact mul_zero _
  · intro h; exact absurd (Finset.mem_univ _) h

end Cert.DxBody
end
-- ==== Proof.DxPoints.lean ====
module

public import proofs.«01_k».proof.Proof.DxTile

@[expose] public section

noncomputable section

/-! The kernel's result, read at an index: every grid point's input blocks as pieces of the arguments, the scratch over a
    sweep of a block of rows, and the array the points fill. -/

namespace Cert.DxBody

open Cert.KernelIdeal Cert.KernelIdeal.Gen Cert.KernelIdeal.Value Idealize.ShloMosaic Idealize.ShloMosaic.TcCoe
open scoped BigOperators

variable (m : (ℓ : Loc nD τ sig) → Buf (Elt Ideal) ℓ) (c : Dev nD)

/-! ## The input blocks of a point -/

/-- The block indices of the five input windows: point `t` is row block `t / 14` and column block `t % 14`. -/
theorem idx0 : ∀ t : Fin cfg0.N, win0_0.index t (0 : Fin 2) = 0 ∧ win0_0.index t (1 : Fin 2) = t.val % 14 :=
  (by decide +kernel : ∀ t : Fin grid0.N, _)
theorem idx1 : ∀ t : Fin cfg0.N, win0_1.index t (0 : Fin 2) = t.val / 14 ∧ win0_1.index t (1 : Fin 2) = 0 :=
  (by decide +kernel : ∀ t : Fin grid0.N, _)
theorem idx2 : ∀ t : Fin cfg0.N, win0_2.index t (0 : Fin 2) = t.val / 14 ∧ win0_2.index t (1 : Fin 2) = 0 :=
  (by decide +kernel : ∀ t : Fin grid0.N, _)
theorem idx3 : ∀ t : Fin cfg0.N, win0_3.index t (0 : Fin 3) = t.val % 14 ∧ win0_3.index t (1 : Fin 3) = 0 ∧ win0_3.index t (2 : Fin 3) = 0 :=
  (by decide +kernel : ∀ t : Fin grid0.N, _)
theorem idx4 : ∀ t : Fin cfg0.N, win0_4.index t (0 : Fin 2) = t.val / 14 ∧ win0_4.index t (1 : Fin 2) = 0 :=
  (by decide +kernel : ∀ t : Fin grid0.N, _)

theorem lt56 (t : Fin cfg0.N) : t.val < 56 := lt_of_lt_of_eq t.isLt N_0

/-- The packed weights' block: columns `128 * (t % 14)` and on. -/
theorem blk_wp (t : Fin cfg0.N) (o : Fin 18944) (i : Fin 128) :
    iblk m c 0 t (ix2 o i : S18944x128.Idx) = m (c.tc.loc main_arg2) (ix2 o ⟨t.val % 14 * 128 + i.val, by omega⟩ : S18944x1792.Idx) := by
  obtain ⟨e0, e1⟩ := idx0 t
  have hV := congrFun (V_main_arg2 m c) (((cfg0.win 0).blk t).view.emb (ix2 o i : S18944x128.Idx))
  refine hV.trans (congrArg (m (c.tc.loc main_arg2)) (funext fun a => Fin.ext ?_))
  match a with
  | ⟨0, _⟩ => show win0_0.index t (0 : Fin 2) * 18944 + 1 * o.val = o.val; rw [e0]; omega
  | ⟨1, _⟩ => show win0_0.index t (1 : Fin 2) * 128 + 1 * i.val = t.val % 14 * 128 + i.val; rw [e1]; omega

/-- The first codes' block: rows `384 * (t / 14)` and on. -/
theorem blk_qh (t : Fin cfg0.N) (r : Fin 384) (o : Fin 18944) :
    iblk m c 1 t (ix2 r o : S384x18944.Idx) = m (c.tc.loc main_arg0) (ix2 ⟨t.val / 14 * 384 + r.val, by have := lt56 t; omega⟩ o : S1536x18944.Idx) := by
  obtain ⟨e0, e1⟩ := idx1 t
  have hV := congrFun (V_main_arg0 m c) (((cfg0.win 1).blk t).view.emb (ix2 r o : S384x18944.Idx))
  refine hV.trans (congrArg (m (c.tc.loc main_arg0)) (funext fun a => Fin.ext ?_))
  match a with
  | ⟨0, _⟩ => show win0_1.index t (0 : Fin 2) * 384 + 1 * r.val = t.val / 14 * 384 + r.val; rw [e0]; omega
  | ⟨1, _⟩ => show win0_1.index t (1 : Fin 2) * 18944 + 1 * o.val = o.val; rw [e1]; omega

/-- The second codes' block: rows `384 * (t / 14)` and on. -/
theorem blk_ql (t : Fin cfg0.N) (r : Fin 384) (o : Fin 18944) :
    iblk m c 2 t (ix2 r o : S384x18944.Idx) = m (c.tc.loc main_arg1) (ix2 ⟨t.val / 14 * 384 + r.val, by have := lt56 t; omega⟩ o : S1536x18944.Idx) := by
  obtain ⟨e0, e1⟩ := idx2 t
  have hV := congrFun (V_main_arg1 m c) (((cfg0.win 2).blk t).view.emb (ix2 r o : S384x18944.Idx))
  refine hV.trans (congrArg (m (c.tc.loc main_arg1)) (funext fun a => Fin.ext ?_))
  match a with
  | ⟨0, _⟩ => show win0_2.index t (0 : Fin 2) * 384 + 1 * r.val = t.val / 14 * 384 + r.val; rw [e0]; omega
  | ⟨1, _⟩ => show win0_2.index t (1 : Fin 2) * 18944 + 1 * o.val = o.val; rw [e1]; omega

/-- The rows' scales' block: rows `384 * (t / 14)` and on. -/
theorem blk_st (t : Fin cfg0.N) (r : Fin 384) (o : Fin 128) :
    iblk m c 4 t (ix2 r o : S384x128.Idx) = m (c.tc.loc main_arg4) (ix2 ⟨t.val / 14 * 384 + r.val, by have := lt56 t; omega⟩ o : S1536x128.Idx) := by
  obtain ⟨e0, e1⟩ := idx4 t
  have hV := congrFun (V_main_arg4 m c) (((cfg0.win 4).blk t).view.emb (ix2 r o : S384x128.Idx))
  refine hV.trans (congrArg (m (c.tc.loc main_arg4)) (funext fun a => Fin.ext ?_))
  match a with
  | ⟨0, _⟩ => show win0_4.index t (0 : Fin 2) * 384 + 1 * r.val = t.val / 14 * 384 + r.val; rw [e0]; omega
  | ⟨1, _⟩ => show win0_4.index t (1 : Fin 2) * 128 + 1 * o.val = o.val; rw [e1]; omega

/-- The columns' scales as the host lays them out: even columns first in each block of 256. -/
abbrev laid (s : FVec Ideal S3584 .f32) : FVec Ideal S14x1x256 .f32 :=
  shapeCast S14x1x256 (transpose S14x2x128 [0, 2, 1] (shapeCast S14x128x2 s shapeCasts_S3584_S14x128x2) transposes_S14x128x2_S14x2x128_0_2_1) shapeCasts_S14x2x128_S14x1x256

/-- The layout at an index. -/
theorem laid_apply (s : FVec Ideal S3584 .f32) (n : Fin 14) (j : Fin 256) :
    laid s (ix3 n 0 j) = s (ix1 ⟨n.val * 256 + (j.val % 128) * 2 + j.val / 128, by omega⟩) := by
  unfold laid
  pointwise

/-- The region finds that layout in its fourth operand. -/
theorem V_laid : V m c main_v2 = laid (m (c.tc.loc main_arg3)) := rfl

/-- The columns' scales' block. -/
theorem blk_ws (t : Fin cfg0.N) (j : Fin 256) :
    iblk m c 3 t (ix3 0 0 j : S1x1x256.Idx) = m (c.tc.loc main_arg3) (ix1 ⟨t.val % 14 * 256 + (j.val % 128) * 2 + j.val / 128, by omega⟩ : S3584.Idx) := by
  obtain ⟨e0, e1, e2⟩ := idx3 t
  have hV := congrFun (V_laid m c) (((cfg0.win 3).blk t).view.emb (ix3 0 0 j : S1x1x256.Idx))
  refine (hV.trans (congrArg (laid (m (c.tc.loc main_arg3))) (?_ : _ = (ix3 ⟨t.val % 14, by omega⟩ 0 j : S14x1x256.Idx)))).trans (laid_apply _ _ _)
  funext a
  refine Fin.ext ?_
  match a with
  | ⟨0, _⟩ => show win0_3.index t (0 : Fin 3) * 1 + 1 * 0 = t.val % 14; rw [e0]; omega
  | ⟨1, _⟩ => show win0_3.index t (1 : Fin 3) * 1 + 1 * 0 = 0; rw [e1]
  | ⟨2, _⟩ => show win0_3.index t (2 : Fin 3) * 256 + 1 * j.val = j.val; rw [e2]; omega

/-! ## What every point leaves -/

/-- The blocks of codes are those of the row block alone. -/
theorem blk1_congr (t t' : Fin cfg0.N) (h : t.val / 14 = t'.val / 14) : (iblk m c 1 t : S384x18944.Idx → BitVec 8) = iblk m c 1 t' := by
  funext y
  rw [← ix2_eta y]
  exact (blk_qh m c t _ _).trans ((congrArg (fun r => m (c.tc.loc main_arg0) (ix2 r (y 1) : S1536x18944.Idx)) (Fin.ext (by simp only [h]))).trans (blk_qh m c t' _ _).symm)
theorem blk2_congr (t t' : Fin cfg0.N) (h : t.val / 14 = t'.val / 14) : (iblk m c 2 t : S384x18944.Idx → BitVec 8) = iblk m c 2 t' := by
  funext y
  rw [← ix2_eta y]
  exact (blk_ql m c t _ _).trans ((congrArg (fun r => m (c.tc.loc main_arg1) (ix2 r (y 1) : S1536x18944.Idx)) (Fin.ext (by simp only [h]))).trans (blk_ql m c t' _ _).symm)

/-- After every point the scratch holds the left operand of the point's row block. -/
theorem scratch : ∀ (n : ℕ) (hn : n < cfg0.N), (outsAt0 m c n hn).2 = lhs (iblk m c 1 ⟨n, hn⟩) (iblk m c 2 ⟨n, hn⟩)
  | 0, hn => by
    rw [outsAt0_A m c ⟨0, hn⟩ (Nat.zero_mod _)]
    exact sout_A ..
  | n + 1, hn => by
    by_cases h0 : (n + 1) % 14 = 0
    · rw [outsAt0_A m c ⟨n + 1, hn⟩ h0]
      exact sout_A ..
    · rw [outsAt0_B m c ⟨n + 1, hn⟩ h0]
      refine (scratch n (Nat.lt_of_succ_lt hn)).trans ?_
      rw [blk1_congr m c ⟨n, Nat.lt_of_succ_lt hn⟩ ⟨n + 1, hn⟩ (by show n / 14 = (n + 1) / 14; omega),
        blk2_congr m c ⟨n, Nat.lt_of_succ_lt hn⟩ ⟨n + 1, hn⟩ (by show n / 14 = (n + 1) / 14; omega)]

/-- Every point stores the block of its own blocks. -/
theorem stored (t : Fin cfg0.N) : (outsAt0 m c t.val t.isLt).1 = block (lhs (iblk m c 1 t) (iblk m c 2 t)) (rhs (iblk m c 0 t)) (iblk m c 4 t) (iblk m c 3 t) := by
  by_cases h0 : t.val % 14 = 0
  · rw [outsAt0_A m c t h0]
    exact out_A ..
  · rw [outsAt0_B m c t h0]
    have hs := scratch m c (t.val - 1) (Nat.lt_of_le_of_lt (Nat.sub_le _ _) t.isLt)
    have e1 := blk1_congr m c ⟨t.val - 1, Nat.lt_of_le_of_lt (Nat.sub_le _ _) t.isLt⟩ t (by show (t.val - 1) / 14 = t.val / 14; omega)
    have e2 := blk2_congr m c ⟨t.val - 1, Nat.lt_of_le_of_lt (Nat.sub_le _ _) t.isLt⟩ t (by show (t.val - 1) / 14 = t.val / 14; omega)
    rw [e1, e2] at hs
    rw [hs]
    have key := out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun h => h0 ((hcond0_0 t).mp h)) (lhs (iblk m c 1 t) (iblk m c 2 t))
    dsimp only
    with_reducible exact key

/-- The stored block at an index, from the arguments. -/
theorem stored_apply (t : Fin cfg0.N) (r : Fin 384) (j : Fin 256) (hr : t.val / 14 * 384 + r.val < 1536) (hq : t.val % 14 * 256 + j.val < 3584) :
    (outsAt0 m c t.val t.isLt).1 (ix2 r j) = Dx.out (m (c.tc.loc main_arg0)) (m (c.tc.loc main_arg1)) (m (c.tc.loc main_arg2)) (m (c.tc.loc main_arg3)) (m (c.tc.loc main_arg4))
      ⟨t.val / 14 * 384 + r.val, hr⟩ ⟨t.val % 14 * 256 + j.val, hq⟩ := by
  have hR : ∀ o : Fin 18944, rhs (iblk m c 0 t) (ix2 o (src j)) = Dx.weight (m (c.tc.loc main_arg2)) o ⟨t.val % 14 * 256 + j.val, hq⟩ := by
    intro o
    unfold rhs Dx.weight
    by_cases h : j.val % 2 < 1
    · have h1 : (ix2 o (src j) 1).val < 128 := by show j.val / 2 + j.val % 2 * 128 < 128; omega
      rw [dif_pos h1, if_pos (by show (t.val % 14 * 256 + j.val) % 2 < 1; omega)]
      refine congrArg (fun b => ((Dx.low b : ℝ) : EReal)) ((blk_wp m c t o _).trans (congrArg (fun q => m (c.tc.loc main_arg2) (ix2 o q : S18944x1792.Idx)) (Fin.ext ?_)))
      show t.val % 14 * 128 + (j.val / 2 + j.val % 2 * 128) = (t.val % 14 * 256 + j.val) / 2
      omega
    · have h1 : ¬ (ix2 o (src j) 1).val < 128 := by show ¬ j.val / 2 + j.val % 2 * 128 < 128; omega
      rw [dif_neg h1, if_neg (by show ¬ (t.val % 14 * 256 + j.val) % 2 < 1; omega)]
      refine congrArg (fun b => ((Dx.high b : ℝ) : EReal)) ((blk_wp m c t o _).trans (congrArg (fun q => m (c.tc.loc main_arg2) (ix2 o q : S18944x1792.Idx)) (Fin.ext ?_)))
      show t.val % 14 * 128 + (j.val / 2 + j.val % 2 * 128 - 128) = (t.val % 14 * 256 + j.val) / 2
      omega
  have hH : ∀ o : Fin 18944, lhs (iblk m c 1 t) (iblk m c 2 t) (ix2 ⟨r.val, by omega⟩ o) = Dx.num (m (c.tc.loc main_arg0) (ix2 ⟨t.val / 14 * 384 + r.val, hr⟩ o : S1536x18944.Idx)) := by
    intro o
    unfold lhs
    refine (dif_pos (show r.val < 384 from r.isLt)).trans ?_
    exact congrArg Dx.num (blk_qh m c t r o)
  have hL : ∀ o : Fin 18944, lhs (iblk m c 1 t) (iblk m c 2 t) (ix2 ⟨384 + r.val, by omega⟩ o) = Dx.num (m (c.tc.loc main_arg1) (ix2 ⟨t.val / 14 * 384 + r.val, hr⟩ o : S1536x18944.Idx)) := by
    intro o
    unfold lhs
    refine (dif_neg (show ¬ 384 + r.val < 384 by omega)).trans ?_
    refine congrArg Dx.num ((blk_ql m c t _ o).trans (congrArg (fun q => m (c.tc.loc main_arg1) (ix2 q o : S1536x18944.Idx)) (Fin.ext ?_)))
    show t.val / 14 * 384 + (384 + r.val - 384) = t.val / 14 * 384 + r.val
    omega
  have hS : iblk m c 3 t (ix3 0 0 (src j) : S1x1x256.Idx) = m (c.tc.loc main_arg3) (ix1 ⟨t.val % 14 * 256 + j.val, hq⟩ : S3584.Idx) := by
    refine (blk_ws m c t (src j)).trans (congrArg (fun q => m (c.tc.loc main_arg3) (ix1 q : S3584.Idx)) (Fin.ext ?_))
    show t.val % 14 * 256 + (j.val / 2 + j.val % 2 * 128) % 128 * 2 + (j.val / 2 + j.val % 2 * 128) / 128 = t.val % 14 * 256 + j.val
    omega
  rw [stored, block_apply]
  unfold Dx.out
  simp only [hR, hH, hL]
  rw [hS, show iblk m c 4 t (ix2 r 0 : S384x128.Idx) = _ from blk_st m c t r 0, show iblk m c 4 t (ix2 r 1 : S384x128.Idx) = _ from blk_st m c t r 1]

/-- The kernel's result at row `r` and column `q`. -/
theorem G5_apply (r : Fin 1536) (q : Fin 3584) :
    G5 m c (ix2 r q) = Dx.out (m (c.tc.loc main_arg0)) (m (c.tc.loc main_arg1)) (m (c.tc.loc main_arg2)) (m (c.tc.loc main_arg3)) (m (c.tc.loc main_arg4)) r q := by
  have hp : pt5Of (ix2 r q) = 14 * (r.val / 384) + q.val / 256 := by
    show 14 * (r.val / 384 - 0) + 1 * (q.val / 256 - 0) = _
    omega
  have hN : pt5Of (ix2 r q) < cfg0.N := by rw [hp]; exact lt_of_lt_of_eq (by omega) N_0.symm
  unfold G5
  rw [dif_pos hN, ← outsAt0_sweep m c (pt5Of (ix2 r q)) hN]
  have hl : loc5Of (ix2 r q) = ix2 ⟨r.val % 384, by omega⟩ ⟨q.val % 256, by omega⟩ := by
    funext a
    match a with
    | ⟨0, _⟩ => rfl
    | ⟨1, _⟩ => rfl
  rw [hl]
  have e1 : pt5Of (ix2 r q) / 14 * 384 + r.val % 384 = r.val := by rw [hp]; omega
  have e2 : pt5Of (ix2 r q) % 14 * 256 + q.val % 256 = q.val := by rw [hp]; omega
  refine (stored_apply m c ⟨pt5Of (ix2 r q), hN⟩ _ _ (by show pt5Of (ix2 r q) / 14 * 384 + r.val % 384 < 1536; omega) (by show pt5Of (ix2 r q) % 14 * 256 + q.val % 256 < 3584; omega)).trans ?_
  exact congr (congrArg _ (Fin.ext e1)) (Fin.ext e2)

end Cert.DxBody
end
-- ==== Proof.DxRef.lean ====
module

public import proofs.«01_k».proof.Proof.Gen.ReferenceIdeal.Run
public import proofs.«01_k».proof.Proof.DxSpec
public import Idealize.ShloMosaic.Lib.Pipeline.Value
public import Idealize.ShloMosaic.Lib.Pointwise

@[expose] public section

noncomputable section

/-! The reference's result, read at an index: it is the plain product `Dx.out` of DxSpec.lean. -/

namespace Cert.DxRef

open Cert.ReferenceIdeal Cert.ReferenceIdeal.Gen Cert.ReferenceIdeal.Value Idealize.ShloMosaic
open scoped BigOperators

/-- The two planes of codes, stacked: plane 0 the first codes, plane 1 the second, each code as a real number. -/
abbrev parts (qh ql : S1536x18944.Idx → BitVec 8) : FVec Ideal S2x1536x18944 .bf16 :=
  truncf .bf16 (sitofp .f32 (extsi 32 (fn_main_v25 (F := Ideal) (broadcastInDim S1x1536x18944 ![1, 2] bcast_S1536x18944_S1x1536x18944_1_2 qh) (broadcastInDim S1x1536x18944 ![1, 2] bcast_S1536x18944_S1x1536x18944_1_2 ql)) natLt_8_32)) bitsLt_bf16_f32

/-- Plane 0 of the stack holds the first codes. -/
theorem parts_hi (qh ql : S1536x18944.Idx → BitVec 8) (r : Fin 1536) (o : Fin 18944) :
    parts qh ql (ix3 0 r o) = (Dx.num (qh (ix2 r o)) : EReal) := by
  unfold parts fn_main_v25
  pointwise
  exact congrArg (fun n : Int => (((n : ℝ)) : EReal)) (Dx.signExtend_toInt _)

/-- Plane 1 of the stack holds the second codes. -/
theorem parts_lo (qh ql : S1536x18944.Idx → BitVec 8) (r : Fin 1536) (o : Fin 18944) :
    parts qh ql (ix3 1 r o) = (Dx.num (ql (ix2 r o)) : EReal) := by
  unfold parts fn_main_v25
  pointwise
  exact congrArg (fun n : Int => (((n : ℝ)) : EReal)) (Dx.signExtend_toInt _)

/-- The four low bits of every packed weight, decoded. -/
abbrev wLo (wp : S18944x1792.Idx → BitVec 8) : FVec Ideal S18944x1792 .bf16 :=
  truncf .bf16 (sitofp .f32 (subi (andi (extui 32 wp natLt_8_32) (broadcastInDim S18944x1792 ![] bcast_S_S18944x1792 (constantI S_ 32 15#32))) (muli (broadcastInDim S18944x1792 ![] bcast_S_S18944x1792 (constantI S_ 32 16#32)) (extui 32 (cmpi .sge (andi (extui 32 wp natLt_8_32) (broadcastInDim S18944x1792 ![] bcast_S_S18944x1792 (constantI S_ 32 15#32))) (broadcastInDim S18944x1792 ![] bcast_S_S18944x1792 (constantI S_ 32 8#32))) natLt_1_32)))) bitsLt_bf16_f32

/-- The four high bits of every packed weight, decoded. -/
abbrev wHi (wp : S18944x1792.Idx → BitVec 8) : FVec Ideal S18944x1792 .bf16 :=
  truncf .bf16 (sitofp .f32 (subi (andi (Host.shrsi (extui 32 wp natLt_8_32) (broadcastInDim S18944x1792 ![] bcast_S_S18944x1792 (constantI S_ 32 4#32))) (broadcastInDim S18944x1792 ![] bcast_S_S18944x1792 (constantI S_ 32 15#32))) (muli (broadcastInDim S18944x1792 ![] bcast_S_S18944x1792 (constantI S_ 32 16#32)) (extui 32 (cmpi .sge (andi (Host.shrsi (extui 32 wp natLt_8_32) (broadcastInDim S18944x1792 ![] bcast_S_S18944x1792 (constantI S_ 32 4#32))) (broadcastInDim S18944x1792 ![] bcast_S_S18944x1792 (constantI S_ 32 15#32))) (broadcastInDim S18944x1792 ![] bcast_S_S18944x1792 (constantI S_ 32 8#32))) natLt_1_32)))) bitsLt_bf16_f32

/-- `lo - 16 * (lo ≥ 8)` on the four low bits is their two's complement value. -/
theorem low_word : ∀ b : BitVec 8,
    (IntOp.subi (IntOp.andi (BitVec.setWidth 32 b) 15#32) (IntOp.muli 16#32 (BitVec.setWidth 32
      (IntOp.cmpi CmpIPredicate.sge (IntOp.andi (BitVec.setWidth 32 b) 15#32) 8#32)))).toInt = Dx.low b := by
  decide +kernel

/-- The same on the four high bits. -/
theorem high_word : ∀ b : BitVec 8,
    (IntOp.subi (IntOp.andi (IntOp.shrsi .host (BitVec.setWidth 32 b) 4#32) 15#32) (IntOp.muli 16#32 (BitVec.setWidth 32
      (IntOp.cmpi CmpIPredicate.sge (IntOp.andi (IntOp.shrsi .host (BitVec.setWidth 32 b) 4#32) 15#32) 8#32)))).toInt = Dx.high b := by
  decide +kernel

/-- The decoded low half at an index. -/
theorem wLo_apply (wp : S18944x1792.Idx → BitVec 8) (o : Fin 18944) (i : Fin 1792) :
    wLo wp (ix2 o i) = (((Dx.low (wp (ix2 o i)) : ℝ)) : EReal) := by
  unfold wLo
  pointwise
  exact congrArg (fun n : Int => (((n : ℝ)) : EReal)) (low_word _)

/-- The decoded high half at an index. -/
theorem wHi_apply (wp : S18944x1792.Idx → BitVec 8) (o : Fin 18944) (i : Fin 1792) :
    wHi wp (ix2 o i) = (((Dx.high (wp (ix2 o i)) : ℝ)) : EReal) := by
  unfold wHi
  pointwise
  exact congrArg (fun n : Int => (((n : ℝ)) : EReal)) (high_word _)

/-- The two products, one per plane of codes. -/
abbrev dots (a : FVec Ideal S2x1536x18944 .bf16) (b : FVec Ideal S18944x1792 .bf16) : FVec Ideal S2x1536x1792 .f32 :=
  Host.dotGeneral dot_S2x1536x18944_S18944x1792_S2x1536x1792_2_0_01_1_n_n none a b

/-- A product at an index is the sum over the contracted axis. -/
theorem dots_apply (a : FVec Ideal S2x1536x18944 .bf16) (b : FVec Ideal S18944x1792 .bf16) (k : Fin 2) (r : Fin 1536) (i : Fin 1792) :
    dots a b (ix3 k r i) = (∑ x : Fin 18944, a (ix3 k r x) * b (ix2 x i) : EReal) := by
  unfold dots
  pointwise

/-- The products weighted by the two row scales and scaled by the column's weight scale. -/
abbrev half (st : FVec Ideal S1536x128 .f32) (d : FVec Ideal S2x1536x1792 .f32) (s : FVec Ideal S1792 .f32) : FVec Ideal S1536x1792 .f32 :=
  mulf (addf (mulf (broadcastInDim S1536x1792 ![0, 1] bcast_S1536x1_S1536x1792_0_1 (extractStridedSlice S1536x1 ![0, 0] st slices_S1536x128_S1536x1_0_0)) (shapeCast _ (extractStridedSlice S1x1536x1792 ![0, 0, 0] d slices_S2x1536x1792_S1x1536x1792_0_0_0) shapeCasts_S1x1536x1792_S1536x1792)) (mulf (broadcastInDim S1536x1792 ![0, 1] bcast_S1536x1_S1536x1792_0_1 (extractStridedSlice S1536x1 ![0, 1] st slices_S1536x128_S1536x1_0_1)) (shapeCast _ (extractStridedSlice S1x1536x1792 ![1, 0, 0] d slices_S2x1536x1792_S1x1536x1792_1_0_0) shapeCasts_S1x1536x1792_S1536x1792))) (broadcastInDim S1536x1792 ![0, 1] bcast_S1x1792_S1536x1792_0_1 (broadcastInDim S1x1792 ![1] bcast_S1792_S1x1792_1 s))

/-- The weighted product at an index. -/
theorem half_apply (st : FVec Ideal S1536x128 .f32) (d : FVec Ideal S2x1536x1792 .f32) (s : FVec Ideal S1792 .f32) (r : Fin 1536) (i : Fin 1792) :
    half st d s (ix2 r i) = ((st (ix2 r 0) * d (ix3 0 r i) + st (ix2 r 1) * d (ix3 1 r i)) * s (ix1 i) : EReal) := by
  unfold half
  pointwise

/-- Two halves woven column by column. -/
abbrev weave (a b : FVec Ideal S1536x1792 .f32) : FVec Ideal S1536x3584 .bf16 :=
  truncf .bf16 (shapeCast _ (fn_main_v61 (F := Ideal) (broadcastInDim S1536x1792x1 ![0, 1] bcast_S1536x1792_S1536x1792x1_0_1 a) (broadcastInDim S1536x1792x1 ![0, 1] bcast_S1536x1792_S1536x1792x1_0_1 b)) shapeCasts_S1536x1792x2_S1536x3584) bitsLt_bf16_f32

/-- An even column of the weave is the first half's, an odd column the second's. -/
theorem weave_apply (a b : FVec Ideal S1536x1792 .f32) (r : Fin 1536) (q : Fin 3584) :
    weave a b (ix2 r q) = (if q.val % 2 < 1 then a (ix2 r ⟨q.val / 2, by omega⟩) else b (ix2 r ⟨q.val / 2, by omega⟩) : EReal) := by
  unfold weave fn_main_v61
  pointwise
  by_cases h : q.val % 2 < 1
  · rw [dif_pos h, if_pos h]
  · rw [dif_neg h, if_neg h]

/-- Every second scale, from the first on. -/
abbrev evenScales (sc : FVec Ideal S3584 .f32) : FVec Ideal S1792 .f32 := Host.slice S1792 ![0] ![2] sc slicesBy_S3584_S1792_0s2
/-- Every second scale, from the second on. -/
abbrev oddScales (sc : FVec Ideal S3584 .f32) : FVec Ideal S1792 .f32 := Host.slice S1792 ![1] ![2] sc slicesBy_S3584_S1792_1s2

/-- The even scales at an index. -/
theorem evenScales_apply (sc : FVec Ideal S3584 .f32) (i : Fin 1792) : evenScales sc (ix1 i) = sc (ix1 ⟨2 * i.val, by omega⟩) := by
  unfold evenScales
  pointwise
/-- The odd scales at an index. -/
theorem oddScales_apply (sc : FVec Ideal S3584 .f32) (i : Fin 1792) : oddScales sc (ix1 i) = sc (ix1 ⟨2 * i.val + 1, by omega⟩) := by
  unfold oddScales
  pointwise
  exact congrArg (fun k => sc (ix1 k)) (Fin.ext (Nat.add_comm _ _))

/-- The reference's term, in the pieces above. -/
theorem res_eq (m : (ℓ : Loc nD τ sig) → Buf (Elt Ideal) ℓ) (c : Dev nD) :
    res_main_v63 m c = weave
      (half (m (c.tc.loc main_arg4)) (dots (parts (m (c.tc.loc main_arg0)) (m (c.tc.loc main_arg1))) (wLo (m (c.tc.loc main_arg2)))) (evenScales (m (c.tc.loc main_arg3))))
      (half (m (c.tc.loc main_arg4)) (dots (parts (m (c.tc.loc main_arg0)) (m (c.tc.loc main_arg1))) (wHi (m (c.tc.loc main_arg2)))) (oddScales (m (c.tc.loc main_arg3)))) := rfl

/-- The two halves woven together, at row `r` and column `q`. -/
theorem term_apply (qh ql : IVec S1536x18944 8) (wp : IVec S18944x1792 8) (sc : FVec Ideal S3584 .f32) (st : FVec Ideal S1536x128 .f32) (r : Fin 1536) (q : Fin 3584) :
    weave (half st (dots (parts qh ql) (wLo wp)) (evenScales sc)) (half st (dots (parts qh ql) (wHi wp)) (oddScales sc)) (ix2 r q) = Dx.out qh ql wp sc st r q := by
  rw [weave_apply]
  unfold Dx.out
  by_cases h : q.val % 2 < 1
  · have hq : (⟨2 * (q.val / 2), by omega⟩ : Fin 3584) = q := Fin.ext (by simp; omega)
    rw [if_pos h, half_apply, dots_apply, dots_apply, evenScales_apply]
    simp only [parts_hi, parts_lo, wLo_apply, Dx.weight, if_pos h, hq]
  · have hq : (⟨2 * (q.val / 2) + 1, by omega⟩ : Fin 3584) = q := Fin.ext (by simp; omega)
    rw [if_neg h, half_apply, dots_apply, dots_apply, oddScales_apply]
    simp only [parts_hi, parts_lo, wHi_apply, Dx.weight, if_neg h, hq]

/-- The reference's result at row `r` and column `q`. -/
theorem res_apply (m : (ℓ : Loc nD τ sig) → Buf (Elt Ideal) ℓ) (c : Dev nD) (r : Fin 1536) (q : Fin 3584) :
    res_main_v63 m c (ix2 r q) = Dx.out (m (c.tc.loc main_arg0)) (m (c.tc.loc main_arg1)) (m (c.tc.loc main_arg2)) (m (c.tc.loc main_arg3)) (m (c.tc.loc main_arg4)) r q := by
  rw [res_eq]
  exact term_apply ..

end Cert.DxRef
end
-- ==== Proof.QLowK.lean ====
/- The third counted loop of the quantiser's body (the low codes): what one trip leaves, and the loop's invariant.
   The loop stores the packed words through a strided rectangle; what those stores leave is not named here (the
   packed words are no result of the claims), everything else is. -/
module

public import proofs.«01_k».proof.Proof.Gen.Quantise.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 8192
set_option maxHeartbeats 4000000

noncomputable section

namespace Cert.Quantise.Low

open Cert.Quantise Cert.Quantise.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip touches: the high codes and the residual at their contents, the low codes at `f`, the packed words at
    anything. -/
abbrev Trip (c : Dev nD) (arg3 : Memref sig .tc .vmem S32x18944 .i8) (arg8 : Memref sig .tc .vmem S32x18944 .f32) (arg4 : Memref sig .tc .vmem S32x18944 .i8) (arg5 : Memref sig .tc .vmem S1280x128 .i32) (X_arg3 : BufTy.Contents (Elt F) arg3.view.ty) (X_arg8 : BufTy.Contents (Elt F) arg8.view.ty) (f : BufTy.Contents (Elt F) arg4.view.ty) : sProp 𝕄G :=
  iprop((arg3.view.loc (c : Thread nD τ) ↦[arg3.view.set]{fullShare} X_arg3) ∗ (arg8.view.loc (c : Thread nD τ) ↦[arg8.view.set]{fullShare} X_arg8) ∗ (arg4.view.loc (c : Thread nD τ) ↦[arg4.view.set]{fullShare} f) ∗ (∃ g, arg5.view.loc (c : Thread nD τ) ↦[arg5.view.set]{fullShare} g))

/-- One trip at a symbolic `k`: the sums it yields and the pieces it writes into the low codes, as functions of the sums
    it is given. -/
@[irreducible] def trip (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (k : Fin k0_t3_loop.trips) :
    Σ' (R : ((FVec F S32x128 .f32) → FVec F S32x128 .f32)), { L : ((FVec F S32x128 .f32) → List (View.Piece (Elt F) S32x18944 .i8)) // ∀ (E : Set ℕ) (acc : FVec F S32x128 .f32) (f : BufTy.Contents (Elt F) arg4.view.ty),
      Trip (F := F) c arg3 arg8 arg4 arg5 X_arg3 X_arg8 f
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 v16_0 k acc)
          (fun yld => iprop(⌜yld = R acc⌝ ∗ Trip (F := F) c arg3 arg8 arg4 arg5 X_arg3 X_arg8 (arg4.view.writes (Elt F) f (L acc)))) } := by
  have hk : k.val < 37 := Nat.lt_of_lt_of_le k.isLt k0_t3_abs.2.1
  refine ⟨?_, ?_, fun E acc f => ?run⟩
  case run =>
    unfold k0_t3_body
    iintro ⟨HR_arg3, HR_arg8, HW_arg4, ⟨%g, HW_arg5⟩⟩
    sl_exec
    sl_step
    sl_close

/-- The sums a trip yields. -/
abbrev tripR (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (k : Fin k0_t3_loop.trips) (acc : FVec F S32x128 .f32) : FVec F S32x128 .f32 :=
  (trip (F := F) 𝒱 c bd i arg1 harg1 arg2 harg2 arg3 harg3 arg4 harg4 arg5 harg5 arg6 harg6 arg7 harg7 arg8 harg8 v16_0 X_arg3 X_arg8 k).1 acc

/-- The pieces a trip writes into the low codes. -/
abbrev tripL (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (k : Fin k0_t3_loop.trips) (acc : FVec F S32x128 .f32) : List (View.Piece (Elt F) S32x18944 .i8) :=
  (trip (F := F) 𝒱 c bd i arg1 harg1 arg2 harg2 arg3 harg3 arg4 harg4 arg5 harg5 arg6 harg6 arg7 harg7 arg8 harg8 v16_0 X_arg3 X_arg8 k).2.1 acc

/-- The state one trip makes of the state before it. -/
@[irreducible] def step (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (k : ℕ) (prev : (FVec F S32x128 .f32) × List (View.Piece (Elt F) S32x18944 .i8)) : (FVec F S32x128 .f32) × List (View.Piece (Elt F) S32x18944 .i8) :=
  if h : k < k0_t3_loop.trips then
    (tripR (F := F) 𝒱 c bd i arg1 harg1 arg2 harg2 arg3 harg3 arg4 harg4 arg5 harg5 arg6 harg6 arg7 harg7 arg8 harg8 v16_0 X_arg3 X_arg8 ⟨k, h⟩ prev.1, tripL (F := F) 𝒱 c bd i arg1 harg1 arg2 harg2 arg3 harg3 arg4 harg4 arg5 harg5 arg6 harg6 arg7 harg7 arg8 harg8 v16_0 X_arg3 X_arg8 ⟨k, h⟩ prev.1 ++ prev.2)
  else prev

/-- The state before trip `k`: the sums so far, and the pieces written so far (last first). -/
def st (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (init : FVec F S32x128 .f32) : ℕ → (FVec F S32x128 .f32) × List (View.Piece (Elt F) S32x18944 .i8)
  | 0 => (init, [])
  | k + 1 => step 𝒱 c bd i arg1 harg1 arg2 harg2 arg3 harg3 arg4 harg4 arg5 harg5 arg6 harg6 arg7 harg7 arg8 harg8 v16_0 X_arg3 X_arg8 k (st 𝒱 c bd i arg1 harg1 arg2 harg2 arg3 harg3 arg4 harg4 arg5 harg5 arg6 harg6 arg7 harg7 arg8 harg8 v16_0 X_arg3 X_arg8 init k)

/-- The state after trip `k`. -/
theorem st_succ (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (init : FVec F S32x128 .f32) (k : Fin k0_t3_loop.trips) :
    st (F := F) 𝒱 c bd i arg1 harg1 arg2 harg2 arg3 harg3 arg4 harg4 arg5 harg5 arg6 harg6 arg7 harg7 arg8 harg8 v16_0 X_arg3 X_arg8 init (k.val + 1)
      = (tripR (F := F) 𝒱 c bd i arg1 harg1 arg2 harg2 arg3 harg3 arg4 harg4 arg5 harg5 arg6 harg6 arg7 harg7 arg8 harg8 v16_0 X_arg3 X_arg8 k (st (F := F) 𝒱 c bd i arg1 harg1 arg2 harg2 arg3 harg3 arg4 harg4 arg5 harg5 arg6 harg6 arg7 harg7 arg8 harg8 v16_0 X_arg3 X_arg8 init k.val).1, tripL (F := F) 𝒱 c bd i arg1 harg1 arg2 harg2 arg3 harg3 arg4 harg4 arg5 harg5 arg6 harg6 arg7 harg7 arg8 harg8 v16_0 X_arg3 X_arg8 k (st (F := F) 𝒱 c bd i arg1 harg1 arg2 harg2 arg3 harg3 arg4 harg4 arg5 harg5 arg6 harg6 arg7 harg7 arg8 harg8 v16_0 X_arg3 X_arg8 init k.val).1 ++ (st (F := F) 𝒱 c bd i arg1 harg1 arg2 harg2 arg3 harg3 arg4 harg4 arg5 harg5 arg6 harg6 arg7 harg7 arg8 harg8 v16_0 X_arg3 X_arg8 init k.val).2) := by
  rw [st.eq_2]; unfold step; exact dif_pos k.isLt

/-- What holds before trip `k`. -/
abbrev inv (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (G : BufTy.Contents (Elt F) arg4.view.ty) (init : FVec F S32x128 .f32) (k : ℕ) (acc : FVec F S32x128 .f32) : sProp 𝕄G :=
  iprop((arg3.view.loc (c : Thread nD τ) ↦[arg3.view.set]{fullShare} X_arg3) ∗ (arg8.view.loc (c : Thread nD τ) ↦[arg8.view.set]{fullShare} X_arg8) ∗ (∃ f, (arg4.view.loc (c : Thread nD τ) ↦[arg4.view.set]{fullShare} f) ∗ ⌜f = arg4.view.writes (Elt F) G (st (F := F) 𝒱 c bd i arg1 harg1 arg2 harg2 arg3 harg3 arg4 harg4 arg5 harg5 arg6 harg6 arg7 harg7 arg8 harg8 v16_0 X_arg3 X_arg8 init k).2⌝) ∗ (∃ g, arg5.view.loc (c : Thread nD τ) ↦[arg5.view.set]{fullShare} g) ∗ ⌜acc = (st (F := F) 𝒱 c bd i arg1 harg1 arg2 harg2 arg3 harg3 arg4 harg4 arg5 harg5 arg6 harg6 arg7 harg7 arg8 harg8 v16_0 X_arg3 X_arg8 init k).1⌝)

set_option warn.classDefReducibility false in
/-- The loop by its invariant. -/
@[sl_loop] def loopInv (𝒱 : Variants) (c : Dev nD) (bd : Option 𝒱.V) (E : Set ℕ) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (G : BufTy.Contents (Elt F) arg4.view.ty) (init : FVec F S32x128 .f32) :
    LoopInvTy_k0_t3 (F := F) Unit ℕ (UR sig nD τ) ℕ 𝒱 c bd E i arg1 harg1 arg2 harg2 arg3 harg3 arg4 harg4 arg5 harg5 arg6 harg6 arg7 harg7 arg8 harg8 v16_0 init where
  inv := inv (F := F) 𝒱 c bd i arg1 harg1 arg2 harg2 arg3 harg3 arg4 harg4 arg5 harg5 arg6 harg6 arg7 harg7 arg8 harg8 v16_0 X_arg3 X_arg8 G init
  step k acc := by
    iintro ⟨HR_arg3, HR_arg8, ⟨%f, HW_arg4, %h_f⟩, HW_arg5, %h_acc⟩
    subst h_acc
    iapply (wp_wand_r Idealize.ShloMosaic.frame (wpE (defs₀ (F := F)) 𝒱 (c : Thread nD τ) bd) E)
    isplitl [HR_arg3 HR_arg8 HW_arg4 HW_arg5]
    · iapply ((trip (F := F) 𝒱 c bd i arg1 harg1 arg2 harg2 arg3 harg3 arg4 harg4 arg5 harg5 arg6 harg6 arg7 harg7 arg8 harg8 v16_0 X_arg3 X_arg8 k).2.2 E (st (F := F) 𝒱 c bd i arg1 harg1 arg2 harg2 arg3 harg3 arg4 harg4 arg5 harg5 arg6 harg6 arg7 harg7 arg8 harg8 v16_0 X_arg3 X_arg8 init k).1 f)
      isplitl [HR_arg3]; · iexact HR_arg3
      isplitl [HR_arg8]; · iexact HR_arg8
      isplitl [HW_arg4]; · iexact HW_arg4
      iexact HW_arg5
    · iintro %yld ⟨%h_res, HR_arg3, HR_arg8, HW_arg4, HW_arg5⟩
      isplitl [HR_arg3]; · iexact HR_arg3
      isplitl [HR_arg8]; · iexact HR_arg8
      simp only [st_succ]
      isplitl [HW_arg4]
      · iexists _; isplitl [HW_arg4]; · iexact HW_arg4
        ipureintro; rw [h_f, ← View.writes_append]
      isplitl [HW_arg5]
      · iexact HW_arg5
      ipureintro; rw [h_res]

end Cert.Quantise.Low

end
-- ==== Proof.QRunK.lean ====
/- The quantiser's body, run whole on any staging buffers: the pieces its stores leave in the high codes, the low codes and
   the row figures. The two arrays of packed words are left at contents nothing names. -/
module

public import proofs.«01_k».proof.Proof.QLowK
public import proofs.«01_k».proof.Proof.Gen.Quantise.Frame

@[expose] public section

set_option maxRecDepth 16384

noncomputable section

namespace Cert.Quantise.Quant

open Cert.Quantise Cert.Quantise.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the high codes, the low codes and the row figures, the high codes' buffer and the
    residual's starting at `g2` and `gs`, with the proof that on whole staging
    buffers the body runs to its end and leaves them. -/
noncomputable def kernelRun (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)
    (x0 : Vec F S32x18944 .bf16) (x1 : Vec F S32x1792 .i8) (g2 : BufTy.Contents (Elt F) arg3.view.ty) (gs : BufTy.Contents (Elt F) arg8.view.ty) :
    Σ' (L2 : List (View.Piece (Elt F) S32x18944 .i8)), Σ' (L3 : List (View.Piece (Elt F) S32x18944 .i8)), { L6 : List (View.Piece (Elt F) S32x128 .f32) //
      ∀ (E : Set ℕ) (K : PUnit → sProp 𝕄),
        iprop(owns (c : Thread nD τ) arg1 fullShare x0 ∗ owns (c : Thread nD τ) arg2 fullShare x1 ∗ (arg3.view.loc (c : Thread nD τ) ↦[arg3.view.set]{fullShare} g2) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (arg8.view.loc (c : Thread nD τ) ↦[arg8.view.set]{fullShare} gs)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ d, owns (c : Thread nD τ) arg5 fullShare d) ∗ (∃ d, owns (c : Thread nD τ) arg6 fullShare d) ∗ (∃ f, arg7.view.loc (c : Thread nD τ) ↦[arg7.view.set]{fullShare} arg7.view.writes (Elt F) f L6) ∗ (∃ d, owns (c : Thread nD τ) arg8 fullShare d)) -∗ K ⟨⟩))
          ⊢ wp frame (wpE (defs₀ (F := F)) Variants.none c none) E (cc0_quantise i arg1 harg1 arg2 harg2 arg3 harg3 arg4 harg4 arg5 harg5 arg6 harg6 arg7 harg7 arg8 harg8) K } := by
  refine ⟨?_, ?_, ?_, fun E K => ?run⟩
  case run =>
    simp only [cc0_quantise_eq_skeleton]; unfold cc0_quantise_skel
    simp only [k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, H2, ⟨%d3, %f3, -, H3⟩, ⟨%d4, %f4, -, H4⟩, ⟨%d5, %f5, -, H5⟩, ⟨%d6, %f6, -, H6⟩, HS0, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _, _; isplitr; swap; · iexact H4
      ipureintro; rfl
    isplitl [H5]
    · iexists _, _; isplitr; swap; · iexact H5
      ipureintro; rfl
    isplitl [H6]; · iexists _; iexact H6
    iexists _, _; isplitr; swap; · iexact HS0
    ipureintro; rfl

end Cert.Quantise.Quant

end
-- ==== Proof.QFrameK.lean ====
/- The quantiser's pipeline: what every grid point leaves, the body's obligation, the run of the whole program and its
   frame. -/
module

public import proofs.«01_k».proof.Proof.QRunK
public import Idealize.ShloMosaic.Lib.Claim

@[expose] public section

set_option maxRecDepth 16384

noncomputable section

namespace Cert.Quantise.Quant

open Cert.Quantise Cert.Quantise.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each window's current staging buffer at point `t`, and its wholeness. -/
abbrev ms0_0 (t : Fin cfg0.N) : Memref sig .tc .vmem S32x18944 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1792 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x18944 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x18944 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x128 .f32 := win0_6.stage (cfg0.slots t 6)
abbrev hs0_6 (t : Fin cfg0.N) : (ms0_6 t).IsWhole := hstage0_6 ((cfg0.slots t 6).cast nbuf0_6)
/-- The residual's scratch buffer. -/
abbrev scM0_0 : Memref sig .tc .vmem S32x18944 .f32 := Memref.whole cc0_scratch0

/-- The pipeline's invariant: the scratch buffer at some contents beside the generator register. -/
theorem PhiA0_eq (c : Dev nD) :
    (Pipeline.ΦA spec0 c : sProp 𝕄)
      = iprop(iprop((∃ d, ∃ f, ⌜scM0_0.view.read (Elt F) f = d⌝ ∗ scM0_0.view.loc (c : Thread nD τ) ↦[scM0_0.view.set]{fullShare} f)) ∗ (∃ r, prngReg c r)) := by
  show _ = iprop(iprop((∃ d, owns (c : Thread nD τ) scM0_0 fullShare d)) ∗ (∃ r, prngReg c r))
  unfold Pipeline.ΦA; rw [scopedRest0_eq]; simp only [scM0_0, owns_whole]; try rfl

/-- The row sums and pieces the second loop leaves, with the first loop's maximum. -/
abbrev mid (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) :=
  st_k0_t2 Variants.none c none i arg1 harg1 arg2 harg2 arg3 harg3 arg4 harg4 arg5 harg5 arg6 harg6 arg7 harg7 arg8 harg8
    (st_k0_t1 Variants.none c none i arg1 harg1 arg2 harg2 arg3 harg3 arg4 harg4 arg5 harg5 arg6 harg6 arg7 harg7 arg8 harg8 (harg1.unread x0) k0_pay46 (Scf.trips k0_t1_loop.lb k0_t1_loop.ub k0_t1_loop.st))
    (harg1.unread x0) (k0_pay45, k0_pay45) (Scf.trips k0_t2_loop.lb k0_t2_loop.ub k0_t2_loop.st)

/-- What the third loop leaves, run on any contents of the high codes and the residual. -/
abbrev fin (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16)
    (X3 : BufTy.Contents (Elt F) arg3.view.ty) (X8 : BufTy.Contents (Elt F) arg8.view.ty) :=
  Low.st Variants.none c none i arg1 harg1 arg2 harg2 arg3 harg3 arg4 harg4 arg5 harg5 arg6 harg6 arg7 harg7 arg8 harg8 (mid c i arg1 harg1 arg2 harg2 arg3 harg3 arg4 harg4 arg5 harg5 arg6 harg6 arg7 harg7 arg8 harg8 x0).1.1 X3 X8 k0_pay45 (Scf.trips k0_t3_loop.lb k0_t3_loop.ub k0_t3_loop.st)

/-- The second loop's pieces cover the high codes' block. -/
theorem midCover3 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (y : S32x18944.Idx) :
    ∃ pc ∈ (mid c i arg1 harg1 arg2 harg2 arg3 harg3 arg4 harg4 arg5 harg5 arg6 harg6 arg7 harg7 arg8 harg8 x0).2.1, y ∈ pc.1.set :=
  View.cover_of_tiledL (mid c i arg1 harg1 arg2 harg2 arg3 harg3 arg4 harg4 arg5 harg5 arg6 harg6 arg7 harg7 arg8 harg8 x0).2.1 S32x128.size (by sl_kernel_rfl) y

/-- The second loop's pieces cover the residual's block. -/
theorem midCover8 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (y : S32x18944.Idx) :
    ∃ pc ∈ (mid c i arg1 harg1 arg2 harg2 arg3 harg3 arg4 harg4 arg5 harg5 arg6 harg6 arg7 harg7 arg8 harg8 x0).2.2, y ∈ pc.1.set :=
  View.cover_of_tiledL (mid c i arg1 harg1 arg2 harg2 arg3 harg3 arg4 harg4 arg5 harg5 arg6 harg6 arg7 harg7 arg8 harg8 x0).2.2 S32x128.size (by sl_kernel_rfl) y

/-- What the high codes hold after the second loop does not depend on what they held before it. -/
theorem mid3 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (g g' : BufTy.Contents (Elt F) arg3.view.ty) :
    arg3.view.writes (Elt F) g (mid c i arg1 harg1 arg2 harg2 arg3 harg3 arg4 harg4 arg5 harg5 arg6 harg6 arg7 harg7 arg8 harg8 x0).2.1 = arg3.view.writes (Elt F) g' (mid c i arg1 harg1 arg2 harg2 arg3 harg3 arg4 harg4 arg5 harg5 arg6 harg6 arg7 harg7 arg8 harg8 x0).2.1 :=
  (harg3.eq_unread (View.read_writes_of_cover _ _ _ _ _ (midCover3 c i arg1 harg1 arg2 harg2 arg3 harg3 arg4 harg4 arg5 harg5 arg6 harg6 arg7 harg7 arg8 harg8 x0))).trans (harg3.eq_unread rfl).symm

/-- What the residual holds after the second loop does not depend on what it held before it. -/
theorem mid8 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (g g' : BufTy.Contents (Elt F) arg8.view.ty) :
    arg8.view.writes (Elt F) g (mid c i arg1 harg1 arg2 harg2 arg3 harg3 arg4 harg4 arg5 harg5 arg6 harg6 arg7 harg7 arg8 harg8 x0).2.2 = arg8.view.writes (Elt F) g' (mid c i arg1 harg1 arg2 harg2 arg3 harg3 arg4 harg4 arg5 harg5 arg6 harg6 arg7 harg7 arg8 harg8 x0).2.2 :=
  (harg8.eq_unread (View.read_writes_of_cover _ _ _ _ _ (midCover8 c i arg1 harg1 arg2 harg2 arg3 harg3 arg4 harg4 arg5 harg5 arg6 harg6 arg7 harg7 arg8 harg8 x0))).trans (harg8.eq_unread rfl).symm

/-- The low codes' pieces are the third loop's. -/
theorem run3 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (x1 : Vec F S32x1792 .i8) (g2 : BufTy.Contents (Elt F) arg3.view.ty) (gs : BufTy.Contents (Elt F) arg8.view.ty) :
    (kernelRun c i arg1 harg1 arg2 harg2 arg3 harg3 arg4 harg4 arg5 harg5 arg6 harg6 arg7 harg7 arg8 harg8 x0 x1 g2 gs).2.1
      = (fin c i arg1 harg1 arg2 harg2 arg3 harg3 arg4 harg4 arg5 harg5 arg6 harg6 arg7 harg7 arg8 harg8 x0 (arg3.view.writes (Elt F) g2 (mid c i arg1 harg1 arg2 harg2 arg3 harg3 arg4 harg4 arg5 harg5 arg6 harg6 arg7 harg7 arg8 harg8 x0).2.1) (arg8.view.writes (Elt F) gs (mid c i arg1 harg1 arg2 harg2 arg3 harg3 arg4 harg4 arg5 harg5 arg6 harg6 arg7 harg7 arg8 harg8 x0).2.2)).2 := rfl

/-- The high codes' pieces are the second loop's. -/
theorem run2 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (x1 : Vec F S32x1792 .i8) (g2 : BufTy.Contents (Elt F) arg3.view.ty) (gs : BufTy.Contents (Elt F) arg8.view.ty) :
    (kernelRun c i arg1 harg1 arg2 harg2 arg3 harg3 arg4 harg4 arg5 harg5 arg6 harg6 arg7 harg7 arg8 harg8 x0 x1 g2 gs).1 = (mid c i arg1 harg1 arg2 harg2 arg3 harg3 arg4 harg4 arg5 harg5 arg6 harg6 arg7 harg7 arg8 harg8 x0).2.1 := rfl

/-- The row figures are one piece, of the loops' results. -/
theorem run6 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (x1 : Vec F S32x1792 .i8) (g2 : BufTy.Contents (Elt F) arg3.view.ty) (gs : BufTy.Contents (Elt F) arg8.view.ty) :
    (kernelRun c i arg1 harg1 arg2 harg2 arg3 harg3 arg4 harg4 arg5 harg5 arg6 harg6 arg7 harg7 arg8 harg8 x0 x1 g2 gs).2.2.1
      = [⟨Rect.unit ![0, 0] ![32, 128] inb_S32x128_S32x128_0_0,
          k0_pay1 k0_pay45 (kernelRun.sl.r c i arg1 harg1 arg2 harg2 arg3 harg3 arg4 harg4 arg5 harg5 arg6 harg6 arg7 harg7 arg8 harg8 x0) (kernelRun.sl.r_1 c i arg1 harg1 arg2 harg2 arg3 harg3 arg4 harg4 arg5 harg5 arg6 harg6 arg7 harg7 arg8 harg8 x0) (kernelRun.sl.r_2 c i arg1 harg1 arg2 harg2 arg3 harg3 arg4 harg4 arg5 harg5 arg6 harg6 arg7 harg7 arg8 harg8 x0)
            (fin c i arg1 harg1 arg2 harg2 arg3 harg3 arg4 harg4 arg5 harg5 arg6 harg6 arg7 harg7 arg8 harg8 x0 (arg3.view.writes (Elt F) g2 (mid c i arg1 harg1 arg2 harg2 arg3 harg3 arg4 harg4 arg5 harg5 arg6 harg6 arg7 harg7 arg8 harg8 x0).2.1) (arg8.view.writes (Elt F) gs (mid c i arg1 harg1 arg2 harg2 arg3 harg3 arg4 harg4 arg5 harg5 arg6 harg6 arg7 harg7 arg8 harg8 x0).2.2)).1
            (kernelRun.sl.r_27 c arg2 harg2 x1)⟩] := rfl

/-- The low codes' pieces do not depend on what the buffers held. -/
theorem indep3 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (x1 : Vec F S32x1792 .i8) (g2 g2' : BufTy.Contents (Elt F) arg3.view.ty) (gs gs' : BufTy.Contents (Elt F) arg8.view.ty) :
    (kernelRun c i arg1 harg1 arg2 harg2 arg3 harg3 arg4 harg4 arg5 harg5 arg6 harg6 arg7 harg7 arg8 harg8 x0 x1 g2 gs).2.1 = (kernelRun c i arg1 harg1 arg2 harg2 arg3 harg3 arg4 harg4 arg5 harg5 arg6 harg6 arg7 harg7 arg8 harg8 x0 x1 g2' gs').2.1 := by
  rw [run3, run3, mid3 c i arg1 harg1 arg2 harg2 arg3 harg3 arg4 harg4 arg5 harg5 arg6 harg6 arg7 harg7 arg8 harg8 x0 g2 g2', mid8 c i arg1 harg1 arg2 harg2 arg3 harg3 arg4 harg4 arg5 harg5 arg6 harg6 arg7 harg7 arg8 harg8 x0 gs gs']

/-- The row figures' piece does not depend on what the buffers held. -/
theorem indep6 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (x1 : Vec F S32x1792 .i8) (g2 g2' : BufTy.Contents (Elt F) arg3.view.ty) (gs gs' : BufTy.Contents (Elt F) arg8.view.ty) :
    (kernelRun c i arg1 harg1 arg2 harg2 arg3 harg3 arg4 harg4 arg5 harg5 arg6 harg6 arg7 harg7 arg8 harg8 x0 x1 g2 gs).2.2.1 = (kernelRun c i arg1 harg1 arg2 harg2 arg3 harg3 arg4 harg4 arg5 harg5 arg6 harg6 arg7 harg7 arg8 harg8 x0 x1 g2' gs').2.2.1 := by
  rw [run6, run6, mid3 c i arg1 harg1 arg2 harg2 arg3 harg3 arg4 harg4 arg5 harg5 arg6 harg6 arg7 harg7 arg8 harg8 x0 g2 g2', mid8 c i arg1 harg1 arg2 harg2 arg3 harg3 arg4 harg4 arg5 harg5 arg6 harg6 arg7 harg7 arg8 harg8 x0 gs gs']

/-- The run's pieces for the high codes cover their block. -/
theorem cover2 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)
    (x0 : Vec F S32x18944 .bf16) (x1 : Vec F S32x1792 .i8) (g2 : BufTy.Contents (Elt F) arg3.view.ty) (gs : BufTy.Contents (Elt F) arg8.view.ty) (y : S32x18944.Idx) :
    ∃ pc ∈ (kernelRun c i arg1 harg1 arg2 harg2 arg3 harg3 arg4 harg4 arg5 harg5 arg6 harg6 arg7 harg7 arg8 harg8 x0 x1 g2 gs).1, y ∈ pc.1.set :=
  View.cover_of_tiledL (kernelRun c i arg1 harg1 arg2 harg2 arg3 harg3 arg4 harg4 arg5 harg5 arg6 harg6 arg7 harg7 arg8 harg8 x0 x1 g2 gs).1 S32x128.size (by sl_kernel_rfl) y

/-- One staging buffer, through which the high codes are stated. -/
abbrev VO2 : View sig .tc .vmem S32x18944 .i8 := (Memref.whole cc0_stg2_0 : Memref sig .tc .vmem S32x18944 .i8).view

/-- What the run leaves of the high codes. -/
def out2 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)
    (x0 : Vec F S32x18944 .bf16) (x1 : Vec F S32x1792 .i8) : Vec F S32x18944 .i8 :=
  VO2.read (Elt F) (VO2.writes (Elt F) VO2.junk (kernelRun c i arg1 harg1 arg2 harg2 arg3 harg3 arg4 harg4 arg5 harg5 arg6 harg6 arg7 harg7 arg8 harg8 x0 x1 arg3.view.junk arg8.view.junk).1)

/-- The run's pieces for the low codes cover their block. -/
theorem cover3 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)
    (x0 : Vec F S32x18944 .bf16) (x1 : Vec F S32x1792 .i8) (g2 : BufTy.Contents (Elt F) arg3.view.ty) (gs : BufTy.Contents (Elt F) arg8.view.ty) (y : S32x18944.Idx) :
    ∃ pc ∈ (kernelRun c i arg1 harg1 arg2 harg2 arg3 harg3 arg4 harg4 arg5 harg5 arg6 harg6 arg7 harg7 arg8 harg8 x0 x1 g2 gs).2.1, y ∈ pc.1.set :=
  View.cover_of_tiledL (kernelRun c i arg1 harg1 arg2 harg2 arg3 harg3 arg4 harg4 arg5 harg5 arg6 harg6 arg7 harg7 arg8 harg8 x0 x1 g2 gs).2.1 S32x128.size (by sl_kernel_rfl) y

/-- One staging buffer, through which the low codes are stated. -/
abbrev VO3 : View sig .tc .vmem S32x18944 .i8 := (Memref.whole cc0_stg3_0 : Memref sig .tc .vmem S32x18944 .i8).view

/-- What the run leaves of the low codes. -/
def out3 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)
    (x0 : Vec F S32x18944 .bf16) (x1 : Vec F S32x1792 .i8) : Vec F S32x18944 .i8 :=
  VO3.read (Elt F) (VO3.writes (Elt F) VO3.junk (kernelRun c i arg1 harg1 arg2 harg2 arg3 harg3 arg4 harg4 arg5 harg5 arg6 harg6 arg7 harg7 arg8 harg8 x0 x1 arg3.view.junk arg8.view.junk).2.1)

/-- The run's pieces for the row figures cover their block. -/
theorem cover6 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)
    (x0 : Vec F S32x18944 .bf16) (x1 : Vec F S32x1792 .i8) (g2 : BufTy.Contents (Elt F) arg3.view.ty) (gs : BufTy.Contents (Elt F) arg8.view.ty) (y : S32x128.Idx) :
    ∃ pc ∈ (kernelRun c i arg1 harg1 arg2 harg2 arg3 harg3 arg4 harg4 arg5 harg5 arg6 harg6 arg7 harg7 arg8 harg8 x0 x1 g2 gs).2.2.1, y ∈ pc.1.set :=
  View.cover_of_tiledL (kernelRun c i arg1 harg1 arg2 harg2 arg3 harg3 arg4 harg4 arg5 harg5 arg6 harg6 arg7 harg7 arg8 harg8 x0 x1 g2 gs).2.2.1 S32x128.size (by sl_kernel_rfl) y

/-- One staging buffer, through which the row figures are stated. -/
abbrev VO6 : View sig .tc .vmem S32x128 .f32 := (Memref.whole cc0_stg6_0 : Memref sig .tc .vmem S32x128 .f32).view

/-- What the run leaves of the row figures. -/
def out6 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)
    (x0 : Vec F S32x18944 .bf16) (x1 : Vec F S32x1792 .i8) : Vec F S32x128 .f32 :=
  VO6.read (Elt F) (VO6.writes (Elt F) VO6.junk (kernelRun c i arg1 harg1 arg2 harg2 arg3 harg3 arg4 harg4 arg5 harg5 arg6 harg6 arg7 harg7 arg8 harg8 x0 x1 arg3.view.junk arg8.view.junk).2.2.1)

/-- Whatever the buffers held, the run leaves `out2` of the high codes. -/
theorem left2 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (x1 : Vec F S32x1792 .i8) (g2 : BufTy.Contents (Elt F) arg3.view.ty) (gs : BufTy.Contents (Elt F) arg8.view.ty) (e : BufTy.Contents (Elt F) arg3.view.ty) :
    arg3.view.read (Elt F) (arg3.view.writes (Elt F) e (kernelRun c i arg1 harg1 arg2 harg2 arg3 harg3 arg4 harg4 arg5 harg5 arg6 harg6 arg7 harg7 arg8 harg8 x0 x1 g2 gs).1) = out2 c i arg1 harg1 arg2 harg2 arg3 harg3 arg4 harg4 arg5 harg5 arg6 harg6 arg7 harg7 arg8 harg8 x0 x1 :=
  View.read_writes_of_cover _ _ _ _ _ (cover2 c i arg1 harg1 arg2 harg2 arg3 harg3 arg4 harg4 arg5 harg5 arg6 harg6 arg7 harg7 arg8 harg8 x0 x1 g2 gs)

/-- Whatever the buffers held, the run leaves `out3` of the low codes. -/
theorem left3 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (x1 : Vec F S32x1792 .i8) (g2 : BufTy.Contents (Elt F) arg3.view.ty) (gs : BufTy.Contents (Elt F) arg8.view.ty) (e : BufTy.Contents (Elt F) arg4.view.ty) :
    arg4.view.read (Elt F) (arg4.view.writes (Elt F) e (kernelRun c i arg1 harg1 arg2 harg2 arg3 harg3 arg4 harg4 arg5 harg5 arg6 harg6 arg7 harg7 arg8 harg8 x0 x1 g2 gs).2.1) = out3 c i arg1 harg1 arg2 harg2 arg3 harg3 arg4 harg4 arg5 harg5 arg6 harg6 arg7 harg7 arg8 harg8 x0 x1 :=
  (congrArg (fun L => arg4.view.read (Elt F) (arg4.view.writes (Elt F) e L)) (indep3 c i arg1 harg1 arg2 harg2 arg3 harg3 arg4 harg4 arg5 harg5 arg6 harg6 arg7 harg7 arg8 harg8 x0 x1 g2 arg3.view.junk gs arg8.view.junk)).trans
    (View.read_writes_of_cover _ _ _ _ _ (cover3 c i arg1 harg1 arg2 harg2 arg3 harg3 arg4 harg4 arg5 harg5 arg6 harg6 arg7 harg7 arg8 harg8 x0 x1 arg3.view.junk arg8.view.junk))

/-- Whatever the buffers held, the run leaves `out6` of the row figures. -/
theorem left6 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (x1 : Vec F S32x1792 .i8) (g2 : BufTy.Contents (Elt F) arg3.view.ty) (gs : BufTy.Contents (Elt F) arg8.view.ty) (e : BufTy.Contents (Elt F) arg7.view.ty) :
    arg7.view.read (Elt F) (arg7.view.writes (Elt F) e (kernelRun c i arg1 harg1 arg2 harg2 arg3 harg3 arg4 harg4 arg5 harg5 arg6 harg6 arg7 harg7 arg8 harg8 x0 x1 g2 gs).2.2.1) = out6 c i arg1 harg1 arg2 harg2 arg3 harg3 arg4 harg4 arg5 harg5 arg6 harg6 arg7 harg7 arg8 harg8 x0 x1 :=
  (congrArg (fun L => arg7.view.read (Elt F) (arg7.view.writes (Elt F) e L)) (indep6 c i arg1 harg1 arg2 harg2 arg3 harg3 arg4 harg4 arg5 harg5 arg6 harg6 arg7 harg7 arg8 harg8 x0 x1 g2 arg3.view.junk gs arg8.view.junk)).trans
    (View.read_writes_of_cover _ _ _ _ _ (cover6 c i arg1 harg1 arg2 harg2 arg3 harg3 arg4 harg4 arg5 harg5 arg6 harg6 arg7 harg7 arg8 harg8 x0 x1 arg3.view.junk arg8.view.junk))

variable (m : (ℓ : Loc nD τ sig) → Buf (Elt F) ℓ) (ρ : Dev nD → PrngReg)

/-- What the body leaves in the high codes' staging buffer at point `t`. -/
def hiAt (c : Dev nD) (t : Fin cfg0.N) : Vec F S32x18944 .i8 := out2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t)
/-- What the body leaves in the low codes' staging buffer at point `t`. -/
def loAt (c : Dev nD) (t : Fin cfg0.N) : Vec F S32x18944 .i8 := out3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t)
/-- What the body leaves in the row figures' staging buffer at point `t`. -/
def stAt (c : Dev nD) (t : Fin cfg0.N) : Vec F S32x128 .f32 := out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t)

/-- The two windows of packed words, of which nothing is named. -/
def forgets : Fin 7 → Bool := fun w => w.val == 4 || w.val == 5

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => hiAt m c t
    | ⟨3, _⟩ => loAt m c t
    | ⟨4, h⟩ => Pipeline.Dat.unnamed (cfg := cfg0) ⟨4, h⟩ t
    | ⟨5, h⟩ => Pipeline.Dat.unnamed (cfg := cfg0) ⟨5, h⟩ t
    | ⟨6, _⟩ => stAt m c t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = hiAt m c t := by dsimp only [dats]
theorem after0_3 (c : Dev nD) (t : Fin cfg0.N) : (dats m 0 c).after 3 t = loAt m c t := by dsimp only [dats]
theorem after0_6 (c : Dev nD) (t : Fin cfg0.N) : (dats m 0 c).after 6 t = stAt m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, ∃ f, ⌜(ms0_2 t).view.read (Elt F) f = (dats m 0 c).before 2 t d⌝ ∗ (ms0_2 t).view.loc (c : Thread nD τ) ↦[(ms0_2 t).view.set]{fullShare} f)
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ owns (c : Thread nD τ) (ms0_6 t) fullShare ((dats m 0 c).after 6 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_6]
  rw [show (dats m 0 c).Φ t.castSucc = Pipeline.ΦA spec0 c from rfl, PhiA0_eq]
  iintro ⟨⟨⟨%ds0, %fs0, -, HS0⟩, Hg⟩, Ho, ⟨%d0, H0⟩, ⟨%d1, H1⟩, ⟨%d2, %f2, -, H2⟩, ⟨%d3, H3⟩, ⟨%d4, H4⟩, ⟨%d5, H5⟩, ⟨%d6, H6⟩⟩
  iapply ((kernelRun c (grid0.coords t) _ _ _ _ _ _ _ _ _ _ _ _ _ _ _ _ (iblk m c 0 t) (iblk m c 1 t) f2 fs0).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS0]; · iexact HS0
  iintro ⟨H0, H1, ⟨%e2, H2⟩, ⟨%e3, H3⟩, H4, H5, ⟨%e6, H6⟩, HS0⟩
  isplitl [HS0 Hg]
  · isplitl [HS0]
    · unfold owns; iexact HS0
    iexact Hg
  isplitl [Ho]; · iexact Ho
  isplitl [H0]; · iexact H0
  isplitl [H1]; · iexact H1
  isplitl [H2]
  · unfold owns; iexists _; isplitr
    swap; · iexact H2
    ipureintro; exact left2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) f2 fs0 e2
  isplitl [H3]
  · unfold owns; iexists _; isplitr
    swap; · iexact H3
    ipureintro; exact left3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) f2 fs0 e3
  isplitl [H4]; · iexact H4
  isplitl [H5]; · iexact H5
  unfold owns; iexists _; isplitr
  swap; · iexact H6
  ipureintro; exact left6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) f2 fs0 e6

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The whole program runs to its end; every array of the pipeline ends as the proof data say and no semaphore is raised. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged and no semaphore is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩) (run_main_quiescent m ρ)

set_option maxHeartbeats 800000 in
/-- The run, its three results named: each array ends at what the points write back. -/
theorem run : θ_run defs (onTc (τ := τ) (main (F := F))) ⟨m, fun _ => 0, ρ⟩ (fun r => ∀ c : Dev nD,
      (r.2.mem ((c.tc : Thread nD τ).loc (Pipeline.arrRef spec0 2)) = (dats m 0 c).arrAt 2 cfg0.N
      ∧ r.2.mem ((c.tc : Thread nD τ).loc (Pipeline.arrRef spec0 3)) = (dats m 0 c).arrAt 3 cfg0.N
      ∧ r.2.mem ((c.tc : Thread nD τ).loc (Pipeline.arrRef spec0 6)) = (dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨⟨((dats m 0 c).toRForget_arrAt_iff rfl _ _).mp ((h.1 c).1 2),
      ((dats m 0 c).toRForget_arrAt_iff rfl _ _).mp ((h.1 c).1 3),
      ((dats m 0 c).toRForget_arrAt_iff rfl _ _).mp ((h.1 c).1 6)⟩,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩) (run_main_quiescent m ρ)

end Cert.Quantise.Quant

end
-- ==== Proof.QLowI.lean ====
/- The third counted loop of the quantiser's body (the low codes): what one trip leaves, and the loop's invariant.
   The loop stores the packed words through a strided rectangle; what those stores leave is not named here (the
   packed words are no result of the claims), everything else is. -/
module

public import proofs.«01_k».proof.Proof.Gen.QuantiseIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 8192
set_option maxHeartbeats 4000000

noncomputable section

namespace Cert.QuantiseIdeal.Low

open Cert.QuantiseIdeal Cert.QuantiseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip touches: the high codes and the residual at their contents, the low codes at `f`, the packed words at
    anything. -/
abbrev Trip (c : Dev nD) (arg3 : Memref sig .tc .vmem S32x18944 .i8) (arg8 : Memref sig .tc .vmem S32x18944 .f32) (arg4 : Memref sig .tc .vmem S32x18944 .i8) (arg5 : Memref sig .tc .vmem S1280x128 .i32) (X_arg3 : BufTy.Contents (Elt F) arg3.view.ty) (X_arg8 : BufTy.Contents (Elt F) arg8.view.ty) (f : BufTy.Contents (Elt F) arg4.view.ty) : sProp 𝕄G :=
  iprop((arg3.view.loc (c : Thread nD τ) ↦[arg3.view.set]{fullShare} X_arg3) ∗ (arg8.view.loc (c : Thread nD τ) ↦[arg8.view.set]{fullShare} X_arg8) ∗ (arg4.view.loc (c : Thread nD τ) ↦[arg4.view.set]{fullShare} f) ∗ (∃ g, arg5.view.loc (c : Thread nD τ) ↦[arg5.view.set]{fullShare} g))

/-- One trip at a symbolic `k`: the sums it yields and the pieces it writes into the low codes, as functions of the sums
    it is given. -/
@[irreducible] def trip (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (k : Fin k0_t3_loop.trips) :
    Σ' (R : ((FVec F S32x128 .f32) → FVec F S32x128 .f32)), { L : ((FVec F S32x128 .f32) → List (View.Piece (Elt F) S32x18944 .i8)) // ∀ (E : Set ℕ) (acc : FVec F S32x128 .f32) (f : BufTy.Contents (Elt F) arg4.view.ty),
      Trip (F := F) c arg3 arg8 arg4 arg5 X_arg3 X_arg8 f
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 v16_0 k acc)
          (fun yld => iprop(⌜yld = R acc⌝ ∗ Trip (F := F) c arg3 arg8 arg4 arg5 X_arg3 X_arg8 (arg4.view.writes (Elt F) f (L acc)))) } := by
  have hk : k.val < 37 := Nat.lt_of_lt_of_le k.isLt k0_t3_abs.2.1
  refine ⟨?_, ?_, fun E acc f => ?run⟩
  case run =>
    unfold k0_t3_body
    iintro ⟨HR_arg3, HR_arg8, HW_arg4, ⟨%g, HW_arg5⟩⟩
    sl_exec
    sl_step
    sl_close

/-- The sums a trip yields. -/
abbrev tripR (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (k : Fin k0_t3_loop.trips) (acc : FVec F S32x128 .f32) : FVec F S32x128 .f32 :=
  (trip (F := F) 𝒱 c bd i arg1 harg1 arg2 harg2 arg3 harg3 arg4 harg4 arg5 harg5 arg6 harg6 arg7 harg7 arg8 harg8 v16_0 X_arg3 X_arg8 k).1 acc

/-- The pieces a trip writes into the low codes. -/
abbrev tripL (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (k : Fin k0_t3_loop.trips) (acc : FVec F S32x128 .f32) : List (View.Piece (Elt F) S32x18944 .i8) :=
  (trip (F := F) 𝒱 c bd i arg1 harg1 arg2 harg2 arg3 harg3 arg4 harg4 arg5 harg5 arg6 harg6 arg7 harg7 arg8 harg8 v16_0 X_arg3 X_arg8 k).2.1 acc

/-- The state one trip makes of the state before it. -/
@[irreducible] def step (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (k : ℕ) (prev : (FVec F S32x128 .f32) × List (View.Piece (Elt F) S32x18944 .i8)) : (FVec F S32x128 .f32) × List (View.Piece (Elt F) S32x18944 .i8) :=
  if h : k < k0_t3_loop.trips then
    (tripR (F := F) 𝒱 c bd i arg1 harg1 arg2 harg2 arg3 harg3 arg4 harg4 arg5 harg5 arg6 harg6 arg7 harg7 arg8 harg8 v16_0 X_arg3 X_arg8 ⟨k, h⟩ prev.1, tripL (F := F) 𝒱 c bd i arg1 harg1 arg2 harg2 arg3 harg3 arg4 harg4 arg5 harg5 arg6 harg6 arg7 harg7 arg8 harg8 v16_0 X_arg3 X_arg8 ⟨k, h⟩ prev.1 ++ prev.2)
  else prev

/-- The state before trip `k`: the sums so far, and the pieces written so far (last first). -/
def st (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (init : FVec F S32x128 .f32) : ℕ → (FVec F S32x128 .f32) × List (View.Piece (Elt F) S32x18944 .i8)
  | 0 => (init, [])
  | k + 1 => step 𝒱 c bd i arg1 harg1 arg2 harg2 arg3 harg3 arg4 harg4 arg5 harg5 arg6 harg6 arg7 harg7 arg8 harg8 v16_0 X_arg3 X_arg8 k (st 𝒱 c bd i arg1 harg1 arg2 harg2 arg3 harg3 arg4 harg4 arg5 harg5 arg6 harg6 arg7 harg7 arg8 harg8 v16_0 X_arg3 X_arg8 init k)

/-- The state after trip `k`. -/
theorem st_succ (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (init : FVec F S32x128 .f32) (k : Fin k0_t3_loop.trips) :
    st (F := F) 𝒱 c bd i arg1 harg1 arg2 harg2 arg3 harg3 arg4 harg4 arg5 harg5 arg6 harg6 arg7 harg7 arg8 harg8 v16_0 X_arg3 X_arg8 init (k.val + 1)
      = (tripR (F := F) 𝒱 c bd i arg1 harg1 arg2 harg2 arg3 harg3 arg4 harg4 arg5 harg5 arg6 harg6 arg7 harg7 arg8 harg8 v16_0 X_arg3 X_arg8 k (st (F := F) 𝒱 c bd i arg1 harg1 arg2 harg2 arg3 harg3 arg4 harg4 arg5 harg5 arg6 harg6 arg7 harg7 arg8 harg8 v16_0 X_arg3 X_arg8 init k.val).1, tripL (F := F) 𝒱 c bd i arg1 harg1 arg2 harg2 arg3 harg3 arg4 harg4 arg5 harg5 arg6 harg6 arg7 harg7 arg8 harg8 v16_0 X_arg3 X_arg8 k (st (F := F) 𝒱 c bd i arg1 harg1 arg2 harg2 arg3 harg3 arg4 harg4 arg5 harg5 arg6 harg6 arg7 harg7 arg8 harg8 v16_0 X_arg3 X_arg8 init k.val).1 ++ (st (F := F) 𝒱 c bd i arg1 harg1 arg2 harg2 arg3 harg3 arg4 harg4 arg5 harg5 arg6 harg6 arg7 harg7 arg8 harg8 v16_0 X_arg3 X_arg8 init k.val).2) := by
  rw [st.eq_2]; unfold step; exact dif_pos k.isLt

/-- What holds before trip `k`. -/
abbrev inv (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (G : BufTy.Contents (Elt F) arg4.view.ty) (init : FVec F S32x128 .f32) (k : ℕ) (acc : FVec F S32x128 .f32) : sProp 𝕄G :=
  iprop((arg3.view.loc (c : Thread nD τ) ↦[arg3.view.set]{fullShare} X_arg3) ∗ (arg8.view.loc (c : Thread nD τ) ↦[arg8.view.set]{fullShare} X_arg8) ∗ (∃ f, (arg4.view.loc (c : Thread nD τ) ↦[arg4.view.set]{fullShare} f) ∗ ⌜f = arg4.view.writes (Elt F) G (st (F := F) 𝒱 c bd i arg1 harg1 arg2 harg2 arg3 harg3 arg4 harg4 arg5 harg5 arg6 harg6 arg7 harg7 arg8 harg8 v16_0 X_arg3 X_arg8 init k).2⌝) ∗ (∃ g, arg5.view.loc (c : Thread nD τ) ↦[arg5.view.set]{fullShare} g) ∗ ⌜acc = (st (F := F) 𝒱 c bd i arg1 harg1 arg2 harg2 arg3 harg3 arg4 harg4 arg5 harg5 arg6 harg6 arg7 harg7 arg8 harg8 v16_0 X_arg3 X_arg8 init k).1⌝)

set_option warn.classDefReducibility false in
/-- The loop by its invariant. -/
@[sl_loop] def loopInv (𝒱 : Variants) (c : Dev nD) (bd : Option 𝒱.V) (E : Set ℕ) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (G : BufTy.Contents (Elt F) arg4.view.ty) (init : FVec F S32x128 .f32) :
    LoopInvTy_k0_t3 (F := F) Unit ℕ (UR sig nD τ) ℕ 𝒱 c bd E i arg1 harg1 arg2 harg2 arg3 harg3 arg4 harg4 arg5 harg5 arg6 harg6 arg7 harg7 arg8 harg8 v16_0 init where
  inv := inv (F := F) 𝒱 c bd i arg1 harg1 arg2 harg2 arg3 harg3 arg4 harg4 arg5 harg5 arg6 harg6 arg7 harg7 arg8 harg8 v16_0 X_arg3 X_arg8 G init
  step k acc := by
    iintro ⟨HR_arg3, HR_arg8, ⟨%f, HW_arg4, %h_f⟩, HW_arg5, %h_acc⟩
    subst h_acc
    iapply (wp_wand_r Idealize.ShloMosaic.frame (wpE (defs₀ (F := F)) 𝒱 (c : Thread nD τ) bd) E)
    isplitl [HR_arg3 HR_arg8 HW_arg4 HW_arg5]
    · iapply ((trip (F := F) 𝒱 c bd i arg1 harg1 arg2 harg2 arg3 harg3 arg4 harg4 arg5 harg5 arg6 harg6 arg7 harg7 arg8 harg8 v16_0 X_arg3 X_arg8 k).2.2 E (st (F := F) 𝒱 c bd i arg1 harg1 arg2 harg2 arg3 harg3 arg4 harg4 arg5 harg5 arg6 harg6 arg7 harg7 arg8 harg8 v16_0 X_arg3 X_arg8 init k).1 f)
      isplitl [HR_arg3]; · iexact HR_arg3
      isplitl [HR_arg8]; · iexact HR_arg8
      isplitl [HW_arg4]; · iexact HW_arg4
      iexact HW_arg5
    · iintro %yld ⟨%h_res, HR_arg3, HR_arg8, HW_arg4, HW_arg5⟩
      isplitl [HR_arg3]; · iexact HR_arg3
      isplitl [HR_arg8]; · iexact HR_arg8
      simp only [st_succ]
      isplitl [HW_arg4]
      · iexists _; isplitl [HW_arg4]; · iexact HW_arg4
        ipureintro; rw [h_f, ← View.writes_append]
      isplitl [HW_arg5]
      · iexact HW_arg5
      ipureintro; rw [h_res]

end Cert.QuantiseIdeal.Low

end
-- ==== Proof.QRunI.lean ====
/- The quantiser's body, run whole on any staging buffers: the pieces its stores leave in the high codes, the low codes and
   the row figures. The two arrays of packed words are left at contents nothing names. -/
module

public import proofs.«01_k».proof.Proof.QLowI
public import proofs.«01_k».proof.Proof.Gen.QuantiseIdeal.Frame

@[expose] public section

set_option maxRecDepth 16384

noncomputable section

namespace Cert.QuantiseIdeal.Quant

open Cert.QuantiseIdeal Cert.QuantiseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the high codes, the low codes and the row figures, the high codes' buffer and the
    residual's starting at `g2` and `gs`, with the proof that on whole staging
    buffers the body runs to its end and leaves them. -/
noncomputable def kernelRun (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)
    (x0 : Vec F S32x18944 .bf16) (x1 : Vec F S32x1792 .i8) (g2 : BufTy.Contents (Elt F) arg3.view.ty) (gs : BufTy.Contents (Elt F) arg8.view.ty) :
    Σ' (L2 : List (View.Piece (Elt F) S32x18944 .i8)), Σ' (L3 : List (View.Piece (Elt F) S32x18944 .i8)), { L6 : List (View.Piece (Elt F) S32x128 .f32) //
      ∀ (E : Set ℕ) (K : PUnit → sProp 𝕄),
        iprop(owns (c : Thread nD τ) arg1 fullShare x0 ∗ owns (c : Thread nD τ) arg2 fullShare x1 ∗ (arg3.view.loc (c : Thread nD τ) ↦[arg3.view.set]{fullShare} g2) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (arg8.view.loc (c : Thread nD τ) ↦[arg8.view.set]{fullShare} gs)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ d, owns (c : Thread nD τ) arg5 fullShare d) ∗ (∃ d, owns (c : Thread nD τ) arg6 fullShare d) ∗ (∃ f, arg7.view.loc (c : Thread nD τ) ↦[arg7.view.set]{fullShare} arg7.view.writes (Elt F) f L6) ∗ (∃ d, owns (c : Thread nD τ) arg8 fullShare d)) -∗ K ⟨⟩))
          ⊢ wp frame (wpE (defs₀ (F := F)) Variants.none c none) E (cc0_quantise i arg1 harg1 arg2 harg2 arg3 harg3 arg4 harg4 arg5 harg5 arg6 harg6 arg7 harg7 arg8 harg8) K } := by
  refine ⟨?_, ?_, ?_, fun E K => ?run⟩
  case run =>
    simp only [cc0_quantise_eq_skeleton]; unfold cc0_quantise_skel
    simp only [k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, H2, ⟨%d3, %f3, -, H3⟩, ⟨%d4, %f4, -, H4⟩, ⟨%d5, %f5, -, H5⟩, ⟨%d6, %f6, -, H6⟩, HS0, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _, _; isplitr; swap; · iexact H4
      ipureintro; rfl
    isplitl [H5]
    · iexists _, _; isplitr; swap; · iexact H5
      ipureintro; rfl
    isplitl [H6]; · iexists _; iexact H6
    iexists _, _; isplitr; swap; · iexact HS0
    ipureintro; rfl

end Cert.QuantiseIdeal.Quant

end
-- ==== Proof.QFrameI.lean ====
/- The quantiser's pipeline: what every grid point leaves, the body's obligation, the run of the whole program and its
   frame. -/
module

public import proofs.«01_k».proof.Proof.QRunI
public import Idealize.ShloMosaic.Lib.Claim

@[expose] public section

set_option maxRecDepth 16384

noncomputable section

namespace Cert.QuantiseIdeal.Quant

open Cert.QuantiseIdeal Cert.QuantiseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each window's current staging buffer at point `t`, and its wholeness. -/
abbrev ms0_0 (t : Fin cfg0.N) : Memref sig .tc .vmem S32x18944 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1792 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x18944 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x18944 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x128 .f32 := win0_6.stage (cfg0.slots t 6)
abbrev hs0_6 (t : Fin cfg0.N) : (ms0_6 t).IsWhole := hstage0_6 ((cfg0.slots t 6).cast nbuf0_6)
/-- The residual's scratch buffer. -/
abbrev scM0_0 : Memref sig .tc .vmem S32x18944 .f32 := Memref.whole cc0_scratch0

/-- The pipeline's invariant: the scratch buffer at some contents beside the generator register. -/
theorem PhiA0_eq (c : Dev nD) :
    (Pipeline.ΦA spec0 c : sProp 𝕄)
      = iprop(iprop((∃ d, ∃ f, ⌜scM0_0.view.read (Elt F) f = d⌝ ∗ scM0_0.view.loc (c : Thread nD τ) ↦[scM0_0.view.set]{fullShare} f)) ∗ (∃ r, prngReg c r)) := by
  show _ = iprop(iprop((∃ d, owns (c : Thread nD τ) scM0_0 fullShare d)) ∗ (∃ r, prngReg c r))
  unfold Pipeline.ΦA; rw [scopedRest0_eq]; simp only [scM0_0, owns_whole]; try rfl

/-- The row sums and pieces the second loop leaves, with the first loop's maximum. -/
abbrev mid (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) :=
  st_k0_t2 Variants.none c none i arg1 harg1 arg2 harg2 arg3 harg3 arg4 harg4 arg5 harg5 arg6 harg6 arg7 harg7 arg8 harg8
    (st_k0_t1 Variants.none c none i arg1 harg1 arg2 harg2 arg3 harg3 arg4 harg4 arg5 harg5 arg6 harg6 arg7 harg7 arg8 harg8 (harg1.unread x0) k0_pay46 (Scf.trips k0_t1_loop.lb k0_t1_loop.ub k0_t1_loop.st))
    (harg1.unread x0) (k0_pay45, k0_pay45) (Scf.trips k0_t2_loop.lb k0_t2_loop.ub k0_t2_loop.st)

/-- What the third loop leaves, run on any contents of the high codes and the residual. -/
abbrev fin (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16)
    (X3 : BufTy.Contents (Elt F) arg3.view.ty) (X8 : BufTy.Contents (Elt F) arg8.view.ty) :=
  Low.st Variants.none c none i arg1 harg1 arg2 harg2 arg3 harg3 arg4 harg4 arg5 harg5 arg6 harg6 arg7 harg7 arg8 harg8 (mid c i arg1 harg1 arg2 harg2 arg3 harg3 arg4 harg4 arg5 harg5 arg6 harg6 arg7 harg7 arg8 harg8 x0).1.1 X3 X8 k0_pay45 (Scf.trips k0_t3_loop.lb k0_t3_loop.ub k0_t3_loop.st)

/-- The second loop's pieces cover the high codes' block. -/
theorem midCover3 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (y : S32x18944.Idx) :
    ∃ pc ∈ (mid c i arg1 harg1 arg2 harg2 arg3 harg3 arg4 harg4 arg5 harg5 arg6 harg6 arg7 harg7 arg8 harg8 x0).2.1, y ∈ pc.1.set :=
  View.cover_of_tiledL (mid c i arg1 harg1 arg2 harg2 arg3 harg3 arg4 harg4 arg5 harg5 arg6 harg6 arg7 harg7 arg8 harg8 x0).2.1 S32x128.size (by sl_kernel_rfl) y

/-- The second loop's pieces cover the residual's block. -/
theorem midCover8 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (y : S32x18944.Idx) :
    ∃ pc ∈ (mid c i arg1 harg1 arg2 harg2 arg3 harg3 arg4 harg4 arg5 harg5 arg6 harg6 arg7 harg7 arg8 harg8 x0).2.2, y ∈ pc.1.set :=
  View.cover_of_tiledL (mid c i arg1 harg1 arg2 harg2 arg3 harg3 arg4 harg4 arg5 harg5 arg6 harg6 arg7 harg7 arg8 harg8 x0).2.2 S32x128.size (by sl_kernel_rfl) y

/-- What the high codes hold after the second loop does not depend on what they held before it. -/
theorem mid3 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (g g' : BufTy.Contents (Elt F) arg3.view.ty) :
    arg3.view.writes (Elt F) g (mid c i arg1 harg1 arg2 harg2 arg3 harg3 arg4 harg4 arg5 harg5 arg6 harg6 arg7 harg7 arg8 harg8 x0).2.1 = arg3.view.writes (Elt F) g' (mid c i arg1 harg1 arg2 harg2 arg3 harg3 arg4 harg4 arg5 harg5 arg6 harg6 arg7 harg7 arg8 harg8 x0).2.1 :=
  (harg3.eq_unread (View.read_writes_of_cover _ _ _ _ _ (midCover3 c i arg1 harg1 arg2 harg2 arg3 harg3 arg4 harg4 arg5 harg5 arg6 harg6 arg7 harg7 arg8 harg8 x0))).trans (harg3.eq_unread rfl).symm

/-- What the residual holds after the second loop does not depend on what it held before it. -/
theorem mid8 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (g g' : BufTy.Contents (Elt F) arg8.view.ty) :
    arg8.view.writes (Elt F) g (mid c i arg1 harg1 arg2 harg2 arg3 harg3 arg4 harg4 arg5 harg5 arg6 harg6 arg7 harg7 arg8 harg8 x0).2.2 = arg8.view.writes (Elt F) g' (mid c i arg1 harg1 arg2 harg2 arg3 harg3 arg4 harg4 arg5 harg5 arg6 harg6 arg7 harg7 arg8 harg8 x0).2.2 :=
  (harg8.eq_unread (View.read_writes_of_cover _ _ _ _ _ (midCover8 c i arg1 harg1 arg2 harg2 arg3 harg3 arg4 harg4 arg5 harg5 arg6 harg6 arg7 harg7 arg8 harg8 x0))).trans (harg8.eq_unread rfl).symm

/-- The low codes' pieces are the third loop's. -/
theorem run3 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (x1 : Vec F S32x1792 .i8) (g2 : BufTy.Contents (Elt F) arg3.view.ty) (gs : BufTy.Contents (Elt F) arg8.view.ty) :
    (kernelRun c i arg1 harg1 arg2 harg2 arg3 harg3 arg4 harg4 arg5 harg5 arg6 harg6 arg7 harg7 arg8 harg8 x0 x1 g2 gs).2.1
      = (fin c i arg1 harg1 arg2 harg2 arg3 harg3 arg4 harg4 arg5 harg5 arg6 harg6 arg7 harg7 arg8 harg8 x0 (arg3.view.writes (Elt F) g2 (mid c i arg1 harg1 arg2 harg2 arg3 harg3 arg4 harg4 arg5 harg5 arg6 harg6 arg7 harg7 arg8 harg8 x0).2.1) (arg8.view.writes (Elt F) gs (mid c i arg1 harg1 arg2 harg2 arg3 harg3 arg4 harg4 arg5 harg5 arg6 harg6 arg7 harg7 arg8 harg8 x0).2.2)).2 := rfl

/-- The high codes' pieces are the second loop's. -/
theorem run2 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (x1 : Vec F S32x1792 .i8) (g2 : BufTy.Contents (Elt F) arg3.view.ty) (gs : BufTy.Contents (Elt F) arg8.view.ty) :
    (kernelRun c i arg1 harg1 arg2 harg2 arg3 harg3 arg4 harg4 arg5 harg5 arg6 harg6 arg7 harg7 arg8 harg8 x0 x1 g2 gs).1 = (mid c i arg1 harg1 arg2 harg2 arg3 harg3 arg4 harg4 arg5 harg5 arg6 harg6 arg7 harg7 arg8 harg8 x0).2.1 := rfl

/-- The row figures are one piece, of the loops' results. -/
theorem run6 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (x1 : Vec F S32x1792 .i8) (g2 : BufTy.Contents (Elt F) arg3.view.ty) (gs : BufTy.Contents (Elt F) arg8.view.ty) :
    (kernelRun c i arg1 harg1 arg2 harg2 arg3 harg3 arg4 harg4 arg5 harg5 arg6 harg6 arg7 harg7 arg8 harg8 x0 x1 g2 gs).2.2.1
      = [⟨Rect.unit ![0, 0] ![32, 128] inb_S32x128_S32x128_0_0,
          k0_pay1 k0_pay45 (kernelRun.sl.r c i arg1 harg1 arg2 harg2 arg3 harg3 arg4 harg4 arg5 harg5 arg6 harg6 arg7 harg7 arg8 harg8 x0) (kernelRun.sl.r_1 c i arg1 harg1 arg2 harg2 arg3 harg3 arg4 harg4 arg5 harg5 arg6 harg6 arg7 harg7 arg8 harg8 x0) (kernelRun.sl.r_2 c i arg1 harg1 arg2 harg2 arg3 harg3 arg4 harg4 arg5 harg5 arg6 harg6 arg7 harg7 arg8 harg8 x0)
            (fin c i arg1 harg1 arg2 harg2 arg3 harg3 arg4 harg4 arg5 harg5 arg6 harg6 arg7 harg7 arg8 harg8 x0 (arg3.view.writes (Elt F) g2 (mid c i arg1 harg1 arg2 harg2 arg3 harg3 arg4 harg4 arg5 harg5 arg6 harg6 arg7 harg7 arg8 harg8 x0).2.1) (arg8.view.writes (Elt F) gs (mid c i arg1 harg1 arg2 harg2 arg3 harg3 arg4 harg4 arg5 harg5 arg6 harg6 arg7 harg7 arg8 harg8 x0).2.2)).1
            (kernelRun.sl.r_27 c arg2 harg2 x1)⟩] := rfl

/-- The low codes' pieces do not depend on what the buffers held. -/
theorem indep3 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (x1 : Vec F S32x1792 .i8) (g2 g2' : BufTy.Contents (Elt F) arg3.view.ty) (gs gs' : BufTy.Contents (Elt F) arg8.view.ty) :
    (kernelRun c i arg1 harg1 arg2 harg2 arg3 harg3 arg4 harg4 arg5 harg5 arg6 harg6 arg7 harg7 arg8 harg8 x0 x1 g2 gs).2.1 = (kernelRun c i arg1 harg1 arg2 harg2 arg3 harg3 arg4 harg4 arg5 harg5 arg6 harg6 arg7 harg7 arg8 harg8 x0 x1 g2' gs').2.1 := by
  rw [run3, run3, mid3 c i arg1 harg1 arg2 harg2 arg3 harg3 arg4 harg4 arg5 harg5 arg6 harg6 arg7 harg7 arg8 harg8 x0 g2 g2', mid8 c i arg1 harg1 arg2 harg2 arg3 harg3 arg4 harg4 arg5 harg5 arg6 harg6 arg7 harg7 arg8 harg8 x0 gs gs']

/-- The row figures' piece does not depend on what the buffers held. -/
theorem indep6 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (x1 : Vec F S32x1792 .i8) (g2 g2' : BufTy.Contents (Elt F) arg3.view.ty) (gs gs' : BufTy.Contents (Elt F) arg8.view.ty) :
    (kernelRun c i arg1 harg1 arg2 harg2 arg3 harg3 arg4 harg4 arg5 harg5 arg6 harg6 arg7 harg7 arg8 harg8 x0 x1 g2 gs).2.2.1 = (kernelRun c i arg1 harg1 arg2 harg2 arg3 harg3 arg4 harg4 arg5 harg5 arg6 harg6 arg7 harg7 arg8 harg8 x0 x1 g2' gs').2.2.1 := by
  rw [run6, run6, mid3 c i arg1 harg1 arg2 harg2 arg3 harg3 arg4 harg4 arg5 harg5 arg6 harg6 arg7 harg7 arg8 harg8 x0 g2 g2', mid8 c i arg1 harg1 arg2 harg2 arg3 harg3 arg4 harg4 arg5 harg5 arg6 harg6 arg7 harg7 arg8 harg8 x0 gs gs']

/-- The run's pieces for the high codes cover their block. -/
theorem cover2 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)
    (x0 : Vec F S32x18944 .bf16) (x1 : Vec F S32x1792 .i8) (g2 : BufTy.Contents (Elt F) arg3.view.ty) (gs : BufTy.Contents (Elt F) arg8.view.ty) (y : S32x18944.Idx) :
    ∃ pc ∈ (kernelRun c i arg1 harg1 arg2 harg2 arg3 harg3 arg4 harg4 arg5 harg5 arg6 harg6 arg7 harg7 arg8 harg8 x0 x1 g2 gs).1, y ∈ pc.1.set :=
  View.cover_of_tiledL (kernelRun c i arg1 harg1 arg2 harg2 arg3 harg3 arg4 harg4 arg5 harg5 arg6 harg6 arg7 harg7 arg8 harg8 x0 x1 g2 gs).1 S32x128.size (by sl_kernel_rfl) y

/-- One staging buffer, through which the high codes are stated. -/
abbrev VO2 : View sig .tc .vmem S32x18944 .i8 := (Memref.whole cc0_stg2_0 : Memref sig .tc .vmem S32x18944 .i8).view

/-- What the run leaves of the high codes. -/
def out2 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)
    (x0 : Vec F S32x18944 .bf16) (x1 : Vec F S32x1792 .i8) : Vec F S32x18944 .i8 :=
  VO2.read (Elt F) (VO2.writes (Elt F) VO2.junk (kernelRun c i arg1 harg1 arg2 harg2 arg3 harg3 arg4 harg4 arg5 harg5 arg6 harg6 arg7 harg7 arg8 harg8 x0 x1 arg3.view.junk arg8.view.junk).1)

/-- The run's pieces for the low codes cover their block. -/
theorem cover3 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)
    (x0 : Vec F S32x18944 .bf16) (x1 : Vec F S32x1792 .i8) (g2 : BufTy.Contents (Elt F) arg3.view.ty) (gs : BufTy.Contents (Elt F) arg8.view.ty) (y : S32x18944.Idx) :
    ∃ pc ∈ (kernelRun c i arg1 harg1 arg2 harg2 arg3 harg3 arg4 harg4 arg5 harg5 arg6 harg6 arg7 harg7 arg8 harg8 x0 x1 g2 gs).2.1, y ∈ pc.1.set :=
  View.cover_of_tiledL (kernelRun c i arg1 harg1 arg2 harg2 arg3 harg3 arg4 harg4 arg5 harg5 arg6 harg6 arg7 harg7 arg8 harg8 x0 x1 g2 gs).2.1 S32x128.size (by sl_kernel_rfl) y

/-- One staging buffer, through which the low codes are stated. -/
abbrev VO3 : View sig .tc .vmem S32x18944 .i8 := (Memref.whole cc0_stg3_0 : Memref sig .tc .vmem S32x18944 .i8).view

/-- What the run leaves of the low codes. -/
def out3 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)
    (x0 : Vec F S32x18944 .bf16) (x1 : Vec F S32x1792 .i8) : Vec F S32x18944 .i8 :=
  VO3.read (Elt F) (VO3.writes (Elt F) VO3.junk (kernelRun c i arg1 harg1 arg2 harg2 arg3 harg3 arg4 harg4 arg5 harg5 arg6 harg6 arg7 harg7 arg8 harg8 x0 x1 arg3.view.junk arg8.view.junk).2.1)

/-- The run's pieces for the row figures cover their block. -/
theorem cover6 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)
    (x0 : Vec F S32x18944 .bf16) (x1 : Vec F S32x1792 .i8) (g2 : BufTy.Contents (Elt F) arg3.view.ty) (gs : BufTy.Contents (Elt F) arg8.view.ty) (y : S32x128.Idx) :
    ∃ pc ∈ (kernelRun c i arg1 harg1 arg2 harg2 arg3 harg3 arg4 harg4 arg5 harg5 arg6 harg6 arg7 harg7 arg8 harg8 x0 x1 g2 gs).2.2.1, y ∈ pc.1.set :=
  View.cover_of_tiledL (kernelRun c i arg1 harg1 arg2 harg2 arg3 harg3 arg4 harg4 arg5 harg5 arg6 harg6 arg7 harg7 arg8 harg8 x0 x1 g2 gs).2.2.1 S32x128.size (by sl_kernel_rfl) y

/-- One staging buffer, through which the row figures are stated. -/
abbrev VO6 : View sig .tc .vmem S32x128 .f32 := (Memref.whole cc0_stg6_0 : Memref sig .tc .vmem S32x128 .f32).view

/-- What the run leaves of the row figures. -/
def out6 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)
    (x0 : Vec F S32x18944 .bf16) (x1 : Vec F S32x1792 .i8) : Vec F S32x128 .f32 :=
  VO6.read (Elt F) (VO6.writes (Elt F) VO6.junk (kernelRun c i arg1 harg1 arg2 harg2 arg3 harg3 arg4 harg4 arg5 harg5 arg6 harg6 arg7 harg7 arg8 harg8 x0 x1 arg3.view.junk arg8.view.junk).2.2.1)

/-- Whatever the buffers held, the run leaves `out2` of the high codes. -/
theorem left2 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (x1 : Vec F S32x1792 .i8) (g2 : BufTy.Contents (Elt F) arg3.view.ty) (gs : BufTy.Contents (Elt F) arg8.view.ty) (e : BufTy.Contents (Elt F) arg3.view.ty) :
    arg3.view.read (Elt F) (arg3.view.writes (Elt F) e (kernelRun c i arg1 harg1 arg2 harg2 arg3 harg3 arg4 harg4 arg5 harg5 arg6 harg6 arg7 harg7 arg8 harg8 x0 x1 g2 gs).1) = out2 c i arg1 harg1 arg2 harg2 arg3 harg3 arg4 harg4 arg5 harg5 arg6 harg6 arg7 harg7 arg8 harg8 x0 x1 :=
  View.read_writes_of_cover _ _ _ _ _ (cover2 c i arg1 harg1 arg2 harg2 arg3 harg3 arg4 harg4 arg5 harg5 arg6 harg6 arg7 harg7 arg8 harg8 x0 x1 g2 gs)

/-- Whatever the buffers held, the run leaves `out3` of the low codes. -/
theorem left3 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (x1 : Vec F S32x1792 .i8) (g2 : BufTy.Contents (Elt F) arg3.view.ty) (gs : BufTy.Contents (Elt F) arg8.view.ty) (e : BufTy.Contents (Elt F) arg4.view.ty) :
    arg4.view.read (Elt F) (arg4.view.writes (Elt F) e (kernelRun c i arg1 harg1 arg2 harg2 arg3 harg3 arg4 harg4 arg5 harg5 arg6 harg6 arg7 harg7 arg8 harg8 x0 x1 g2 gs).2.1) = out3 c i arg1 harg1 arg2 harg2 arg3 harg3 arg4 harg4 arg5 harg5 arg6 harg6 arg7 harg7 arg8 harg8 x0 x1 :=
  (congrArg (fun L => arg4.view.read (Elt F) (arg4.view.writes (Elt F) e L)) (indep3 c i arg1 harg1 arg2 harg2 arg3 harg3 arg4 harg4 arg5 harg5 arg6 harg6 arg7 harg7 arg8 harg8 x0 x1 g2 arg3.view.junk gs arg8.view.junk)).trans
    (View.read_writes_of_cover _ _ _ _ _ (cover3 c i arg1 harg1 arg2 harg2 arg3 harg3 arg4 harg4 arg5 harg5 arg6 harg6 arg7 harg7 arg8 harg8 x0 x1 arg3.view.junk arg8.view.junk))

/-- Whatever the buffers held, the run leaves `out6` of the row figures. -/
theorem left6 (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (x0 : Vec F S32x18944 .bf16) (x1 : Vec F S32x1792 .i8) (g2 : BufTy.Contents (Elt F) arg3.view.ty) (gs : BufTy.Contents (Elt F) arg8.view.ty) (e : BufTy.Contents (Elt F) arg7.view.ty) :
    arg7.view.read (Elt F) (arg7.view.writes (Elt F) e (kernelRun c i arg1 harg1 arg2 harg2 arg3 harg3 arg4 harg4 arg5 harg5 arg6 harg6 arg7 harg7 arg8 harg8 x0 x1 g2 gs).2.2.1) = out6 c i arg1 harg1 arg2 harg2 arg3 harg3 arg4 harg4 arg5 harg5 arg6 harg6 arg7 harg7 arg8 harg8 x0 x1 :=
  (congrArg (fun L => arg7.view.read (Elt F) (arg7.view.writes (Elt F) e L)) (indep6 c i arg1 harg1 arg2 harg2 arg3 harg3 arg4 harg4 arg5 harg5 arg6 harg6 arg7 harg7 arg8 harg8 x0 x1 g2 arg3.view.junk gs arg8.view.junk)).trans
    (View.read_writes_of_cover _ _ _ _ _ (cover6 c i arg1 harg1 arg2 harg2 arg3 harg3 arg4 harg4 arg5 harg5 arg6 harg6 arg7 harg7 arg8 harg8 x0 x1 arg3.view.junk arg8.view.junk))

variable (m : (ℓ : Loc nD τ sig) → Buf (Elt F) ℓ) (ρ : Dev nD → PrngReg)

/-- What the body leaves in the high codes' staging buffer at point `t`. -/
def hiAt (c : Dev nD) (t : Fin cfg0.N) : Vec F S32x18944 .i8 := out2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t)
/-- What the body leaves in the low codes' staging buffer at point `t`. -/
def loAt (c : Dev nD) (t : Fin cfg0.N) : Vec F S32x18944 .i8 := out3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t)
/-- What the body leaves in the row figures' staging buffer at point `t`. -/
def stAt (c : Dev nD) (t : Fin cfg0.N) : Vec F S32x128 .f32 := out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t)

/-- The two windows of packed words, of which nothing is named. -/
def forgets : Fin 7 → Bool := fun w => w.val == 4 || w.val == 5

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => hiAt m c t
    | ⟨3, _⟩ => loAt m c t
    | ⟨4, h⟩ => Pipeline.Dat.unnamed (cfg := cfg0) ⟨4, h⟩ t
    | ⟨5, h⟩ => Pipeline.Dat.unnamed (cfg := cfg0) ⟨5, h⟩ t
    | ⟨6, _⟩ => stAt m c t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = hiAt m c t := by dsimp only [dats]
theorem after0_3 (c : Dev nD) (t : Fin cfg0.N) : (dats m 0 c).after 3 t = loAt m c t := by dsimp only [dats]
theorem after0_6 (c : Dev nD) (t : Fin cfg0.N) : (dats m 0 c).after 6 t = stAt m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, ∃ f, ⌜(ms0_2 t).view.read (Elt F) f = (dats m 0 c).before 2 t d⌝ ∗ (ms0_2 t).view.loc (c : Thread nD τ) ↦[(ms0_2 t).view.set]{fullShare} f)
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ owns (c : Thread nD τ) (ms0_6 t) fullShare ((dats m 0 c).after 6 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_6]
  rw [show (dats m 0 c).Φ t.castSucc = Pipeline.ΦA spec0 c from rfl, PhiA0_eq]
  iintro ⟨⟨⟨%ds0, %fs0, -, HS0⟩, Hg⟩, Ho, ⟨%d0, H0⟩, ⟨%d1, H1⟩, ⟨%d2, %f2, -, H2⟩, ⟨%d3, H3⟩, ⟨%d4, H4⟩, ⟨%d5, H5⟩, ⟨%d6, H6⟩⟩
  iapply ((kernelRun c (grid0.coords t) _ _ _ _ _ _ _ _ _ _ _ _ _ _ _ _ (iblk m c 0 t) (iblk m c 1 t) f2 fs0).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS0]; · iexact HS0
  iintro ⟨H0, H1, ⟨%e2, H2⟩, ⟨%e3, H3⟩, H4, H5, ⟨%e6, H6⟩, HS0⟩
  isplitl [HS0 Hg]
  · isplitl [HS0]
    · unfold owns; iexact HS0
    iexact Hg
  isplitl [Ho]; · iexact Ho
  isplitl [H0]; · iexact H0
  isplitl [H1]; · iexact H1
  isplitl [H2]
  · unfold owns; iexists _; isplitr
    swap; · iexact H2
    ipureintro; exact left2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) f2 fs0 e2
  isplitl [H3]
  · unfold owns; iexists _; isplitr
    swap; · iexact H3
    ipureintro; exact left3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) f2 fs0 e3
  isplitl [H4]; · iexact H4
  isplitl [H5]; · iexact H5
  unfold owns; iexists _; isplitr
  swap; · iexact H6
  ipureintro; exact left6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) f2 fs0 e6

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The whole program runs to its end; every array of the pipeline ends as the proof data say and no semaphore is raised. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged and no semaphore is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩) (run_main_quiescent m ρ)

set_option maxHeartbeats 800000 in
/-- The run, its three results named: each array ends at what the points write back. -/
theorem run : θ_run defs (onTc (τ := τ) (main (F := F))) ⟨m, fun _ => 0, ρ⟩ (fun r => ∀ c : Dev nD,
      (r.2.mem ((c.tc : Thread nD τ).loc (Pipeline.arrRef spec0 2)) = (dats m 0 c).arrAt 2 cfg0.N
      ∧ r.2.mem ((c.tc : Thread nD τ).loc (Pipeline.arrRef spec0 3)) = (dats m 0 c).arrAt 3 cfg0.N
      ∧ r.2.mem ((c.tc : Thread nD τ).loc (Pipeline.arrRef spec0 6)) = (dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨⟨((dats m 0 c).toRForget_arrAt_iff rfl _ _).mp ((h.1 c).1 2),
      ((dats m 0 c).toRForget_arrAt_iff rfl _ _).mp ((h.1 c).1 3),
      ((dats m 0 c).toRForget_arrAt_iff rfl _ _).mp ((h.1 c).1 6)⟩,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩) (run_main_quiescent m ρ)

end Cert.QuantiseIdeal.Quant

end
-- ==== Proof.QSpec.lean ====
module

public import Idealize.ShloMosaic.PureOps.Ideal
public import Idealize.ShloMosaic.Lib.Pointwise.Index

@[expose] public section

noncomputable section

/-! The two-level 4-bit quantiser of one row, as plain mathematics over the extended reals: what the kernel and the
    reference both compute. -/

namespace Cert.Quant

open Idealize.ShloMosaic
open scoped BigOperators

/-- The magnitude of a number. -/
def mag (x : EReal) : EReal := max x (-x)

/-- The greatest magnitude of a row. -/
def amax {n : ℕ} (v : Fin n → EReal) : EReal := (Finset.univ : Finset (Fin n)).fold max ⊥ fun o => mag (v o)

/-- A row's scale, from its greatest magnitude: a seventh of it, or one when it is zero. -/
def scale (a : EReal) : EReal := if a = 0 then 1 else Ideal.div a ((7 : ℝ) : EReal)

/-- The code of a number at a scale, as a number: the quotient rounded to the nearest integer, clipped to `-7 … 7`. -/
def code (v s : EReal) : EReal :=
  min ((7 : ℝ) : EReal) (max ((-7 : ℝ) : EReal) (Ideal.liftRound Ideal.roundHalfEven (Ideal.div v s)))

/-- The code as eight bits. -/
def bits (v s : EReal) : BitVec 8 := Ideal.fptosi 8 (code v s)

/-- The first scale of a row. -/
def sHi {n : ℕ} (v : Fin n → EReal) : EReal := scale (amax v)
/-- What the first codes leave of a row. -/
def rest {n : ℕ} (v : Fin n → EReal) (o : Fin n) : EReal := v o - code (v o) (sHi v) * sHi v
/-- The second scale of a row: the scale of what the first codes leave. -/
def sLo {n : ℕ} (v : Fin n → EReal) : EReal := scale (amax (rest v))
/-- The sum of the squares of the codes of a row at a scale. -/
def sqSum {n : ℕ} (v : Fin n → EReal) (s : EReal) : EReal := ∑ o, code (v o) s * code (v o) s

/-- The low four bits of a packed byte, in two's complement. -/
def low (b : BitVec 8) : Int := (b.setWidth 4).toInt
/-- The high four bits of a packed byte, in two's complement. -/
def high (b : BitVec 8) : Int := ((b >>> 4).setWidth 4).toInt
/-- The sum of the squares of a row of packed integers. -/
def sqX {n : ℕ} (x : Fin n → BitVec 8) : EReal :=
  ∑ i, (((low (x i) * low (x i) + high (x i) * high (x i) : ℤ) : ℝ) : EReal)

/-- The row figures: the two scales, the three sums of squares, then zeros. -/
def stat (v : Fin 18944 → EReal) (x : Fin 1792 → BitVec 8) (k : Fin 128) : EReal :=
  if k.val = 0 then sHi v
  else if k.val = 1 then sLo v
  else if k.val = 2 then sqSum v (sHi v)
  else if k.val = 3 then sqSum (rest v) (sLo v)
  else if k.val = 4 then sqX x
  else 0

/-- The greater of two reals, as an extended real. -/
theorem coe_max (a b : ℝ) : ((max a b : ℝ) : EReal) = max (a : EReal) (b : EReal) := EReal.coe_strictMono.monotone.map_max
/-- The lesser of two reals, as an extended real. -/
theorem coe_min (a b : ℝ) : ((min a b : ℝ) : EReal) = min (a : EReal) (b : EReal) := EReal.coe_strictMono.monotone.map_min

/-- A code is an integer from -7 to 7. -/
theorem code_int (v s : EReal) : ∃ n : ℤ, -7 ≤ n ∧ n ≤ 7 ∧ code v s = ((n : ℝ) : EReal) := by
  unfold code
  generalize Ideal.div v s = x
  induction x using EReal.rec with
  | bot =>
    refine ⟨-7, by norm_num, by norm_num, ?_⟩
    change min ((7 : ℝ) : EReal) (max ((-7 : ℝ) : EReal) ⊥) = _
    rw [max_eq_left bot_le, ← coe_min]
    norm_num
  | top =>
    refine ⟨7, by norm_num, by norm_num, ?_⟩
    change min ((7 : ℝ) : EReal) (max ((-7 : ℝ) : EReal) ⊤) = _
    rw [max_eq_right le_top, min_eq_left le_top]
    norm_num
  | coe r =>
    refine ⟨min 7 (max (-7) (Ideal.roundHalfEven r)), by omega, by omega, ?_⟩
    change min ((7 : ℝ) : EReal) (max ((-7 : ℝ) : EReal) (((Ideal.roundHalfEven r : ℤ) : ℝ) : EReal)) = _
    rw [← coe_max, ← coe_min]
    push_cast
    rfl

/-- An integer from -7 to 7 as eight bits. -/
theorem fptosi8_int (n : ℤ) (h1 : -7 ≤ n) (h2 : n ≤ 7) : Ideal.fptosi 8 ((n : ℝ) : EReal) = BitVec.ofInt 8 n := by
  unfold Ideal.fptosi
  refine congrArg (BitVec.ofInt 8) ?_
  change max _ (min _ (if (0 : ℝ) ≤ (n : ℝ) then ⌊(n : ℝ)⌋ else ⌈(n : ℝ)⌉)) = n
  rw [Int.floor_intCast, Int.ceil_intCast, ite_self]
  norm_num
  omega

/-- An integer from -7 to 7 as thirty-two bits. -/
theorem fptosi32_int (n : ℤ) (h1 : -7 ≤ n) (h2 : n ≤ 7) : Ideal.fptosi 32 ((n : ℝ) : EReal) = BitVec.ofInt 32 n := by
  unfold Ideal.fptosi
  refine congrArg (BitVec.ofInt 32) ?_
  change max _ (min _ (if (0 : ℝ) ≤ (n : ℝ) then ⌊(n : ℝ)⌋ else ⌈(n : ℝ)⌉)) = n
  rw [Int.floor_intCast, Int.ceil_intCast, ite_self]
  norm_num
  omega

/-- The eight bits of a code are the low eight of its thirty-two. -/
theorem bits_eq (v s : EReal) : BitVec.setWidth 8 (Ideal.fptosi 32 (code v s)) = bits v s := by
  unfold bits
  obtain ⟨n, h1, h2, h⟩ := code_int v s
  rw [h, fptosi8_int n h1 h2, fptosi32_int n h1 h2]
  interval_cases n <;> decide

/-- The eight bits of a code, read signed and widened, are the code. -/
theorem bits_toInt (v s : EReal) : ((((bits v s).signExtend 32).toInt : ℝ) : EReal) = code v s := by
  unfold bits
  obtain ⟨n, h1, h2, h⟩ := code_int v s
  rw [h, fptosi8_int n h1 h2]
  refine congrArg (fun k : ℤ => ((k : ℝ) : EReal)) ?_
  interval_cases n <;> decide

/-- A magnitude is not negative. -/
theorem mag_nonneg (x : EReal) : 0 ≤ mag x := by
  unfold mag
  rcases le_total 0 x with h | h
  · exact h.trans (le_max_left _ _)
  · exact (EReal.neg_nonneg.mpr h).trans (le_max_right _ _)

/-- A greatest magnitude is below what every magnitude is below. -/
theorem amax_le {n : ℕ} (v : Fin n → EReal) (x : EReal) : amax v ≤ x ↔ ∀ o, mag (v o) ≤ x := by
  unfold amax
  rw [Finset.fold_max_le]
  simp

end Cert.Quant
end
-- ==== Proof.QRow.lean ====
module

public import proofs.«01_k».proof.Proof.QSpec
public import Idealize.ShloMosaic.Lib.Pipeline.Value
public import Idealize.ShloMosaic.Lib.Pointwise

@[expose] public section

noncomputable section

/-! The reductions along a row, at any number of rows and columns, as plain maxima and sums. -/

namespace Cert.Quant

open Idealize.ShloMosaic
open scoped BigOperators

/-- The word of negative infinity denotes it. -/
theorem ofBits_bot : Ideal.ofBits FTy.f32 0xFF800000#32 = ⊥ := by
  simp [Ideal.ofBits, Ideal.ieee]

/-- A row maximum from negative infinity, by the host. -/
theorem reduce_max {n0 n1 : ℕ} {u : Shape} (v : FVec Ideal ⟨2, ![n0, n1]⟩ .f32) (h : (⟨2, ![n0, n1]⟩ : Shape).ReducesTo [1] ⟨1, ![n0]⟩) (hu : 0 < u.numel) (r : Fin n0) :
    Host.reduce FloatOps.maximumf v (constant u .f32 0xFF800000#32) h hu (ix1 r) = (Finset.univ : Finset (Fin n1)).fold max ⊥ fun o => v (ix2 r o) := by
  pointwise
  rw [ofBits_bot]

/-- A row maximum from negative infinity, in a kernel. -/
theorem multi_max {n0 n1 : ℕ} (v : FVec Ideal ⟨2, ![n0, n1]⟩ .f32) (h : (⟨2, ![n0, n1]⟩ : Shape).Reduces [1] ⟨1, ![n0]⟩) (hφ : FKind.Formats FTy.f32) (hacc : 0xFF800000#32 = FKind.maximumf.neutral FTy.f32 hφ) (r : Fin n0) :
    multiReduction .maximumf [1] ⟨1, ![n0]⟩ v 0xFF800000#32 h hφ hacc (ix1 r) = (Finset.univ : Finset (Fin n1)).fold max ⊥ fun o => v (ix2 r o) := by
  pointwise
  rw [ofBits_bot]

/-- A row sum from zero, by the host. -/
theorem reduce_add {n0 n1 : ℕ} {u : Shape} (v : FVec Ideal ⟨2, ![n0, n1]⟩ .f32) (h : (⟨2, ![n0, n1]⟩ : Shape).ReducesTo [1] ⟨1, ![n0]⟩) (hu : 0 < u.numel) (r : Fin n0) :
    Host.reduceAdd v (constant u .f32 0x00000000#32) h hu (ix1 r) = ∑ o : Fin n1, v (ix2 r o) := by
  pointwise

/-- A row sum, in a kernel. -/
theorem multi_add {n0 n1 : ℕ} (v : FVec Ideal ⟨2, ![n0, n1]⟩ .f32) (h : (⟨2, ![n0, n1]⟩ : Shape).Reduces [1] ⟨1, ![n0]⟩) (hφ : FKind.Formats FTy.f32) (hacc : 0x00000000#32 = FKind.add.neutral FTy.f32 hφ) (r : Fin n0) :
    multiReduction .add [1] ⟨1, ![n0]⟩ v 0x00000000#32 h hφ hacc (ix1 r) = ∑ o : Fin n1, v (ix2 r o) := by
  pointwise

/-- The word of seven denotes it. -/
theorem ofBits_seven : Ideal.ofBits FTy.f32 0x40E00000#32 = ((7 : ℝ) : EReal) := by
  simp [Ideal.ofBits, Ideal.ieee]
  norm_num
  rw [← EReal.coe_mul]
  norm_num
/-- The word of minus seven denotes it. -/
theorem ofBits_neg_seven : Ideal.ofBits FTy.f32 0xC0E00000#32 = ((-7 : ℝ) : EReal) := by
  simp [Ideal.ofBits, Ideal.ieee]
  norm_num
  rw [← EReal.coe_mul]
  norm_num
/-- The word of one denotes it. -/
theorem ofBits_one : Ideal.ofBits FTy.f32 0x3F800000#32 = 1 := by
  simp [Ideal.ofBits, Ideal.ieee]
  rw [← EReal.coe_mul]
  norm_num

end Cert.Quant
end
-- ==== Proof.QSum.lean ====
module

public import proofs.«01_k».proof.Proof.QSpec

@[expose] public section

noncomputable section

/-! A row of 18944 numbers met lane by lane: the running maximum and the running sum of one lane, and what the 128 lanes
    give together. Trip `k` of a lane `l` meets the columns `128 k + l` of the four quarters of the row. -/

namespace Cert.Quant

open Idealize.ShloMosaic
open scoped BigOperators

/-- A row continued by zeros. -/
def tot {n : ℕ} (v : Fin n → EReal) (i : ℕ) : EReal := if h : i < n then v ⟨i, h⟩ else 0

/-- Inside the row, the continued row is the row. -/
theorem tot_of {n : ℕ} (v : Fin n → EReal) (i : ℕ) (h : i < n) : tot v i = v ⟨i, h⟩ := dif_pos h
/-- The same at a column. -/
theorem tot_val {n : ℕ} (v : Fin n → EReal) (o : Fin n) : tot v o.val = v o := tot_of v o.val o.isLt

/-- A lane's running maximum, from zero. -/
def colMax (g : ℕ → EReal) (l : ℕ) : ℕ → EReal
  | 0 => 0
  | k + 1 => max (max (max (max (colMax g l k) (g (4736 * 0 + 128 * k + l))) (g (4736 * 1 + 128 * k + l))) (g (4736 * 2 + 128 * k + l))) (g (4736 * 3 + 128 * k + l))

/-- A lane's running sum, from zero. -/
def colSum (g : ℕ → EReal) (l : ℕ) : ℕ → EReal
  | 0 => 0
  | k + 1 => colSum g l k + g (4736 * 0 + 128 * k + l) + g (4736 * 1 + 128 * k + l) + g (4736 * 2 + 128 * k + l) + g (4736 * 3 + 128 * k + l)

/-- What bounds a lane's running maximum. -/
theorem colMax_le (g : ℕ → EReal) (l : ℕ) (x : EReal) : ∀ k : ℕ, colMax g l k ≤ x ↔ 0 ≤ x ∧ ∀ j < k, ∀ b < 4, g (4736 * b + 128 * j + l) ≤ x
  | 0 => by simp [colMax]
  | k + 1 => by
    unfold colMax
    rw [max_le_iff, max_le_iff, max_le_iff, max_le_iff, colMax_le g l x k]
    constructor
    · rintro ⟨⟨⟨⟨⟨h, hk⟩, h0⟩, h1⟩, h2⟩, h3⟩
      refine ⟨h, fun j hj b hb => ?_⟩
      rcases Nat.lt_succ_iff_lt_or_eq.mp hj with hj | rfl
      · exact hk j hj b hb
      · interval_cases b <;> assumption
    · rintro ⟨h, hk⟩
      exact ⟨⟨⟨⟨⟨h, fun j hj => hk j (by omega)⟩, hk k (by omega) 0 (by omega)⟩, hk k (by omega) 1 (by omega)⟩, hk k (by omega) 2 (by omega)⟩, hk k (by omega) 3 (by omega)⟩

/-- The greatest of the lanes' maxima of magnitudes is the row's greatest magnitude. -/
theorem fold_colMax (v : Fin 18944 → EReal) :
    ((Finset.univ : Finset (Fin 128)).fold max ⊥ fun l => colMax (fun i => mag (tot v i)) l.val 37) = amax v := by
  refine eq_of_forall_ge_iff fun x => ?_
  rw [Finset.fold_max_le, amax_le]
  constructor
  · rintro ⟨-, h⟩ o
    have ho := o.isLt
    have hl := ((colMax_le _ _ x 37).mp (h ⟨o.val % 128, Nat.mod_lt _ (by norm_num)⟩ (Finset.mem_univ _))).2 (o.val / 128 % 37) (Nat.mod_lt _ (by norm_num)) (o.val / 4736) (by omega)
    have e : 4736 * (o.val / 4736) + 128 * (o.val / 128 % 37) + o.val % 128 = o.val := by omega
    dsimp only at hl
    rw [e, tot_val] at hl
    exact hl
  · intro h
    refine ⟨bot_le, fun l _ => (colMax_le _ _ x 37).mpr ⟨(mag_nonneg _).trans (h ⟨0, by norm_num⟩), fun j hj b hb => ?_⟩⟩
    have hl := l.isLt
    have hc : 4736 * b + 128 * j + l.val < 18944 := by omega
    rw [tot_of v _ hc]
    exact h _

/-- A lane's running sum as a sum. -/
theorem colSum_eq (g : ℕ → EReal) (l : ℕ) : ∀ k : ℕ, colSum g l k = ∑ j ∈ Finset.range k, ∑ b ∈ Finset.range 4, g (4736 * b + 128 * j + l)
  | 0 => rfl
  | k + 1 => by
    unfold colSum
    rw [Finset.sum_range_succ, ← colSum_eq g l k]
    simp only [Finset.sum_range_succ, Finset.sum_range_zero, zero_add, add_assoc]

/-- A sum over a product of two lengths, in two steps. -/
theorem sum_mul (g : ℕ → EReal) (n : ℕ) : ∀ m : ℕ, ∑ i ∈ Finset.range (m * n), g i = ∑ i ∈ Finset.range m, ∑ j ∈ Finset.range n, g (n * i + j)
  | 0 => by simp
  | m + 1 => by
    rw [Nat.succ_mul, Finset.sum_range_add, Finset.sum_range_succ, sum_mul g n m, Nat.mul_comm m n]

/-- The lanes' sums together are the row's sum. -/
theorem sum_colSum (g : ℕ → EReal) : ∑ l : Fin 128, colSum g l.val 37 = ∑ o : Fin 18944, g o.val := by
  rw [← Finset.sum_range (fun l => colSum g l 37), ← Finset.sum_range (fun o => g o)]
  rw [show (18944 : ℕ) = 4 * 4736 from rfl, sum_mul g 4736 4]
  rw [Finset.sum_congr rfl fun l _ => colSum_eq g l 37, Finset.sum_comm,
    Finset.sum_congr rfl fun j _ => Finset.sum_comm, Finset.sum_comm]
  refine Finset.sum_congr rfl fun b _ => ?_
  refine Eq.trans ?_ (sum_mul (fun i => g (4736 * b + i)) 128 37).symm
  refine Finset.sum_congr rfl fun j _ => Finset.sum_congr rfl fun l _ => ?_
  exact congrArg g (by omega)

/-- A row of 1792 numbers met in 14 chunks of 128 lanes. -/
theorem sum_chunks (g : ℕ → EReal) : ∑ l : Fin 128, ∑ c ∈ Finset.range 14, g (128 * c + l.val) = ∑ i : Fin 1792, g i.val := by
  rw [← Finset.sum_range (fun l => ∑ c ∈ Finset.range 14, g (128 * c + l)), ← Finset.sum_range (fun o => g o)]
  rw [show (1792 : ℕ) = 14 * 128 from rfl, sum_mul g 128 14, Finset.sum_comm]

end Cert.Quant
end
-- ==== Proof.QBody.lean ====
module

public import proofs.«01_k».proof.Proof.QFrameI
public import proofs.«01_k».proof.Proof.QRow
public import proofs.«01_k».proof.Proof.QSum
public import Idealize.ShloMosaic.Lib.Pointwise
public import Idealize.ShloMosaic.Lib.Pipeline.ValueKit.Tiles

@[expose] public section

set_option maxRecDepth 8192

noncomputable section

/-! The quantiser's body, read at an index: the three loops over the columns, and what they leave of the codes and of the
    row figures. -/

namespace Cert.QuantBody

open Cert.QuantiseIdeal Cert.QuantiseIdeal.Gen Cert.QuantiseIdeal.Quant Idealize.ShloMosaic Idealize.ShloMosaic.TcCoe
open scoped BigOperators

/-! ## The body's operations, as arrays -/

/-- A block's codes at a scale, as numbers. -/
abbrev codeV (s v : FVec Ideal S32x128 .f32) : FVec Ideal S32x128 .f32 :=
  minimumf (broadcast S32x128 (Scalar.ofBits .f32 0x40E00000#32)) (maximumf (broadcast S32x128 (Scalar.ofBits .f32 0xC0E00000#32)) (roundeven (divf v s)))
/-- A block of the gradient. -/
abbrev extV (a : FVec Ideal S32x128 .bf16) : FVec Ideal S32x128 .f32 :=
  extf .f32 (shapeCast S32x128 a shapeCasts_S32x128_S32x128 : FVec Ideal S32x128 .bf16) bitsLt_bf16_f32
/-- What the first codes leave of a block. -/
abbrev restV (s : FVec Ideal S32x128 .f32) (a : FVec Ideal S32x128 .bf16) : FVec Ideal S32x128 .f32 :=
  subf (extV a) (mulf (codeV s (extV a)) s)
/-- The block's squared codes. -/
abbrev sqV (s v : FVec Ideal S32x128 .f32) : FVec Ideal S32x128 .f32 := mulf (codeV s v) (codeV s v)
/-- The squares of a block of packed integers. -/
abbrev packV (a : IVec S32x128 8) : FVec Ideal S32x128 .f32 :=
  sitofp .f32 (addi
    (muli (shrsi (shli (extui 32 (shapeCast S32x128 a shapeCasts_S32x128_S32x128 : IVec S32x128 8) natLt_8_32) (broadcast S32x128 28#32)) (broadcast S32x128 28#32))
      (shrsi (shli (extui 32 (shapeCast S32x128 a shapeCasts_S32x128_S32x128 : IVec S32x128 8) natLt_8_32) (broadcast S32x128 28#32)) (broadcast S32x128 28#32)))
    (muli (shrsi (shli (extui 32 (shapeCast S32x128 a shapeCasts_S32x128_S32x128 : IVec S32x128 8) natLt_8_32) (broadcast S32x128 24#32)) (broadcast S32x128 28#32))
      (shrsi (shli (extui 32 (shapeCast S32x128 a shapeCasts_S32x128_S32x128 : IVec S32x128 8) natLt_8_32) (broadcast S32x128 24#32)) (broadcast S32x128 28#32))))

theorem codeV_apply (s v : FVec Ideal S32x128 .f32) (x : S32x128.Idx) : codeV s v x = Quant.code (v x) (s x) := by
  unfold codeV
  pointwise
  rw [Quant.ofBits_seven, Quant.ofBits_neg_seven]
  rfl
theorem extV_apply (a : FVec Ideal S32x128 .bf16) (x : S32x128.Idx) : extV a x = a x := by
  unfold extV
  pointwise
theorem restV_apply (s : FVec Ideal S32x128 .f32) (a : FVec Ideal S32x128 .bf16) (x : S32x128.Idx) :
    restV s a x = a x - Quant.code (a x) (s x) * s x := by
  show extV a x - codeV s (extV a) x * s x = _
  rw [codeV_apply, extV_apply]
theorem sqV_apply (s v : FVec Ideal S32x128 .f32) (x : S32x128.Idx) : sqV s v x = Quant.code (v x) (s x) * Quant.code (v x) (s x) := by
  show codeV s v x * codeV s v x = _
  rw [codeV_apply]
/-- The squares of a packed byte's halves, by the body's shifts. -/
theorem pack_word : ∀ b : BitVec 8,
    ((((b.setWidth 32 <<< 28).sshiftRight 28) * ((b.setWidth 32 <<< 28).sshiftRight 28) + ((b.setWidth 32 <<< 24).sshiftRight 28) * ((b.setWidth 32 <<< 24).sshiftRight 28)).toInt)
      = Quant.low b * Quant.low b + Quant.high b * Quant.high b := by decide +kernel
theorem packV_apply (a : IVec S32x128 8) (x : S32x128.Idx) :
    packV a x = (((Quant.low (a x) * Quant.low (a x) + Quant.high (a x) * Quant.high (a x) : ℤ) : ℝ) : EReal) := by
  unfold packV
  pointwise
  exact congrArg (fun n : Int => (((n : ℝ)) : EReal)) (pack_word _)

/-- One trip of the maximum. -/
theorem pay47_apply (acc a b d e : FVec Ideal S32x128 .bf16) (x : S32x128.Idx) :
    k0_pay47 (F := Ideal) acc a b d e x = max (max (max (max (acc x) (Quant.mag (a x))) (Quant.mag (b x))) (Quant.mag (d x))) (Quant.mag (e x)) := by
  unfold k0_pay47
  pointwise
  rfl
/-- The first scale from the lanes' maxima. -/
theorem pay48_apply (a : FVec Ideal S32x128 .bf16) (r : Fin 32) (k : Fin 1) :
    k0_pay48 (F := Ideal) a (ix2 r k) = Quant.scale ((Finset.univ : Finset (Fin 128)).fold max ⊥ fun l => a (ix2 r l)) := by
  unfold k0_pay48
  pointwise
  rw [Quant.ofBits_bot, Quant.ofBits_seven]
  rfl
/-- The same scale on every lane. -/
theorem pay49_apply (a : FVec Ideal S32x128 .bf16) (r : Fin 32) (l : Fin 128) :
    k0_pay49 (F := Ideal) a (ix2 r l) = k0_pay48 (F := Ideal) a (ix2 r 0) := by
  unfold k0_pay49
  pointwise
/-- The second scale from the lanes' maxima. -/
theorem pay51_apply (a : FVec Ideal S32x128 .f32) (r : Fin 32) (k : Fin 1) :
    k0_pay51 (F := Ideal) a (ix2 r k) = Quant.scale ((Finset.univ : Finset (Fin 128)).fold max ⊥ fun l => a (ix2 r l)) := by
  unfold k0_pay51
  pointwise
  rw [Quant.ofBits_bot, Quant.ofBits_seven]
  rfl
/-- The same scale on every lane. -/
theorem pay52_apply (a : FVec Ideal S32x128 .f32) (r : Fin 32) (l : Fin 128) :
    k0_pay52 (F := Ideal) a (ix2 r l) = k0_pay51 (F := Ideal) a (ix2 r 0) := by
  unfold k0_pay52
  pointwise
/-- A block recast to its own shape. -/
theorem same_apply (a : FVec Ideal S32x128 .f32) (x : S32x128.Idx) : (shapeCast S32x128 a shapeCasts_S32x128_S32x128 : FVec Ideal S32x128 .f32) x = a x := by
  pointwise
/-- Zeros. -/
theorem pay45_apply (x : S32x128.Idx) : k0_pay45 (F := Ideal) x = 0 := by
  unfold k0_pay45
  pointwise
theorem pay46_apply (x : S32x128.Idx) : k0_pay46 (F := Ideal) x = 0 := by
  unfold k0_pay46
  pointwise
/-- A comparison of two lane numbers. -/
theorem lane_eq : ∀ k n : Fin 128, IntOp.cmpi CmpIPredicate.eq (BitVec.ofNat 32 k.val) (BitVec.ofNat 32 n.val) = if k.val = n.val then 1#1 else 0#1 := by decide +kernel
/-- A choice by a lane number. -/
theorem sel (k : Fin 128) (n : ℕ) (a b : EReal) (hn : n < 128 := by decide) : Scalar.select (IntOp.cmpi CmpIPredicate.eq (BitVec.ofNat 32 k.val) (BitVec.ofNat 32 n)) a b = if k.val = n then a else b := by
  rw [show IntOp.cmpi CmpIPredicate.eq (BitVec.ofNat 32 k.val) (BitVec.ofNat 32 n) = if k.val = n then 1#1 else 0#1 from lane_eq k ⟨n, hn⟩]
  by_cases h : k.val = n
  · rw [if_pos h, if_pos h]; rfl
  · rw [if_neg h, if_neg h]; rfl
/-- The row figures from the scales and the lanes' sums. -/
theorem pay1_apply (z : FVec Ideal S32x128 .f32) (a : FVec Ideal S32x1 .f32) (b : FVec Ideal S32x128 .f32) (d : FVec Ideal S32x1 .f32) (e f : FVec Ideal S32x128 .f32) (r : Fin 32) (k : Fin 128) :
    k0_pay1 (F := Ideal) z a b d e f (ix2 r k) = if k.val = 0 then a (ix2 r 0) else if k.val = 1 then d (ix2 r 0) else if k.val = 2 then ∑ l : Fin 128, b (ix2 r l)
      else if k.val = 3 then ∑ l : Fin 128, e (ix2 r l) else if k.val = 4 then ∑ l : Fin 128, f (ix2 r l) else z (ix2 r k) := by
  unfold k0_pay1
  pointwise
  rw [sel k 4, sel k 3, sel k 2, sel k 1, sel k 0]
  by_cases h : k.val < 5
  · have : k.val = 0 ∨ k.val = 1 ∨ k.val = 2 ∨ k.val = 3 ∨ k.val = 4 := by omega
    rcases this with e | e | e | e | e <;> simp [e]
  · have n0 : ¬ k.val = 0 := by omega
    have n1 : ¬ k.val = 1 := by omega
    have n2 : ¬ k.val = 2 := by omega
    have n3 : ¬ k.val = 3 := by omega
    have n4 : ¬ k.val = 4 := by omega
    simp only [if_neg n0, if_neg n1, if_neg n2, if_neg n3, if_neg n4]

/-! ## The loads -/

/-- A rectangle of 128 columns at an index. -/
theorem emb_at (off : Fin 2 → ℕ) (inb : ∀ a, off a + S32x128.size a ≤ S32x18944.size a)
    (n : ℕ) (h0 : off 0 = 0) (h1 : off 1 = n) (r : Fin 32) (l : Fin 128) (hn : n + l.val < 18944) :
    (Rect.unit (s := S32x18944) off S32x128.size inb).emb (ix2 r l) = ix2 r ⟨n + l.val, hn⟩ := by
  have e0 : ((Rect.unit (s := S32x18944) off S32x128.size inb).emb (ix2 r l) 0).val = r.val :=
    (Rect.idx_unit_val (s := S32x18944) off S32x128.size inb (ix2 r l) 0).trans (by rw [h0]; exact Nat.zero_add _)
  have e1 : ((Rect.unit (s := S32x18944) off S32x128.size inb).emb (ix2 r l) 1).val = n + l.val :=
    (Rect.idx_unit_val (s := S32x18944) off S32x128.size inb (ix2 r l) 1).trans (by rw [h1]; rfl)
  funext a
  fin_cases a
  · exact Fin.ext e0
  · exact Fin.ext e1

/-- A load of 128 columns at an index. -/
theorem load_at {e : EltTy} (arg : Memref sig .tc .vmem S32x18944 e) (X : BufTy.Contents (Elt Ideal) arg.view.ty) (off : Fin 2 → ℕ) (inb : ∀ a, off a + S32x128.size a ≤ S32x18944.size a)
    (n : ℕ) (h0 : off 0 = 0) (h1 : off 1 = n) (r : Fin 32) (l : Fin 128) (hn : n + l.val < 18944) :
    arg.view.readAt (Elt Ideal) (Rect.unit (s := S32x18944) off S32x128.size inb).toLoadRect X (ix2 r l) = arg.view.read (Elt Ideal) X (ix2 r ⟨n + l.val, hn⟩) :=
  congrArg (arg.view.read (Elt Ideal) X) (emb_at off inb n h0 h1 r l hn)

variable (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)

/-! ## The trips, as arrays -/

/-- A load of loop 1. -/
abbrev ld1 {e : EltTy} (arg : Memref sig .tc .vmem S32x18944 e) (X : BufTy.Contents (Elt Ideal) arg.view.ty) (k : Fin k0_t1_loop.trips) (b : Fin 4) : Vec Ideal S32x128 e :=
  arg.view.readAt (Elt Ideal) (Rect.unit (s := S32x18944) (k0_off1 k (BitVec.ofNat 32 (4736 * b.val))) S32x128.size (k0_off1_inb k b)).toLoadRect X
/-- Its rectangle. -/
abbrev rc1 (k : Fin k0_t1_loop.trips) (b : Fin 4) : Rect S32x18944 := Rect.unit (s := S32x18944) (k0_off1 k (BitVec.ofNat 32 (4736 * b.val))) S32x128.size (k0_off1_inb k b)
theorem hk1 (k : Fin k0_t1_loop.trips) : k.val < 37 := Nat.lt_of_lt_of_le k.isLt k0_t1_abs.2.1
/-- The load at an index. -/
theorem ld1_apply {e : EltTy} (arg : Memref sig .tc .vmem S32x18944 e) (X : BufTy.Contents (Elt Ideal) arg.view.ty) (k : Fin k0_t1_loop.trips) (b : Fin 4) (r : Fin 32) (l : Fin 128) (hn : 4736 * b.val + 128 * k.val + l.val < 18944) :
    ld1 arg X k b (ix2 r l) = arg.view.read (Elt Ideal) X (ix2 r ⟨4736 * b.val + 128 * k.val + l.val, hn⟩) :=
  load_at arg X _ _ _ (by rw [k0_off1_eq]; rfl) (by rw [k0_off1_eq]; rfl) r l hn
/-- The rectangle at an index. -/
theorem rc1_apply (k : Fin k0_t1_loop.trips) (b : Fin 4) (r : Fin 32) (l : Fin 128) (hn : 4736 * b.val + 128 * k.val + l.val < 18944) :
    (rc1 k b).emb (ix2 r l) = ix2 r ⟨4736 * b.val + 128 * k.val + l.val, hn⟩ :=
  emb_at _ _ _ (by rw [k0_off1_eq]; rfl) (by rw [k0_off1_eq]; rfl) r l hn

/-- A load of loop 2. -/
abbrev ld2 {e : EltTy} (arg : Memref sig .tc .vmem S32x18944 e) (X : BufTy.Contents (Elt Ideal) arg.view.ty) (k : Fin k0_t2_loop.trips) (b : Fin 4) : Vec Ideal S32x128 e :=
  arg.view.readAt (Elt Ideal) (Rect.unit (s := S32x18944) (k0_off2 k (BitVec.ofNat 32 (4736 * b.val))) S32x128.size (k0_off2_inb k b)).toLoadRect X
/-- Its rectangle. -/
abbrev rc2 (k : Fin k0_t2_loop.trips) (b : Fin 4) : Rect S32x18944 := Rect.unit (s := S32x18944) (k0_off2 k (BitVec.ofNat 32 (4736 * b.val))) S32x128.size (k0_off2_inb k b)
theorem hk2 (k : Fin k0_t2_loop.trips) : k.val < 37 := Nat.lt_of_lt_of_le k.isLt k0_t2_abs.2.1
/-- The load at an index. -/
theorem ld2_apply {e : EltTy} (arg : Memref sig .tc .vmem S32x18944 e) (X : BufTy.Contents (Elt Ideal) arg.view.ty) (k : Fin k0_t2_loop.trips) (b : Fin 4) (r : Fin 32) (l : Fin 128) (hn : 4736 * b.val + 128 * k.val + l.val < 18944) :
    ld2 arg X k b (ix2 r l) = arg.view.read (Elt Ideal) X (ix2 r ⟨4736 * b.val + 128 * k.val + l.val, hn⟩) :=
  load_at arg X _ _ _ (by rw [k0_off2_eq]; rfl) (by rw [k0_off2_eq]; rfl) r l hn
/-- The rectangle at an index. -/
theorem rc2_apply (k : Fin k0_t2_loop.trips) (b : Fin 4) (r : Fin 32) (l : Fin 128) (hn : 4736 * b.val + 128 * k.val + l.val < 18944) :
    (rc2 k b).emb (ix2 r l) = ix2 r ⟨4736 * b.val + 128 * k.val + l.val, hn⟩ :=
  emb_at _ _ _ (by rw [k0_off2_eq]; rfl) (by rw [k0_off2_eq]; rfl) r l hn

/-- A load of loop 3. -/
abbrev ld3 {e : EltTy} (arg : Memref sig .tc .vmem S32x18944 e) (X : BufTy.Contents (Elt Ideal) arg.view.ty) (k : Fin k0_t3_loop.trips) (b : Fin 4) : Vec Ideal S32x128 e :=
  arg.view.readAt (Elt Ideal) (Rect.unit (s := S32x18944) (k0_off3 k (BitVec.ofNat 32 (4736 * b.val))) S32x128.size (k0_off3_inb k b)).toLoadRect X
/-- Its rectangle. -/
abbrev rc3 (k : Fin k0_t3_loop.trips) (b : Fin 4) : Rect S32x18944 := Rect.unit (s := S32x18944) (k0_off3 k (BitVec.ofNat 32 (4736 * b.val))) S32x128.size (k0_off3_inb k b)
theorem hk3 (k : Fin k0_t3_loop.trips) : k.val < 37 := Nat.lt_of_lt_of_le k.isLt k0_t3_abs.2.1
/-- The load at an index. -/
theorem ld3_apply {e : EltTy} (arg : Memref sig .tc .vmem S32x18944 e) (X : BufTy.Contents (Elt Ideal) arg.view.ty) (k : Fin k0_t3_loop.trips) (b : Fin 4) (r : Fin 32) (l : Fin 128) (hn : 4736 * b.val + 128 * k.val + l.val < 18944) :
    ld3 arg X k b (ix2 r l) = arg.view.read (Elt Ideal) X (ix2 r ⟨4736 * b.val + 128 * k.val + l.val, hn⟩) :=
  load_at arg X _ _ _ (by rw [k0_off3_eq]; rfl) (by rw [k0_off3_eq]; rfl) r l hn
/-- The rectangle at an index. -/
theorem rc3_apply (k : Fin k0_t3_loop.trips) (b : Fin 4) (r : Fin 32) (l : Fin 128) (hn : 4736 * b.val + 128 * k.val + l.val < 18944) :
    (rc3 k b).emb (ix2 r l) = ix2 r ⟨4736 * b.val + 128 * k.val + l.val, hn⟩ :=
  emb_at _ _ _ (by rw [k0_off3_eq]; rfl) (by rw [k0_off3_eq]; rfl) r l hn

theorem trip1_eq (X : BufTy.Contents (Elt Ideal) arg1.view.ty) (k : Fin k0_t1_loop.trips) (acc : FVec Ideal S32x128 .bf16) :
    tripR_k0_t1 (F := Ideal) 𝒱 c bd i arg1 harg1 arg2 harg2 arg3 harg3 arg4 harg4 arg5 harg5 arg6 harg6 arg7 harg7 arg8 harg8 X k acc = k0_pay47 (F := Ideal) acc (ld1 arg1 X k 0) (ld1 arg1 X k 1) (ld1 arg1 X k 2) (ld1 arg1 X k 3) := by
  unfold tripR_k0_t1 trip_k0_t1
  rfl

theorem trip2_eqR (X : BufTy.Contents (Elt Ideal) arg1.view.ty) (v3 : FVec Ideal S32x128 .bf16) (k : Fin k0_t2_loop.trips) (acc : FVec Ideal S32x128 .f32 × FVec Ideal S32x128 .f32) :
    tripR_k0_t2 (F := Ideal) 𝒱 c bd i arg1 harg1 arg2 harg2 arg3 harg3 arg4 harg4 arg5 harg5 arg6 harg6 arg7 harg7 arg8 harg8 v3 X k acc
      = (maximumf (maximumf (maximumf (maximumf acc.1 (absf (restV (k0_pay49 v3) (ld2 arg1 X k 0)))) (absf (restV (k0_pay49 v3) (ld2 arg1 X k 1)))) (absf (restV (k0_pay49 v3) (ld2 arg1 X k 2)))) (absf (restV (k0_pay49 v3) (ld2 arg1 X k 3))),
         addf (addf (addf (addf acc.2 (sqV (k0_pay49 v3) (extV (ld2 arg1 X k 0)))) (sqV (k0_pay49 v3) (extV (ld2 arg1 X k 1)))) (sqV (k0_pay49 v3) (extV (ld2 arg1 X k 2)))) (sqV (k0_pay49 v3) (extV (ld2 arg1 X k 3)))) := by
  unfold tripR_k0_t2 trip_k0_t2
  rfl

theorem trip2_eqL (X : BufTy.Contents (Elt Ideal) arg1.view.ty) (v3 : FVec Ideal S32x128 .bf16) (k : Fin k0_t2_loop.trips) (acc : FVec Ideal S32x128 .f32 × FVec Ideal S32x128 .f32) :
    tripL_k0_t2 (F := Ideal) 𝒱 c bd i arg1 harg1 arg2 harg2 arg3 harg3 arg4 harg4 arg5 harg5 arg6 harg6 arg7 harg7 arg8 harg8 v3 X k acc
      = ([⟨rc2 k 3, fptosi 8 (codeV (k0_pay49 v3) (extV (ld2 arg1 X k 3)))⟩, ⟨rc2 k 2, fptosi 8 (codeV (k0_pay49 v3) (extV (ld2 arg1 X k 2)))⟩,
          ⟨rc2 k 1, fptosi 8 (codeV (k0_pay49 v3) (extV (ld2 arg1 X k 1)))⟩, ⟨rc2 k 0, fptosi 8 (codeV (k0_pay49 v3) (extV (ld2 arg1 X k 0)))⟩],
         [⟨rc2 k 3, shapeCast S32x128 (restV (k0_pay49 v3) (ld2 arg1 X k 3)) shapeCasts_S32x128_S32x128⟩, ⟨rc2 k 2, shapeCast S32x128 (restV (k0_pay49 v3) (ld2 arg1 X k 2)) shapeCasts_S32x128_S32x128⟩,
          ⟨rc2 k 1, shapeCast S32x128 (restV (k0_pay49 v3) (ld2 arg1 X k 1)) shapeCasts_S32x128_S32x128⟩, ⟨rc2 k 0, shapeCast S32x128 (restV (k0_pay49 v3) (ld2 arg1 X k 0)) shapeCasts_S32x128_S32x128⟩]) := by
  unfold tripL_k0_t2 trip_k0_t2
  rfl

theorem trip3_eqR (v16 : FVec Ideal S32x128 .f32) (X3 : BufTy.Contents (Elt Ideal) arg3.view.ty) (X8 : BufTy.Contents (Elt Ideal) arg8.view.ty) (k : Fin k0_t3_loop.trips) (acc : FVec Ideal S32x128 .f32) :
    Low.tripR (F := Ideal) 𝒱 c bd i arg1 harg1 arg2 harg2 arg3 harg3 arg4 harg4 arg5 harg5 arg6 harg6 arg7 harg7 arg8 harg8 v16 X3 X8 k acc
      = addf (addf (addf (addf acc (sqV (k0_pay52 v16) (ld3 arg8 X8 k 0))) (sqV (k0_pay52 v16) (ld3 arg8 X8 k 1))) (sqV (k0_pay52 v16) (ld3 arg8 X8 k 2))) (sqV (k0_pay52 v16) (ld3 arg8 X8 k 3)) := by
  unfold Low.tripR Low.trip
  rfl

theorem trip3_eqL (v16 : FVec Ideal S32x128 .f32) (X3 : BufTy.Contents (Elt Ideal) arg3.view.ty) (X8 : BufTy.Contents (Elt Ideal) arg8.view.ty) (k : Fin k0_t3_loop.trips) (acc : FVec Ideal S32x128 .f32) :
    Low.tripL (F := Ideal) 𝒱 c bd i arg1 harg1 arg2 harg2 arg3 harg3 arg4 harg4 arg5 harg5 arg6 harg6 arg7 harg7 arg8 harg8 v16 X3 X8 k acc
      = [⟨rc3 k 3, fptosi 8 (codeV (k0_pay52 v16) (ld3 arg8 X8 k 3))⟩, ⟨rc3 k 2, fptosi 8 (codeV (k0_pay52 v16) (ld3 arg8 X8 k 2))⟩,
         ⟨rc3 k 1, fptosi 8 (codeV (k0_pay52 v16) (ld3 arg8 X8 k 1))⟩, ⟨rc3 k 0, fptosi 8 (codeV (k0_pay52 v16) (ld3 arg8 X8 k 0))⟩] := by
  unfold Low.tripL Low.trip
  rfl

theorem chain_eq (x1 : Vec Ideal S32x1792 .i8) :
    kernelRun.sl.r_27 (F := Ideal) c arg2 harg2 x1 = addf (addf (addf (addf (addf (addf (addf (addf (addf (addf (addf (addf (addf (addf k0_pay45 (packV (arg2.view.readAt (Elt Ideal) (Rect.unit (s := S32x1792) ![0, 0] S32x128.size inb_S32x1792_S32x128_0_0).toLoadRect (harg2.unread x1)))) (packV (arg2.view.readAt (Elt Ideal) (Rect.unit (s := S32x1792) ![0, 128] S32x128.size inb_S32x1792_S32x128_0_128).toLoadRect (harg2.unread x1)))) (packV (arg2.view.readAt (Elt Ideal) (Rect.unit (s := S32x1792) ![0, 256] S32x128.size inb_S32x1792_S32x128_0_256).toLoadRect (harg2.unread x1)))) (packV (arg2.view.readAt (Elt Ideal) (Rect.unit (s := S32x1792) ![0, 384] S32x128.size inb_S32x1792_S32x128_0_384).toLoadRect (harg2.unread x1)))) (packV (arg2.view.readAt (Elt Ideal) (Rect.unit (s := S32x1792) ![0, 512] S32x128.size inb_S32x1792_S32x128_0_512).toLoadRect (harg2.unread x1)))) (packV (arg2.view.readAt (Elt Ideal) (Rect.unit (s := S32x1792) ![0, 640] S32x128.size inb_S32x1792_S32x128_0_640).toLoadRect (harg2.unread x1)))) (packV (arg2.view.readAt (Elt Ideal) (Rect.unit (s := S32x1792) ![0, 768] S32x128.size inb_S32x1792_S32x128_0_768).toLoadRect (harg2.unread x1)))) (packV (arg2.view.readAt (Elt Ideal) (Rect.unit (s := S32x1792) ![0, 896] S32x128.size inb_S32x1792_S32x128_0_896).toLoadRect (harg2.unread x1)))) (packV (arg2.view.readAt (Elt Ideal) (Rect.unit (s := S32x1792) ![0, 1024] S32x128.size inb_S32x1792_S32x128_0_1024).toLoadRect (harg2.unread x1)))) (packV (arg2.view.readAt (Elt Ideal) (Rect.unit (s := S32x1792) ![0, 1152] S32x128.size inb_S32x1792_S32x128_0_1152).toLoadRect (harg2.unread x1)))) (packV (arg2.view.readAt (Elt Ideal) (Rect.unit (s := S32x1792) ![0, 1280] S32x128.size inb_S32x1792_S32x128_0_1280).toLoadRect (harg2.unread x1)))) (packV (arg2.view.readAt (Elt Ideal) (Rect.unit (s := S32x1792) ![0, 1408] S32x128.size inb_S32x1792_S32x128_0_1408).toLoadRect (harg2.unread x1)))) (packV (arg2.view.readAt (Elt Ideal) (Rect.unit (s := S32x1792) ![0, 1536] S32x128.size inb_S32x1792_S32x128_0_1536).toLoadRect (harg2.unread x1)))) (packV (arg2.view.readAt (Elt Ideal) (Rect.unit (s := S32x1792) ![0, 1664] S32x128.size inb_S32x1792_S32x128_0_1664).toLoadRect (harg2.unread x1))) := rfl

/-! ## What the loops leave -/

/-- Row `r` of a block. -/
abbrev row (x : Vec Ideal S32x18944 .f32) (r : Fin 32) (o : Fin 18944) : EReal := x (ix2 r o)
/-- The block's first codes. -/
def hiB (x : Vec Ideal S32x18944 .f32) : Vec Ideal S32x18944 .i8 := fun y => Quant.bits (x y) (Quant.sHi (row x (y 0)))
/-- What they leave. -/
def restB (x : Vec Ideal S32x18944 .f32) : Vec Ideal S32x18944 .f32 := fun y => Quant.rest (row x (y 0)) (y 1)
/-- The block's second codes. -/
def loB (x : Vec Ideal S32x18944 .f32) : Vec Ideal S32x18944 .i8 := fun y => Quant.bits (Quant.rest (row x (y 0)) (y 1)) (Quant.sLo (row x (y 0)))

section loops
variable (x0 : Vec Ideal S32x18944 .bf16)

theorem ld1_tot (k : Fin k0_t1_loop.trips) (b : Fin 4) (r : Fin 32) (l : Fin 128) :
    ld1 arg1 (harg1.unread x0) k b (ix2 r l) = Quant.tot (row x0 r) (4736 * b.val + 128 * k.val + l.val) := by
  have hn : 4736 * b.val + 128 * k.val + l.val < 18944 := by have := hk1 k; have := b.isLt; have := l.isLt; omega
  exact (ld1_apply arg1 _ k b r l hn).trans ((congrFun (harg1.read_unread x0) _).trans (Quant.tot_of (row x0 r) _ hn).symm)
theorem ld2_tot (k : Fin k0_t2_loop.trips) (b : Fin 4) (r : Fin 32) (l : Fin 128) :
    ld2 arg1 (harg1.unread x0) k b (ix2 r l) = Quant.tot (row x0 r) (4736 * b.val + 128 * k.val + l.val) := by
  have hn : 4736 * b.val + 128 * k.val + l.val < 18944 := by have := hk2 k; have := b.isLt; have := l.isLt; omega
  exact (ld2_apply arg1 _ k b r l hn).trans ((congrFun (harg1.read_unread x0) _).trans (Quant.tot_of (row x0 r) _ hn).symm)

/-- The first loop: a lane's greatest magnitude so far. -/
theorem loop1 : ∀ k : ℕ, k ≤ k0_t1_loop.trips → ∀ (r : Fin 32) (l : Fin 128),
    st_k0_t1 (F := Ideal) 𝒱 c bd i arg1 harg1 arg2 harg2 arg3 harg3 arg4 harg4 arg5 harg5 arg6 harg6 arg7 harg7 arg8 harg8 (harg1.unread x0) k0_pay46 k (ix2 r l) = Quant.colMax (fun n => Quant.mag (Quant.tot (row x0 r) n)) l.val k
  | 0, _, r, l => pay46_apply (ix2 r l)
  | k + 1, hk, r, l => by
    rw [st_k0_t1_succ (F := Ideal) 𝒱 c bd i arg1 harg1 arg2 harg2 arg3 harg3 arg4 harg4 arg5 harg5 arg6 harg6 arg7 harg7 arg8 harg8 (harg1.unread x0) k0_pay46 ⟨k, hk⟩, trip1_eq, pay47_apply]
    rw [loop1 k (Nat.le_of_succ_le hk) r l, ld1_tot, ld1_tot, ld1_tot, ld1_tot]
    rfl

/-- The first scale, on every lane. -/
theorem scale1 (r : Fin 32) (k : Fin 1) :
    k0_pay48 (F := Ideal) (st_k0_t1 (F := Ideal) 𝒱 c bd i arg1 harg1 arg2 harg2 arg3 harg3 arg4 harg4 arg5 harg5 arg6 harg6 arg7 harg7 arg8 harg8 (harg1.unread x0) k0_pay46 k0_t1_loop.trips) (ix2 r k) = Quant.sHi (row x0 r) := by
  rw [pay48_apply]
  refine congrArg Quant.scale (Eq.trans ?_ (Quant.fold_colMax (row x0 r)))
  refine congrArg (fun f => (Finset.univ : Finset (Fin 128)).fold max ⊥ f) (funext fun l => ?_)
  exact (loop1 𝒱 c bd i arg1 harg1 arg2 harg2 arg3 harg3 arg4 harg4 arg5 harg5 arg6 harg6 arg7 harg7 arg8 harg8 x0 _ le_rfl r l).trans (congrArg (Quant.colMax _ _) (by decide : k0_t1_loop.trips = 37))

variable (v3 : FVec Ideal S32x128 .bf16) (hS : ∀ (r : Fin 32) (k : Fin 1), k0_pay48 (F := Ideal) v3 (ix2 r k) = Quant.sHi (row x0 r))
include hS

theorem rest_at (k : Fin k0_t2_loop.trips) (b : Fin 4) (r : Fin 32) (l : Fin 128) :
    restV (k0_pay49 v3) (ld2 arg1 (harg1.unread x0) k b) (ix2 r l) = Quant.tot (Quant.rest (row x0 r)) (4736 * b.val + 128 * k.val + l.val) := by
  have hn : 4736 * b.val + 128 * k.val + l.val < 18944 := by have := hk2 k; have := b.isLt; have := l.isLt; omega
  rw [restV_apply, ld2_tot, pay49_apply, hS, Quant.tot_of _ _ hn, Quant.tot_of _ _ hn]
  rfl
theorem code_at (k : Fin k0_t2_loop.trips) (b : Fin 4) (r : Fin 32) (l : Fin 128) :
    codeV (k0_pay49 v3) (extV (ld2 arg1 (harg1.unread x0) k b)) (ix2 r l) = Quant.code (Quant.tot (row x0 r) (4736 * b.val + 128 * k.val + l.val)) (Quant.sHi (row x0 r)) := by
  rw [codeV_apply, extV_apply, ld2_tot, pay49_apply, hS]

/-- The second loop: a lane's greatest magnitude of what the first codes leave, so far, -/
theorem loop2_max : ∀ k : ℕ, k ≤ k0_t2_loop.trips → ∀ (r : Fin 32) (l : Fin 128),
    (st_k0_t2 (F := Ideal) 𝒱 c bd i arg1 harg1 arg2 harg2 arg3 harg3 arg4 harg4 arg5 harg5 arg6 harg6 arg7 harg7 arg8 harg8 v3 (harg1.unread x0) (k0_pay45, k0_pay45) k).1.1 (ix2 r l) = Quant.colMax (fun n => Quant.mag (Quant.tot (Quant.rest (row x0 r)) n)) l.val k
  | 0, _, r, l => pay45_apply (ix2 r l)
  | k + 1, hk, r, l => by
    rw [st_k0_t2_succ (F := Ideal) 𝒱 c bd i arg1 harg1 arg2 harg2 arg3 harg3 arg4 harg4 arg5 harg5 arg6 harg6 arg7 harg7 arg8 harg8 v3 (harg1.unread x0) (k0_pay45, k0_pay45) ⟨k, hk⟩, trip2_eqR]
    have ih := loop2_max k (Nat.le_of_succ_le hk) r l
    have h := fun b => rest_at arg1 harg1 x0 v3 hS ⟨k, hk⟩ b r l
    unfold Quant.colMax
    rw [← ih]
    exact congrArg₂ max (congrArg₂ max (congrArg₂ max (congrArg₂ max rfl (congrArg Quant.mag (h 0))) (congrArg Quant.mag (h 1))) (congrArg Quant.mag (h 2))) (congrArg Quant.mag (h 3))
/-- and the sum of the squares of a lane's first codes, so far. -/
theorem loop2_sum : ∀ k : ℕ, k ≤ k0_t2_loop.trips → ∀ (r : Fin 32) (l : Fin 128),
    (st_k0_t2 (F := Ideal) 𝒱 c bd i arg1 harg1 arg2 harg2 arg3 harg3 arg4 harg4 arg5 harg5 arg6 harg6 arg7 harg7 arg8 harg8 v3 (harg1.unread x0) (k0_pay45, k0_pay45) k).1.2 (ix2 r l)
      = Quant.colSum (fun n => Quant.code (Quant.tot (row x0 r) n) (Quant.sHi (row x0 r)) * Quant.code (Quant.tot (row x0 r) n) (Quant.sHi (row x0 r))) l.val k
  | 0, _, r, l => pay45_apply (ix2 r l)
  | k + 1, hk, r, l => by
    rw [st_k0_t2_succ (F := Ideal) 𝒱 c bd i arg1 harg1 arg2 harg2 arg3 harg3 arg4 harg4 arg5 harg5 arg6 harg6 arg7 harg7 arg8 harg8 v3 (harg1.unread x0) (k0_pay45, k0_pay45) ⟨k, hk⟩, trip2_eqR]
    have ih := loop2_sum k (Nat.le_of_succ_le hk) r l
    have h := fun b => code_at arg1 harg1 x0 v3 hS ⟨k, hk⟩ b r l
    have h' := fun b => congrArg₂ (fun a b : EReal => a * b) (h b) (h b)
    unfold Quant.colSum
    rw [← ih]
    exact congrArg₂ (fun a b : EReal => a + b) (congrArg₂ (fun a b : EReal => a + b) (congrArg₂ (fun a b : EReal => a + b) (congrArg₂ (fun a b : EReal => a + b) rfl (h' 0)) (h' 1)) (h' 2)) (h' 3)

theorem hi_piece (k : Fin k0_t2_loop.trips) (b : Fin 4) (x : S32x128.Idx) :
    fptosi 8 (codeV (k0_pay49 v3) (extV (ld2 arg1 (harg1.unread x0) k b))) x = hiB x0 ((rc2 k b).emb x) := by
  rw [← ix2_eta x]
  have hn : 4736 * b.val + 128 * k.val + (x 1).val < 18944 := by have := hk2 k; have := b.isLt; have := (x 1).isLt; change (x 1).val < 128 at this; omega
  refine Eq.trans ?_ (congrArg (hiB x0) (rc2_apply k b (x 0) (x 1) hn)).symm
  refine (congrArg (Ideal.fptosi 8) (code_at arg1 harg1 x0 v3 hS k b (x 0) (x 1))).trans ?_
  rw [Quant.tot_of _ _ hn]
  rfl
theorem rest_piece (k : Fin k0_t2_loop.trips) (b : Fin 4) (x : S32x128.Idx) :
    (shapeCast S32x128 (restV (k0_pay49 v3) (ld2 arg1 (harg1.unread x0) k b)) shapeCasts_S32x128_S32x128 : FVec Ideal S32x128 .f32) x = restB x0 ((rc2 k b).emb x) := by
  rw [← ix2_eta x]
  have hn : 4736 * b.val + 128 * k.val + (x 1).val < 18944 := by have := hk2 k; have := b.isLt; have := (x 1).isLt; change (x 1).val < 128 at this; omega
  refine Eq.trans ?_ (congrArg (restB x0) (rc2_apply k b (x 0) (x 1) hn)).symm
  refine (same_apply _ _).trans ((rest_at arg1 harg1 x0 v3 hS k b (x 0) (x 1)).trans ?_)
  rw [Quant.tot_of _ _ hn]
  rfl

/-- Every piece of the second loop is the first codes on its rectangle, -/
theorem loop2_hi : ∀ k : ℕ, k ≤ k0_t2_loop.trips → ∀ p ∈ (st_k0_t2 (F := Ideal) 𝒱 c bd i arg1 harg1 arg2 harg2 arg3 harg3 arg4 harg4 arg5 harg5 arg6 harg6 arg7 harg7 arg8 harg8 v3 (harg1.unread x0) (k0_pay45, k0_pay45) k).2.1,
    ∀ x : p.1.shape.Idx, p.2 x = hiB x0 (p.1.emb x)
  | 0, _, p, hp => absurd hp List.not_mem_nil
  | k + 1, hk, p, hp => by
    rw [st_k0_t2_succ (F := Ideal) 𝒱 c bd i arg1 harg1 arg2 harg2 arg3 harg3 arg4 harg4 arg5 harg5 arg6 harg6 arg7 harg7 arg8 harg8 v3 (harg1.unread x0) (k0_pay45, k0_pay45) ⟨k, hk⟩, trip2_eqL] at hp
    rcases List.mem_append.mp hp with h | h
    · simp only [List.mem_cons, List.not_mem_nil, or_false] at h
      rcases h with rfl | rfl | rfl | rfl <;> exact fun x => hi_piece arg1 harg1 x0 v3 hS ⟨k, hk⟩ _ x
    · exact loop2_hi k (Nat.le_of_succ_le hk) p h
/-- and what they leave. -/
theorem loop2_rest : ∀ k : ℕ, k ≤ k0_t2_loop.trips → ∀ p ∈ (st_k0_t2 (F := Ideal) 𝒱 c bd i arg1 harg1 arg2 harg2 arg3 harg3 arg4 harg4 arg5 harg5 arg6 harg6 arg7 harg7 arg8 harg8 v3 (harg1.unread x0) (k0_pay45, k0_pay45) k).2.2,
    ∀ x : p.1.shape.Idx, p.2 x = restB x0 (p.1.emb x)
  | 0, _, p, hp => absurd hp List.not_mem_nil
  | k + 1, hk, p, hp => by
    rw [st_k0_t2_succ (F := Ideal) 𝒱 c bd i arg1 harg1 arg2 harg2 arg3 harg3 arg4 harg4 arg5 harg5 arg6 harg6 arg7 harg7 arg8 harg8 v3 (harg1.unread x0) (k0_pay45, k0_pay45) ⟨k, hk⟩, trip2_eqL] at hp
    rcases List.mem_append.mp hp with h | h
    · simp only [List.mem_cons, List.not_mem_nil, or_false] at h
      rcases h with rfl | rfl | rfl | rfl <;> exact fun x => rest_piece arg1 harg1 x0 v3 hS ⟨k, hk⟩ _ x
    · exact loop2_rest k (Nat.le_of_succ_le hk) p h

/-- The second scale. -/
theorem scale2 (r : Fin 32) (k : Fin 1) :
    k0_pay51 (F := Ideal) (st_k0_t2 (F := Ideal) 𝒱 c bd i arg1 harg1 arg2 harg2 arg3 harg3 arg4 harg4 arg5 harg5 arg6 harg6 arg7 harg7 arg8 harg8 v3 (harg1.unread x0) (k0_pay45, k0_pay45) k0_t2_loop.trips).1.1 (ix2 r k) = Quant.sLo (row x0 r) := by
  rw [pay51_apply]
  refine congrArg Quant.scale (Eq.trans ?_ (Quant.fold_colMax (Quant.rest (row x0 r))))
  refine congrArg (fun f => (Finset.univ : Finset (Fin 128)).fold max ⊥ f) (funext fun l => ?_)
  exact (loop2_max 𝒱 c bd i arg1 harg1 arg2 harg2 arg3 harg3 arg4 harg4 arg5 harg5 arg6 harg6 arg7 harg7 arg8 harg8 x0 v3 hS _ le_rfl r l).trans (congrArg (Quant.colMax _ _) (by decide : k0_t2_loop.trips = 37))

end loops

section loop3
variable (x0 : Vec Ideal S32x18944 .bf16) (v16 : FVec Ideal S32x128 .f32) (hS : ∀ (r : Fin 32) (k : Fin 1), k0_pay51 (F := Ideal) v16 (ix2 r k) = Quant.sLo (row x0 r))
  (X3 : BufTy.Contents (Elt Ideal) arg3.view.ty) (X8 : BufTy.Contents (Elt Ideal) arg8.view.ty) (hX : arg8.view.read (Elt Ideal) X8 = restB x0)
include hS hX

omit hS in
theorem ld3_tot (k : Fin k0_t3_loop.trips) (b : Fin 4) (r : Fin 32) (l : Fin 128) :
    ld3 arg8 X8 k b (ix2 r l) = Quant.tot (Quant.rest (row x0 r)) (4736 * b.val + 128 * k.val + l.val) := by
  have hn : 4736 * b.val + 128 * k.val + l.val < 18944 := by have := hk3 k; have := b.isLt; have := l.isLt; omega
  exact (ld3_apply arg8 _ k b r l hn).trans ((congrFun hX _).trans (Quant.tot_of (Quant.rest (row x0 r)) _ hn).symm)
theorem code3_at (k : Fin k0_t3_loop.trips) (b : Fin 4) (r : Fin 32) (l : Fin 128) :
    codeV (k0_pay52 v16) (ld3 arg8 X8 k b) (ix2 r l) = Quant.code (Quant.tot (Quant.rest (row x0 r)) (4736 * b.val + 128 * k.val + l.val)) (Quant.sLo (row x0 r)) := by
  rw [codeV_apply, ld3_tot arg8 x0 X8 hX, pay52_apply, hS]

/-- The third loop: the sum of the squares of a lane's second codes, so far, -/
theorem loop3_sum : ∀ k : ℕ, k ≤ k0_t3_loop.trips → ∀ (r : Fin 32) (l : Fin 128),
    (Low.st (F := Ideal) 𝒱 c bd i arg1 harg1 arg2 harg2 arg3 harg3 arg4 harg4 arg5 harg5 arg6 harg6 arg7 harg7 arg8 harg8 v16 X3 X8 k0_pay45 k).1 (ix2 r l)
      = Quant.colSum (fun n => Quant.code (Quant.tot (Quant.rest (row x0 r)) n) (Quant.sLo (row x0 r)) * Quant.code (Quant.tot (Quant.rest (row x0 r)) n) (Quant.sLo (row x0 r))) l.val k
  | 0, _, r, l => pay45_apply (ix2 r l)
  | k + 1, hk, r, l => by
    rw [Low.st_succ (F := Ideal) 𝒱 c bd i arg1 harg1 arg2 harg2 arg3 harg3 arg4 harg4 arg5 harg5 arg6 harg6 arg7 harg7 arg8 harg8 v16 X3 X8 k0_pay45 ⟨k, hk⟩, trip3_eqR]
    have ih := loop3_sum k (Nat.le_of_succ_le hk) r l
    have h := fun b => code3_at arg8 x0 v16 hS X8 hX ⟨k, hk⟩ b r l
    have h' := fun b => congrArg₂ (fun a b : EReal => a * b) (h b) (h b)
    unfold Quant.colSum
    rw [← ih]
    exact congrArg₂ (fun a b : EReal => a + b) (congrArg₂ (fun a b : EReal => a + b) (congrArg₂ (fun a b : EReal => a + b) (congrArg₂ (fun a b : EReal => a + b) rfl (h' 0)) (h' 1)) (h' 2)) (h' 3)

theorem lo_piece (k : Fin k0_t3_loop.trips) (b : Fin 4) (x : S32x128.Idx) :
    fptosi 8 (codeV (k0_pay52 v16) (ld3 arg8 X8 k b)) x = loB x0 ((rc3 k b).emb x) := by
  rw [← ix2_eta x]
  have hn : 4736 * b.val + 128 * k.val + (x 1).val < 18944 := by have := hk3 k; have := b.isLt; have := (x 1).isLt; change (x 1).val < 128 at this; omega
  refine Eq.trans ?_ (congrArg (loB x0) (rc3_apply k b (x 0) (x 1) hn)).symm
  refine (congrArg (Ideal.fptosi 8) (code3_at arg8 x0 v16 hS X8 hX k b (x 0) (x 1))).trans ?_
  rw [Quant.tot_of _ _ hn]
  rfl
/-- and every piece is the second codes on its rectangle. -/
theorem loop3_lo : ∀ k : ℕ, k ≤ k0_t3_loop.trips → ∀ p ∈ (Low.st (F := Ideal) 𝒱 c bd i arg1 harg1 arg2 harg2 arg3 harg3 arg4 harg4 arg5 harg5 arg6 harg6 arg7 harg7 arg8 harg8 v16 X3 X8 k0_pay45 k).2,
    ∀ x : p.1.shape.Idx, p.2 x = loB x0 (p.1.emb x)
  | 0, _, p, hp => absurd hp List.not_mem_nil
  | k + 1, hk, p, hp => by
    rw [Low.st_succ (F := Ideal) 𝒱 c bd i arg1 harg1 arg2 harg2 arg3 harg3 arg4 harg4 arg5 harg5 arg6 harg6 arg7 harg7 arg8 harg8 v16 X3 X8 k0_pay45 ⟨k, hk⟩, trip3_eqL] at hp
    rcases List.mem_append.mp hp with h | h
    · simp only [List.mem_cons, List.not_mem_nil, or_false] at h
      rcases h with rfl | rfl | rfl | rfl <;> exact fun x => lo_piece arg8 x0 v16 hS X8 hX ⟨k, hk⟩ _ x
    · exact loop3_lo k (Nat.le_of_succ_le hk) p h

end loop3

/-! ## What a point leaves -/

theorem hz2 : (![0, 0] : Fin 2 → ℕ) = fun _ => 0 := by decide

section point
omit 𝒱 bd
variable (x0 : Vec Ideal S32x18944 .bf16) (x1 : Vec Ideal S32x1792 .i8)

/-- The high codes. -/
theorem out2_eq : out2 (F := Ideal) c i arg1 harg1 arg2 harg2 arg3 harg3 arg4 harg4 arg5 harg5 arg6 harg6 arg7 harg7 arg8 harg8 x0 x1 = hiB x0 := by
  unfold out2
  rw [View.read_writes_junk_eq_canon, run2]
  funext y
  exact View.canon_apply_of_pieces _ _ (loop2_hi Variants.none c none i arg1 harg1 arg2 harg2 arg3 harg3 arg4 harg4 arg5 harg5 arg6 harg6 arg7 harg7 arg8 harg8 x0 _ (scale1 Variants.none c none i arg1 harg1 arg2 harg2 arg3 harg3 arg4 harg4 arg5 harg5 arg6 harg6 arg7 harg7 arg8 harg8 x0) _ le_rfl) y (midCover3 c i arg1 harg1 arg2 harg2 arg3 harg3 arg4 harg4 arg5 harg5 arg6 harg6 arg7 harg7 arg8 harg8 x0 y)

/-- The residual, after the second loop. -/
theorem rest_eq (g : BufTy.Contents (Elt Ideal) arg8.view.ty) : arg8.view.read (Elt Ideal) (arg8.view.writes (Elt Ideal) g (mid c i arg1 harg1 arg2 harg2 arg3 harg3 arg4 harg4 arg5 harg5 arg6 harg6 arg7 harg7 arg8 harg8 x0).2.2) = restB x0 := by
  rw [mid8 c i arg1 harg1 arg2 harg2 arg3 harg3 arg4 harg4 arg5 harg5 arg6 harg6 arg7 harg7 arg8 harg8 x0 g arg8.view.junk, View.read_writes_junk_eq_canon]
  funext y
  exact View.canon_apply_of_pieces _ _ (loop2_rest Variants.none c none i arg1 harg1 arg2 harg2 arg3 harg3 arg4 harg4 arg5 harg5 arg6 harg6 arg7 harg7 arg8 harg8 x0 _ (scale1 Variants.none c none i arg1 harg1 arg2 harg2 arg3 harg3 arg4 harg4 arg5 harg5 arg6 harg6 arg7 harg7 arg8 harg8 x0) _ le_rfl) y (midCover8 c i arg1 harg1 arg2 harg2 arg3 harg3 arg4 harg4 arg5 harg5 arg6 harg6 arg7 harg7 arg8 harg8 x0 y)

/-- The low codes. -/
theorem out3_eq : out3 (F := Ideal) c i arg1 harg1 arg2 harg2 arg3 harg3 arg4 harg4 arg5 harg5 arg6 harg6 arg7 harg7 arg8 harg8 x0 x1 = loB x0 := by
  unfold out3
  rw [View.read_writes_junk_eq_canon]
  funext y
  refine View.canon_apply_of_pieces _ _ ?_ y (cover3 c i arg1 harg1 arg2 harg2 arg3 harg3 arg4 harg4 arg5 harg5 arg6 harg6 arg7 harg7 arg8 harg8 x0 x1 _ _ y)
  rw [run3]
  exact loop3_lo Variants.none c none i arg1 harg1 arg2 harg2 arg3 harg3 arg4 harg4 arg5 harg5 arg6 harg6 arg7 harg7 arg8 harg8 x0 _ (scale2 Variants.none c none i arg1 harg1 arg2 harg2 arg3 harg3 arg4 harg4 arg5 harg5 arg6 harg6 arg7 harg7 arg8 harg8 x0 _ (scale1 Variants.none c none i arg1 harg1 arg2 harg2 arg3 harg3 arg4 harg4 arg5 harg5 arg6 harg6 arg7 harg7 arg8 harg8 x0)) _ _ (rest_eq c i arg1 harg1 arg2 harg2 arg3 harg3 arg4 harg4 arg5 harg5 arg6 harg6 arg7 harg7 arg8 harg8 x0 _) _ le_rfl

/-- The squares of a packed byte of a row, zeros after the row's end. -/
def packT (x1 : Vec Ideal S32x1792 .i8) (r : Fin 32) (n : ℕ) : EReal :=
  if h : n < 1792 then (((Quant.low (x1 (ix2 r ⟨n, h⟩)) * Quant.low (x1 (ix2 r ⟨n, h⟩)) + Quant.high (x1 (ix2 r ⟨n, h⟩)) * Quant.high (x1 (ix2 r ⟨n, h⟩)) : ℤ) : ℝ) : EReal) else 0

/-- The squares of 128 columns of packed integers at an index. -/
theorem pack_load (arg2 : Memref sig .tc .vmem S32x1792 .i8) (harg2 : arg2.IsWhole) (x1 : Vec Ideal S32x1792 .i8) (off : Fin 2 → ℕ) (inb : ∀ a, off a + S32x128.size a ≤ S32x1792.size a)
    (n : ℕ) (h0 : off 0 = 0) (h1 : off 1 = n) (r : Fin 32) (l : Fin 128) :
    packV (arg2.view.readAt (Elt Ideal) (Rect.unit (s := S32x1792) off S32x128.size inb).toLoadRect (harg2.unread x1)) (ix2 r l) = packT x1 r (n + l.val) := by
  have hn : n + l.val < 1792 := by
    have := inb 1
    rw [h1] at this
    have hl := l.isLt
    change n + 128 ≤ 1792 at this
    omega
  have e0 : ((Rect.unit (s := S32x1792) off S32x128.size inb).emb (ix2 r l) 0).val = r.val :=
    (Rect.idx_unit_val (s := S32x1792) off S32x128.size inb (ix2 r l) 0).trans (by rw [h0]; exact Nat.zero_add _)
  have e1 : ((Rect.unit (s := S32x1792) off S32x128.size inb).emb (ix2 r l) 1).val = n + l.val :=
    (Rect.idx_unit_val (s := S32x1792) off S32x128.size inb (ix2 r l) 1).trans (by rw [h1]; rfl)
  have e : (Rect.unit (s := S32x1792) off S32x128.size inb).emb (ix2 r l) = ix2 r ⟨n + l.val, hn⟩ := by
    funext a
    fin_cases a
    · exact Fin.ext e0
    · exact Fin.ext e1
  have el : arg2.view.readAt (Elt Ideal) (Rect.unit (s := S32x1792) off S32x128.size inb).toLoadRect (harg2.unread x1) (ix2 r l) = x1 (ix2 r ⟨n + l.val, hn⟩) :=
    (congrArg (arg2.view.read (Elt Ideal) (harg2.unread x1)) e).trans (congrFun (harg2.read_unread x1) _)
  rw [packV_apply, el]
  unfold packT
  rw [dif_pos hn]

/-- A lane's squares of the packed integers, chunk by chunk. -/
theorem chain_lane (r : Fin 32) (l : Fin 128) : kernelRun.sl.r_27 (F := Ideal) c arg2 harg2 x1 (ix2 r l) = ∑ j ∈ Finset.range 14, packT x1 r (128 * j + l.val) := by
  rw [chain_eq]
  simp only [Finset.sum_range_succ, Finset.sum_range_zero]
  exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (pay45_apply (ix2 r l)) (pack_load arg2 harg2 x1 _ _ 0 rfl rfl r l)) (pack_load arg2 harg2 x1 _ _ 128 rfl rfl r l)) (pack_load arg2 harg2 x1 _ _ 256 rfl rfl r l)) (pack_load arg2 harg2 x1 _ _ 384 rfl rfl r l)) (pack_load arg2 harg2 x1 _ _ 512 rfl rfl r l)) (pack_load arg2 harg2 x1 _ _ 640 rfl rfl r l)) (pack_load arg2 harg2 x1 _ _ 768 rfl rfl r l)) (pack_load arg2 harg2 x1 _ _ 896 rfl rfl r l)) (pack_load arg2 harg2 x1 _ _ 1024 rfl rfl r l)) (pack_load arg2 harg2 x1 _ _ 1152 rfl rfl r l)) (pack_load arg2 harg2 x1 _ _ 1280 rfl rfl r l)) (pack_load arg2 harg2 x1 _ _ 1408 rfl rfl r l)) (pack_load arg2 harg2 x1 _ _ 1536 rfl rfl r l)) (pack_load arg2 harg2 x1 _ _ 1664 rfl rfl r l))

/-- The sum of the squares of the packed integers of a row. -/
theorem chain_apply (r : Fin 32) : ∑ l : Fin 128, kernelRun.sl.r_27 (F := Ideal) c arg2 harg2 x1 (ix2 r l) = Quant.sqX (fun i : Fin 1792 => x1 (ix2 r i)) := by
  refine (Finset.sum_congr rfl fun l _ => chain_lane c arg2 harg2 x1 r l).trans ((Quant.sum_chunks (packT x1 r)).trans ?_)
  exact Finset.sum_congr rfl fun i _ => dif_pos i.isLt

/-- The row figures. -/
theorem out6_eq (r : Fin 32) (k : Fin 128) : out6 (F := Ideal) c i arg1 harg1 arg2 harg2 arg3 harg3 arg4 harg4 arg5 harg5 arg6 harg6 arg7 harg7 arg8 harg8 x0 x1 (ix2 r k) = Quant.stat (row x0 r) (fun i => x1 (ix2 r i)) k := by
  unfold out6
  rw [View.read_writes_junk_eq_canon, run6]
  refine (congrFun (View.canon_unit_zero hz2 _ _) _).trans ?_
  refine (pay1_apply _ _ _ _ _ _ r k).trans ?_
  have e1 := scale1 Variants.none c none i arg1 harg1 arg2 harg2 arg3 harg3 arg4 harg4 arg5 harg5 arg6 harg6 arg7 harg7 arg8 harg8 x0 r 0
  have e2 := scale2 Variants.none c none i arg1 harg1 arg2 harg2 arg3 harg3 arg4 harg4 arg5 harg5 arg6 harg6 arg7 harg7 arg8 harg8 x0 _ (scale1 Variants.none c none i arg1 harg1 arg2 harg2 arg3 harg3 arg4 harg4 arg5 harg5 arg6 harg6 arg7 harg7 arg8 harg8 x0) r 0
  have e3 : ∑ l : Fin 128, (mid c i arg1 harg1 arg2 harg2 arg3 harg3 arg4 harg4 arg5 harg5 arg6 harg6 arg7 harg7 arg8 harg8 x0).1.2 (ix2 r l) = Quant.sqSum (row x0 r) (Quant.sHi (row x0 r)) := by
    refine (Finset.sum_congr rfl fun l _ => (loop2_sum Variants.none c none i arg1 harg1 arg2 harg2 arg3 harg3 arg4 harg4 arg5 harg5 arg6 harg6 arg7 harg7 arg8 harg8 x0 _ (scale1 Variants.none c none i arg1 harg1 arg2 harg2 arg3 harg3 arg4 harg4 arg5 harg5 arg6 harg6 arg7 harg7 arg8 harg8 x0) _ le_rfl r l).trans (congrArg (Quant.colSum _ _) (by decide : k0_t2_loop.trips = 37))).trans ((Quant.sum_colSum _).trans ?_)
    exact Finset.sum_congr rfl fun o _ => by rw [Quant.tot_val]
  have e4 : ∑ l : Fin 128, (fin c i arg1 harg1 arg2 harg2 arg3 harg3 arg4 harg4 arg5 harg5 arg6 harg6 arg7 harg7 arg8 harg8 x0 (arg3.view.writes (Elt Ideal) arg3.view.junk (mid c i arg1 harg1 arg2 harg2 arg3 harg3 arg4 harg4 arg5 harg5 arg6 harg6 arg7 harg7 arg8 harg8 x0).2.1) (arg8.view.writes (Elt Ideal) arg8.view.junk (mid c i arg1 harg1 arg2 harg2 arg3 harg3 arg4 harg4 arg5 harg5 arg6 harg6 arg7 harg7 arg8 harg8 x0).2.2)).1 (ix2 r l) = Quant.sqSum (Quant.rest (row x0 r)) (Quant.sLo (row x0 r)) := by
    refine (Finset.sum_congr rfl fun l _ => (loop3_sum Variants.none c none i arg1 harg1 arg2 harg2 arg3 harg3 arg4 harg4 arg5 harg5 arg6 harg6 arg7 harg7 arg8 harg8 x0 _ (scale2 Variants.none c none i arg1 harg1 arg2 harg2 arg3 harg3 arg4 harg4 arg5 harg5 arg6 harg6 arg7 harg7 arg8 harg8 x0 _ (scale1 Variants.none c none i arg1 harg1 arg2 harg2 arg3 harg3 arg4 harg4 arg5 harg5 arg6 harg6 arg7 harg7 arg8 harg8 x0)) _ _ (rest_eq c i arg1 harg1 arg2 harg2 arg3 harg3 arg4 harg4 arg5 harg5 arg6 harg6 arg7 harg7 arg8 harg8 x0 _) _ le_rfl r l).trans (congrArg (Quant.colSum _ _) (by decide : k0_t3_loop.trips = 37))).trans ((Quant.sum_colSum _).trans ?_)
    exact Finset.sum_congr rfl fun o _ => by rw [Quant.tot_val]
  have e5 := chain_apply c arg2 harg2 x1 r
  unfold Quant.stat
  refine if_congr Iff.rfl e1 (if_congr Iff.rfl e2 (if_congr Iff.rfl e3 (if_congr Iff.rfl e4 (if_congr Iff.rfl e5 (pay45_apply (ix2 r k))))))

end point

end Cert.QuantBody
end
-- ==== Proof.QPoints.lean ====
module

public import proofs.«01_k».proof.Proof.QBody

@[expose] public section

set_option maxRecDepth 8192

noncomputable section

/-! The quantiser's three result arrays, read at an index: every grid point's input blocks as pieces of the arguments, and
    the arrays the points fill. -/

namespace Cert.QuantBody

open Cert.QuantiseIdeal Cert.QuantiseIdeal.Gen Cert.QuantiseIdeal.Quant Idealize.ShloMosaic Idealize.ShloMosaic.TcCoe
open scoped BigOperators

variable (m : (ℓ : Loc nD τ sig) → Buf (Elt Ideal) ℓ) (c : Dev nD)

/-- The gradient and the packed integers, one row per token. -/
abbrev dyRows : FVec Ideal S1536x18944 .bf16 := shapeCast S1536x18944 (m (c.tc.loc main_arg0)) shapeCasts_S6x256x18944_S1536x18944
abbrev xRows : IVec S1536x1792 8 := shapeCast S1536x1792 (m (c.tc.loc main_arg1)) shapeCasts_S6x256x1792_S1536x1792
/-- Row `r` of each. -/
abbrev dyRow (r : Fin 1536) (o : Fin 18944) : EReal := dyRows m c (ix2 r o)
abbrev xRow (r : Fin 1536) (i : Fin 1792) : BitVec 8 := xRows m c (ix2 r i)

/-- The pipeline finds them in its first two operands. -/
theorem V_dy : V m c main_v0 = dyRows m c := rfl
theorem V_x : V m c main_v1 = xRows m c := rfl

theorem lt48 (t : Fin cfg0.N) : t.val < 48 := lt_of_lt_of_eq t.isLt N_0

/-! Point `t` is the block of 32 rows from `32 t` on, in every window. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

/-- The gradient's block. -/
theorem blk_dy (t : Fin cfg0.N) (r : Fin 32) (o : Fin 18944) :
    iblk m c 0 t (ix2 r o : S32x18944.Idx) = dyRows m c (ix2 ⟨32 * t.val + r.val, by have := lt48 t; omega⟩ o) := by
  obtain ⟨e0, e1⟩ := idx0 t
  have hV := congrFun (V_dy m c) (((cfg0.win 0).blk t).view.emb (ix2 r o : S32x18944.Idx))
  refine hV.trans (congrArg (dyRows m c) (funext fun a => Fin.ext ?_))
  match a with
  | ⟨0, _⟩ => show win0_0.index t (0 : Fin 2) * 32 + 1 * r.val = 32 * t.val + r.val; rw [e0]; omega
  | ⟨1, _⟩ => show win0_0.index t (1 : Fin 2) * 18944 + 1 * o.val = o.val; rw [e1]; omega

/-- The packed integers' block. -/
theorem blk_x (t : Fin cfg0.N) (r : Fin 32) (o : Fin 1792) :
    iblk m c 1 t (ix2 r o : S32x1792.Idx) = xRows m c (ix2 ⟨32 * t.val + r.val, by have := lt48 t; omega⟩ o) := by
  obtain ⟨e0, e1⟩ := idx1 t
  have hV := congrFun (V_x m c) (((cfg0.win 1).blk t).view.emb (ix2 r o : S32x1792.Idx))
  refine hV.trans (congrArg (xRows m c) (funext fun a => Fin.ext ?_))
  match a with
  | ⟨0, _⟩ => show win0_1.index t (0 : Fin 2) * 32 + 1 * r.val = 32 * t.val + r.val; rw [e0]; omega
  | ⟨1, _⟩ => show win0_1.index t (1 : Fin 2) * 1792 + 1 * o.val = o.val; rw [e1]; omega

/-- A block's row is the array's. -/
theorem row_blk (t : Fin cfg0.N) (r : Fin 32) (R : Fin 1536) (h : R.val = 32 * t.val + r.val) : row (iblk m c 0 t) r = dyRow m c R :=
  funext fun o => (blk_dy m c t r o).trans (congrArg (fun q => dyRows m c (ix2 q o)) (Fin.ext h.symm))
theorem xrow_blk (t : Fin cfg0.N) (r : Fin 32) (R : Fin 1536) (h : R.val = 32 * t.val + r.val) : (fun i => iblk m c 1 t (ix2 r i : S32x1792.Idx)) = xRow m c R :=
  funext fun o => (blk_x m c t r o).trans (congrArg (fun q => xRows m c (ix2 q o)) (Fin.ext h.symm))

/-- The three arrays. -/
def hiG : Vec Ideal S1536x18944 .i8 := fun y => Quant.bits (dyRow m c (y 0) (y 1)) (Quant.sHi (dyRow m c (y 0)))
def loG : Vec Ideal S1536x18944 .i8 := fun y => Quant.bits (Quant.rest (dyRow m c (y 0)) (y 1)) (Quant.sLo (dyRow m c (y 0)))
def stG : Vec Ideal S1536x128 .f32 := fun y => Quant.stat (dyRow m c (y 0)) (xRow m c (y 0)) (y 1)

/-- What a point leaves, at an index. -/
theorem hiAt_apply (t : Fin cfg0.N) (r : Fin 32) (o : Fin 18944) (R : Fin 1536) (h : R.val = 32 * t.val + r.val) : hiAt m c t (ix2 r o) = hiG m c (ix2 R o) := by
  unfold hiAt
  rw [out2_eq]
  exact congrArg (fun v : Fin 18944 → EReal => Quant.bits (v o) (Quant.sHi v)) (row_blk m c t r R h)
theorem loAt_apply (t : Fin cfg0.N) (r : Fin 32) (o : Fin 18944) (R : Fin 1536) (h : R.val = 32 * t.val + r.val) : loAt m c t (ix2 r o) = loG m c (ix2 R o) := by
  unfold loAt
  rw [out3_eq]
  exact congrArg (fun v : Fin 18944 → EReal => Quant.bits (Quant.rest v o) (Quant.sLo v)) (row_blk m c t r R h)
theorem stAt_apply (t : Fin cfg0.N) (r : Fin 32) (k : Fin 128) (R : Fin 1536) (h : R.val = 32 * t.val + r.val) : stAt m c t (ix2 r k) = stG m c (ix2 R k) := by
  unfold stAt
  rw [out6_eq]
  exact congrArg₂ (fun (v : Fin 18944 → EReal) (x : Fin 1792 → BitVec 8) => Quant.stat v x k) (row_blk m c t r R h) (xrow_blk m c t r R h)

/-- What point `t` writes back is block `t` of the array. -/
theorem flushed2 (t : Fin cfg0.N) (_ : (cfg0.win 2).flush t = true) :
    (dats m 0 c).flushed 2 t = ((cfg0.win 2).blk t).view.read (Elt Ideal) (hiG m c) := by
  show (cfg0.win 2).cut (grid0.coords t) ((dats m 0 c).after 2 t) = _
  rw [after0_2]
  obtain ⟨e0, e1⟩ := idx2 t
  funext y
  have hy0 : (y 0).val < 32 := (y 0).isLt
  have hy1 : (y 1).val < 18944 := (y 1).isLt
  have ht := lt48 t
  have key := hiAt_apply m c t ⟨(y 0).val, hy0⟩ ⟨(y 1).val, hy1⟩ ⟨32 * t.val + (y 0).val, by omega⟩ rfl
  have hl : (cfg0.win 2).xinj (grid0.coords t) y = (ix2 ⟨(y 0).val, hy0⟩ ⟨(y 1).val, hy1⟩ : S32x18944.Idx) := by
    funext a
    match a with
    | ⟨0, _⟩ => rfl
    | ⟨1, _⟩ => rfl
  have hr : ((cfg0.win 2).blk t).view.emb y = (ix2 ⟨32 * t.val + (y 0).val, by omega⟩ ⟨(y 1).val, hy1⟩ : S1536x18944.Idx) := by
    funext a
    refine Fin.ext ?_
    match a with
    | ⟨0, _⟩ => show win0_2.index t (0 : Fin 2) * 32 + 1 * (y 0).val = 32 * t.val + (y 0).val; rw [e0]; omega
    | ⟨1, _⟩ => show win0_2.index t (1 : Fin 2) * 18944 + 1 * (y 1).val = (y 1).val; rw [e1]; omega
  show hiAt m c t ((cfg0.win 2).xinj (grid0.coords t) y) = hiG m c (((cfg0.win 2).blk t).view.emb y)
  rw [hl, hr]
  exact key

/-- Every index is in a block that is written back. -/
theorem covered2 (i : S1536x18944.Idx) : ∃ t : Fin cfg0.N, (cfg0.win 2).flush t = true ∧ i ∈ ((cfg0.win 2).blk t).view.set := by
  have hi0 : (i 0).val < 1536 := (i 0).isLt
  have hi1 : (i 1).val < 18944 := (i 1).isLt
  have hN : (i 0).val / 32 < grid0.N := lt_of_lt_of_eq (by omega) N_0.symm
  refine ⟨⟨(i 0).val / 32, hN⟩, (by decide +kernel : ∀ t : Fin grid0.N, win0_2.flush t = true) _, ?_⟩
  obtain ⟨e0, e1⟩ := idx2 ⟨(i 0).val / 32, hN⟩
  show i ∈ ((View.whole main_v2_0).slice (win0_2.rect ⟨(i 0).val / 32, hN⟩)).set
  rw [View.set_slice_whole, Rect.mem_set_unit]
  intro a
  match a with
  | ⟨0, _⟩ =>
    show win0_2.index ⟨(i 0).val / 32, hN⟩ (0 : Fin 2) * 32 ≤ (i 0).val ∧ (i 0).val < win0_2.index ⟨(i 0).val / 32, hN⟩ (0 : Fin 2) * 32 + 32
    rw [e0]
    show (i 0).val / 32 * 32 ≤ (i 0).val ∧ (i 0).val < (i 0).val / 32 * 32 + 32
    omega
  | ⟨1, _⟩ =>
    show win0_2.index ⟨(i 0).val / 32, hN⟩ (1 : Fin 2) * 18944 ≤ (i 1).val ∧ (i 1).val < win0_2.index ⟨(i 0).val / 32, hN⟩ (1 : Fin 2) * 18944 + 18944
    rw [e1]
    omega

/-- The array after the run. -/
theorem final2 : (dats m 0 c).arrAt 2 cfg0.N = hiG m c :=
  (dats m 0 c).arrAt_eq_of_cover 2 _ (fun t hf => flushed2 m c t hf) (fun i => covered2 i)

/-- What point `t` writes back is block `t` of the array. -/
theorem flushed3 (t : Fin cfg0.N) (_ : (cfg0.win 3).flush t = true) :
    (dats m 0 c).flushed 3 t = ((cfg0.win 3).blk t).view.read (Elt Ideal) (loG m c) := by
  show (cfg0.win 3).cut (grid0.coords t) ((dats m 0 c).after 3 t) = _
  rw [after0_3]
  obtain ⟨e0, e1⟩ := idx3 t
  funext y
  have hy0 : (y 0).val < 32 := (y 0).isLt
  have hy1 : (y 1).val < 18944 := (y 1).isLt
  have ht := lt48 t
  have key := loAt_apply m c t ⟨(y 0).val, hy0⟩ ⟨(y 1).val, hy1⟩ ⟨32 * t.val + (y 0).val, by omega⟩ rfl
  have hl : (cfg0.win 3).xinj (grid0.coords t) y = (ix2 ⟨(y 0).val, hy0⟩ ⟨(y 1).val, hy1⟩ : S32x18944.Idx) := by
    funext a
    match a with
    | ⟨0, _⟩ => rfl
    | ⟨1, _⟩ => rfl
  have hr : ((cfg0.win 3).blk t).view.emb y = (ix2 ⟨32 * t.val + (y 0).val, by omega⟩ ⟨(y 1).val, hy1⟩ : S1536x18944.Idx) := by
    funext a
    refine Fin.ext ?_
    match a with
    | ⟨0, _⟩ => show win0_3.index t (0 : Fin 2) * 32 + 1 * (y 0).val = 32 * t.val + (y 0).val; rw [e0]; omega
    | ⟨1, _⟩ => show win0_3.index t (1 : Fin 2) * 18944 + 1 * (y 1).val = (y 1).val; rw [e1]; omega
  show loAt m c t ((cfg0.win 3).xinj (grid0.coords t) y) = loG m c (((cfg0.win 3).blk t).view.emb y)
  rw [hl, hr]
  exact key

/-- Every index is in a block that is written back. -/
theorem covered3 (i : S1536x18944.Idx) : ∃ t : Fin cfg0.N, (cfg0.win 3).flush t = true ∧ i ∈ ((cfg0.win 3).blk t).view.set := by
  have hi0 : (i 0).val < 1536 := (i 0).isLt
  have hi1 : (i 1).val < 18944 := (i 1).isLt
  have hN : (i 0).val / 32 < grid0.N := lt_of_lt_of_eq (by omega) N_0.symm
  refine ⟨⟨(i 0).val / 32, hN⟩, (by decide +kernel : ∀ t : Fin grid0.N, win0_3.flush t = true) _, ?_⟩
  obtain ⟨e0, e1⟩ := idx3 ⟨(i 0).val / 32, hN⟩
  show i ∈ ((View.whole main_v2_1).slice (win0_3.rect ⟨(i 0).val / 32, hN⟩)).set
  rw [View.set_slice_whole, Rect.mem_set_unit]
  intro a
  match a with
  | ⟨0, _⟩ =>
    show win0_3.index ⟨(i 0).val / 32, hN⟩ (0 : Fin 2) * 32 ≤ (i 0).val ∧ (i 0).val < win0_3.index ⟨(i 0).val / 32, hN⟩ (0 : Fin 2) * 32 + 32
    rw [e0]
    show (i 0).val / 32 * 32 ≤ (i 0).val ∧ (i 0).val < (i 0).val / 32 * 32 + 32
    omega
  | ⟨1, _⟩ =>
    show win0_3.index ⟨(i 0).val / 32, hN⟩ (1 : Fin 2) * 18944 ≤ (i 1).val ∧ (i 1).val < win0_3.index ⟨(i 0).val / 32, hN⟩ (1 : Fin 2) * 18944 + 18944
    rw [e1]
    omega

/-- The array after the run. -/
theorem final3 : (dats m 0 c).arrAt 3 cfg0.N = loG m c :=
  (dats m 0 c).arrAt_eq_of_cover 3 _ (fun t hf => flushed3 m c t hf) (fun i => covered3 i)

/-- What point `t` writes back is block `t` of the array. -/
theorem flushed6 (t : Fin cfg0.N) (_ : (cfg0.win 6).flush t = true) :
    (dats m 0 c).flushed 6 t = ((cfg0.win 6).blk t).view.read (Elt Ideal) (stG m c) := by
  show (cfg0.win 6).cut (grid0.coords t) ((dats m 0 c).after 6 t) = _
  rw [after0_6]
  obtain ⟨e0, e1⟩ := idx6 t
  funext y
  have hy0 : (y 0).val < 32 := (y 0).isLt
  have hy1 : (y 1).val < 128 := (y 1).isLt
  have ht := lt48 t
  have key := stAt_apply m c t ⟨(y 0).val, hy0⟩ ⟨(y 1).val, hy1⟩ ⟨32 * t.val + (y 0).val, by omega⟩ rfl
  have hl : (cfg0.win 6).xinj (grid0.coords t) y = (ix2 ⟨(y 0).val, hy0⟩ ⟨(y 1).val, hy1⟩ : S32x128.Idx) := by
    funext a
    match a with
    | ⟨0, _⟩ => rfl
    | ⟨1, _⟩ => rfl
  have hr : ((cfg0.win 6).blk t).view.emb y = (ix2 ⟨32 * t.val + (y 0).val, by omega⟩ ⟨(y 1).val, hy1⟩ : S1536x128.Idx) := by
    funext a
    refine Fin.ext ?_
    match a with
    | ⟨0, _⟩ => show win0_6.index t (0 : Fin 2) * 32 + 1 * (y 0).val = 32 * t.val + (y 0).val; rw [e0]; omega
    | ⟨1, _⟩ => show win0_6.index t (1 : Fin 2) * 128 + 1 * (y 1).val = (y 1).val; rw [e1]; omega
  show stAt m c t ((cfg0.win 6).xinj (grid0.coords t) y) = stG m c (((cfg0.win 6).blk t).view.emb y)
  rw [hl, hr]
  exact key

/-- Every index is in a block that is written back. -/
theorem covered6 (i : S1536x128.Idx) : ∃ t : Fin cfg0.N, (cfg0.win 6).flush t = true ∧ i ∈ ((cfg0.win 6).blk t).view.set := by
  have hi0 : (i 0).val < 1536 := (i 0).isLt
  have hi1 : (i 1).val < 128 := (i 1).isLt
  have hN : (i 0).val / 32 < grid0.N := lt_of_lt_of_eq (by omega) N_0.symm
  refine ⟨⟨(i 0).val / 32, hN⟩, (by decide +kernel : ∀ t : Fin grid0.N, win0_6.flush t = true) _, ?_⟩
  obtain ⟨e0, e1⟩ := idx6 ⟨(i 0).val / 32, hN⟩
  show i ∈ ((View.whole main_v2_4).slice (win0_6.rect ⟨(i 0).val / 32, hN⟩)).set
  rw [View.set_slice_whole, Rect.mem_set_unit]
  intro a
  match a with
  | ⟨0, _⟩ =>
    show win0_6.index ⟨(i 0).val / 32, hN⟩ (0 : Fin 2) * 32 ≤ (i 0).val ∧ (i 0).val < win0_6.index ⟨(i 0).val / 32, hN⟩ (0 : Fin 2) * 32 + 32
    rw [e0]
    show (i 0).val / 32 * 32 ≤ (i 0).val ∧ (i 0).val < (i 0).val / 32 * 32 + 32
    omega
  | ⟨1, _⟩ =>
    show win0_6.index ⟨(i 0).val / 32, hN⟩ (1 : Fin 2) * 128 ≤ (i 1).val ∧ (i 1).val < win0_6.index ⟨(i 0).val / 32, hN⟩ (1 : Fin 2) * 128 + 128
    rw [e1]
    omega

/-- The array after the run. -/
theorem final6 : (dats m 0 c).arrAt 6 cfg0.N = stG m c :=
  (dats m 0 c).arrAt_eq_of_cover 6 _ (fun t hf => flushed6 m c t hf) (fun i => covered6 i)

end Cert.QuantBody
end
-- ==== Proof.QRef.lean ====
module

public import proofs.«01_k».proof.Proof.Gen.QuantiseReferenceIdeal.Run
public import proofs.«01_k».proof.Proof.QRow
public import Idealize.ShloMosaic.Lib.Pipeline.Value
public import Idealize.ShloMosaic.Lib.Pointwise

@[expose] public section

noncomputable section

/-! The quantiser's reference, its three results read at an index: they are the row quantities of QSpec.lean. -/

namespace Cert.QuantRef

open Cert.QuantiseReferenceIdeal Cert.QuantiseReferenceIdeal.Gen Cert.QuantiseReferenceIdeal.Value Idealize.ShloMosaic
open scoped BigOperators

/-- The greatest magnitudes of all rows of a matrix. -/
abbrev tops (v : FVec Ideal S1536x18944 .f32) : FVec Ideal S1536 .f32 :=
  Host.reduce FloatOps.maximumf (Host.absf v) (constant S_ .f32 0xFF800000#32) reducesTo_S1536x18944_S1536_d1 h_S_

/-- A row's greatest magnitude. -/
theorem tops_apply (v : FVec Ideal S1536x18944 .f32) (r : Fin 1536) : tops v (ix1 r) = Quant.amax fun o => v (ix2 r o) :=
  Quant.reduce_max (Host.absf v) reducesTo_S1536x18944_S1536_d1 h_S_ r

/-- The scales of rows of given greatest magnitudes. -/
abbrev scales (a : FVec Ideal S1536 .f32) : FVec Ideal S1536 .f32 :=
  select (cmpf .oeq a (broadcastInDim S1536 ![] bcast_S_S1536 (constant S_ .f32 0x00000000#32))) (broadcastInDim S1536 ![] bcast_S_S1536 (id (constant S_ .f32 0x3F800000#32))) (Host.divf a (broadcastInDim S1536 ![] bcast_S_S1536 (constant S_ .f32 0x40E00000#32)))

/-- A row's scale. -/
theorem scales_apply (a : FVec Ideal S1536 .f32) (r : Fin 1536) : scales a (ix1 r) = Quant.scale (a (ix1 r)) := by
  unfold scales
  pointwise
  rw [Quant.ofBits_seven]
  unfold Quant.scale
  refine if_congr Iff.rfl ?_ rfl
  exact Quant.ofBits_one

/-- The codes of a matrix at its rows' scales. -/
abbrev codes (v : FVec Ideal S1536x18944 .f32) (s : FVec Ideal S1536 .f32) : IVec S1536x18944 8 :=
  trunci 8 (fptosi 32 (minimumf (broadcastInDim S1536x18944 ![] bcast_S_S1536x18944 (sitofp .f32 (constantI S_ 32 7#32))) (maximumf (broadcastInDim S1536x18944 ![] bcast_S_S1536x18944 (sitofp .f32 (constantI S_ 32 4294967289#32))) (Host.roundeven (Host.divf v (broadcastInDim S1536x18944 ![0, 1] bcast_S1536x1_S1536x18944_0_1 (broadcastInDim S1536x1 ![0] bcast_S1536_S1536x1_0 s))))))) natLt_8_32

/-- The limits of the clip. -/
theorem lim_hi : ((((7#32 : BitVec 32).toInt : ℝ)) : EReal) = ((7 : ℝ) : EReal) := by
  rw [show (7#32 : BitVec 32).toInt = 7 by decide]; norm_num
theorem lim_lo : ((((4294967289#32 : BitVec 32).toInt : ℝ)) : EReal) = ((-7 : ℝ) : EReal) := by
  rw [show (4294967289#32 : BitVec 32).toInt = -7 by decide]; norm_num

/-- A code at an index. -/
theorem codes_apply (v : FVec Ideal S1536x18944 .f32) (s : FVec Ideal S1536 .f32) (r : Fin 1536) (o : Fin 18944) :
    codes v s (ix2 r o) = Quant.bits (v (ix2 r o)) (s (ix1 r)) := by
  unfold codes
  pointwise
  rw [← Quant.bits_eq]
  unfold Quant.code
  rw [← lim_hi, ← lim_lo]
  rfl

/-- The codes as numbers. -/
abbrev nums (q : IVec S1536x18944 8) : FVec Ideal S1536x18944 .f32 := sitofp .f32 (extsi 32 q natLt_8_32)

/-- A code as a number, at an index. -/
theorem nums_apply (q : IVec S1536x18944 8) (r : Fin 1536) (o : Fin 18944) :
    nums q (ix2 r o) = ((((q (ix2 r o)).signExtend 32).toInt : ℝ) : EReal) := by
  unfold nums
  pointwise
  rfl

/-- What the codes leave of a matrix. -/
abbrev rests (v f : FVec Ideal S1536x18944 .f32) (s : FVec Ideal S1536 .f32) : FVec Ideal S1536x18944 .f32 :=
  subf v (mulf f (broadcastInDim S1536x18944 ![0, 1] bcast_S1536x1_S1536x18944_0_1 (broadcastInDim S1536x1 ![0] bcast_S1536_S1536x1_0 s)))

/-- The remainder at an index. -/
theorem rests_apply (v f : FVec Ideal S1536x18944 .f32) (s : FVec Ideal S1536 .f32) (r : Fin 1536) (o : Fin 18944) :
    rests v f s (ix2 r o) = v (ix2 r o) - f (ix2 r o) * s (ix1 r) := by
  unfold rests
  pointwise

/-- The rows' sums of squares. -/
abbrev squares (f : FVec Ideal S1536x18944 .f32) : FVec Ideal S1536 .f32 :=
  Host.reduceAdd (mulf f f) (constant S_ .f32 0x00000000#32) reducesTo_S1536x18944_S1536_d1 h_S_

/-- A row's sum of squares. -/
theorem squares_apply (f : FVec Ideal S1536x18944 .f32) (r : Fin 1536) :
    squares f (ix1 r) = ∑ o : Fin 18944, f (ix2 r o) * f (ix2 r o) :=
  Quant.reduce_add (mulf f f) reducesTo_S1536x18944_S1536_d1 h_S_ r

/-- The low halves of the packed bytes, decoded. -/
abbrev xLo (x : IVec S1536x1792 8) : FVec Ideal S1536x1792 .f32 :=
  sitofp .f32 (subi (andi (extui 32 x natLt_8_32) (broadcastInDim S1536x1792 ![] bcast_S_S1536x1792 (constantI S_ 32 15#32))) (muli (broadcastInDim S1536x1792 ![] bcast_S_S1536x1792 (constantI S_ 32 16#32)) (extui 32 (cmpi .sge (andi (extui 32 x natLt_8_32) (broadcastInDim S1536x1792 ![] bcast_S_S1536x1792 (constantI S_ 32 15#32))) (broadcastInDim S1536x1792 ![] bcast_S_S1536x1792 (constantI S_ 32 8#32))) natLt_1_32)))

/-- The high halves of the packed bytes, decoded. -/
abbrev xHi (x : IVec S1536x1792 8) : FVec Ideal S1536x1792 .f32 :=
  sitofp .f32 (subi (andi (Host.shrsi (extui 32 x natLt_8_32) (broadcastInDim S1536x1792 ![] bcast_S_S1536x1792 (constantI S_ 32 4#32))) (broadcastInDim S1536x1792 ![] bcast_S_S1536x1792 (constantI S_ 32 15#32))) (muli (broadcastInDim S1536x1792 ![] bcast_S_S1536x1792 (constantI S_ 32 16#32)) (extui 32 (cmpi .sge (andi (Host.shrsi (extui 32 x natLt_8_32) (broadcastInDim S1536x1792 ![] bcast_S_S1536x1792 (constantI S_ 32 4#32))) (broadcastInDim S1536x1792 ![] bcast_S_S1536x1792 (constantI S_ 32 15#32))) (broadcastInDim S1536x1792 ![] bcast_S_S1536x1792 (constantI S_ 32 8#32))) natLt_1_32)))

/-- `lo - 16 * (lo ≥ 8)` on the four low bits is their two's complement value. -/
theorem low_word : ∀ b : BitVec 8,
    (IntOp.subi (IntOp.andi (BitVec.setWidth 32 b) 15#32) (IntOp.muli 16#32 (BitVec.setWidth 32
      (IntOp.cmpi CmpIPredicate.sge (IntOp.andi (BitVec.setWidth 32 b) 15#32) 8#32)))).toInt = Quant.low b := by
  decide +kernel

/-- The same on the four high bits. -/
theorem high_word : ∀ b : BitVec 8,
    (IntOp.subi (IntOp.andi (IntOp.shrsi .host (BitVec.setWidth 32 b) 4#32) 15#32) (IntOp.muli 16#32 (BitVec.setWidth 32
      (IntOp.cmpi CmpIPredicate.sge (IntOp.andi (IntOp.shrsi .host (BitVec.setWidth 32 b) 4#32) 15#32) 8#32)))).toInt = Quant.high b := by
  decide +kernel

/-- A decoded low half at an index. -/
theorem xLo_apply (x : IVec S1536x1792 8) (r : Fin 1536) (i : Fin 1792) : xLo x (ix2 r i) = (((Quant.low (x (ix2 r i)) : ℝ)) : EReal) := by
  unfold xLo
  pointwise
  exact congrArg (fun n : Int => (((n : ℝ)) : EReal)) (low_word _)

/-- A decoded high half at an index. -/
theorem xHi_apply (x : IVec S1536x1792 8) (r : Fin 1536) (i : Fin 1792) : xHi x (ix2 r i) = (((Quant.high (x (ix2 r i)) : ℝ)) : EReal) := by
  unfold xHi
  pointwise
  exact congrArg (fun n : Int => (((n : ℝ)) : EReal)) (high_word _)

/-- The rows' sums of squares of the decoded halves. -/
abbrev xSquares (f : FVec Ideal S1536x1792 .f32) : FVec Ideal S1536 .f32 :=
  Host.reduceAdd (mulf f f) (constant S_ .f32 0x00000000#32) reducesTo_S1536x1792_S1536_d1 h_S_

/-- A row's sum of squares of decoded halves. -/
theorem xSquares_apply (f : FVec Ideal S1536x1792 .f32) (r : Fin 1536) :
    xSquares f (ix1 r) = ∑ i : Fin 1792, f (ix2 r i) * f (ix2 r i) :=
  Quant.reduce_add (mulf f f) reducesTo_S1536x1792_S1536_d1 h_S_ r

/-- Five figures per row, side by side. -/
abbrev five (a b d e g : FVec Ideal S1536 .f32) : FVec Ideal S1536x5 .f32 :=
  concatenate S1536x5 1 [⟨S1536x1, ((broadcastInDim S1536x1 ![0] bcast_S1536_S1536x1_0 a) : (⟨S1536x1, .f32⟩ : BufTy).Contents (Elt Ideal))⟩, ⟨S1536x1, ((broadcastInDim S1536x1 ![0] bcast_S1536_S1536x1_0 b) : (⟨S1536x1, .f32⟩ : BufTy).Contents (Elt Ideal))⟩, ⟨S1536x1, ((broadcastInDim S1536x1 ![0] bcast_S1536_S1536x1_0 d) : (⟨S1536x1, .f32⟩ : BufTy).Contents (Elt Ideal))⟩, ⟨S1536x1, ((broadcastInDim S1536x1 ![0] bcast_S1536_S1536x1_0 e) : (⟨S1536x1, .f32⟩ : BufTy).Contents (Elt Ideal))⟩, ⟨S1536x1, ((broadcastInDim S1536x1 ![0] bcast_S1536_S1536x1_0 g) : (⟨S1536x1, .f32⟩ : BufTy).Contents (Elt Ideal))⟩] concatenates_S1536x1_S1536x1_S1536x1_S1536x1_S1536x1_S1536x5_d1

/-- Five columns, then zeros. -/
abbrev padded (f : FVec Ideal S1536x5 .f32) : FVec Ideal S1536x128 .f32 :=
  concatenate S1536x128 1 [⟨S1536x5, f⟩, ⟨S1536x123, ((broadcastInDim S1536x123 ![] bcast_S_S1536x123 (constant S_ .f32 0x00000000#32)) : FVec Ideal S1536x123 .f32)⟩] concatenates_S1536x5_S1536x123_S1536x128_d1

/-- The five columns at an index. -/
theorem five_apply (a b d e g : FVec Ideal S1536 .f32) (r : Fin 1536) (k : Fin 5) :
    five a b d e g (ix2 r k) = if k.val = 0 then a (ix1 r) else if k.val = 1 then b (ix1 r) else if k.val = 2 then d (ix1 r) else if k.val = 3 then e (ix1 r) else g (ix1 r) := by
  unfold five
  fin_cases k <;> (pointwise; done)

/-- The padded columns at an index. -/
theorem padded_apply (f : FVec Ideal S1536x5 .f32) (r : Fin 1536) (k : Fin 128) :
    padded f (ix2 r k) = if h : k.val < 5 then f (ix2 r ⟨k.val, h⟩) else 0 := by
  unfold padded
  pointwise

/-- The reference's terms, in the pieces above. -/
abbrev vv (d : FVec Ideal S6x256x18944 .bf16) : FVec Ideal S1536x18944 .f32 :=
  extf .f32 (shapeCast S1536x18944 d shapeCasts_S6x256x18944_S1536x18944 : FVec Ideal S1536x18944 .bf16) bitsLt_bf16_f32
abbrev xx (x : IVec S6x256x1792 8) : IVec S1536x1792 8 :=
  shapeCast S1536x1792 x shapeCasts_S6x256x1792_S1536x1792
abbrev s1 (d : FVec Ideal S6x256x18944 .bf16) := scales (tops (vv d))
abbrev q1 (d : FVec Ideal S6x256x18944 .bf16) := codes (vv d) (s1 d)
abbrev r1 (d : FVec Ideal S6x256x18944 .bf16) := rests (vv d) (nums (q1 d)) (s1 d)
abbrev s2 (d : FVec Ideal S6x256x18944 .bf16) := scales (tops (r1 d))
abbrev q2 (d : FVec Ideal S6x256x18944 .bf16) := codes (r1 d) (s2 d)

theorem lowRes_eq (m : (ℓ : Loc nD τ sig) → Buf (Elt Ideal) ℓ) (c : Dev nD) : res_out1 m c = q2 (m (c.tc.loc main_arg0)) := rfl
/-- The row figures, assembled. -/
abbrev figures (d : FVec Ideal S6x256x18944 .bf16) (x : IVec S6x256x1792 8) : FVec Ideal S1536x128 .f32 :=
  padded (five (s1 d) (s2 d) (squares (nums (q1 d))) (squares (nums (q2 d))) (addf (xSquares (xLo (xx x))) (xSquares (xHi (xx x)))))
theorem statRes_eq (m : (ℓ : Loc nD τ sig) → Buf (Elt Ideal) ℓ) (c : Dev nD) : res_out2 m c = figures (m (c.tc.loc main_arg0)) (m (c.tc.loc main_arg1)) := rfl

/-- Row `r` of the gradient and of the packed inputs. -/
abbrev row (d : FVec Ideal S6x256x18944 .bf16) (r : Fin 1536) (o : Fin 18944) : EReal := vv d (ix2 r o)
abbrev xrow (x : IVec S6x256x1792 8) (r : Fin 1536) (i : Fin 1792) : BitVec 8 := xx x (ix2 r i)

/-- The first scale. -/
theorem s1_apply (d : FVec Ideal S6x256x18944 .bf16) (r : Fin 1536) : s1 d (ix1 r) = Quant.sHi (row d r) :=
  (scales_apply _ r).trans (congrArg Quant.scale (tops_apply _ r))
/-- The first code. -/
theorem q1_apply (d : FVec Ideal S6x256x18944 .bf16) (r : Fin 1536) (o : Fin 18944) :
    q1 d (ix2 r o) = Quant.bits (row d r o) (Quant.sHi (row d r)) :=
  (codes_apply _ _ r o).trans (congrArg (Quant.bits (row d r o)) (s1_apply d r))
/-- The first code as a number. -/
theorem f1_apply (d : FVec Ideal S6x256x18944 .bf16) (r : Fin 1536) (o : Fin 18944) :
    nums (q1 d) (ix2 r o) = Quant.code (row d r o) (Quant.sHi (row d r)) :=
  (nums_apply _ r o).trans ((congrArg (fun b : BitVec 8 => (((b.signExtend 32).toInt : ℝ) : EReal)) (q1_apply d r o)).trans (Quant.bits_toInt _ _))
/-- The remainder. -/
theorem r1_apply (d : FVec Ideal S6x256x18944 .bf16) (r : Fin 1536) (o : Fin 18944) :
    r1 d (ix2 r o) = Quant.rest (row d r) o :=
  (rests_apply (vv d) (nums (q1 d)) (s1 d) r o).trans (by unfold Quant.rest; rw [f1_apply, s1_apply])
/-- The second scale. -/
theorem s2_apply (d : FVec Ideal S6x256x18944 .bf16) (r : Fin 1536) : s2 d (ix1 r) = Quant.sLo (row d r) :=
  (scales_apply _ r).trans (congrArg Quant.scale ((tops_apply _ r).trans (congrArg Quant.amax (funext fun o => r1_apply d r o))))
/-- The second code. -/
theorem q2_apply (d : FVec Ideal S6x256x18944 .bf16) (r : Fin 1536) (o : Fin 18944) :
    q2 d (ix2 r o) = Quant.bits (Quant.rest (row d r) o) (Quant.sLo (row d r)) :=
  (codes_apply _ _ r o).trans (congr (congrArg Quant.bits (r1_apply d r o)) (s2_apply d r))
/-- The second code as a number. -/
theorem f2_apply (d : FVec Ideal S6x256x18944 .bf16) (r : Fin 1536) (o : Fin 18944) :
    nums (q2 d) (ix2 r o) = Quant.code (Quant.rest (row d r) o) (Quant.sLo (row d r)) :=
  (nums_apply _ r o).trans ((congrArg (fun b : BitVec 8 => (((b.signExtend 32).toInt : ℝ) : EReal)) (q2_apply d r o)).trans (Quant.bits_toInt _ _))

/-- The two sums of squares of halves, added, are one sum. -/
theorem halves {n : ℕ} (x : Fin n → BitVec 8) :
    (∑ i, ((Quant.low (x i) : ℝ) : EReal) * ((Quant.low (x i) : ℝ) : EReal)) + (∑ i, ((Quant.high (x i) : ℝ) : EReal) * ((Quant.high (x i) : ℝ) : EReal)) = Quant.sqX x := by
  unfold Quant.sqX
  rw [← Finset.sum_add_distrib]
  refine Finset.sum_congr rfl fun i _ => ?_
  rw [← EReal.coe_mul, ← EReal.coe_mul, ← EReal.coe_add]
  push_cast
  rfl

/-- A sum of two figures at a row. -/
theorem plus_apply (a b : FVec Ideal S1536 .f32) (r : Fin 1536) : addf a b (ix1 r) = a (ix1 r) + b (ix1 r) := rfl

/-- The row figures are those of the specification. -/
theorem figures_apply (d : FVec Ideal S6x256x18944 .bf16) (x : IVec S6x256x1792 8) (r : Fin 1536) (k : Fin 128) :
    figures d x (ix2 r k) = Quant.stat (row d r) (xrow x r) k := by
  refine (padded_apply _ r k).trans ?_
  have h3 : squares (nums (q1 d)) (ix1 r) = Quant.sqSum (row d r) (Quant.sHi (row d r)) :=
    (squares_apply _ r).trans (Finset.sum_congr rfl fun o _ => congr (congrArg (· * ·) (f1_apply d r o)) (f1_apply d r o))
  have h4 : squares (nums (q2 d)) (ix1 r) = Quant.sqSum (Quant.rest (row d r)) (Quant.sLo (row d r)) :=
    (squares_apply _ r).trans (Finset.sum_congr rfl fun o _ => congr (congrArg (· * ·) (f2_apply d r o)) (f2_apply d r o))
  have h5 : addf (xSquares (xLo (xx x))) (xSquares (xHi (xx x))) (ix1 r) = Quant.sqX (xrow x r) := by
    refine (plus_apply _ _ r).trans (Eq.trans ?_ (halves (xrow x r)))
    refine congrArg₂ (fun a b : EReal => a + b) ?_ ?_
    · exact (xSquares_apply _ r).trans (Finset.sum_congr rfl fun i _ => congr (congrArg (· * ·) (xLo_apply _ r i)) (xLo_apply _ r i))
    · exact (xSquares_apply _ r).trans (Finset.sum_congr rfl fun i _ => congr (congrArg (· * ·) (xHi_apply _ r i)) (xHi_apply _ r i))
  have h1 := s1_apply d r
  have h2 := s2_apply d r
  generalize squares (nums (q1 d)) = e3 at h3 ⊢
  generalize squares (nums (q2 d)) = e4 at h4 ⊢
  generalize addf (xSquares (xLo (xx x))) (xSquares (xHi (xx x))) = e5 at h5 ⊢
  generalize s2 d = e2 at h2 ⊢
  generalize s1 d = e1 at h1 ⊢
  unfold Quant.stat
  by_cases h : k.val < 5
  · rw [dif_pos h, five_apply, h1, h2, h3, h4, h5]
    by_cases h4' : k.val = 4
    · rw [if_pos h4']
    · have : k.val = 0 ∨ k.val = 1 ∨ k.val = 2 ∨ k.val = 3 := by omega
      rcases this with e | e | e | e <;> simp [e]
  · have n0 : ¬ k.val = 0 := by omega
    have n1 : ¬ k.val = 1 := by omega
    have n2 : ¬ k.val = 2 := by omega
    have n3 : ¬ k.val = 3 := by omega
    have n4 : ¬ k.val = 4 := by omega
    rw [dif_neg h, if_neg n0, if_neg n1, if_neg n2, if_neg n3, if_neg n4]

end Cert.QuantRef
end
-- ==== Proof.BothQLowK.lean ====
/- The third counted loop of the quantiser's body (the low codes): what one trip leaves, and the loop's invariant.
   The loop stores the packed words through a strided rectangle; what those stores leave is not named here (the
   packed words are no result of the claims), everything else is. -/
module

public import proofs.«01_k».proof.Proof.Gen.Both.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 8192
set_option maxHeartbeats 4000000

noncomputable section

namespace Cert.Both.Low

open Cert.Both Cert.Both.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip touches: the high codes and the residual at their contents, the low codes at `f`, the packed words at
    anything. -/
abbrev Trip (c : Dev nD) (arg3 : Memref sig .tc .vmem S32x18944 .i8) (arg8 : Memref sig .tc .vmem S32x18944 .f32) (arg4 : Memref sig .tc .vmem S32x18944 .i8) (arg5 : Memref sig .tc .vmem S1280x128 .i32) (X_arg3 : BufTy.Contents (Elt F) arg3.view.ty) (X_arg8 : BufTy.Contents (Elt F) arg8.view.ty) (f : BufTy.Contents (Elt F) arg4.view.ty) : sProp 𝕄G :=
  iprop((arg3.view.loc (c : Thread nD τ) ↦[arg3.view.set]{fullShare} X_arg3) ∗ (arg8.view.loc (c : Thread nD τ) ↦[arg8.view.set]{fullShare} X_arg8) ∗ (arg4.view.loc (c : Thread nD τ) ↦[arg4.view.set]{fullShare} f) ∗ (∃ g, arg5.view.loc (c : Thread nD τ) ↦[arg5.view.set]{fullShare} g))

/-- One trip at a symbolic `k`: the sums it yields and the pieces it writes into the low codes, as functions of the sums
    it is given. -/
@[irreducible] def trip (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (k : Fin k0_t3_loop.trips) :
    Σ' (R : ((FVec F S32x128 .f32) → FVec F S32x128 .f32)), { L : ((FVec F S32x128 .f32) → List (View.Piece (Elt F) S32x18944 .i8)) // ∀ (E : Set ℕ) (acc : FVec F S32x128 .f32) (f : BufTy.Contents (Elt F) arg4.view.ty),
      Trip (F := F) c arg3 arg8 arg4 arg5 X_arg3 X_arg8 f
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 v16_0 k acc)
          (fun yld => iprop(⌜yld = R acc⌝ ∗ Trip (F := F) c arg3 arg8 arg4 arg5 X_arg3 X_arg8 (arg4.view.writes (Elt F) f (L acc)))) } := by
  have hk : k.val < 37 := Nat.lt_of_lt_of_le k.isLt k0_t3_abs.2.1
  refine ⟨?_, ?_, fun E acc f => ?run⟩
  case run =>
    unfold k0_t3_body
    iintro ⟨HR_arg3, HR_arg8, HW_arg4, ⟨%g, HW_arg5⟩⟩
    sl_exec
    sl_step
    sl_close

/-- The sums a trip yields. -/
abbrev tripR (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (k : Fin k0_t3_loop.trips) (acc : FVec F S32x128 .f32) : FVec F S32x128 .f32 :=
  (trip (F := F) 𝒱 c bd i arg1 harg1 arg2 harg2 arg3 harg3 arg4 harg4 arg5 harg5 arg6 harg6 arg7 harg7 arg8 harg8 v16_0 X_arg3 X_arg8 k).1 acc

/-- The pieces a trip writes into the low codes. -/
abbrev tripL (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (k : Fin k0_t3_loop.trips) (acc : FVec F S32x128 .f32) : List (View.Piece (Elt F) S32x18944 .i8) :=
  (trip (F := F) 𝒱 c bd i arg1 harg1 arg2 harg2 arg3 harg3 arg4 harg4 arg5 harg5 arg6 harg6 arg7 harg7 arg8 harg8 v16_0 X_arg3 X_arg8 k).2.1 acc

/-- The state one trip makes of the state before it. -/
@[irreducible] def step (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (k : ℕ) (prev : (FVec F S32x128 .f32) × List (View.Piece (Elt F) S32x18944 .i8)) : (FVec F S32x128 .f32) × List (View.Piece (Elt F) S32x18944 .i8) :=
  if h : k < k0_t3_loop.trips then
    (tripR (F := F) 𝒱 c bd i arg1 harg1 arg2 harg2 arg3 harg3 arg4 harg4 arg5 harg5 arg6 harg6 arg7 harg7 arg8 harg8 v16_0 X_arg3 X_arg8 ⟨k, h⟩ prev.1, tripL (F := F) 𝒱 c bd i arg1 harg1 arg2 harg2 arg3 harg3 arg4 harg4 arg5 harg5 arg6 harg6 arg7 harg7 arg8 harg8 v16_0 X_arg3 X_arg8 ⟨k, h⟩ prev.1 ++ prev.2)
  else prev

/-- The state before trip `k`: the sums so far, and the pieces written so far (last first). -/
def st (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (init : FVec F S32x128 .f32) : ℕ → (FVec F S32x128 .f32) × List (View.Piece (Elt F) S32x18944 .i8)
  | 0 => (init, [])
  | k + 1 => step 𝒱 c bd i arg1 harg1 arg2 harg2 arg3 harg3 arg4 harg4 arg5 harg5 arg6 harg6 arg7 harg7 arg8 harg8 v16_0 X_arg3 X_arg8 k (st 𝒱 c bd i arg1 harg1 arg2 harg2 arg3 harg3 arg4 harg4 arg5 harg5 arg6 harg6 arg7 harg7 arg8 harg8 v16_0 X_arg3 X_arg8 init k)

/-- The state after trip `k`. -/
theorem st_succ (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (init : FVec F S32x128 .f32) (k : Fin k0_t3_loop.trips) :
    st (F := F) 𝒱 c bd i arg1 harg1 arg2 harg2 arg3 harg3 arg4 harg4 arg5 harg5 arg6 harg6 arg7 harg7 arg8 harg8 v16_0 X_arg3 X_arg8 init (k.val + 1)
      = (tripR (F := F) 𝒱 c bd i arg1 harg1 arg2 harg2 arg3 harg3 arg4 harg4 arg5 harg5 arg6 harg6 arg7 harg7 arg8 harg8 v16_0 X_arg3 X_arg8 k (st (F := F) 𝒱 c bd i arg1 harg1 arg2 harg2 arg3 harg3 arg4 harg4 arg5 harg5 arg6 harg6 arg7 harg7 arg8 harg8 v16_0 X_arg3 X_arg8 init k.val).1, tripL (F := F) 𝒱 c bd i arg1 harg1 arg2 harg2 arg3 harg3 arg4 harg4 arg5 harg5 arg6 harg6 arg7 harg7 arg8 harg8 v16_0 X_arg3 X_arg8 k (st (F := F) 𝒱 c bd i arg1 harg1 arg2 harg2 arg3 harg3 arg4 harg4 arg5 harg5 arg6 harg6 arg7 harg7 arg8 harg8 v16_0 X_arg3 X_arg8 init k.val).1 ++ (st (F := F) 𝒱 c bd i arg1 harg1 arg2 harg2 arg3 harg3 arg4 harg4 arg5 harg5 arg6 harg6 arg7 harg7 arg8 harg8 v16_0 X_arg3 X_arg8 init k.val).2) := by
  rw [st.eq_2]; unfold step; exact dif_pos k.isLt

/-- What holds before trip `k`. -/
abbrev inv (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (G : BufTy.Contents (Elt F) arg4.view.ty) (init : FVec F S32x128 .f32) (k : ℕ) (acc : FVec F S32x128 .f32) : sProp 𝕄G :=
  iprop((arg3.view.loc (c : Thread nD τ) ↦[arg3.view.set]{fullShare} X_arg3) ∗ (arg8.view.loc (c : Thread nD τ) ↦[arg8.view.set]{fullShare} X_arg8) ∗ (∃ f, (arg4.view.loc (c : Thread nD τ) ↦[arg4.view.set]{fullShare} f) ∗ ⌜f = arg4.view.writes (Elt F) G (st (F := F) 𝒱 c bd i arg1 harg1 arg2 harg2 arg3 harg3 arg4 harg4 arg5 harg5 arg6 harg6 arg7 harg7 arg8 harg8 v16_0 X_arg3 X_arg8 init k).2⌝) ∗ (∃ g, arg5.view.loc (c : Thread nD τ) ↦[arg5.view.set]{fullShare} g) ∗ ⌜acc = (st (F := F) 𝒱 c bd i arg1 harg1 arg2 harg2 arg3 harg3 arg4 harg4 arg5 harg5 arg6 harg6 arg7 harg7 arg8 harg8 v16_0 X_arg3 X_arg8 init k).1⌝)

set_option warn.classDefReducibility false in
/-- The loop by its invariant. -/
@[sl_loop] def loopInv (𝒱 : Variants) (c : Dev nD) (bd : Option 𝒱.V) (E : Set ℕ) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (G : BufTy.Contents (Elt F) arg4.view.ty) (init : FVec F S32x128 .f32) :
    LoopInvTy_k0_t3 (F := F) Unit ℕ (UR sig nD τ) ℕ 𝒱 c bd E i arg1 harg1 arg2 harg2 arg3 harg3 arg4 harg4 arg5 harg5 arg6 harg6 arg7 harg7 arg8 harg8 v16_0 init where
  inv := inv (F := F) 𝒱 c bd i arg1 harg1 arg2 harg2 arg3 harg3 arg4 harg4 arg5 harg5 arg6 harg6 arg7 harg7 arg8 harg8 v16_0 X_arg3 X_arg8 G init
  step k acc := by
    iintro ⟨HR_arg3, HR_arg8, ⟨%f, HW_arg4, %h_f⟩, HW_arg5, %h_acc⟩
    subst h_acc
    iapply (wp_wand_r Idealize.ShloMosaic.frame (wpE (defs₀ (F := F)) 𝒱 (c : Thread nD τ) bd) E)
    isplitl [HR_arg3 HR_arg8 HW_arg4 HW_arg5]
    · iapply ((trip (F := F) 𝒱 c bd i arg1 harg1 arg2 harg2 arg3 harg3 arg4 harg4 arg5 harg5 arg6 harg6 arg7 harg7 arg8 harg8 v16_0 X_arg3 X_arg8 k).2.2 E (st (F := F) 𝒱 c bd i arg1 harg1 arg2 harg2 arg3 harg3 arg4 harg4 arg5 harg5 arg6 harg6 arg7 harg7 arg8 harg8 v16_0 X_arg3 X_arg8 init k).1 f)
      isplitl [HR_arg3]; · iexact HR_arg3
      isplitl [HR_arg8]; · iexact HR_arg8
      isplitl [HW_arg4]; · iexact HW_arg4
      iexact HW_arg5
    · iintro %yld ⟨%h_res, HR_arg3, HR_arg8, HW_arg4, HW_arg5⟩
      isplitl [HR_arg3]; · iexact HR_arg3
      isplitl [HR_arg8]; · iexact HR_arg8
      simp only [st_succ]
      isplitl [HW_arg4]
      · iexists _; isplitl [HW_arg4]; · iexact HW_arg4
        ipureintro; rw [h_f, ← View.writes_append]
      isplitl [HW_arg5]
      · iexact HW_arg5
      ipureintro; rw [h_res]

end Cert.Both.Low

end
-- ==== Proof.BothQRunK.lean ====
/- The quantiser's body, run whole on any staging buffers: the pieces its stores leave in the high codes, the low codes and
   the row figures. The two arrays of packed words are left at contents nothing names. -/
module

public import proofs.«01_k».proof.Proof.BothQLowK
public import proofs.«01_k».proof.Proof.Gen.Both.Launch
public import proofs.«01_k».proof.Proof.Gen.Both.Points
public import Idealize.ShloMosaic.Lib.Pipeline.FrameBody

@[expose] public section

set_option maxRecDepth 16384

noncomputable section

namespace Cert.Both.Quant

open Cert.Both Cert.Both.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the high codes, the low codes and the row figures, the high codes' buffer and the
    residual's starting at `g2` and `gs`, with the proof that on whole staging
    buffers the body runs to its end and leaves them. -/
noncomputable def kernelRun (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)
    (x0 : Vec F S32x18944 .bf16) (x1 : Vec F S32x1792 .i8) (g2 : BufTy.Contents (Elt F) arg3.view.ty) (gs : BufTy.Contents (Elt F) arg8.view.ty) :
    Σ' (L2 : List (View.Piece (Elt F) S32x18944 .i8)), Σ' (L3 : List (View.Piece (Elt F) S32x18944 .i8)), { L6 : List (View.Piece (Elt F) S32x128 .f32) //
      ∀ (E : Set ℕ) (K : PUnit → sProp 𝕄),
        iprop(owns (c : Thread nD τ) arg1 fullShare x0 ∗ owns (c : Thread nD τ) arg2 fullShare x1 ∗ (arg3.view.loc (c : Thread nD τ) ↦[arg3.view.set]{fullShare} g2) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (arg8.view.loc (c : Thread nD τ) ↦[arg8.view.set]{fullShare} gs)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ d, owns (c : Thread nD τ) arg5 fullShare d) ∗ (∃ d, owns (c : Thread nD τ) arg6 fullShare d) ∗ (∃ f, arg7.view.loc (c : Thread nD τ) ↦[arg7.view.set]{fullShare} arg7.view.writes (Elt F) f L6) ∗ (∃ d, owns (c : Thread nD τ) arg8 fullShare d)) -∗ K ⟨⟩))
          ⊢ wp frame (wpE (defs₀ (F := F)) Variants.none c none) E (cc0_quantise i arg1 harg1 arg2 harg2 arg3 harg3 arg4 harg4 arg5 harg5 arg6 harg6 arg7 harg7 arg8 harg8) K } := by
  refine ⟨?_, ?_, ?_, fun E K => ?run⟩
  case run =>
    simp only [cc0_quantise_eq_skeleton]; unfold cc0_quantise_skel
    simp only [k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, H2, ⟨%d3, %f3, -, H3⟩, ⟨%d4, %f4, -, H4⟩, ⟨%d5, %f5, -, H5⟩, ⟨%d6, %f6, -, H6⟩, HS0, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _, _; isplitr; swap; · iexact H4
      ipureintro; rfl
    isplitl [H5]
    · iexists _, _; isplitr; swap; · iexact H5
      ipureintro; rfl
    isplitl [H6]; · iexists _; iexact H6
    iexists _, _; isplitr; swap; · iexact HS0
    ipureintro; rfl

end Cert.Both.Quant

end
-- ==== Proof.BothQFrameK.lean ====
/- The quantiser's pipeline: what every grid point leaves, and the body's obligation, in the program of the two calls; the buffers the call
   finds are a parameter. -/
module

public import proofs.«01_k».proof.Proof.BothQRunK
public import Idealize.ShloMosaic.Lib.Claim

@[expose] public section

set_option maxRecDepth 16384

noncomputable section

namespace Cert.Both.Quant

open Cert.Both Cert.Both.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each window's current staging buffer at point `t`, and its wholeness. -/
abbrev ms0_0 (t : Fin cfg0.N) : Memref sig .tc .vmem S32x18944 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1792 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x18944 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x18944 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x128 .f32 := win0_6.stage (cfg0.slots t 6)
abbrev hs0_6 (t : Fin cfg0.N) : (ms0_6 t).IsWhole := hstage0_6 ((cfg0.slots t 6).cast nbuf0_6)
/-- The residual's scratch buffer. -/
abbrev scM0_0 : Memref sig .tc .vmem S32x18944 .f32 := Memref.whole cc0_scratch0

/-- A buffer at some contents. -/
def bf (c : Dev nD) (b : Ref sig .tc) : sProp 𝕄 := iprop(∃ f : Buf (Elt F) ((c : Thread nD τ).loc b), ((c : Thread nD τ).loc b) ↦{fullShare} f)

/-- The other call's buffers at some contents and the generator register: the body touches none of them. -/
def Gn (c : Dev nD) : sProp 𝕄 := iprop((bf c cc1_stg0_0 ∗ bf c cc1_stg0_1 ∗ bf c cc1_stg1_0 ∗ bf c cc1_stg2_0 ∗ bf c cc1_stg3_0 ∗ bf c cc1_stg3_1 ∗ bf c cc1_stg4_0 ∗ bf c cc1_stg4_1 ∗ bf c cc1_stg5_0 ∗ bf c cc1_stg5_1 ∗ bf c cc1_scratch0 ∗ bf c cc1_scratch1) ∗ ∃ r, prngReg c r)

/-- The pipeline's invariant: the scratch buffer at some contents beside the generator register. -/
theorem PhiA0_eq (c : Dev nD) :
    (Pipeline.ΦA spec0 c : sProp 𝕄)
      = iprop(iprop((∃ d, ∃ f, ⌜scM0_0.view.read (Elt F) f = d⌝ ∗ scM0_0.view.loc (c : Thread nD τ) ↦[scM0_0.view.set]{fullShare} f)) ∗ Gn c) := by
  show _ = iprop(iprop((∃ d, owns (c : Thread nD τ) scM0_0 fullShare d)) ∗ Gn c)
  unfold Pipeline.ΦA Gn bf; rw [scopedRest0_eq]; simp only [scM0_0, owns_whole]
  have hA : ∀ A B C : sProp 𝕄, iprop((A ∗ B) ∗ C) = iprop(A ∗ B ∗ C) := fun _ _ _ => (BI.sep_assoc).antisymm BI.sep_assoc'
  simp only [hA]; rfl

section

variable (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)

/-- The row sums and pieces the second loop leaves, with the first loop's maximum. -/
abbrev mid (x0 : Vec F S32x18944 .bf16) :=
  st_k0_t2 Variants.none c none i arg1 harg1 arg2 harg2 arg3 harg3 arg4 harg4 arg5 harg5 arg6 harg6 arg7 harg7 arg8 harg8
    (st_k0_t1 Variants.none c none i arg1 harg1 arg2 harg2 arg3 harg3 arg4 harg4 arg5 harg5 arg6 harg6 arg7 harg7 arg8 harg8 (harg1.unread x0) k0_pay46 (Scf.trips k0_t1_loop.lb k0_t1_loop.ub k0_t1_loop.st))
    (harg1.unread x0) (k0_pay45, k0_pay45) (Scf.trips k0_t2_loop.lb k0_t2_loop.ub k0_t2_loop.st)

/-- What the third loop leaves, run on any contents of the high codes and the residual. -/
abbrev fin (x0 : Vec F S32x18944 .bf16)
    (X3 : BufTy.Contents (Elt F) arg3.view.ty) (X8 : BufTy.Contents (Elt F) arg8.view.ty) :=
  Low.st Variants.none c none i arg1 harg1 arg2 harg2 arg3 harg3 arg4 harg4 arg5 harg5 arg6 harg6 arg7 harg7 arg8 harg8 (mid c i arg1 harg1 arg2 harg2 arg3 harg3 arg4 harg4 arg5 harg5 arg6 harg6 arg7 harg7 arg8 harg8 x0).1.1 X3 X8 k0_pay45 (Scf.trips k0_t3_loop.lb k0_t3_loop.ub k0_t3_loop.st)

/-- The second loop's pieces cover the high codes' block. -/
theorem midCover3 (x0 : Vec F S32x18944 .bf16) (y : S32x18944.Idx) :
    ∃ pc ∈ (mid c i arg1 harg1 arg2 harg2 arg3 harg3 arg4 harg4 arg5 harg5 arg6 harg6 arg7 harg7 arg8 harg8 x0).2.1, y ∈ pc.1.set :=
  View.cover_of_tiledL (mid c i arg1 harg1 arg2 harg2 arg3 harg3 arg4 harg4 arg5 harg5 arg6 harg6 arg7 harg7 arg8 harg8 x0).2.1 S32x128.size (by sl_kernel_rfl) y

/-- The second loop's pieces cover the residual's block. -/
theorem midCover8 (x0 : Vec F S32x18944 .bf16) (y : S32x18944.Idx) :
    ∃ pc ∈ (mid c i arg1 harg1 arg2 harg2 arg3 harg3 arg4 harg4 arg5 harg5 arg6 harg6 arg7 harg7 arg8 harg8 x0).2.2, y ∈ pc.1.set :=
  View.cover_of_tiledL (mid c i arg1 harg1 arg2 harg2 arg3 harg3 arg4 harg4 arg5 harg5 arg6 harg6 arg7 harg7 arg8 harg8 x0).2.2 S32x128.size (by sl_kernel_rfl) y

/-- What the high codes hold after the second loop does not depend on what they held before it. -/
theorem mid3 (x0 : Vec F S32x18944 .bf16) (g g' : BufTy.Contents (Elt F) arg3.view.ty) :
    arg3.view.writes (Elt F) g (mid c i arg1 harg1 arg2 harg2 arg3 harg3 arg4 harg4 arg5 harg5 arg6 harg6 arg7 harg7 arg8 harg8 x0).2.1 = arg3.view.writes (Elt F) g' (mid c i arg1 harg1 arg2 harg2 arg3 harg3 arg4 harg4 arg5 harg5 arg6 harg6 arg7 harg7 arg8 harg8 x0).2.1 :=
  (harg3.eq_unread (View.read_writes_of_cover _ _ _ _ _ (midCover3 c i arg1 harg1 arg2 harg2 arg3 harg3 arg4 harg4 arg5 harg5 arg6 harg6 arg7 harg7 arg8 harg8 x0))).trans (harg3.eq_unread rfl).symm

/-- What the residual holds after the second loop does not depend on what it held before it. -/
theorem mid8 (x0 : Vec F S32x18944 .bf16) (g g' : BufTy.Contents (Elt F) arg8.view.ty) :
    arg8.view.writes (Elt F) g (mid c i arg1 harg1 arg2 harg2 arg3 harg3 arg4 harg4 arg5 harg5 arg6 harg6 arg7 harg7 arg8 harg8 x0).2.2 = arg8.view.writes (Elt F) g' (mid c i arg1 harg1 arg2 harg2 arg3 harg3 arg4 harg4 arg5 harg5 arg6 harg6 arg7 harg7 arg8 harg8 x0).2.2 :=
  (harg8.eq_unread (View.read_writes_of_cover _ _ _ _ _ (midCover8 c i arg1 harg1 arg2 harg2 arg3 harg3 arg4 harg4 arg5 harg5 arg6 harg6 arg7 harg7 arg8 harg8 x0))).trans (harg8.eq_unread rfl).symm

/-- The low codes' pieces are the third loop's. -/
theorem run3 (x0 : Vec F S32x18944 .bf16) (x1 : Vec F S32x1792 .i8) (g2 : BufTy.Contents (Elt F) arg3.view.ty) (gs : BufTy.Contents (Elt F) arg8.view.ty) :
    (kernelRun c i arg1 harg1 arg2 harg2 arg3 harg3 arg4 harg4 arg5 harg5 arg6 harg6 arg7 harg7 arg8 harg8 x0 x1 g2 gs).2.1
      = (fin c i arg1 harg1 arg2 harg2 arg3 harg3 arg4 harg4 arg5 harg5 arg6 harg6 arg7 harg7 arg8 harg8 x0 (arg3.view.writes (Elt F) g2 (mid c i arg1 harg1 arg2 harg2 arg3 harg3 arg4 harg4 arg5 harg5 arg6 harg6 arg7 harg7 arg8 harg8 x0).2.1) (arg8.view.writes (Elt F) gs (mid c i arg1 harg1 arg2 harg2 arg3 harg3 arg4 harg4 arg5 harg5 arg6 harg6 arg7 harg7 arg8 harg8 x0).2.2)).2 := rfl

/-- The high codes' pieces are the second loop's. -/
theorem run2 (x0 : Vec F S32x18944 .bf16) (x1 : Vec F S32x1792 .i8) (g2 : BufTy.Contents (Elt F) arg3.view.ty) (gs : BufTy.Contents (Elt F) arg8.view.ty) :
    (kernelRun c i arg1 harg1 arg2 harg2 arg3 harg3 arg4 harg4 arg5 harg5 arg6 harg6 arg7 harg7 arg8 harg8 x0 x1 g2 gs).1 = (mid c i arg1 harg1 arg2 harg2 arg3 harg3 arg4 harg4 arg5 harg5 arg6 harg6 arg7 harg7 arg8 harg8 x0).2.1 := rfl

/-- The row figures are one piece, of the loops' results. -/
theorem run6 (x0 : Vec F S32x18944 .bf16) (x1 : Vec F S32x1792 .i8) (g2 : BufTy.Contents (Elt F) arg3.view.ty) (gs : BufTy.Contents (Elt F) arg8.view.ty) :
    (kernelRun c i arg1 harg1 arg2 harg2 arg3 harg3 arg4 harg4 arg5 harg5 arg6 harg6 arg7 harg7 arg8 harg8 x0 x1 g2 gs).2.2.1
      = [⟨Rect.unit ![0, 0] ![32, 128] inb_S32x128_S32x128_0_0,
          k0_pay1 k0_pay45 (kernelRun.sl.r c i arg1 harg1 arg2 harg2 arg3 harg3 arg4 harg4 arg5 harg5 arg6 harg6 arg7 harg7 arg8 harg8 x0) (kernelRun.sl.r_1 c i arg1 harg1 arg2 harg2 arg3 harg3 arg4 harg4 arg5 harg5 arg6 harg6 arg7 harg7 arg8 harg8 x0) (kernelRun.sl.r_2 c i arg1 harg1 arg2 harg2 arg3 harg3 arg4 harg4 arg5 harg5 arg6 harg6 arg7 harg7 arg8 harg8 x0)
            (fin c i arg1 harg1 arg2 harg2 arg3 harg3 arg4 harg4 arg5 harg5 arg6 harg6 arg7 harg7 arg8 harg8 x0 (arg3.view.writes (Elt F) g2 (mid c i arg1 harg1 arg2 harg2 arg3 harg3 arg4 harg4 arg5 harg5 arg6 harg6 arg7 harg7 arg8 harg8 x0).2.1) (arg8.view.writes (Elt F) gs (mid c i arg1 harg1 arg2 harg2 arg3 harg3 arg4 harg4 arg5 harg5 arg6 harg6 arg7 harg7 arg8 harg8 x0).2.2)).1
            (kernelRun.sl.r_27 c arg2 harg2 x1)⟩] := rfl

/-- The low codes' pieces do not depend on what the buffers held. -/
theorem indep3 (x0 : Vec F S32x18944 .bf16) (x1 : Vec F S32x1792 .i8) (g2 g2' : BufTy.Contents (Elt F) arg3.view.ty) (gs gs' : BufTy.Contents (Elt F) arg8.view.ty) :
    (kernelRun c i arg1 harg1 arg2 harg2 arg3 harg3 arg4 harg4 arg5 harg5 arg6 harg6 arg7 harg7 arg8 harg8 x0 x1 g2 gs).2.1 = (kernelRun c i arg1 harg1 arg2 harg2 arg3 harg3 arg4 harg4 arg5 harg5 arg6 harg6 arg7 harg7 arg8 harg8 x0 x1 g2' gs').2.1 := by
  rw [run3, run3, mid3 c i arg1 harg1 arg2 harg2 arg3 harg3 arg4 harg4 arg5 harg5 arg6 harg6 arg7 harg7 arg8 harg8 x0 g2 g2', mid8 c i arg1 harg1 arg2 harg2 arg3 harg3 arg4 harg4 arg5 harg5 arg6 harg6 arg7 harg7 arg8 harg8 x0 gs gs']

/-- The row figures' piece does not depend on what the buffers held. -/
theorem indep6 (x0 : Vec F S32x18944 .bf16) (x1 : Vec F S32x1792 .i8) (g2 g2' : BufTy.Contents (Elt F) arg3.view.ty) (gs gs' : BufTy.Contents (Elt F) arg8.view.ty) :
    (kernelRun c i arg1 harg1 arg2 harg2 arg3 harg3 arg4 harg4 arg5 harg5 arg6 harg6 arg7 harg7 arg8 harg8 x0 x1 g2 gs).2.2.1 = (kernelRun c i arg1 harg1 arg2 harg2 arg3 harg3 arg4 harg4 arg5 harg5 arg6 harg6 arg7 harg7 arg8 harg8 x0 x1 g2' gs').2.2.1 := by
  rw [run6, run6, mid3 c i arg1 harg1 arg2 harg2 arg3 harg3 arg4 harg4 arg5 harg5 arg6 harg6 arg7 harg7 arg8 harg8 x0 g2 g2', mid8 c i arg1 harg1 arg2 harg2 arg3 harg3 arg4 harg4 arg5 harg5 arg6 harg6 arg7 harg7 arg8 harg8 x0 gs gs']

/-- The run's pieces for the high codes cover their block. -/
theorem cover2
    (x0 : Vec F S32x18944 .bf16) (x1 : Vec F S32x1792 .i8) (g2 : BufTy.Contents (Elt F) arg3.view.ty) (gs : BufTy.Contents (Elt F) arg8.view.ty) (y : S32x18944.Idx) :
    ∃ pc ∈ (kernelRun c i arg1 harg1 arg2 harg2 arg3 harg3 arg4 harg4 arg5 harg5 arg6 harg6 arg7 harg7 arg8 harg8 x0 x1 g2 gs).1, y ∈ pc.1.set :=
  View.cover_of_tiledL (kernelRun c i arg1 harg1 arg2 harg2 arg3 harg3 arg4 harg4 arg5 harg5 arg6 harg6 arg7 harg7 arg8 harg8 x0 x1 g2 gs).1 S32x128.size (by sl_kernel_rfl) y

/-- One staging buffer, through which the high codes are stated. -/
abbrev VO2 : View sig .tc .vmem S32x18944 .i8 := (Memref.whole cc0_stg2_0 : Memref sig .tc .vmem S32x18944 .i8).view

/-- What the run leaves of the high codes. -/
def out2
    (x0 : Vec F S32x18944 .bf16) (x1 : Vec F S32x1792 .i8) : Vec F S32x18944 .i8 :=
  VO2.read (Elt F) (VO2.writes (Elt F) VO2.junk (kernelRun c i arg1 harg1 arg2 harg2 arg3 harg3 arg4 harg4 arg5 harg5 arg6 harg6 arg7 harg7 arg8 harg8 x0 x1 arg3.view.junk arg8.view.junk).1)

/-- The run's pieces for the low codes cover their block. -/
theorem cover3
    (x0 : Vec F S32x18944 .bf16) (x1 : Vec F S32x1792 .i8) (g2 : BufTy.Contents (Elt F) arg3.view.ty) (gs : BufTy.Contents (Elt F) arg8.view.ty) (y : S32x18944.Idx) :
    ∃ pc ∈ (kernelRun c i arg1 harg1 arg2 harg2 arg3 harg3 arg4 harg4 arg5 harg5 arg6 harg6 arg7 harg7 arg8 harg8 x0 x1 g2 gs).2.1, y ∈ pc.1.set :=
  View.cover_of_tiledL (kernelRun c i arg1 harg1 arg2 harg2 arg3 harg3 arg4 harg4 arg5 harg5 arg6 harg6 arg7 harg7 arg8 harg8 x0 x1 g2 gs).2.1 S32x128.size (by sl_kernel_rfl) y

/-- One staging buffer, through which the low codes are stated. -/
abbrev VO3 : View sig .tc .vmem S32x18944 .i8 := (Memref.whole cc0_stg3_0 : Memref sig .tc .vmem S32x18944 .i8).view

/-- What the run leaves of the low codes. -/
def out3
    (x0 : Vec F S32x18944 .bf16) (x1 : Vec F S32x1792 .i8) : Vec F S32x18944 .i8 :=
  VO3.read (Elt F) (VO3.writes (Elt F) VO3.junk (kernelRun c i arg1 harg1 arg2 harg2 arg3 harg3 arg4 harg4 arg5 harg5 arg6 harg6 arg7 harg7 arg8 harg8 x0 x1 arg3.view.junk arg8.view.junk).2.1)

/-- The run's pieces for the row figures cover their block. -/
theorem cover6
    (x0 : Vec F S32x18944 .bf16) (x1 : Vec F S32x1792 .i8) (g2 : BufTy.Contents (Elt F) arg3.view.ty) (gs : BufTy.Contents (Elt F) arg8.view.ty) (y : S32x128.Idx) :
    ∃ pc ∈ (kernelRun c i arg1 harg1 arg2 harg2 arg3 harg3 arg4 harg4 arg5 harg5 arg6 harg6 arg7 harg7 arg8 harg8 x0 x1 g2 gs).2.2.1, y ∈ pc.1.set :=
  View.cover_of_tiledL (kernelRun c i arg1 harg1 arg2 harg2 arg3 harg3 arg4 harg4 arg5 harg5 arg6 harg6 arg7 harg7 arg8 harg8 x0 x1 g2 gs).2.2.1 S32x128.size (by sl_kernel_rfl) y

/-- One staging buffer, through which the row figures are stated. -/
abbrev VO6 : View sig .tc .vmem S32x128 .f32 := (Memref.whole cc0_stg6_0 : Memref sig .tc .vmem S32x128 .f32).view

/-- What the run leaves of the row figures. -/
def out6
    (x0 : Vec F S32x18944 .bf16) (x1 : Vec F S32x1792 .i8) : Vec F S32x128 .f32 :=
  VO6.read (Elt F) (VO6.writes (Elt F) VO6.junk (kernelRun c i arg1 harg1 arg2 harg2 arg3 harg3 arg4 harg4 arg5 harg5 arg6 harg6 arg7 harg7 arg8 harg8 x0 x1 arg3.view.junk arg8.view.junk).2.2.1)

/-- Whatever the buffers held, the run leaves `out2` of the high codes. -/
theorem left2 (x0 : Vec F S32x18944 .bf16) (x1 : Vec F S32x1792 .i8) (g2 : BufTy.Contents (Elt F) arg3.view.ty) (gs : BufTy.Contents (Elt F) arg8.view.ty) (e : BufTy.Contents (Elt F) arg3.view.ty) :
    arg3.view.read (Elt F) (arg3.view.writes (Elt F) e (kernelRun c i arg1 harg1 arg2 harg2 arg3 harg3 arg4 harg4 arg5 harg5 arg6 harg6 arg7 harg7 arg8 harg8 x0 x1 g2 gs).1) = out2 c i arg1 harg1 arg2 harg2 arg3 harg3 arg4 harg4 arg5 harg5 arg6 harg6 arg7 harg7 arg8 harg8 x0 x1 :=
  View.read_writes_of_cover _ _ _ _ _ (cover2 c i arg1 harg1 arg2 harg2 arg3 harg3 arg4 harg4 arg5 harg5 arg6 harg6 arg7 harg7 arg8 harg8 x0 x1 g2 gs)

/-- Whatever the buffers held, the run leaves `out3` of the low codes. -/
theorem left3 (x0 : Vec F S32x18944 .bf16) (x1 : Vec F S32x1792 .i8) (g2 : BufTy.Contents (Elt F) arg3.view.ty) (gs : BufTy.Contents (Elt F) arg8.view.ty) (e : BufTy.Contents (Elt F) arg4.view.ty) :
    arg4.view.read (Elt F) (arg4.view.writes (Elt F) e (kernelRun c i arg1 harg1 arg2 harg2 arg3 harg3 arg4 harg4 arg5 harg5 arg6 harg6 arg7 harg7 arg8 harg8 x0 x1 g2 gs).2.1) = out3 c i arg1 harg1 arg2 harg2 arg3 harg3 arg4 harg4 arg5 harg5 arg6 harg6 arg7 harg7 arg8 harg8 x0 x1 :=
  (congrArg (fun L => arg4.view.read (Elt F) (arg4.view.writes (Elt F) e L)) (indep3 c i arg1 harg1 arg2 harg2 arg3 harg3 arg4 harg4 arg5 harg5 arg6 harg6 arg7 harg7 arg8 harg8 x0 x1 g2 arg3.view.junk gs arg8.view.junk)).trans
    (View.read_writes_of_cover _ _ _ _ _ (cover3 c i arg1 harg1 arg2 harg2 arg3 harg3 arg4 harg4 arg5 harg5 arg6 harg6 arg7 harg7 arg8 harg8 x0 x1 arg3.view.junk arg8.view.junk))

/-- Whatever the buffers held, the run leaves `out6` of the row figures. -/
theorem left6 (x0 : Vec F S32x18944 .bf16) (x1 : Vec F S32x1792 .i8) (g2 : BufTy.Contents (Elt F) arg3.view.ty) (gs : BufTy.Contents (Elt F) arg8.view.ty) (e : BufTy.Contents (Elt F) arg7.view.ty) :
    arg7.view.read (Elt F) (arg7.view.writes (Elt F) e (kernelRun c i arg1 harg1 arg2 harg2 arg3 harg3 arg4 harg4 arg5 harg5 arg6 harg6 arg7 harg7 arg8 harg8 x0 x1 g2 gs).2.2.1) = out6 c i arg1 harg1 arg2 harg2 arg3 harg3 arg4 harg4 arg5 harg5 arg6 harg6 arg7 harg7 arg8 harg8 x0 x1 :=
  (congrArg (fun L => arg7.view.read (Elt F) (arg7.view.writes (Elt F) e L)) (indep6 c i arg1 harg1 arg2 harg2 arg3 harg3 arg4 harg4 arg5 harg5 arg6 harg6 arg7 harg7 arg8 harg8 x0 x1 g2 arg3.view.junk gs arg8.view.junk)).trans
    (View.read_writes_of_cover _ _ _ _ _ (cover6 c i arg1 harg1 arg2 harg2 arg3 harg3 arg4 harg4 arg5 harg5 arg6 harg6 arg7 harg7 arg8 harg8 x0 x1 arg3.view.junk arg8.view.junk))

end

/-! What the call finds in the buffers is any family `m`; nothing is said here of how it came about. -/

variable (m : (c : Dev nD) → (b : Ref sig .tc) → Buf (Elt F) ((c : Thread nD τ).loc b))

/-- The buffers as the call finds them. -/
abbrev V (c : Dev nD) (b : Ref sig .tc) : Buf (Elt F) ((c : Thread nD τ).loc b) := m c b

/-- A window's block at a point, and what the inputs' staging buffers hold. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- What the body leaves in the high codes' staging buffer at point `t`. -/
def hiAt (c : Dev nD) (t : Fin cfg0.N) : Vec F S32x18944 .i8 := out2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t)
/-- What the body leaves in the low codes' staging buffer at point `t`. -/
def loAt (c : Dev nD) (t : Fin cfg0.N) : Vec F S32x18944 .i8 := out3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t)
/-- What the body leaves in the row figures' staging buffer at point `t`. -/
def stAt (c : Dev nD) (t : Fin cfg0.N) : Vec F S32x128 .f32 := out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t)

/-- The two windows of packed words, of which nothing is named. -/
def forgets : Fin 7 → Bool := fun w => w.val == 4 || w.val == 5

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => hiAt m c t
    | ⟨3, _⟩ => loAt m c t
    | ⟨4, h⟩ => Pipeline.Dat.unnamed (cfg := cfg0) ⟨4, h⟩ t
    | ⟨5, h⟩ => Pipeline.Dat.unnamed (cfg := cfg0) ⟨5, h⟩ t
    | ⟨6, _⟩ => stAt m c t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = hiAt m c t := by dsimp only [dats]
theorem after0_3 (c : Dev nD) (t : Fin cfg0.N) : (dats m 0 c).after 3 t = loAt m c t := by dsimp only [dats]
theorem after0_6 (c : Dev nD) (t : Fin cfg0.N) : (dats m 0 c).after 6 t = stAt m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, ∃ f, ⌜(ms0_2 t).view.read (Elt F) f = (dats m 0 c).before 2 t d⌝ ∗ (ms0_2 t).view.loc (c : Thread nD τ) ↦[(ms0_2 t).view.set]{fullShare} f)
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ owns (c : Thread nD τ) (ms0_6 t) fullShare ((dats m 0 c).after 6 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_6]
  rw [show (dats m 0 c).Φ t.castSucc = Pipeline.ΦA spec0 c from rfl, PhiA0_eq]
  iintro ⟨⟨⟨%ds0, %fs0, -, HS0⟩, Hg⟩, Ho, ⟨%d0, H0⟩, ⟨%d1, H1⟩, ⟨%d2, %f2, -, H2⟩, ⟨%d3, H3⟩, ⟨%d4, H4⟩, ⟨%d5, H5⟩, ⟨%d6, H6⟩⟩
  iapply ((kernelRun c (grid0.coords t) _ _ _ _ _ _ _ _ _ _ _ _ _ _ _ _ (iblk m c 0 t) (iblk m c 1 t) f2 fs0).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS0]; · iexact HS0
  iintro ⟨H0, H1, ⟨%e2, H2⟩, ⟨%e3, H3⟩, H4, H5, ⟨%e6, H6⟩, HS0⟩
  isplitl [HS0 Hg]
  · isplitl [HS0]
    · unfold owns; iexact HS0
    iexact Hg
  isplitl [Ho]; · iexact Ho
  isplitl [H0]; · iexact H0
  isplitl [H1]; · iexact H1
  isplitl [H2]
  · unfold owns; iexists _; isplitr
    swap; · iexact H2
    ipureintro; exact left2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) f2 fs0 e2
  isplitl [H3]
  · unfold owns; iexists _; isplitr
    swap; · iexact H3
    ipureintro; exact left3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) f2 fs0 e3
  isplitl [H4]; · iexact H4
  isplitl [H5]; · iexact H5
  unfold owns; iexists _; isplitr
  swap; · iexact H6
  ipureintro; exact left6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) f2 fs0 e6

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

end Cert.Both.Quant

end
-- ==== Proof.BothDxRunAK.lean ====
/- The body of the `dx` call in the program of the two calls, run whole on any staging buffers. -/
module

public import proofs.«01_k».proof.Proof.Gen.Both.Launch
public import proofs.«01_k».proof.Proof.Gen.Both.Skeleton
public import proofs.«01_k».proof.Proof.Gen.Both.Loops
public import proofs.«01_k».proof.Proof.Gen.Both.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Both.Dx

open Cert.Both Cert.Both.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's condition: the first point of a row block. -/
abbrev cond0_0 (i : grid1.Coords) : Prop := k1_cond1 i = 1#1
theorem hcond0_0 : ∀ t : Fin cfg1.N, cond0_0 (grid1.coords t) ↔ t.val % 14 = 0 :=
  (fun t => by
    have ht : t.val < 56 := Nat.lt_of_lt_of_eq t.isLt N_1
    have e0 : (grid1.coords t 0).val = t.val / 14 % 4 := Pipeline.Grid.coords_val t 0 (by decide) rfl
    have e1 : (grid1.coords t 1).val = t.val / 1 % 14 := Pipeline.Grid.coords_val t 1 (by decide) rfl
    simp only [cond0_0, k1_cond1, e0, e1]
    word_cmp
   : ∀ t : Fin grid1.N, cond0_0 (grid1.coords t) ↔ t.val % 14 = 0)

/-- The staging buffers at a point and the scratch buffers. -/
abbrev VO0_5 : View sig .tc .vmem S384x256 .bf16 := (Memref.whole cc1_stg5_0 : Memref sig .tc .vmem S384x256 .bf16).view
abbrev ms0_0 (t : Fin cfg1.N) : Memref sig .tc .vmem S18944x128 .i8 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S384x18944 .i8 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S384x18944 .i8 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S1x1x256 .f32 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S384x128 .f32 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S384x256 .bf16 := win1_5.stage (cfg1.slots t 5)
abbrev hs0_5 (t : Fin cfg1.N) : (ms0_5 t).IsWhole := hstage1_5 ((cfg1.slots t 5).cast nbuf1_5)
abbrev scM0_0 : Memref sig .tc .vmem S768x18944 .fp8e4m3 := Memref.whole cc1_scratch0
abbrev scM0_1 : Memref sig .tc .vmem S18944x256 .fp8e4m3 := Memref.whole cc1_scratch1
abbrev VS0_0 : View sig .tc .vmem S768x18944 .fp8e4m3 := scM0_0.view

/-- A buffer at some contents. -/
def bf (c : Dev nD) (b : Ref sig .tc) : sProp 𝕄 := iprop(∃ f : Buf (Elt F) ((c : Thread nD τ).loc b), ((c : Thread nD τ).loc b) ↦{fullShare} f)

/-- The other call's buffers at some contents and the generator register: the body touches none of them. -/
def Gn (c : Dev nD) : sProp 𝕄 := iprop((bf c cc0_stg0_0 ∗ bf c cc0_stg0_1 ∗ bf c cc0_stg1_0 ∗ bf c cc0_stg1_1 ∗ bf c cc0_stg2_0 ∗ bf c cc0_stg2_1 ∗ bf c cc0_stg3_0 ∗ bf c cc0_stg3_1 ∗ bf c cc0_stg4_0 ∗ bf c cc0_stg4_1 ∗ bf c cc0_stg5_0 ∗ bf c cc0_stg5_1 ∗ bf c cc0_stg6_0 ∗ bf c cc0_stg6_1 ∗ bf c cc0_scratch0) ∗ ∃ r, prngReg c r)

/-- The pipeline's invariant: the scratch buffers at some contents beside the rest. -/
theorem PhiA0_eq (c : Dev nD) :
    (Pipeline.ΦA spec1 c : sProp 𝕄)
      = iprop(iprop((∃ d, owns (c : Thread nD τ) scM0_0 fullShare d) ∗ (∃ d, owns (c : Thread nD τ) scM0_1 fullShare d)) ∗ Gn c) := by
  unfold Pipeline.ΦA Gn bf; rw [scopedRest1_eq]; simp only [scM0_0, scM0_1, owns_whole]
  have hA : ∀ A B C : sProp 𝕄, iprop((A ∗ B) ∗ C) = iprop(A ∗ B ∗ C) := fun _ _ _ => (BI.sep_assoc).antisymm BI.sep_assoc'
  have hC : ∀ A B : sProp 𝕄, iprop(A ∗ B) = iprop(B ∗ A) := fun _ _ => (BI.sep_comm).antisymm BI.sep_comm
  have hL : ∀ A S G : sProp 𝕄, iprop(A ∗ S ∗ G) = iprop(S ∗ A ∗ G) := fun A S G => by rw [← hA, hC A S, hA]
  refine Eq.trans ?_ (hL _ _ _); simp only [hA]; rfl

set_option backward.proofsInPublic true in
set_option maxHeartbeats 1000000 in
/-- The body's run at the first point of a row block: what its stores leave of the result's block and of the left operand. -/
noncomputable def kernelRun0_A (c : Dev nD) (i : grid1.Coords) (arg2 : Memref sig .tc .vmem S18944x128 .i8) (harg2 : arg2.IsWhole) (arg3 : Memref sig .tc .vmem S384x18944 .i8) (harg3 : arg3.IsWhole) (arg4 : Memref sig .tc .vmem S384x18944 .i8) (harg4 : arg4.IsWhole) (arg5 : Memref sig .tc .vmem S1x1x256 .f32) (harg5 : arg5.IsWhole) (arg6 : Memref sig .tc .vmem S384x128 .f32) (harg6 : arg6.IsWhole) (arg7 : Memref sig .tc .vmem S384x256 .bf16) (harg7 : arg7.IsWhole) (arg8 : Memref sig .tc .vmem S768x18944 .fp8e4m3) (harg8 : arg8.IsWhole) (arg9 : Memref sig .tc .vmem S18944x256 .fp8e4m3) (harg9 : arg9.IsWhole) (hc0 : cond0_0 i)
    (x0 : Vec F S18944x128 .i8) (x1 : Vec F S384x18944 .i8) (x2 : Vec F S384x18944 .i8) (x3 : Vec F S1x1x256 .f32) (x4 : Vec F S384x128 .f32) :
    Σ' (L5 : List (View.Piece (Elt F) S384x256 .bf16)), { LS0 : List (View.Piece (Elt F) S768x18944 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ d, owns (c : Thread nD τ) arg9 fullShare d)) -∗ K ⟨⟩))
          ⊢ wp frame (wpE (defs₀ (F := F)) Variants.none c none) E (cc1_dx i arg2 harg2 arg3 harg3 arg4 harg4 arg5 harg5 arg6 harg6 arg7 harg7 arg8 harg8 arg9 harg9) K } := by
  refine ⟨?_, ?_, fun E K => ?run⟩
  case run =>
    simp only [cc1_dx_eq_skeleton]; unfold cc1_dx_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    have hrd0 : ∀ (𝒱 : Variants) (c : Dev nD) (bd : Option 𝒱.V) (i : grid1.Coords) (arg2 : Memref sig .tc .vmem S18944x128 .i8) (harg2 : arg2.IsWhole) (arg3 : Memref sig .tc .vmem S384x18944 .i8) (harg3 : arg3.IsWhole) (arg4 : Memref sig .tc .vmem S384x18944 .i8) (harg4 : arg4.IsWhole) (arg5 : Memref sig .tc .vmem S1x1x256 .f32) (harg5 : arg5.IsWhole) (arg6 : Memref sig .tc .vmem S384x128 .f32) (harg6 : arg6.IsWhole) (arg7 : Memref sig .tc .vmem S384x256 .bf16) (harg7 : arg7.IsWhole) (arg8 : Memref sig .tc .vmem S768x18944 .fp8e4m3) (harg8 : arg8.IsWhole) (arg9 : Memref sig .tc .vmem S18944x256 .fp8e4m3) (harg9 : arg9.IsWhole) (k1_h1 : k1_cond1 i = 1#1) (X_arg3 : BufTy.Contents (Elt F) arg3.view.ty) (X_arg4 : BufTy.Contents (Elt F) arg4.view.ty) (hrdF : BufTy.Contents (Elt F) arg8.view.ty) (hrdB : LoadRect S768x18944), arg8.view.readAt (Elt F) hrdB (arg8.view.writes (Elt F) hrdF (pb_k1_t1 (F := F) 𝒱 c bd i arg2 harg2 arg3 harg3 arg4 harg4 arg5 harg5 arg6 harg6 arg7 harg7 arg8 harg8 arg9 harg9 k1_h1 X_arg3 X_arg4 (Scf.trips k1_t1_loop.lb k1_t1_loop.ub k1_t1_loop.st))) = arg8.view.readCov (pb_k1_t1 (F := F) 𝒱 c bd i arg2 harg2 arg3 harg3 arg4 harg4 arg5 harg5 arg6 harg6 arg7 harg7 arg8 harg8 arg9 harg9 k1_h1 X_arg3 X_arg4 (Scf.trips k1_t1_loop.lb k1_t1_loop.ub k1_t1_loop.st)) hrdB := fun 𝒱 c bd i arg2 harg2 arg3 harg3 arg4 harg4 arg5 harg5 arg6 harg6 arg7 harg7 arg8 harg8 arg9 harg9 k1_h1 X_arg3 X_arg4 hrdF hrdB => View.readAt_writes_of_cover _ hrdF _ hrdB (fun hrdJ => View.cover_of_tiledL (pb_k1_t1 (F := F) 𝒱 c bd i arg2 harg2 arg3 harg3 arg4 harg4 arg5 harg5 arg6 harg6 arg7 harg7 arg8 harg8 arg9 harg9 k1_h1 X_arg3 X_arg4 (Scf.trips k1_t1_loop.lb k1_t1_loop.ub k1_t1_loop.st)) S384x128.size (by sl_kernel_rfl) (hrdB.idx hrdJ))
    have hrd1 : ∀ (𝒱 : Variants) (c : Dev nD) (bd : Option 𝒱.V) (i : grid1.Coords) (arg2 : Memref sig .tc .vmem S18944x128 .i8) (harg2 : arg2.IsWhole) (arg3 : Memref sig .tc .vmem S384x18944 .i8) (harg3 : arg3.IsWhole) (arg4 : Memref sig .tc .vmem S384x18944 .i8) (harg4 : arg4.IsWhole) (arg5 : Memref sig .tc .vmem S1x1x256 .f32) (harg5 : arg5.IsWhole) (arg6 : Memref sig .tc .vmem S384x128 .f32) (harg6 : arg6.IsWhole) (arg7 : Memref sig .tc .vmem S384x256 .bf16) (harg7 : arg7.IsWhole) (arg8 : Memref sig .tc .vmem S768x18944 .fp8e4m3) (harg8 : arg8.IsWhole) (arg9 : Memref sig .tc .vmem S18944x256 .fp8e4m3) (harg9 : arg9.IsWhole) (X_arg2 : BufTy.Contents (Elt F) arg2.view.ty) (hrdF : BufTy.Contents (Elt F) arg9.view.ty) (hrdB : LoadRect S18944x256), arg9.view.readAt (Elt F) hrdB (arg9.view.writes (Elt F) hrdF (pb_k1_t2 (F := F) 𝒱 c bd i arg2 harg2 arg3 harg3 arg4 harg4 arg5 harg5 arg6 harg6 arg7 harg7 arg8 harg8 arg9 harg9 X_arg2 (Scf.trips k1_t2_loop.lb k1_t2_loop.ub k1_t2_loop.st))) = arg9.view.readCov (pb_k1_t2 (F := F) 𝒱 c bd i arg2 harg2 arg3 harg3 arg4 harg4 arg5 harg5 arg6 harg6 arg7 harg7 arg8 harg8 arg9 harg9 X_arg2 (Scf.trips k1_t2_loop.lb k1_t2_loop.ub k1_t2_loop.st)) hrdB := fun 𝒱 c bd i arg2 harg2 arg3 harg3 arg4 harg4 arg5 harg5 arg6 harg6 arg7 harg7 arg8 harg8 arg9 harg9 X_arg2 hrdF hrdB => View.readAt_writes_of_cover _ hrdF _ hrdB (fun hrdJ => View.cover_of_tiledL (pb_k1_t2 (F := F) 𝒱 c bd i arg2 harg2 arg3 harg3 arg4 harg4 arg5 harg5 arg6 harg6 arg7 harg7 arg8 harg8 arg9 harg9 X_arg2 (Scf.trips k1_t2_loop.lb k1_t2_loop.ub k1_t2_loop.st)) S256x128.size (by sl_kernel_rfl) (hrdB.idx hrdJ))
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _, _; isplitr; swap; · iexact HS1
    ipureintro; rfl

end Cert.Both.Dx

end
-- ==== Proof.BothDxRunBK.lean ====
/- The body of the `dx` call in the program of the two calls at the points that do not start a row block. -/
module

public import proofs.«01_k».proof.Proof.BothDxRunAK

@[expose] public section

set_option maxRecDepth 16384

noncomputable section

namespace Cert.Both.Dx

open Cert.Both Cert.Both.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 1000000 in
/-- The body's run at every other point: the left operand is read, not written. -/
noncomputable def kernelRun0_B (c : Dev nD) (i : grid1.Coords) (arg2 : Memref sig .tc .vmem S18944x128 .i8) (harg2 : arg2.IsWhole) (arg3 : Memref sig .tc .vmem S384x18944 .i8) (harg3 : arg3.IsWhole) (arg4 : Memref sig .tc .vmem S384x18944 .i8) (harg4 : arg4.IsWhole) (arg5 : Memref sig .tc .vmem S1x1x256 .f32) (harg5 : arg5.IsWhole) (arg6 : Memref sig .tc .vmem S384x128 .f32) (harg6 : arg6.IsWhole) (arg7 : Memref sig .tc .vmem S384x256 .bf16) (harg7 : arg7.IsWhole) (arg8 : Memref sig .tc .vmem S768x18944 .fp8e4m3) (harg8 : arg8.IsWhole) (arg9 : Memref sig .tc .vmem S18944x256 .fp8e4m3) (harg9 : arg9.IsWhole) (hc0 : ¬cond0_0 i)
    (x0 : Vec F S18944x128 .i8) (x1 : Vec F S384x18944 .i8) (x2 : Vec F S384x18944 .i8) (x3 : Vec F S1x1x256 .f32) (x4 : Vec F S384x128 .f32) (xs0 : Vec F S768x18944 .fp8e4m3) :
    Σ' (L5 : List (View.Piece (Elt F) S384x256 .bf16)), { LS0 : List (View.Piece (Elt F) S768x18944 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ (∃ d, owns (c : Thread nD τ) arg9 fullShare d)) -∗ K ⟨⟩))
          ⊢ wp frame (wpE (defs₀ (F := F)) Variants.none c none) E (cc1_dx i arg2 harg2 arg3 harg3 arg4 harg4 arg5 harg5 arg6 harg6 arg7 harg7 arg8 harg8 arg9 harg9) K } := by
  refine ⟨?_, [], fun E K => ?run⟩
  case run =>
    simp only [cc1_dx_eq_skeleton]; unfold cc1_dx_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    have hrd0 : ∀ (𝒱 : Variants) (c : Dev nD) (bd : Option 𝒱.V) (i : grid1.Coords) (arg2 : Memref sig .tc .vmem S18944x128 .i8) (harg2 : arg2.IsWhole) (arg3 : Memref sig .tc .vmem S384x18944 .i8) (harg3 : arg3.IsWhole) (arg4 : Memref sig .tc .vmem S384x18944 .i8) (harg4 : arg4.IsWhole) (arg5 : Memref sig .tc .vmem S1x1x256 .f32) (harg5 : arg5.IsWhole) (arg6 : Memref sig .tc .vmem S384x128 .f32) (harg6 : arg6.IsWhole) (arg7 : Memref sig .tc .vmem S384x256 .bf16) (harg7 : arg7.IsWhole) (arg8 : Memref sig .tc .vmem S768x18944 .fp8e4m3) (harg8 : arg8.IsWhole) (arg9 : Memref sig .tc .vmem S18944x256 .fp8e4m3) (harg9 : arg9.IsWhole) (X_arg2 : BufTy.Contents (Elt F) arg2.view.ty) (hrdF : BufTy.Contents (Elt F) arg9.view.ty) (hrdB : LoadRect S18944x256), arg9.view.readAt (Elt F) hrdB (arg9.view.writes (Elt F) hrdF (pb_k1_t2 (F := F) 𝒱 c bd i arg2 harg2 arg3 harg3 arg4 harg4 arg5 harg5 arg6 harg6 arg7 harg7 arg8 harg8 arg9 harg9 X_arg2 (Scf.trips k1_t2_loop.lb k1_t2_loop.ub k1_t2_loop.st))) = arg9.view.readCov (pb_k1_t2 (F := F) 𝒱 c bd i arg2 harg2 arg3 harg3 arg4 harg4 arg5 harg5 arg6 harg6 arg7 harg7 arg8 harg8 arg9 harg9 X_arg2 (Scf.trips k1_t2_loop.lb k1_t2_loop.ub k1_t2_loop.st)) hrdB := fun 𝒱 c bd i arg2 harg2 arg3 harg3 arg4 harg4 arg5 harg5 arg6 harg6 arg7 harg7 arg8 harg8 arg9 harg9 X_arg2 hrdF hrdB => View.readAt_writes_of_cover _ hrdF _ hrdB (fun hrdJ => View.cover_of_tiledL (pb_k1_t2 (F := F) 𝒱 c bd i arg2 harg2 arg3 harg3 arg4 harg4 arg5 harg5 arg6 harg6 arg7 harg7 arg8 harg8 arg9 harg9 X_arg2 (Scf.trips k1_t2_loop.lb k1_t2_loop.ub k1_t2_loop.st)) S256x128.size (by sl_kernel_rfl) (hrdB.idx hrdJ))
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _, _; isplitr; swap; · iexact HS1
    ipureintro; rfl

end Cert.Both.Dx

end
-- ==== Proof.BothDxFrameK.lean ====
/- The `dx` call in the program of the two calls: what every grid point leaves, and the body's obligation; the buffers the
   call finds are a parameter. -/
module

public import proofs.«01_k».proof.Proof.BothDxRunBK

@[expose] public section

set_option maxRecDepth 16384

noncomputable section

namespace Cert.Both.Dx

open Cert.Both Cert.Both.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid1.Coords) (arg2 : Memref sig .tc .vmem S18944x128 .i8) (harg2 : arg2.IsWhole) (arg3 : Memref sig .tc .vmem S384x18944 .i8) (harg3 : arg3.IsWhole) (arg4 : Memref sig .tc .vmem S384x18944 .i8) (harg4 : arg4.IsWhole) (arg5 : Memref sig .tc .vmem S1x1x256 .f32) (harg5 : arg5.IsWhole) (arg6 : Memref sig .tc .vmem S384x128 .f32) (harg6 : arg6.IsWhole) (arg7 : Memref sig .tc .vmem S384x256 .bf16) (harg7 : arg7.IsWhole) (arg8 : Memref sig .tc .vmem S768x18944 .fp8e4m3) (harg8 : arg8.IsWhole) (arg9 : Memref sig .tc .vmem S18944x256 .fp8e4m3) (harg9 : arg9.IsWhole)

theorem cover0_A_5 (hc0 : cond0_0 i)
    (x0 : Vec F S18944x128 .i8) (x1 : Vec F S384x18944 .i8) (x2 : Vec F S384x18944 .i8) (x3 : Vec F S1x1x256 .f32) (x4 : Vec F S384x128 .f32) (y : S384x256.Idx) :
    ∃ pc ∈ (kernelRun0_A c i arg2 harg2 arg3 harg3 arg4 harg4 arg5 harg5 arg6 harg6 arg7 harg7 arg8 harg8 arg9 harg9 hc0 x0 x1 x2 x3 x4).1, y ∈ pc.1.set :=
  View.cover_of_tiledL (kernelRun0_A c i arg2 harg2 arg3 harg3 arg4 harg4 arg5 harg5 arg6 harg6 arg7 harg7 arg8 harg8 arg9 harg9 hc0 x0 x1 x2 x3 x4).1 S384x256.size (by sl_kernel_rfl) y

def out0_A_5 (hc0 : cond0_0 i)
    (x0 : Vec F S18944x128 .i8) (x1 : Vec F S384x18944 .i8) (x2 : Vec F S384x18944 .i8) (x3 : Vec F S1x1x256 .f32) (x4 : Vec F S384x128 .f32) : Vec F S384x256 .bf16 :=
  VO0_5.read (Elt F) (VO0_5.writes (Elt F) VO0_5.junk (kernelRun0_A c i arg2 harg2 arg3 harg3 arg4 harg4 arg5 harg5 arg6 harg6 arg7 harg7 arg8 harg8 arg9 harg9 hc0 x0 x1 x2 x3 x4).1)

theorem scover0_A_0 (hc0 : cond0_0 i)
    (x0 : Vec F S18944x128 .i8) (x1 : Vec F S384x18944 .i8) (x2 : Vec F S384x18944 .i8) (x3 : Vec F S1x1x256 .f32) (x4 : Vec F S384x128 .f32) (y : S768x18944.Idx) :
    ∃ pc ∈ (kernelRun0_A c i arg2 harg2 arg3 harg3 arg4 harg4 arg5 harg5 arg6 harg6 arg7 harg7 arg8 harg8 arg9 harg9 hc0 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 x0 x1 x2 x3 x4).2.1 S384x128.size (by sl_kernel_rfl) y

def sout0_A_0 (hc0 : cond0_0 i)
    (x0 : Vec F S18944x128 .i8) (x1 : Vec F S384x18944 .i8) (x2 : Vec F S384x18944 .i8) (x3 : Vec F S1x1x256 .f32) (x4 : Vec F S384x128 .f32) : Vec F S768x18944 .fp8e4m3 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3 x4).2.1)

theorem cover0_B_5 (hc0 : ¬cond0_0 i)
    (x0 : Vec F S18944x128 .i8) (x1 : Vec F S384x18944 .i8) (x2 : Vec F S384x18944 .i8) (x3 : Vec F S1x1x256 .f32) (x4 : Vec F S384x128 .f32) (xs0 : Vec F S768x18944 .fp8e4m3) (y : S384x256.Idx) :
    ∃ pc ∈ (kernelRun0_B c i arg2 harg2 arg3 harg3 arg4 harg4 arg5 harg5 arg6 harg6 arg7 harg7 arg8 harg8 arg9 harg9 hc0 x0 x1 x2 x3 x4 xs0).1, y ∈ pc.1.set :=
  View.cover_of_tiledL (kernelRun0_B c i arg2 harg2 arg3 harg3 arg4 harg4 arg5 harg5 arg6 harg6 arg7 harg7 arg8 harg8 arg9 harg9 hc0 x0 x1 x2 x3 x4 xs0).1 S384x256.size (by sl_kernel_rfl) y

def out0_B_5 (hc0 : ¬cond0_0 i)
    (x0 : Vec F S18944x128 .i8) (x1 : Vec F S384x18944 .i8) (x2 : Vec F S384x18944 .i8) (x3 : Vec F S1x1x256 .f32) (x4 : Vec F S384x128 .f32) (xs0 : Vec F S768x18944 .fp8e4m3) : Vec F S384x256 .bf16 :=
  VO0_5.read (Elt F) (VO0_5.writes (Elt F) VO0_5.junk (kernelRun0_B c i arg2 harg2 arg3 harg3 arg4 harg4 arg5 harg5 arg6 harg6 arg7 harg7 arg8 harg8 arg9 harg9 hc0 x0 x1 x2 x3 x4 xs0).1)

def sout0_B_0 (c : Dev nD) (i : grid1.Coords) (arg2 : Memref sig .tc .vmem S18944x128 .i8) (harg2 : arg2.IsWhole) (arg3 : Memref sig .tc .vmem S384x18944 .i8) (harg3 : arg3.IsWhole) (arg4 : Memref sig .tc .vmem S384x18944 .i8) (harg4 : arg4.IsWhole) (arg5 : Memref sig .tc .vmem S1x1x256 .f32) (harg5 : arg5.IsWhole) (arg6 : Memref sig .tc .vmem S384x128 .f32) (harg6 : arg6.IsWhole) (arg7 : Memref sig .tc .vmem S384x256 .bf16) (harg7 : arg7.IsWhole) (arg8 : Memref sig .tc .vmem S768x18944 .fp8e4m3) (harg8 : arg8.IsWhole) (arg9 : Memref sig .tc .vmem S18944x256 .fp8e4m3) (harg9 : arg9.IsWhole) (hc0 : ¬cond0_0 i)
    (x0 : Vec F S18944x128 .i8) (x1 : Vec F S384x18944 .i8) (x2 : Vec F S384x18944 .i8) (x3 : Vec F S1x1x256 .f32) (x4 : Vec F S384x128 .f32) (xs0 : Vec F S768x18944 .fp8e4m3) : Vec F S768x18944 .fp8e4m3 := xs0

end

variable (m : (c : Dev nD) → (b : Ref sig .tc) → Buf (Elt F) ((c : Thread nD τ).loc b))

/-- The buffers as the call finds them. -/
abbrev V (c : Dev nD) (b : Ref sig .tc) : Buf (Elt F) ((c : Thread nD τ).loc b) := m c b

/-- A window's block at a point, and what the inputs' staging buffers hold. -/
def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

theorem before0_0_of {c : Dev nD} (dat : Dat τ (Elt F) Unit ℕ (UR sig nD τ) ℕ cfg1 c) (hA : dat.A 0 = V m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg1 c) (hA : dat.A 1 = V m c (Pipeline.arrRef spec1 1))
    (hafter : ∀ t, dat.after 1 t = iblk m c 1 t) (t : Fin cfg1.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg1 c) (hA : dat.A 2 = V m c (Pipeline.arrRef spec1 2))
    (hafter : ∀ t, dat.after 2 t = iblk m c 2 t) (t : Fin cfg1.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg1 c) (hA : dat.A 3 = V m c (Pipeline.arrRef spec1 3))
    (hafter : ∀ t, dat.after 3 t = iblk m c 3 t) (t : Fin cfg1.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg1 c) (hA : dat.A 4 = V m c (Pipeline.arrRef spec1 4))
    (hafter : ∀ t, dat.after 4 t = iblk m c 4 t) (t : Fin cfg1.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- What the points leave in the result's block and in the left operand, point after point. -/
def outsAt0 (c : Dev nD) : (n : ℕ) → n < cfg1.N → Vec F S384x256 .bf16 × Vec F S768x18944 .fp8e4m3
  | 0, hn => (out0_A_5 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 14 = 0 then
      (out0_A_5 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

theorem outsAt0_A (c : Dev nD) (t : Fin cfg1.N) (h0 : t.val % 14 = 0) :
    outsAt0 m c t.val t.isLt = (out0_A_5 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t), sout0_A_0 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

theorem outsAt0_B (c : Dev nD) (t : Fin cfg1.N) (h0 : ¬t.val % 14 = 0) :
    outsAt0 m c t.val t.isLt = (out0_B_5 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- What the call keeps between points: the left operand at what the point before left. -/
def PhiS (c : Dev nD) : (n : ℕ) → n ≤ cfg1.N → sProp 𝕄
  | 0, _ => Pipeline.ΦA spec1 c
  | n + 1, hn => iprop(iprop(owns (c : Thread nD τ) scM0_0 fullShare ((outsAt0 m c n hn).2) ∗ (∃ d, owns (c : Thread nD τ) scM0_1 fullShare d)) ∗ Gn c)

theorem PhiS_zero (c : Dev nD) (n : ℕ) (h : n ≤ cfg1.N) (hz : n = 0) : PhiS m c n h = Pipeline.ΦA spec1 c := by
  subst hz; rfl

theorem PhiS_succ (c : Dev nD) (n : ℕ) (hn : n < cfg1.N) :
    PhiS m c (n + 1) hn = iprop(iprop(owns (c : Thread nD τ) scM0_0 fullShare ((outsAt0 m c n hn).2) ∗ (∃ d, owns (c : Thread nD τ) scM0_1 fullShare d)) ∗ Gn c) := rfl

theorem PhiS_pos (c : Dev nD) (n : ℕ) (h : n ≤ cfg1.N) (hz : n ≠ 0) :
    PhiS m c n h = iprop(iprop(owns (c : Thread nD τ) scM0_0 fullShare ((outsAt0 m c (n - 1) (by omega)).2) ∗ (∃ d, owns (c : Thread nD τ) scM0_1 fullShare d)) ∗ Gn c) := by
  cases n with
  | zero => exact absurd rfl hz
  | succ n => rfl

/-- The call's proof data. -/
def dats (_ : Fin 1) (c : Dev nD) : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg1.W) : (dats m 0 c).A w = V m c (Pipeline.arrRef spec1 w) := by
  dsimp only [dats]

theorem PhiS_castSucc (c : Dev nD) (t : Fin cfg1.N) :
    (dats m 0 c).Φ t.castSucc = PhiS m c t.val (Nat.le_of_lt t.isLt) := by
  dsimp only [dats]; exact Pipeline.Dat.Φ_castSucc (PhiS m c) t

theorem after0_0 (c : Dev nD) (t : Fin cfg1.N) : (dats m 0 c).after 0 t = iblk m c 0 t := by dsimp only [dats]
theorem after0_1 (c : Dev nD) (t : Fin cfg1.N) : (dats m 0 c).after 1 t = iblk m c 1 t := by dsimp only [dats]
theorem after0_2 (c : Dev nD) (t : Fin cfg1.N) : (dats m 0 c).after 2 t = iblk m c 2 t := by dsimp only [dats]
theorem after0_3 (c : Dev nD) (t : Fin cfg1.N) : (dats m 0 c).after 3 t = iblk m c 3 t := by dsimp only [dats]
theorem after0_4 (c : Dev nD) (t : Fin cfg1.N) : (dats m 0 c).after 4 t = iblk m c 4 t := by dsimp only [dats]
theorem after0_5 (c : Dev nD) (t : Fin cfg1.N) : (dats m 0 c).after 5 t = (outsAt0 m c t.val t.isLt).1 := by dsimp only [dats]

theorem before0_0 (c : Dev nD) (t : Fin cfg1.N) (d) : (dats m 0 c).before 0 t d = iblk m c 0 t :=
  before0_0_of m (dats m 0 c) (A_eq m c 0) (after0_0 m c) t d
theorem before0_1 (c : Dev nD) (t : Fin cfg1.N) (d) : (dats m 0 c).before 1 t d = iblk m c 1 t :=
  before0_1_of m (dats m 0 c) (A_eq m c 1) (after0_1 m c) t d
theorem before0_2 (c : Dev nD) (t : Fin cfg1.N) (d) : (dats m 0 c).before 2 t d = iblk m c 2 t :=
  before0_2_of m (dats m 0 c) (A_eq m c 2) (after0_2 m c) t d
theorem before0_3 (c : Dev nD) (t : Fin cfg1.N) (d) : (dats m 0 c).before 3 t d = iblk m c 3 t :=
  before0_3_of m (dats m 0 c) (A_eq m c 3) (after0_3 m c) t d
theorem before0_4 (c : Dev nD) (t : Fin cfg1.N) (d) : (dats m 0 c).before 4 t d = iblk m c 4 t :=
  before0_4_of m (dats m 0 c) (A_eq m c 4) (after0_4 m c) t d

def bodyPre (c : Dev nD) (t : Fin cfg1.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg1.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in
/-- The body at any point. -/
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 56 := lt_of_lt_of_eq t.isLt (show cfg1.N = 56 from N_1)
  by_cases h0 : t.val % 14 = 0
  · by_cases hz : t.val = 0
    · rw [PhiS_castSucc m c t, PhiS_zero m c _ _ hz, PhiA0_eq]
      rw [outsAt0_A m c t h0]
      unfold out0_A_5 sout0_A_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid1.coords t) _ _ _ _ _ _ _ _ _ _ _ _ _ _ _ _ ((hcond0_0 t).mpr h0) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _ _ _)
    · rw [PhiS_castSucc m c t, PhiS_pos m c _ _ hz]
      rw [outsAt0_A m c t h0]
      unfold out0_A_5 sout0_A_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid1.coords t) _ _ _ _ _ _ _ _ _ _ _ _ _ _ _ _ ((hcond0_0 t).mpr h0) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexact HS1
      iintro ⟨H0, H1, H2, H3, H4, ⟨%e5, H5⟩, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _ _ _)
  · by_cases hz : t.val = 0
    · exfalso; have hN : t.val < 56 := lt_of_lt_of_eq t.isLt (show cfg1.N = 56 from N_1); omega
    · rw [PhiS_castSucc m c t, PhiS_pos m c _ _ hz]
      rw [outsAt0_B m c t h0]
      unfold out0_B_5 sout0_B_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid1.coords t) _ _ _ _ _ _ _ _ _ _ _ _ _ _ _ _ (fun h => h0 ((hcond0_0 t).mp h)) (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _ _ _ _)

theorem defs₀_row (t : Fin cfg1.N) :
    defs₀ (F := F) .tc cfg1.body (cfg1.bodyArgs t (cfg1.slots t)) = bodyAt1 t := by
  unfold defs₀; rw [Defs.onTc_tc]

/-- The body's obligation, at every point. -/
theorem body_obligation (c : Dev nD) : BodyObligation (dats (F := F) m 0 c) (defs₀ (F := F)) Variants.none () Set.univ := fun t => by
  rw [bigSep_W1, bigSep_W1, defs₀_row]
  exact triple_restated (sound_body m c t) rfl .rfl fun _ => .rfl

theorem hin (c : Dev nD) : Pipeline.ΦA spec1 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg1.N + 1)) (ht : t.val ≠ 0) : (dats m 0 c).Φ t ⊢ Pipeline.ΦA spec1 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

theorem hout (c : Dev nD) : (dats m 0 c).Φ (Fin.last cfg1.N) ⊢ Pipeline.ΦA spec1 c :=
  Phi_out m c _ (by rw [Fin.val_last]; have : cfg1.N = 56 := N_1; omega)

end Cert.Both.Dx

end
-- ==== Proof.BothRunK.lean ====
/- The two calls run one after the other: the quantising call, the host's lines that lay out the column scales, and the `dx`
   call. Every buffer ends at a named valuation, but for the two arrays of the quantising call that no later line reads. -/
module

public import proofs.«01_k».proof.Proof.Gen.Both.Regions
public import proofs.«01_k».proof.Proof.BothQFrameK
public import proofs.«01_k».proof.Proof.BothDxFrameK
public import Idealize.ShloMosaic.Lib.Pipeline.RegionArraysF
public import Idealize.ShloMosaic.Lib.Pipeline.RegionsOwned
public import Idealize.ShloMosaic.Lib.Pipeline.Frame

@[expose] public section

set_option maxRecDepth 16384

noncomputable section

namespace Cert.Both.Joint

open Cert.Both Cert.Both.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat ucRefs ucRefsBut arrRefs hbmRefs)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the items -/

/-- What the quantising call finds. -/
abbrev E0 (c : Dev nD) (b : Ref sig .tc) : Buf (Elt F) ((c : Thread nD τ).loc b) := V1 m c (Proc.devRef .tc b)

/-- What it leaves, where that is named. -/
def W2 (c : Dev nD) : Valuation τ sig (Elt F) :=
  Function.update (Function.update (Function.update (V1 m c) main_v2_0 ((Quant.dats (E0 m) 0 c).arrAt 2 cfg0.N))
    main_v2_1 ((Quant.dats (E0 m) 0 c).arrAt 3 cfg0.N)) main_v2_4 ((Quant.dats (E0 m) 0 c).arrAt 6 cfg0.N)

/-- What the `dx` call finds. -/
def W3 (c : Dev nD) : Valuation τ sig (Elt F) := StableHlo.after hostOps1 (W2 m c)

abbrev E1 (c : Dev nD) (b : Ref sig .tc) : Buf (Elt F) ((c : Thread nD τ).loc b) := W3 m c (Proc.devRef .tc b)

/-- What the `dx` call leaves. -/
def W4 (c : Dev nD) : Valuation τ sig (Elt F) := Function.update (W3 m c) main_v6 ((Dx.dats (E1 m) 0 c).arrAt 5 cfg1.N)

/-- The two arrays that stay unnamed. -/
abbrev loose : Finset (Ref sig .tc) := {main_v2_2, main_v2_3}

/-- The buffers that are named. -/
abbrev S' : Finset (DevRef τ sig) := ucRefsBut τ sig loose

/-! ## The proof data of the two calls -/

/-- Each call's proof data. -/
def pd : (p : Fin 2) → (c : Dev nD) → Dat τ (Elt F) Unit ℕ (UR sig nD τ) ℕ (cfgs p) c
  | ⟨0, _⟩, c => Quant.dats (E0 m) 0 c
  | ⟨1, _⟩, c => Dx.dats (E1 m) 0 c
  | ⟨_ + 2, h⟩, _ => absurd h (Nat.not_lt.2 (Nat.le_add_left _ _))

/-- Which windows stay unnamed. -/
def fg : (p : Fin 2) → Fin (cfgs p).W → Bool
  | ⟨0, _⟩ => Quant.forgets
  | ⟨1, _⟩ => fun _ => false
  | ⟨_ + 2, h⟩ => absurd h (Nat.not_lt.2 (Nat.le_add_left _ _))

/-- The levels: one index at every cell of a TensorCore, all at level zero. -/
abbrev LL : GSem nD τ sig → Finset Unit := fun g => if g.1.2 = .tc then {()} else ∅
abbrev lv : GSem nD τ sig → Unit → ℕ := fun _ _ => 0

theorem cut (p : Fin 2) : Pipeline.LevelCut (pcfgs (F := F)) adm () LL lv p (fun _ => 0) (fun _ : Dev nD => 0) where
  hι _ _ _ := by simp [LL]
  hιb _ _ _ := le_rfl
  hD _ g i h := absurd h (by simp)

theorem mayWaits (c : Dev nD) : (levAts LL lv : sProp 𝕄) ⊢ Transfers.MayWaits (c : Thread nD τ) () 0 :=
  (show (levAts LL lv : sProp 𝕄) ⊢ BI.emp from by iintro -; iempintro).trans (Transfers.MayWaits.zero _ _)

/-- The unnamed arrays' contents, over the named buffers. -/
def mk0 (c : Dev nD) (A : (w : Fin cfg0.W) → Buf (Elt F) ((cfg0.win w).arr.view.loc (c.tc : Thread nD τ))) : Valuation τ sig (Elt F) :=
  Function.update (Function.update (W2 m c) main_v2_2 (A 4)) main_v2_3 (A 5)

theorem ne_dev {a b : Ref sig .tc} (h : a ≠ b) : (Proc.devRef .tc a : DevRef τ sig) ≠ Proc.devRef .tc b := StableHlo.devRef_ne_of_ne h

theorem mk0_arr (c : Dev nD) (A : (w : Fin cfg0.W) → Buf (Elt F) ((cfg0.win w).arr.view.loc (c.tc : Thread nD τ)))
    (hA : ∀ w, Quant.forgets w = false → A w = (Quant.dats (E0 m) 0 c).arrAt w cfg0.N) (w : Fin cfg0.W) :
    A w = mk0 m c A (Proc.devRef .tc (Pipeline.arrRef spec0 w)) := by
  have hin : ∀ w : Fin cfg0.W, (cfg0.win w).isOut = false → Quant.forgets w = false → A w = V1 m c (Proc.devRef .tc (Pipeline.arrRef spec0 w)) :=
    fun w ho hf => (hA w hf).trans (((Quant.dats (E0 m) 0 c).arrAt_in w ho _).trans (Quant.A_eq (E0 m) c w))
  match w with
  | ⟨0, _⟩ =>
    refine (hin 0 rfl rfl).trans ?_
    show V1 m c (Proc.devRef .tc main_v0) = mk0 m c A (Proc.devRef .tc main_v0)
    unfold mk0 W2
    rw [Function.update_of_ne (ne_dev (by decide)), Function.update_of_ne (ne_dev (by decide)), Function.update_of_ne (ne_dev (by decide)),
      Function.update_of_ne (ne_dev (by decide)), Function.update_of_ne (ne_dev (by decide))]
  | ⟨1, _⟩ =>
    refine (hin 1 rfl rfl).trans ?_
    show V1 m c (Proc.devRef .tc main_v1) = mk0 m c A (Proc.devRef .tc main_v1)
    unfold mk0 W2
    rw [Function.update_of_ne (ne_dev (by decide)), Function.update_of_ne (ne_dev (by decide)), Function.update_of_ne (ne_dev (by decide)),
      Function.update_of_ne (ne_dev (by decide)), Function.update_of_ne (ne_dev (by decide))]
  | ⟨2, _⟩ =>
    refine (hA 2 rfl).trans ?_
    show _ = mk0 m c A (Proc.devRef .tc main_v2_0)
    unfold mk0 W2
    rw [Function.update_of_ne (ne_dev (by decide)), Function.update_of_ne (ne_dev (by decide)), Function.update_of_ne (ne_dev (by decide)), Function.update_of_ne (ne_dev (by decide)), Function.update_self]
  | ⟨3, _⟩ =>
    refine (hA 3 rfl).trans ?_
    show _ = mk0 m c A (Proc.devRef .tc main_v2_1)
    unfold mk0 W2
    rw [Function.update_of_ne (ne_dev (by decide)), Function.update_of_ne (ne_dev (by decide)), Function.update_of_ne (ne_dev (by decide)), Function.update_self]
  | ⟨4, _⟩ =>
    show A 4 = mk0 m c A (Proc.devRef .tc main_v2_2)
    unfold mk0
    rw [Function.update_of_ne (ne_dev (by decide)), Function.update_self]
  | ⟨5, _⟩ =>
    show A 5 = mk0 m c A (Proc.devRef .tc main_v2_3)
    unfold mk0
    rw [Function.update_self]
  | ⟨6, _⟩ =>
    refine (hA 6 rfl).trans ?_
    show _ = mk0 m c A (Proc.devRef .tc main_v2_4)
    unfold mk0 W2
    rw [Function.update_of_ne (ne_dev (by decide)), Function.update_of_ne (ne_dev (by decide)), Function.update_self]

theorem mem_arr0 (w : Fin cfg0.W) : (Proc.devRef .tc (Pipeline.arrRef spec0 w) : DevRef τ sig) ∈ arrRefs (τ := τ) spec0 :=
  Finset.mem_map.mpr ⟨_, Finset.mem_image.mpr ⟨w, Finset.mem_univ _, rfl⟩, rfl⟩
theorem mem_arr1 (w : Fin cfg1.W) : (Proc.devRef .tc (Pipeline.arrRef spec1 w) : DevRef τ sig) ∈ arrRefs (τ := τ) spec1 :=
  Finset.mem_map.mpr ⟨_, Finset.mem_image.mpr ⟨w, Finset.mem_univ _, rfl⟩, rfl⟩

/-- Off the quantising call's arrays nothing changes. -/
theorem mk0_off (c : Dev nD) (A : (w : Fin cfg0.W) → Buf (Elt F) ((cfg0.win w).arr.view.loc (c.tc : Thread nD τ)))
    (d : DevRef τ sig) (hd : d ∉ arrRefs (τ := τ) spec0) : mk0 m c A d = V1 m c d := by
  have h : ∀ w : Fin cfg0.W, d ≠ (Proc.devRef .tc (Pipeline.arrRef spec0 w) : DevRef τ sig) := fun w e => hd (e ▸ mem_arr0 w)
  unfold mk0 W2
  rw [Function.update_of_ne (h 5), Function.update_of_ne (h 4), Function.update_of_ne (h 6), Function.update_of_ne (h 3), Function.update_of_ne (h 2)]

/-- The array of each of the `dx` call's windows, as the call leaves it. -/
theorem W4_arr (c : Dev nD) (w : Fin cfg1.W) : (Dx.dats (E1 m) 0 c).arrAt w cfg1.N = W4 m c (Proc.devRef .tc (Pipeline.arrRef spec1 w)) := by
  have hin : ∀ w : Fin cfg1.W, (cfg1.win w).isOut = false → (Dx.dats (E1 m) 0 c).arrAt w cfg1.N = W3 m c (Proc.devRef .tc (Pipeline.arrRef spec1 w)) :=
    fun w ho => ((Dx.dats (E1 m) 0 c).arrAt_in w ho _).trans (Dx.A_eq (E1 m) c w)
  match w with
  | ⟨0, _⟩ =>
    refine (hin 0 rfl).trans ?_
    show _ = W4 m c (Proc.devRef .tc main_arg2)
    unfold W4
    exact (Function.update_of_ne (ne_dev (by decide)) _ _).symm
  | ⟨1, _⟩ =>
    refine (hin 1 rfl).trans ?_
    show _ = W4 m c (Proc.devRef .tc main_v2_0)
    unfold W4
    exact (Function.update_of_ne (ne_dev (by decide)) _ _).symm
  | ⟨2, _⟩ =>
    refine (hin 2 rfl).trans ?_
    show _ = W4 m c (Proc.devRef .tc main_v2_1)
    unfold W4
    exact (Function.update_of_ne (ne_dev (by decide)) _ _).symm
  | ⟨3, _⟩ =>
    refine (hin 3 rfl).trans ?_
    show _ = W4 m c (Proc.devRef .tc main_v5)
    unfold W4
    exact (Function.update_of_ne (ne_dev (by decide)) _ _).symm
  | ⟨4, _⟩ =>
    refine (hin 4 rfl).trans ?_
    show _ = W4 m c (Proc.devRef .tc main_v2_4)
    unfold W4
    exact (Function.update_of_ne (ne_dev (by decide)) _ _).symm
  | ⟨5, _⟩ =>
    show _ = W4 m c (Proc.devRef .tc main_v6)
    unfold W4
    rw [Function.update_self]
    rfl

theorem W4_off (c : Dev nD) (d : DevRef τ sig) (hd : d ∉ arrRefs (τ := τ) spec1) : W4 m c d = W3 m c d := by
  unfold W4
  exact Function.update_of_ne (fun e => hd (by rw [e]; exact mem_arr1 5)) _ _

/-! ## The two calls as records -/

/-- The rest beside the buffers: the generator register and the core owing nothing. -/
abbrev Rest (c : Dev nD) : sProp 𝕄 := iprop((∃ r, prngReg c r) ∗ ∃ W, owes (c : Thread nD τ) (0 : CellTallies nD τ sig Unit) W)

/-- The quantising call. -/
def R0 : RDat.RegionSeg (pcfgs (F := F)) adm (Pipeline.toRsF (pcfgs (F := F)) adm (pd m) fg) () defs₀ Variants.none LL lv 0 :=
  RDat.RegionSeg.ofHeldF (pcfgs (F := F)) adm (pd m) () defs₀ Variants.none LL lv 0 (fun _ => 0) fg (K := PEmpty) () (fun k => k.elim)
    (Pipeline.OwnSemFacts.none _) ∅ ∅ (ucRefs τ sig \ arrRefs spec0) (by simp [hbmRefs]) (by simp [hbmRefs]) launch0.toP rfl
    (fun c => (Quant.body_obligation (E0 m) c).loose) (fun _ _ => rfl) (fun _ => rfl)
    (fun c => (Quant.dats (E0 m) 0 c).share_full fun _ => rfl) (fun c => mayWaits c) (V1 m) (fun c A _ => mk0 m c A)
    (fun c A _ hA w => mk0_arr m c A hA w) (fun _ _ _ b hb => absurd hb (Finset.notMem_empty b))
    (fun c A _ d hd => mk0_off m c A d (Finset.mem_sdiff.mp (Finset.mem_sdiff.mp (Finset.mem_sdiff.mp hd).1).1).2)
    (fun c A _ d hd => absurd hd (by simp [hbmRefs]))
    (fun c => by
      show _ ⊢ Pipeline.ΦA spec0 c
      unfold Pipeline.ΦA
      iintro ⟨Hr, Hp, -, -, -, -⟩
      isplitl [Hr]; · iexact Hr
      iexact Hp)
    (fun c => by
      show Pipeline.ΦA spec0 c ⊢ _
      rw [Pipeline.ownSems0_none, BI.bigSep_empty, BI.bigSep_empty]
      unfold Pipeline.ΦA
      iintro ⟨Hr, Hp⟩
      isplitl [Hr]; · iexact Hr
      isplitl [Hp]; · iexact Hp
      isplitr; · iempintro
      isplitr; · iempintro
      iempintro)
    (fun _ => 0) (cut 0) (fun _ => iprop(emp)) (fun c w => Quant.A_eq (E0 m) c w)

/-- The `dx` call. -/
def R1 : RDat.RegionSeg (pcfgs (F := F)) adm (Pipeline.toRsF (pcfgs (F := F)) adm (pd m) fg) () defs₀ Variants.none LL lv 1 :=
  RDat.RegionSeg.ofHeldF (pcfgs (F := F)) adm (pd m) () defs₀ Variants.none LL lv 1 (fun _ => 0) fg (K := PEmpty) () (fun k => k.elim)
    (Pipeline.OwnSemFacts.none _) ∅ ∅ (S' \ arrRefs spec1) (by simp [hbmRefs]) (by simp [hbmRefs]) launch1.toP rfl
    (fun c => (Dx.body_obligation (E1 m) c).loose) (fun _ _ => rfl) (fun _ => rfl)
    (fun c => (Dx.dats (E1 m) 0 c).share_full fun _ => rfl) (fun c => mayWaits c) (W3 m) (fun c _ _ => W4 m c)
    (fun c A _ hA w => (hA w rfl).trans (W4_arr m c w)) (fun _ _ _ b hb => absurd hb (Finset.notMem_empty b))
    (fun c A _ d hd => W4_off m c d (Finset.mem_sdiff.mp (Finset.mem_sdiff.mp (Finset.mem_sdiff.mp hd).1).1).2)
    (fun c A _ d hd => absurd hd (by simp [hbmRefs]))
    (fun c => (show _ ⊢ Pipeline.ΦA spec1 c by
      unfold Pipeline.ΦA
      iintro ⟨Hr, Hp, -, -, -, -⟩
      isplitl [Hr]; · iexact Hr
      iexact Hp).trans (Dx.hin (E1 m) c))
    (fun c => (Dx.hout (E1 m) c).trans (by
      rw [Pipeline.ownSems0_none, BI.bigSep_empty, BI.bigSep_empty]
      unfold Pipeline.ΦA
      iintro ⟨Hr, Hp⟩
      isplitl [Hr]; · iexact Hr
      isplitl [Hp]; · iexact Hp
      isplitr; · iempintro
      isplitr; · iempintro
      iempintro))
    (fun _ => 0) (cut 1) (fun _ => iprop(emp)) (fun c w => Dx.A_eq (E1 m) c w)

theorem arr0_sub : arrRefs (τ := τ) spec0 ⊆ ucRefs τ sig := Pipeline.arrRefs_sub_ucRefs spec0 (by decide)
theorem arr1_sub : arrRefs (τ := τ) spec1 ⊆ S' := fun d hd => by
  obtain ⟨r, hr, rfl⟩ := Finset.mem_map.mp hd
  obtain ⟨w, -, rfl⟩ := Finset.mem_image.mp hr
  exact Pipeline.mem_ucRefsBut loose _ (by revert w; decide) (by revert w; decide)

/-- The host's first lines. -/
def H0 : Pipeline.HostSeg (Ix := Unit) (Name := ℕ) (U := UR sig nD τ) (Lvl := ℕ) (pcfgs (F := F)) defs₀ Variants.none LL lv :=
  Pipeline.HostSeg.ofOps _ _ _ _ _ (ucRefs τ sig) hostOps0
    (fun op h => Pipeline.sub_ucRefs op ((List.forall_iff_forall_mem.mp hostOps0_sub) op h))
    (fun op h => (List.forall_iff_forall_mem.mp hostOps0_fresh) op h) (V0 m) Rest

theorem hostOps1_keep : (hostOps1 : List (HloOp τ sig (Elt F))).Forall fun op => ∀ b ∈ loose, (Proc.devRef .tc b : DevRef τ sig) ∉ op.bufs := by
  refine ⟨?_, ?_, ?_⟩
  · show ∀ b ∈ loose, (Proc.devRef .tc b : DevRef τ sig) ∉ ({(Proc.devRef .tc main_arg3 : DevRef τ sig), Proc.devRef .tc main_v3} : Finset (DevRef τ sig))
    decide
  · show ∀ b ∈ loose, (Proc.devRef .tc b : DevRef τ sig) ∉ ({(Proc.devRef .tc main_v3 : DevRef τ sig), Proc.devRef .tc main_v4} : Finset (DevRef τ sig))
    decide
  · show ∀ b ∈ loose, (Proc.devRef .tc b : DevRef τ sig) ∉ ({(Proc.devRef .tc main_v4 : DevRef τ sig), Proc.devRef .tc main_v5} : Finset (DevRef τ sig))
    decide

/-- The host's lines between the calls. -/
def H1 : Pipeline.HostSeg (Ix := Unit) (Name := ℕ) (U := UR sig nD τ) (Lvl := ℕ) (pcfgs (F := F)) defs₀ Variants.none LL lv :=
  Pipeline.HostSeg.ofOps _ _ _ _ _ S' hostOps1
    (fun op h => Pipeline.sub_ucRefsBut loose op ((List.forall_iff_forall_mem.mp hostOps1_sub) op h) ((List.forall_iff_forall_mem.mp hostOps1_keep) op h))
    (fun op h => (List.forall_iff_forall_mem.mp hostOps1_fresh) op h) (W2 m) Rest

/-- Into the quantising call. -/
theorem pre0 (c : Dev nD) : iprop(StableHlo.held (c : Thread nD τ) (ucRefs τ sig) (V1 m c) ∗ Rest c) ⊢ (R0 m).pre c := by
  show _ ⊢ iprop(StableHlo.held (c.tc : Thread nD τ) (arrRefs spec0) (V1 m c) ∗ (∃ r, prngReg c r)
    ∗ (StableHlo.held (c.tc : Thread nD τ) (ucRefs τ sig \ arrRefs spec0) (V1 m c) ∗ emp) ∗ ∃ Wd, owes (c : Thread nD τ) 0 Wd)
  rw [StableHlo.held_sub_split (c : Thread nD τ) arr0_sub (V1 m c)]
  iintro ⟨⟨Ha, Hr⟩, Hp, Ho⟩
  isplitl [Ha]; · iexact Ha
  isplitl [Hp]; · iexact Hp
  isplitl [Hr]
  · isplitl [Hr]; · iexact Hr
    iempintro
  iexact Ho

/-- Out of it: the unnamed arrays are let go. -/
theorem post0 (c : Dev nD) : (R0 m).post c ⊢ iprop(StableHlo.held (c : Thread nD τ) S' (W2 m c) ∗ Rest c) := by
  show iprop(∃ A g, StableHlo.held (c.tc : Thread nD τ) (arrRefs spec0) (mk0 m c A) ∗ (∃ r, prngReg c r)
    ∗ (StableHlo.held (c.tc : Thread nD τ) (ucRefs τ sig \ arrRefs spec0) (mk0 m c A) ∗ emp) ∗ ∃ Wd, owes (c : Thread nD τ) 0 Wd) ⊢ _
  iintro ⟨%A, %g, Ha, Hp, ⟨Hr, -⟩, Ho⟩
  have hs : (iprop(StableHlo.held (c : Thread nD τ) (arrRefs spec0) (mk0 m c A) ∗ StableHlo.held (c : Thread nD τ) (ucRefs τ sig \ arrRefs spec0) (mk0 m c A)) : sProp 𝕄)
      ⊢ StableHlo.held (c : Thread nD τ) S' (W2 m c) := by
    rw [← StableHlo.held_sub_split (c : Thread nD τ) arr0_sub (mk0 m c A),
      StableHlo.held_sub_split (c : Thread nD τ) (T := S') Finset.sdiff_subset (mk0 m c A),
      StableHlo.held_congr (c : Thread nD τ) (S := S') (V' := W2 m c) (fun d hd => by
        have hn : ∀ b ∈ loose, d ≠ (Proc.devRef .tc b : DevRef τ sig) := fun b hb e =>
          (Finset.mem_sdiff.mp hd).2 (e ▸ Finset.mem_map.mpr ⟨b, hb, rfl⟩)
        unfold mk0
        rw [Function.update_of_ne (hn _ (by decide)), Function.update_of_ne (hn _ (by decide))])]
    iintro ⟨H, -⟩
    iexact H
  isplitl [Ha Hr]
  · iapply hs
    isplitl [Ha] <;> iassumption
  isplitl [Hp] <;> iassumption

/-- Into the `dx` call. -/
theorem pre1 (c : Dev nD) : iprop(StableHlo.held (c : Thread nD τ) S' (W3 m c) ∗ Rest c) ⊢ (R1 m).pre c := by
  show _ ⊢ iprop(StableHlo.held (c.tc : Thread nD τ) (arrRefs spec1) (W3 m c) ∗ (∃ r, prngReg c r)
    ∗ (StableHlo.held (c.tc : Thread nD τ) (S' \ arrRefs spec1) (W3 m c) ∗ emp) ∗ ∃ Wd, owes (c : Thread nD τ) 0 Wd)
  rw [StableHlo.held_sub_split (c : Thread nD τ) arr1_sub (W3 m c)]
  iintro ⟨⟨Ha, Hr⟩, Hp, Ho⟩
  isplitl [Ha]; · iexact Ha
  isplitl [Hp]; · iexact Hp
  isplitl [Hr]
  · isplitl [Hr]; · iexact Hr
    iempintro
  iexact Ho

/-- Out of it. -/
theorem post1 (c : Dev nD) : (R1 m).post c ⊢ iprop(StableHlo.held (c : Thread nD τ) S' (W4 m c)
    ∗ ∃ W, owes (c : Thread nD τ) (0 : CellTallies nD τ sig Unit) W) := by
  show iprop(∃ A g, StableHlo.held (c.tc : Thread nD τ) (arrRefs spec1) (W4 m c) ∗ (∃ r, prngReg c r)
    ∗ (StableHlo.held (c.tc : Thread nD τ) (S' \ arrRefs spec1) (W4 m c) ∗ emp) ∗ ∃ Wd, owes (c : Thread nD τ) 0 Wd) ⊢ _
  rw [StableHlo.held_sub_split (c : Thread nD τ) arr1_sub (W4 m c)]
  iintro ⟨%A, %g, Ha, -, ⟨Hr, -⟩, Ho⟩
  isplitl [Ha Hr]
  · isplitl [Ha] <;> iassumption
  iexact Ho

/-! ## The run -/

/-- What a core is handed at the launch holds what the first lines start from. -/
theorem start (c : Dev nD) : (iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ emp) : sProp 𝕄)
    ⊢ iprop(StableHlo.held (c : Thread nD τ) (ucRefs τ sig) (V0 m c) ∗ Rest c) := by
  rw [← Pipeline.unscopedBufs_held (Ix := Unit) (Name := ℕ) (U := UR sig nD τ) (Lvl := ℕ) c (V0 m c)]
  iintro ⟨Hb, -, Ho, -, Hp, -⟩
  isplitl [Hb]; · iexact Hb
  isplitl [Hp]
  · iexists _; iexact Hp
  iexists _; iexact Ho

set_option backward.isDefEq.respectTransparency.types false in
/-- The whole program runs to its end; every named buffer ends as said and no semaphore is raised. -/
theorem run_main : θ_run defs (onTc (τ := τ) (main (F := F))) ⟨m, fun _ => 0, ρ⟩
    (fun r => (∀ c : Dev nD, ∀ d ∈ S', r.2.mem (c, d) = W4 m c d) ∧ r.2.sem = fun _ => 0) := by
  refine RDat.θ_run_regions_kit_dev_sems (pcfgs (F := F)) adm (Pipeline.toRsF (pcfgs (F := F)) adm (pd m) fg) () cellOf_inj emb₁ defs₀ Variants.none LL lv m ρ main
    (fun _ => [.host (H0 m), .region (R0 m), .host (H1 m), .region (R1 m)])
    (fun c Q => by
      rewrite [main_chain c, RDat.Seg.run_eq_chain]
      exact .rfl)
    (fun c => by simp only [RDat.Seg.pipes_host, RDat.Seg.pipes_region, RDat.Seg.pipes_nil]; decide) (fun _ => 0)
    (fun g hg => by simp [LL, hg]) (fun _ => iprop(emp))
    (initOf (Pipeline.cells cfgs cellOf_inj) (Pipeline.launchToks cfgs cellOf_inj)) ?_
    (T₀ := fun c => iprop(StableHlo.held (c : Thread nD τ) (ucRefs τ sig) (V0 m c) ∗ Rest c))
    (Tₙ := fun c => StableHlo.held (c : Thread nD τ) S' (W4 m c))
    (hch := fun c => ⟨.rfl, pre0 m c, post0 m c, pre1 m c, post1 m c⟩)
    (hinit := ?_) (QY := fun c s => ∀ d ∈ S', s.mem (c, d) = W4 m c d)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (ucRefs τ sig) (V0 m c) ∗ Rest c) : sProp 𝕄) :=
      bigSep_mono fun c _ => start m ρ c
    iintro ⟨H, -⟩
    imodintro
    iapply hsplit
    iexact H
  · unfold StableHlo.held
    iintro ⟨Hh, HSI⟩
    ihave Hr := (pointsTo_read_all S' (fun b => ((c : Thread nD τ).1, b)) (W4 m c) s') $$ [Hh HSI]
    · isplitl [Hh] <;> iassumption
    icases Hr with ⟨%h, HSI⟩
    imodintro
    isplitr
    · ipureintro; exact h
    iexact HSI

/-! ## What the buffers end at -/

theorem W3_of (c : Dev nD) (r : Ref sig .tc) (h : r ∉ hostOps1_W) : W3 m c (Proc.devRef .tc r) = W2 m c (Proc.devRef .tc r) :=
  StableHlo.after_of_writes_sub hostOps1 _ hostOps1_writes h

theorem W2_of (c : Dev nD) (r : Ref sig .tc) (h0 : r ≠ main_v2_0) (h1 : r ≠ main_v2_1) (h4 : r ≠ main_v2_4) :
    W2 m c (Proc.devRef .tc r) = V1 m c (Proc.devRef .tc r) := by
  unfold W2; rw [Function.update_of_ne (ne_dev h4), Function.update_of_ne (ne_dev h1), Function.update_of_ne (ne_dev h0)]

theorem W4_of (c : Dev nD) (r : Ref sig .tc) (h : r ≠ main_v6) : W4 m c (Proc.devRef .tc r) = W3 m c (Proc.devRef .tc r) := by
  unfold W4; rw [Function.update_of_ne (ne_dev h)]

theorem W2_v2_0 (c : Dev nD) : W2 m c (Proc.devRef .tc main_v2_0) = (Quant.dats (E0 m) 0 c).arrAt 2 cfg0.N := by
  unfold W2; rw [Function.update_of_ne (ne_dev (by decide)), Function.update_of_ne (ne_dev (by decide)), Function.update_self]
theorem W2_v2_1 (c : Dev nD) : W2 m c (Proc.devRef .tc main_v2_1) = (Quant.dats (E0 m) 0 c).arrAt 3 cfg0.N := by
  unfold W2; rw [Function.update_of_ne (ne_dev (by decide)), Function.update_self]
theorem W2_v2_4 (c : Dev nD) : W2 m c (Proc.devRef .tc main_v2_4) = (Quant.dats (E0 m) 0 c).arrAt 6 cfg0.N := by
  unfold W2; rw [Function.update_self]

/-- An argument is what it was, all along. -/
theorem W4_arg (c : Dev nD) (r : Ref sig .tc) (h : r ∈ ([main_arg0, main_arg1, main_arg2, main_arg3] : List (Ref sig .tc))) :
    W4 m c (Proc.devRef .tc r) = m ((c : Thread nD τ).loc r) := by
  have key : ∀ r : Ref sig .tc, r ∈ ([main_arg0, main_arg1, main_arg2, main_arg3] : List (Ref sig .tc)) →
      r ≠ main_v6 ∧ r ∉ hostOps1_W ∧ r ≠ main_v2_0 ∧ r ≠ main_v2_1 ∧ r ≠ main_v2_4 ∧ r ∉ hostOps0_W := by decide
  obtain ⟨k1, k2, k3, k4, k5, k6⟩ := key r h
  exact (W4_of m c r k1).trans ((W3_of m c r k2).trans ((W2_of m c r k3 k4 k5).trans ((V1_of m c r k6).trans rfl)))

theorem mem_S' (r : Ref sig .tc) (h1 : r.isScoped = false) (h2 : r ∉ loose) : (Proc.devRef .tc r : DevRef τ sig) ∈ S' :=
  Pipeline.mem_ucRefsBut loose r (fun h => Bool.false_ne_true (h1.symm.trans h)) h2

/-- The frame: the arguments end unchanged and no semaphore is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c _ (mem_S' main_arg0 (by decide) (by decide))).trans (W4_arg m c main_arg0 (by decide)),
      (h.1 c _ (mem_S' main_arg1 (by decide) (by decide))).trans (W4_arg m c main_arg1 (by decide)),
      (h.1 c _ (mem_S' main_arg2 (by decide) (by decide))).trans (W4_arg m c main_arg2 (by decide)),
      (h.1 c _ (mem_S' main_arg3 (by decide) (by decide))).trans (W4_arg m c main_arg3 (by decide))⟩, h.2⟩) (run_main m ρ)

/-- The run, its four results named: each array ends at what the points write back. -/
theorem run : θ_run defs (onTc (τ := τ) (main (F := F))) ⟨m, fun _ => 0, ρ⟩ (fun r => ∀ c : Dev nD,
      (r.2.mem ((c.tc : Thread nD τ).loc main_v6) = (Dx.dats (E1 m) 0 c).arrAt 5 cfg1.N
      ∧ r.2.mem ((c.tc : Thread nD τ).loc main_v2_0) = (Quant.dats (E0 m) 0 c).arrAt 2 cfg0.N
      ∧ r.2.mem ((c.tc : Thread nD τ).loc main_v2_1) = (Quant.dats (E0 m) 0 c).arrAt 3 cfg0.N
      ∧ r.2.mem ((c.tc : Thread nD τ).loc main_v2_4) = (Quant.dats (E0 m) 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨⟨(h.1 c _ (mem_S' main_v6 (by decide) (by decide))).trans (by unfold W4; rw [Function.update_self]),
      (h.1 c _ (mem_S' main_v2_0 (by decide) (by decide))).trans ((W4_of m c _ (by decide)).trans ((W3_of m c _ (by decide)).trans (W2_v2_0 m c))),
      (h.1 c _ (mem_S' main_v2_1 (by decide) (by decide))).trans ((W4_of m c _ (by decide)).trans ((W3_of m c _ (by decide)).trans (W2_v2_1 m c))),
      (h.1 c _ (mem_S' main_v2_4 (by decide) (by decide))).trans ((W4_of m c _ (by decide)).trans ((W3_of m c _ (by decide)).trans (W2_v2_4 m c)))⟩,
      (h.1 c _ (mem_S' main_arg0 (by decide) (by decide))).trans (W4_arg m c main_arg0 (by decide)),
      (h.1 c _ (mem_S' main_arg1 (by decide) (by decide))).trans (W4_arg m c main_arg1 (by decide)),
      (h.1 c _ (mem_S' main_arg2 (by decide) (by decide))).trans (W4_arg m c main_arg2 (by decide)),
      (h.1 c _ (mem_S' main_arg3 (by decide) (by decide))).trans (W4_arg m c main_arg3 (by decide))⟩) (run_main m ρ)

end Cert.Both.Joint

end
-- ==== Proof.BothQLowI.lean ====
/- The third counted loop of the quantiser's body (the low codes): what one trip leaves, and the loop's invariant.
   The loop stores the packed words through a strided rectangle; what those stores leave is not named here (the
   packed words are no result of the claims), everything else is. -/
module

public import proofs.«01_k».proof.Proof.Gen.BothIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 8192
set_option maxHeartbeats 4000000

noncomputable section

namespace Cert.BothIdeal.Low

open Cert.BothIdeal Cert.BothIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip touches: the high codes and the residual at their contents, the low codes at `f`, the packed words at
    anything. -/
abbrev Trip (c : Dev nD) (arg3 : Memref sig .tc .vmem S32x18944 .i8) (arg8 : Memref sig .tc .vmem S32x18944 .f32) (arg4 : Memref sig .tc .vmem S32x18944 .i8) (arg5 : Memref sig .tc .vmem S1280x128 .i32) (X_arg3 : BufTy.Contents (Elt F) arg3.view.ty) (X_arg8 : BufTy.Contents (Elt F) arg8.view.ty) (f : BufTy.Contents (Elt F) arg4.view.ty) : sProp 𝕄G :=
  iprop((arg3.view.loc (c : Thread nD τ) ↦[arg3.view.set]{fullShare} X_arg3) ∗ (arg8.view.loc (c : Thread nD τ) ↦[arg8.view.set]{fullShare} X_arg8) ∗ (arg4.view.loc (c : Thread nD τ) ↦[arg4.view.set]{fullShare} f) ∗ (∃ g, arg5.view.loc (c : Thread nD τ) ↦[arg5.view.set]{fullShare} g))

/-- One trip at a symbolic `k`: the sums it yields and the pieces it writes into the low codes, as functions of the sums
    it is given. -/
@[irreducible] def trip (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (k : Fin k0_t3_loop.trips) :
    Σ' (R : ((FVec F S32x128 .f32) → FVec F S32x128 .f32)), { L : ((FVec F S32x128 .f32) → List (View.Piece (Elt F) S32x18944 .i8)) // ∀ (E : Set ℕ) (acc : FVec F S32x128 .f32) (f : BufTy.Contents (Elt F) arg4.view.ty),
      Trip (F := F) c arg3 arg8 arg4 arg5 X_arg3 X_arg8 f
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 v16_0 k acc)
          (fun yld => iprop(⌜yld = R acc⌝ ∗ Trip (F := F) c arg3 arg8 arg4 arg5 X_arg3 X_arg8 (arg4.view.writes (Elt F) f (L acc)))) } := by
  have hk : k.val < 37 := Nat.lt_of_lt_of_le k.isLt k0_t3_abs.2.1
  refine ⟨?_, ?_, fun E acc f => ?run⟩
  case run =>
    unfold k0_t3_body
    iintro ⟨HR_arg3, HR_arg8, HW_arg4, ⟨%g, HW_arg5⟩⟩
    sl_exec
    sl_step
    sl_close

/-- The sums a trip yields. -/
abbrev tripR (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (k : Fin k0_t3_loop.trips) (acc : FVec F S32x128 .f32) : FVec F S32x128 .f32 :=
  (trip (F := F) 𝒱 c bd i arg1 harg1 arg2 harg2 arg3 harg3 arg4 harg4 arg5 harg5 arg6 harg6 arg7 harg7 arg8 harg8 v16_0 X_arg3 X_arg8 k).1 acc

/-- The pieces a trip writes into the low codes. -/
abbrev tripL (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (k : Fin k0_t3_loop.trips) (acc : FVec F S32x128 .f32) : List (View.Piece (Elt F) S32x18944 .i8) :=
  (trip (F := F) 𝒱 c bd i arg1 harg1 arg2 harg2 arg3 harg3 arg4 harg4 arg5 harg5 arg6 harg6 arg7 harg7 arg8 harg8 v16_0 X_arg3 X_arg8 k).2.1 acc

/-- The state one trip makes of the state before it. -/
@[irreducible] def step (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (k : ℕ) (prev : (FVec F S32x128 .f32) × List (View.Piece (Elt F) S32x18944 .i8)) : (FVec F S32x128 .f32) × List (View.Piece (Elt F) S32x18944 .i8) :=
  if h : k < k0_t3_loop.trips then
    (tripR (F := F) 𝒱 c bd i arg1 harg1 arg2 harg2 arg3 harg3 arg4 harg4 arg5 harg5 arg6 harg6 arg7 harg7 arg8 harg8 v16_0 X_arg3 X_arg8 ⟨k, h⟩ prev.1, tripL (F := F) 𝒱 c bd i arg1 harg1 arg2 harg2 arg3 harg3 arg4 harg4 arg5 harg5 arg6 harg6 arg7 harg7 arg8 harg8 v16_0 X_arg3 X_arg8 ⟨k, h⟩ prev.1 ++ prev.2)
  else prev

/-- The state before trip `k`: the sums so far, and the pieces written so far (last first). -/
def st (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (init : FVec F S32x128 .f32) : ℕ → (FVec F S32x128 .f32) × List (View.Piece (Elt F) S32x18944 .i8)
  | 0 => (init, [])
  | k + 1 => step 𝒱 c bd i arg1 harg1 arg2 harg2 arg3 harg3 arg4 harg4 arg5 harg5 arg6 harg6 arg7 harg7 arg8 harg8 v16_0 X_arg3 X_arg8 k (st 𝒱 c bd i arg1 harg1 arg2 harg2 arg3 harg3 arg4 harg4 arg5 harg5 arg6 harg6 arg7 harg7 arg8 harg8 v16_0 X_arg3 X_arg8 init k)

/-- The state after trip `k`. -/
theorem st_succ (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (init : FVec F S32x128 .f32) (k : Fin k0_t3_loop.trips) :
    st (F := F) 𝒱 c bd i arg1 harg1 arg2 harg2 arg3 harg3 arg4 harg4 arg5 harg5 arg6 harg6 arg7 harg7 arg8 harg8 v16_0 X_arg3 X_arg8 init (k.val + 1)
      = (tripR (F := F) 𝒱 c bd i arg1 harg1 arg2 harg2 arg3 harg3 arg4 harg4 arg5 harg5 arg6 harg6 arg7 harg7 arg8 harg8 v16_0 X_arg3 X_arg8 k (st (F := F) 𝒱 c bd i arg1 harg1 arg2 harg2 arg3 harg3 arg4 harg4 arg5 harg5 arg6 harg6 arg7 harg7 arg8 harg8 v16_0 X_arg3 X_arg8 init k.val).1, tripL (F := F) 𝒱 c bd i arg1 harg1 arg2 harg2 arg3 harg3 arg4 harg4 arg5 harg5 arg6 harg6 arg7 harg7 arg8 harg8 v16_0 X_arg3 X_arg8 k (st (F := F) 𝒱 c bd i arg1 harg1 arg2 harg2 arg3 harg3 arg4 harg4 arg5 harg5 arg6 harg6 arg7 harg7 arg8 harg8 v16_0 X_arg3 X_arg8 init k.val).1 ++ (st (F := F) 𝒱 c bd i arg1 harg1 arg2 harg2 arg3 harg3 arg4 harg4 arg5 harg5 arg6 harg6 arg7 harg7 arg8 harg8 v16_0 X_arg3 X_arg8 init k.val).2) := by
  rw [st.eq_2]; unfold step; exact dif_pos k.isLt

/-- What holds before trip `k`. -/
abbrev inv (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (G : BufTy.Contents (Elt F) arg4.view.ty) (init : FVec F S32x128 .f32) (k : ℕ) (acc : FVec F S32x128 .f32) : sProp 𝕄G :=
  iprop((arg3.view.loc (c : Thread nD τ) ↦[arg3.view.set]{fullShare} X_arg3) ∗ (arg8.view.loc (c : Thread nD τ) ↦[arg8.view.set]{fullShare} X_arg8) ∗ (∃ f, (arg4.view.loc (c : Thread nD τ) ↦[arg4.view.set]{fullShare} f) ∗ ⌜f = arg4.view.writes (Elt F) G (st (F := F) 𝒱 c bd i arg1 harg1 arg2 harg2 arg3 harg3 arg4 harg4 arg5 harg5 arg6 harg6 arg7 harg7 arg8 harg8 v16_0 X_arg3 X_arg8 init k).2⌝) ∗ (∃ g, arg5.view.loc (c : Thread nD τ) ↦[arg5.view.set]{fullShare} g) ∗ ⌜acc = (st (F := F) 𝒱 c bd i arg1 harg1 arg2 harg2 arg3 harg3 arg4 harg4 arg5 harg5 arg6 harg6 arg7 harg7 arg8 harg8 v16_0 X_arg3 X_arg8 init k).1⌝)

set_option warn.classDefReducibility false in
/-- The loop by its invariant. -/
@[sl_loop] def loopInv (𝒱 : Variants) (c : Dev nD) (bd : Option 𝒱.V) (E : Set ℕ) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole) (v16_0 : FVec F S32x128 .f32) (X_arg3 : BufTy.Contents (Elt F) arg3.view.ty) (X_arg8 : BufTy.Contents (Elt F) arg8.view.ty) (G : BufTy.Contents (Elt F) arg4.view.ty) (init : FVec F S32x128 .f32) :
    LoopInvTy_k0_t3 (F := F) Unit ℕ (UR sig nD τ) ℕ 𝒱 c bd E i arg1 harg1 arg2 harg2 arg3 harg3 arg4 harg4 arg5 harg5 arg6 harg6 arg7 harg7 arg8 harg8 v16_0 init where
  inv := inv (F := F) 𝒱 c bd i arg1 harg1 arg2 harg2 arg3 harg3 arg4 harg4 arg5 harg5 arg6 harg6 arg7 harg7 arg8 harg8 v16_0 X_arg3 X_arg8 G init
  step k acc := by
    iintro ⟨HR_arg3, HR_arg8, ⟨%f, HW_arg4, %h_f⟩, HW_arg5, %h_acc⟩
    subst h_acc
    iapply (wp_wand_r Idealize.ShloMosaic.frame (wpE (defs₀ (F := F)) 𝒱 (c : Thread nD τ) bd) E)
    isplitl [HR_arg3 HR_arg8 HW_arg4 HW_arg5]
    · iapply ((trip (F := F) 𝒱 c bd i arg1 harg1 arg2 harg2 arg3 harg3 arg4 harg4 arg5 harg5 arg6 harg6 arg7 harg7 arg8 harg8 v16_0 X_arg3 X_arg8 k).2.2 E (st (F := F) 𝒱 c bd i arg1 harg1 arg2 harg2 arg3 harg3 arg4 harg4 arg5 harg5 arg6 harg6 arg7 harg7 arg8 harg8 v16_0 X_arg3 X_arg8 init k).1 f)
      isplitl [HR_arg3]; · iexact HR_arg3
      isplitl [HR_arg8]; · iexact HR_arg8
      isplitl [HW_arg4]; · iexact HW_arg4
      iexact HW_arg5
    · iintro %yld ⟨%h_res, HR_arg3, HR_arg8, HW_arg4, HW_arg5⟩
      isplitl [HR_arg3]; · iexact HR_arg3
      isplitl [HR_arg8]; · iexact HR_arg8
      simp only [st_succ]
      isplitl [HW_arg4]
      · iexists _; isplitl [HW_arg4]; · iexact HW_arg4
        ipureintro; rw [h_f, ← View.writes_append]
      isplitl [HW_arg5]
      · iexact HW_arg5
      ipureintro; rw [h_res]

end Cert.BothIdeal.Low

end
-- ==== Proof.BothQRunI.lean ====
/- The quantiser's body, run whole on any staging buffers: the pieces its stores leave in the high codes, the low codes and
   the row figures. The two arrays of packed words are left at contents nothing names. -/
module

public import proofs.«01_k».proof.Proof.BothQLowI
public import proofs.«01_k».proof.Proof.Gen.BothIdeal.Launch
public import proofs.«01_k».proof.Proof.Gen.BothIdeal.Points
public import Idealize.ShloMosaic.Lib.Pipeline.FrameBody

@[expose] public section

set_option maxRecDepth 16384

noncomputable section

namespace Cert.BothIdeal.Quant

open Cert.BothIdeal Cert.BothIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the high codes, the low codes and the row figures, the high codes' buffer and the
    residual's starting at `g2` and `gs`, with the proof that on whole staging
    buffers the body runs to its end and leaves them. -/
noncomputable def kernelRun (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)
    (x0 : Vec F S32x18944 .bf16) (x1 : Vec F S32x1792 .i8) (g2 : BufTy.Contents (Elt F) arg3.view.ty) (gs : BufTy.Contents (Elt F) arg8.view.ty) :
    Σ' (L2 : List (View.Piece (Elt F) S32x18944 .i8)), Σ' (L3 : List (View.Piece (Elt F) S32x18944 .i8)), { L6 : List (View.Piece (Elt F) S32x128 .f32) //
      ∀ (E : Set ℕ) (K : PUnit → sProp 𝕄),
        iprop(owns (c : Thread nD τ) arg1 fullShare x0 ∗ owns (c : Thread nD τ) arg2 fullShare x1 ∗ (arg3.view.loc (c : Thread nD τ) ↦[arg3.view.set]{fullShare} g2) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (arg8.view.loc (c : Thread nD τ) ↦[arg8.view.set]{fullShare} gs)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ d, owns (c : Thread nD τ) arg5 fullShare d) ∗ (∃ d, owns (c : Thread nD τ) arg6 fullShare d) ∗ (∃ f, arg7.view.loc (c : Thread nD τ) ↦[arg7.view.set]{fullShare} arg7.view.writes (Elt F) f L6) ∗ (∃ d, owns (c : Thread nD τ) arg8 fullShare d)) -∗ K ⟨⟩))
          ⊢ wp frame (wpE (defs₀ (F := F)) Variants.none c none) E (cc0_quantise i arg1 harg1 arg2 harg2 arg3 harg3 arg4 harg4 arg5 harg5 arg6 harg6 arg7 harg7 arg8 harg8) K } := by
  refine ⟨?_, ?_, ?_, fun E K => ?run⟩
  case run =>
    simp only [cc0_quantise_eq_skeleton]; unfold cc0_quantise_skel
    simp only [k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, H2, ⟨%d3, %f3, -, H3⟩, ⟨%d4, %f4, -, H4⟩, ⟨%d5, %f5, -, H5⟩, ⟨%d6, %f6, -, H6⟩, HS0, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _, _; isplitr; swap; · iexact H4
      ipureintro; rfl
    isplitl [H5]
    · iexists _, _; isplitr; swap; · iexact H5
      ipureintro; rfl
    isplitl [H6]; · iexists _; iexact H6
    iexists _, _; isplitr; swap; · iexact HS0
    ipureintro; rfl

end Cert.BothIdeal.Quant

end
-- ==== Proof.BothQFrameI.lean ====
/- The quantiser's pipeline: what every grid point leaves, and the body's obligation, in the program of the two calls; the buffers the call
   finds are a parameter. -/
module

public import proofs.«01_k».proof.Proof.BothQRunI
public import Idealize.ShloMosaic.Lib.Claim

@[expose] public section

set_option maxRecDepth 16384

noncomputable section

namespace Cert.BothIdeal.Quant

open Cert.BothIdeal Cert.BothIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each window's current staging buffer at point `t`, and its wholeness. -/
abbrev ms0_0 (t : Fin cfg0.N) : Memref sig .tc .vmem S32x18944 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1792 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x18944 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x18944 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x128 .f32 := win0_6.stage (cfg0.slots t 6)
abbrev hs0_6 (t : Fin cfg0.N) : (ms0_6 t).IsWhole := hstage0_6 ((cfg0.slots t 6).cast nbuf0_6)
/-- The residual's scratch buffer. -/
abbrev scM0_0 : Memref sig .tc .vmem S32x18944 .f32 := Memref.whole cc0_scratch0

/-- A buffer at some contents. -/
def bf (c : Dev nD) (b : Ref sig .tc) : sProp 𝕄 := iprop(∃ f : Buf (Elt F) ((c : Thread nD τ).loc b), ((c : Thread nD τ).loc b) ↦{fullShare} f)

/-- The other call's buffers at some contents and the generator register: the body touches none of them. -/
def Gn (c : Dev nD) : sProp 𝕄 := iprop((bf c cc1_stg0_0 ∗ bf c cc1_stg0_1 ∗ bf c cc1_stg1_0 ∗ bf c cc1_stg2_0 ∗ bf c cc1_stg3_0 ∗ bf c cc1_stg3_1 ∗ bf c cc1_stg4_0 ∗ bf c cc1_stg4_1 ∗ bf c cc1_stg5_0 ∗ bf c cc1_stg5_1 ∗ bf c cc1_scratch0 ∗ bf c cc1_scratch1) ∗ ∃ r, prngReg c r)

/-- The pipeline's invariant: the scratch buffer at some contents beside the generator register. -/
theorem PhiA0_eq (c : Dev nD) :
    (Pipeline.ΦA spec0 c : sProp 𝕄)
      = iprop(iprop((∃ d, ∃ f, ⌜scM0_0.view.read (Elt F) f = d⌝ ∗ scM0_0.view.loc (c : Thread nD τ) ↦[scM0_0.view.set]{fullShare} f)) ∗ Gn c) := by
  show _ = iprop(iprop((∃ d, owns (c : Thread nD τ) scM0_0 fullShare d)) ∗ Gn c)
  unfold Pipeline.ΦA Gn bf; rw [scopedRest0_eq]; simp only [scM0_0, owns_whole]
  have hA : ∀ A B C : sProp 𝕄, iprop((A ∗ B) ∗ C) = iprop(A ∗ B ∗ C) := fun _ _ _ => (BI.sep_assoc).antisymm BI.sep_assoc'
  simp only [hA]; rfl

section

variable (c : Dev nD) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)

/-- The row sums and pieces the second loop leaves, with the first loop's maximum. -/
abbrev mid (x0 : Vec F S32x18944 .bf16) :=
  st_k0_t2 Variants.none c none i arg1 harg1 arg2 harg2 arg3 harg3 arg4 harg4 arg5 harg5 arg6 harg6 arg7 harg7 arg8 harg8
    (st_k0_t1 Variants.none c none i arg1 harg1 arg2 harg2 arg3 harg3 arg4 harg4 arg5 harg5 arg6 harg6 arg7 harg7 arg8 harg8 (harg1.unread x0) k0_pay46 (Scf.trips k0_t1_loop.lb k0_t1_loop.ub k0_t1_loop.st))
    (harg1.unread x0) (k0_pay45, k0_pay45) (Scf.trips k0_t2_loop.lb k0_t2_loop.ub k0_t2_loop.st)

/-- What the third loop leaves, run on any contents of the high codes and the residual. -/
abbrev fin (x0 : Vec F S32x18944 .bf16)
    (X3 : BufTy.Contents (Elt F) arg3.view.ty) (X8 : BufTy.Contents (Elt F) arg8.view.ty) :=
  Low.st Variants.none c none i arg1 harg1 arg2 harg2 arg3 harg3 arg4 harg4 arg5 harg5 arg6 harg6 arg7 harg7 arg8 harg8 (mid c i arg1 harg1 arg2 harg2 arg3 harg3 arg4 harg4 arg5 harg5 arg6 harg6 arg7 harg7 arg8 harg8 x0).1.1 X3 X8 k0_pay45 (Scf.trips k0_t3_loop.lb k0_t3_loop.ub k0_t3_loop.st)

/-- The second loop's pieces cover the high codes' block. -/
theorem midCover3 (x0 : Vec F S32x18944 .bf16) (y : S32x18944.Idx) :
    ∃ pc ∈ (mid c i arg1 harg1 arg2 harg2 arg3 harg3 arg4 harg4 arg5 harg5 arg6 harg6 arg7 harg7 arg8 harg8 x0).2.1, y ∈ pc.1.set :=
  View.cover_of_tiledL (mid c i arg1 harg1 arg2 harg2 arg3 harg3 arg4 harg4 arg5 harg5 arg6 harg6 arg7 harg7 arg8 harg8 x0).2.1 S32x128.size (by sl_kernel_rfl) y

/-- The second loop's pieces cover the residual's block. -/
theorem midCover8 (x0 : Vec F S32x18944 .bf16) (y : S32x18944.Idx) :
    ∃ pc ∈ (mid c i arg1 harg1 arg2 harg2 arg3 harg3 arg4 harg4 arg5 harg5 arg6 harg6 arg7 harg7 arg8 harg8 x0).2.2, y ∈ pc.1.set :=
  View.cover_of_tiledL (mid c i arg1 harg1 arg2 harg2 arg3 harg3 arg4 harg4 arg5 harg5 arg6 harg6 arg7 harg7 arg8 harg8 x0).2.2 S32x128.size (by sl_kernel_rfl) y

/-- What the high codes hold after the second loop does not depend on what they held before it. -/
theorem mid3 (x0 : Vec F S32x18944 .bf16) (g g' : BufTy.Contents (Elt F) arg3.view.ty) :
    arg3.view.writes (Elt F) g (mid c i arg1 harg1 arg2 harg2 arg3 harg3 arg4 harg4 arg5 harg5 arg6 harg6 arg7 harg7 arg8 harg8 x0).2.1 = arg3.view.writes (Elt F) g' (mid c i arg1 harg1 arg2 harg2 arg3 harg3 arg4 harg4 arg5 harg5 arg6 harg6 arg7 harg7 arg8 harg8 x0).2.1 :=
  (harg3.eq_unread (View.read_writes_of_cover _ _ _ _ _ (midCover3 c i arg1 harg1 arg2 harg2 arg3 harg3 arg4 harg4 arg5 harg5 arg6 harg6 arg7 harg7 arg8 harg8 x0))).trans (harg3.eq_unread rfl).symm

/-- What the residual holds after the second loop does not depend on what it held before it. -/
theorem mid8 (x0 : Vec F S32x18944 .bf16) (g g' : BufTy.Contents (Elt F) arg8.view.ty) :
    arg8.view.writes (Elt F) g (mid c i arg1 harg1 arg2 harg2 arg3 harg3 arg4 harg4 arg5 harg5 arg6 harg6 arg7 harg7 arg8 harg8 x0).2.2 = arg8.view.writes (Elt F) g' (mid c i arg1 harg1 arg2 harg2 arg3 harg3 arg4 harg4 arg5 harg5 arg6 harg6 arg7 harg7 arg8 harg8 x0).2.2 :=
  (harg8.eq_unread (View.read_writes_of_cover _ _ _ _ _ (midCover8 c i arg1 harg1 arg2 harg2 arg3 harg3 arg4 harg4 arg5 harg5 arg6 harg6 arg7 harg7 arg8 harg8 x0))).trans (harg8.eq_unread rfl).symm

/-- The low codes' pieces are the third loop's. -/
theorem run3 (x0 : Vec F S32x18944 .bf16) (x1 : Vec F S32x1792 .i8) (g2 : BufTy.Contents (Elt F) arg3.view.ty) (gs : BufTy.Contents (Elt F) arg8.view.ty) :
    (kernelRun c i arg1 harg1 arg2 harg2 arg3 harg3 arg4 harg4 arg5 harg5 arg6 harg6 arg7 harg7 arg8 harg8 x0 x1 g2 gs).2.1
      = (fin c i arg1 harg1 arg2 harg2 arg3 harg3 arg4 harg4 arg5 harg5 arg6 harg6 arg7 harg7 arg8 harg8 x0 (arg3.view.writes (Elt F) g2 (mid c i arg1 harg1 arg2 harg2 arg3 harg3 arg4 harg4 arg5 harg5 arg6 harg6 arg7 harg7 arg8 harg8 x0).2.1) (arg8.view.writes (Elt F) gs (mid c i arg1 harg1 arg2 harg2 arg3 harg3 arg4 harg4 arg5 harg5 arg6 harg6 arg7 harg7 arg8 harg8 x0).2.2)).2 := rfl

/-- The high codes' pieces are the second loop's. -/
theorem run2 (x0 : Vec F S32x18944 .bf16) (x1 : Vec F S32x1792 .i8) (g2 : BufTy.Contents (Elt F) arg3.view.ty) (gs : BufTy.Contents (Elt F) arg8.view.ty) :
    (kernelRun c i arg1 harg1 arg2 harg2 arg3 harg3 arg4 harg4 arg5 harg5 arg6 harg6 arg7 harg7 arg8 harg8 x0 x1 g2 gs).1 = (mid c i arg1 harg1 arg2 harg2 arg3 harg3 arg4 harg4 arg5 harg5 arg6 harg6 arg7 harg7 arg8 harg8 x0).2.1 := rfl

/-- The row figures are one piece, of the loops' results. -/
theorem run6 (x0 : Vec F S32x18944 .bf16) (x1 : Vec F S32x1792 .i8) (g2 : BufTy.Contents (Elt F) arg3.view.ty) (gs : BufTy.Contents (Elt F) arg8.view.ty) :
    (kernelRun c i arg1 harg1 arg2 harg2 arg3 harg3 arg4 harg4 arg5 harg5 arg6 harg6 arg7 harg7 arg8 harg8 x0 x1 g2 gs).2.2.1
      = [⟨Rect.unit ![0, 0] ![32, 128] inb_S32x128_S32x128_0_0,
          k0_pay1 k0_pay45 (kernelRun.sl.r c i arg1 harg1 arg2 harg2 arg3 harg3 arg4 harg4 arg5 harg5 arg6 harg6 arg7 harg7 arg8 harg8 x0) (kernelRun.sl.r_1 c i arg1 harg1 arg2 harg2 arg3 harg3 arg4 harg4 arg5 harg5 arg6 harg6 arg7 harg7 arg8 harg8 x0) (kernelRun.sl.r_2 c i arg1 harg1 arg2 harg2 arg3 harg3 arg4 harg4 arg5 harg5 arg6 harg6 arg7 harg7 arg8 harg8 x0)
            (fin c i arg1 harg1 arg2 harg2 arg3 harg3 arg4 harg4 arg5 harg5 arg6 harg6 arg7 harg7 arg8 harg8 x0 (arg3.view.writes (Elt F) g2 (mid c i arg1 harg1 arg2 harg2 arg3 harg3 arg4 harg4 arg5 harg5 arg6 harg6 arg7 harg7 arg8 harg8 x0).2.1) (arg8.view.writes (Elt F) gs (mid c i arg1 harg1 arg2 harg2 arg3 harg3 arg4 harg4 arg5 harg5 arg6 harg6 arg7 harg7 arg8 harg8 x0).2.2)).1
            (kernelRun.sl.r_27 c arg2 harg2 x1)⟩] := rfl

/-- The low codes' pieces do not depend on what the buffers held. -/
theorem indep3 (x0 : Vec F S32x18944 .bf16) (x1 : Vec F S32x1792 .i8) (g2 g2' : BufTy.Contents (Elt F) arg3.view.ty) (gs gs' : BufTy.Contents (Elt F) arg8.view.ty) :
    (kernelRun c i arg1 harg1 arg2 harg2 arg3 harg3 arg4 harg4 arg5 harg5 arg6 harg6 arg7 harg7 arg8 harg8 x0 x1 g2 gs).2.1 = (kernelRun c i arg1 harg1 arg2 harg2 arg3 harg3 arg4 harg4 arg5 harg5 arg6 harg6 arg7 harg7 arg8 harg8 x0 x1 g2' gs').2.1 := by
  rw [run3, run3, mid3 c i arg1 harg1 arg2 harg2 arg3 harg3 arg4 harg4 arg5 harg5 arg6 harg6 arg7 harg7 arg8 harg8 x0 g2 g2', mid8 c i arg1 harg1 arg2 harg2 arg3 harg3 arg4 harg4 arg5 harg5 arg6 harg6 arg7 harg7 arg8 harg8 x0 gs gs']

/-- The row figures' piece does not depend on what the buffers held. -/
theorem indep6 (x0 : Vec F S32x18944 .bf16) (x1 : Vec F S32x1792 .i8) (g2 g2' : BufTy.Contents (Elt F) arg3.view.ty) (gs gs' : BufTy.Contents (Elt F) arg8.view.ty) :
    (kernelRun c i arg1 harg1 arg2 harg2 arg3 harg3 arg4 harg4 arg5 harg5 arg6 harg6 arg7 harg7 arg8 harg8 x0 x1 g2 gs).2.2.1 = (kernelRun c i arg1 harg1 arg2 harg2 arg3 harg3 arg4 harg4 arg5 harg5 arg6 harg6 arg7 harg7 arg8 harg8 x0 x1 g2' gs').2.2.1 := by
  rw [run6, run6, mid3 c i arg1 harg1 arg2 harg2 arg3 harg3 arg4 harg4 arg5 harg5 arg6 harg6 arg7 harg7 arg8 harg8 x0 g2 g2', mid8 c i arg1 harg1 arg2 harg2 arg3 harg3 arg4 harg4 arg5 harg5 arg6 harg6 arg7 harg7 arg8 harg8 x0 gs gs']

/-- The run's pieces for the high codes cover their block. -/
theorem cover2
    (x0 : Vec F S32x18944 .bf16) (x1 : Vec F S32x1792 .i8) (g2 : BufTy.Contents (Elt F) arg3.view.ty) (gs : BufTy.Contents (Elt F) arg8.view.ty) (y : S32x18944.Idx) :
    ∃ pc ∈ (kernelRun c i arg1 harg1 arg2 harg2 arg3 harg3 arg4 harg4 arg5 harg5 arg6 harg6 arg7 harg7 arg8 harg8 x0 x1 g2 gs).1, y ∈ pc.1.set :=
  View.cover_of_tiledL (kernelRun c i arg1 harg1 arg2 harg2 arg3 harg3 arg4 harg4 arg5 harg5 arg6 harg6 arg7 harg7 arg8 harg8 x0 x1 g2 gs).1 S32x128.size (by sl_kernel_rfl) y

/-- One staging buffer, through which the high codes are stated. -/
abbrev VO2 : View sig .tc .vmem S32x18944 .i8 := (Memref.whole cc0_stg2_0 : Memref sig .tc .vmem S32x18944 .i8).view

/-- What the run leaves of the high codes. -/
def out2
    (x0 : Vec F S32x18944 .bf16) (x1 : Vec F S32x1792 .i8) : Vec F S32x18944 .i8 :=
  VO2.read (Elt F) (VO2.writes (Elt F) VO2.junk (kernelRun c i arg1 harg1 arg2 harg2 arg3 harg3 arg4 harg4 arg5 harg5 arg6 harg6 arg7 harg7 arg8 harg8 x0 x1 arg3.view.junk arg8.view.junk).1)

/-- The run's pieces for the low codes cover their block. -/
theorem cover3
    (x0 : Vec F S32x18944 .bf16) (x1 : Vec F S32x1792 .i8) (g2 : BufTy.Contents (Elt F) arg3.view.ty) (gs : BufTy.Contents (Elt F) arg8.view.ty) (y : S32x18944.Idx) :
    ∃ pc ∈ (kernelRun c i arg1 harg1 arg2 harg2 arg3 harg3 arg4 harg4 arg5 harg5 arg6 harg6 arg7 harg7 arg8 harg8 x0 x1 g2 gs).2.1, y ∈ pc.1.set :=
  View.cover_of_tiledL (kernelRun c i arg1 harg1 arg2 harg2 arg3 harg3 arg4 harg4 arg5 harg5 arg6 harg6 arg7 harg7 arg8 harg8 x0 x1 g2 gs).2.1 S32x128.size (by sl_kernel_rfl) y

/-- One staging buffer, through which the low codes are stated. -/
abbrev VO3 : View sig .tc .vmem S32x18944 .i8 := (Memref.whole cc0_stg3_0 : Memref sig .tc .vmem S32x18944 .i8).view

/-- What the run leaves of the low codes. -/
def out3
    (x0 : Vec F S32x18944 .bf16) (x1 : Vec F S32x1792 .i8) : Vec F S32x18944 .i8 :=
  VO3.read (Elt F) (VO3.writes (Elt F) VO3.junk (kernelRun c i arg1 harg1 arg2 harg2 arg3 harg3 arg4 harg4 arg5 harg5 arg6 harg6 arg7 harg7 arg8 harg8 x0 x1 arg3.view.junk arg8.view.junk).2.1)

/-- The run's pieces for the row figures cover their block. -/
theorem cover6
    (x0 : Vec F S32x18944 .bf16) (x1 : Vec F S32x1792 .i8) (g2 : BufTy.Contents (Elt F) arg3.view.ty) (gs : BufTy.Contents (Elt F) arg8.view.ty) (y : S32x128.Idx) :
    ∃ pc ∈ (kernelRun c i arg1 harg1 arg2 harg2 arg3 harg3 arg4 harg4 arg5 harg5 arg6 harg6 arg7 harg7 arg8 harg8 x0 x1 g2 gs).2.2.1, y ∈ pc.1.set :=
  View.cover_of_tiledL (kernelRun c i arg1 harg1 arg2 harg2 arg3 harg3 arg4 harg4 arg5 harg5 arg6 harg6 arg7 harg7 arg8 harg8 x0 x1 g2 gs).2.2.1 S32x128.size (by sl_kernel_rfl) y

/-- One staging buffer, through which the row figures are stated. -/
abbrev VO6 : View sig .tc .vmem S32x128 .f32 := (Memref.whole cc0_stg6_0 : Memref sig .tc .vmem S32x128 .f32).view

/-- What the run leaves of the row figures. -/
def out6
    (x0 : Vec F S32x18944 .bf16) (x1 : Vec F S32x1792 .i8) : Vec F S32x128 .f32 :=
  VO6.read (Elt F) (VO6.writes (Elt F) VO6.junk (kernelRun c i arg1 harg1 arg2 harg2 arg3 harg3 arg4 harg4 arg5 harg5 arg6 harg6 arg7 harg7 arg8 harg8 x0 x1 arg3.view.junk arg8.view.junk).2.2.1)

/-- Whatever the buffers held, the run leaves `out2` of the high codes. -/
theorem left2 (x0 : Vec F S32x18944 .bf16) (x1 : Vec F S32x1792 .i8) (g2 : BufTy.Contents (Elt F) arg3.view.ty) (gs : BufTy.Contents (Elt F) arg8.view.ty) (e : BufTy.Contents (Elt F) arg3.view.ty) :
    arg3.view.read (Elt F) (arg3.view.writes (Elt F) e (kernelRun c i arg1 harg1 arg2 harg2 arg3 harg3 arg4 harg4 arg5 harg5 arg6 harg6 arg7 harg7 arg8 harg8 x0 x1 g2 gs).1) = out2 c i arg1 harg1 arg2 harg2 arg3 harg3 arg4 harg4 arg5 harg5 arg6 harg6 arg7 harg7 arg8 harg8 x0 x1 :=
  View.read_writes_of_cover _ _ _ _ _ (cover2 c i arg1 harg1 arg2 harg2 arg3 harg3 arg4 harg4 arg5 harg5 arg6 harg6 arg7 harg7 arg8 harg8 x0 x1 g2 gs)

/-- Whatever the buffers held, the run leaves `out3` of the low codes. -/
theorem left3 (x0 : Vec F S32x18944 .bf16) (x1 : Vec F S32x1792 .i8) (g2 : BufTy.Contents (Elt F) arg3.view.ty) (gs : BufTy.Contents (Elt F) arg8.view.ty) (e : BufTy.Contents (Elt F) arg4.view.ty) :
    arg4.view.read (Elt F) (arg4.view.writes (Elt F) e (kernelRun c i arg1 harg1 arg2 harg2 arg3 harg3 arg4 harg4 arg5 harg5 arg6 harg6 arg7 harg7 arg8 harg8 x0 x1 g2 gs).2.1) = out3 c i arg1 harg1 arg2 harg2 arg3 harg3 arg4 harg4 arg5 harg5 arg6 harg6 arg7 harg7 arg8 harg8 x0 x1 :=
  (congrArg (fun L => arg4.view.read (Elt F) (arg4.view.writes (Elt F) e L)) (indep3 c i arg1 harg1 arg2 harg2 arg3 harg3 arg4 harg4 arg5 harg5 arg6 harg6 arg7 harg7 arg8 harg8 x0 x1 g2 arg3.view.junk gs arg8.view.junk)).trans
    (View.read_writes_of_cover _ _ _ _ _ (cover3 c i arg1 harg1 arg2 harg2 arg3 harg3 arg4 harg4 arg5 harg5 arg6 harg6 arg7 harg7 arg8 harg8 x0 x1 arg3.view.junk arg8.view.junk))

/-- Whatever the buffers held, the run leaves `out6` of the row figures. -/
theorem left6 (x0 : Vec F S32x18944 .bf16) (x1 : Vec F S32x1792 .i8) (g2 : BufTy.Contents (Elt F) arg3.view.ty) (gs : BufTy.Contents (Elt F) arg8.view.ty) (e : BufTy.Contents (Elt F) arg7.view.ty) :
    arg7.view.read (Elt F) (arg7.view.writes (Elt F) e (kernelRun c i arg1 harg1 arg2 harg2 arg3 harg3 arg4 harg4 arg5 harg5 arg6 harg6 arg7 harg7 arg8 harg8 x0 x1 g2 gs).2.2.1) = out6 c i arg1 harg1 arg2 harg2 arg3 harg3 arg4 harg4 arg5 harg5 arg6 harg6 arg7 harg7 arg8 harg8 x0 x1 :=
  (congrArg (fun L => arg7.view.read (Elt F) (arg7.view.writes (Elt F) e L)) (indep6 c i arg1 harg1 arg2 harg2 arg3 harg3 arg4 harg4 arg5 harg5 arg6 harg6 arg7 harg7 arg8 harg8 x0 x1 g2 arg3.view.junk gs arg8.view.junk)).trans
    (View.read_writes_of_cover _ _ _ _ _ (cover6 c i arg1 harg1 arg2 harg2 arg3 harg3 arg4 harg4 arg5 harg5 arg6 harg6 arg7 harg7 arg8 harg8 x0 x1 arg3.view.junk arg8.view.junk))

end

/-! What the call finds in the buffers is any family `m`; nothing is said here of how it came about. -/

variable (m : (c : Dev nD) → (b : Ref sig .tc) → Buf (Elt F) ((c : Thread nD τ).loc b))

/-- The buffers as the call finds them. -/
abbrev V (c : Dev nD) (b : Ref sig .tc) : Buf (Elt F) ((c : Thread nD τ).loc b) := m c b

/-- A window's block at a point, and what the inputs' staging buffers hold. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- What the body leaves in the high codes' staging buffer at point `t`. -/
def hiAt (c : Dev nD) (t : Fin cfg0.N) : Vec F S32x18944 .i8 := out2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t)
/-- What the body leaves in the low codes' staging buffer at point `t`. -/
def loAt (c : Dev nD) (t : Fin cfg0.N) : Vec F S32x18944 .i8 := out3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t)
/-- What the body leaves in the row figures' staging buffer at point `t`. -/
def stAt (c : Dev nD) (t : Fin cfg0.N) : Vec F S32x128 .f32 := out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t)

/-- The two windows of packed words, of which nothing is named. -/
def forgets : Fin 7 → Bool := fun w => w.val == 4 || w.val == 5

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => hiAt m c t
    | ⟨3, _⟩ => loAt m c t
    | ⟨4, h⟩ => Pipeline.Dat.unnamed (cfg := cfg0) ⟨4, h⟩ t
    | ⟨5, h⟩ => Pipeline.Dat.unnamed (cfg := cfg0) ⟨5, h⟩ t
    | ⟨6, _⟩ => stAt m c t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = hiAt m c t := by dsimp only [dats]
theorem after0_3 (c : Dev nD) (t : Fin cfg0.N) : (dats m 0 c).after 3 t = loAt m c t := by dsimp only [dats]
theorem after0_6 (c : Dev nD) (t : Fin cfg0.N) : (dats m 0 c).after 6 t = stAt m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, ∃ f, ⌜(ms0_2 t).view.read (Elt F) f = (dats m 0 c).before 2 t d⌝ ∗ (ms0_2 t).view.loc (c : Thread nD τ) ↦[(ms0_2 t).view.set]{fullShare} f)
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ owns (c : Thread nD τ) (ms0_6 t) fullShare ((dats m 0 c).after 6 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_6]
  rw [show (dats m 0 c).Φ t.castSucc = Pipeline.ΦA spec0 c from rfl, PhiA0_eq]
  iintro ⟨⟨⟨%ds0, %fs0, -, HS0⟩, Hg⟩, Ho, ⟨%d0, H0⟩, ⟨%d1, H1⟩, ⟨%d2, %f2, -, H2⟩, ⟨%d3, H3⟩, ⟨%d4, H4⟩, ⟨%d5, H5⟩, ⟨%d6, H6⟩⟩
  iapply ((kernelRun c (grid0.coords t) _ _ _ _ _ _ _ _ _ _ _ _ _ _ _ _ (iblk m c 0 t) (iblk m c 1 t) f2 fs0).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [HS0]; · iexact HS0
  iintro ⟨H0, H1, ⟨%e2, H2⟩, ⟨%e3, H3⟩, H4, H5, ⟨%e6, H6⟩, HS0⟩
  isplitl [HS0 Hg]
  · isplitl [HS0]
    · unfold owns; iexact HS0
    iexact Hg
  isplitl [Ho]; · iexact Ho
  isplitl [H0]; · iexact H0
  isplitl [H1]; · iexact H1
  isplitl [H2]
  · unfold owns; iexists _; isplitr
    swap; · iexact H2
    ipureintro; exact left2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) f2 fs0 e2
  isplitl [H3]
  · unfold owns; iexists _; isplitr
    swap; · iexact H3
    ipureintro; exact left3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) f2 fs0 e3
  isplitl [H4]; · iexact H4
  isplitl [H5]; · iexact H5
  unfold owns; iexists _; isplitr
  swap; · iexact H6
  ipureintro; exact left6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) f2 fs0 e6

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

end Cert.BothIdeal.Quant

end
-- ==== Proof.BothDxRunAI.lean ====
/- The body of the `dx` call in the program of the two calls, run whole on any staging buffers. -/
module

public import proofs.«01_k».proof.Proof.Gen.BothIdeal.Launch
public import proofs.«01_k».proof.Proof.Gen.BothIdeal.Skeleton
public import proofs.«01_k».proof.Proof.Gen.BothIdeal.Loops
public import proofs.«01_k».proof.Proof.Gen.BothIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.BothIdeal.Dx

open Cert.BothIdeal Cert.BothIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's condition: the first point of a row block. -/
abbrev cond0_0 (i : grid1.Coords) : Prop := k1_cond1 i = 1#1
theorem hcond0_0 : ∀ t : Fin cfg1.N, cond0_0 (grid1.coords t) ↔ t.val % 14 = 0 :=
  (fun t => by
    have ht : t.val < 56 := Nat.lt_of_lt_of_eq t.isLt N_1
    have e0 : (grid1.coords t 0).val = t.val / 14 % 4 := Pipeline.Grid.coords_val t 0 (by decide) rfl
    have e1 : (grid1.coords t 1).val = t.val / 1 % 14 := Pipeline.Grid.coords_val t 1 (by decide) rfl
    simp only [cond0_0, k1_cond1, e0, e1]
    word_cmp
   : ∀ t : Fin grid1.N, cond0_0 (grid1.coords t) ↔ t.val % 14 = 0)

/-- The staging buffers at a point and the scratch buffers. -/
abbrev VO0_5 : View sig .tc .vmem S384x256 .bf16 := (Memref.whole cc1_stg5_0 : Memref sig .tc .vmem S384x256 .bf16).view
abbrev ms0_0 (t : Fin cfg1.N) : Memref sig .tc .vmem S18944x128 .i8 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S384x18944 .i8 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S384x18944 .i8 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S1x1x256 .f32 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S384x128 .f32 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S384x256 .bf16 := win1_5.stage (cfg1.slots t 5)
abbrev hs0_5 (t : Fin cfg1.N) : (ms0_5 t).IsWhole := hstage1_5 ((cfg1.slots t 5).cast nbuf1_5)
abbrev scM0_0 : Memref sig .tc .vmem S768x18944 .fp8e4m3 := Memref.whole cc1_scratch0
abbrev scM0_1 : Memref sig .tc .vmem S18944x256 .fp8e4m3 := Memref.whole cc1_scratch1
abbrev VS0_0 : View sig .tc .vmem S768x18944 .fp8e4m3 := scM0_0.view

/-- A buffer at some contents. -/
def bf (c : Dev nD) (b : Ref sig .tc) : sProp 𝕄 := iprop(∃ f : Buf (Elt F) ((c : Thread nD τ).loc b), ((c : Thread nD τ).loc b) ↦{fullShare} f)

/-- The other call's buffers at some contents and the generator register: the body touches none of them. -/
def Gn (c : Dev nD) : sProp 𝕄 := iprop((bf c cc0_stg0_0 ∗ bf c cc0_stg0_1 ∗ bf c cc0_stg1_0 ∗ bf c cc0_stg1_1 ∗ bf c cc0_stg2_0 ∗ bf c cc0_stg2_1 ∗ bf c cc0_stg3_0 ∗ bf c cc0_stg3_1 ∗ bf c cc0_stg4_0 ∗ bf c cc0_stg4_1 ∗ bf c cc0_stg5_0 ∗ bf c cc0_stg5_1 ∗ bf c cc0_stg6_0 ∗ bf c cc0_stg6_1 ∗ bf c cc0_scratch0) ∗ ∃ r, prngReg c r)

/-- The pipeline's invariant: the scratch buffers at some contents beside the rest. -/
theorem PhiA0_eq (c : Dev nD) :
    (Pipeline.ΦA spec1 c : sProp 𝕄)
      = iprop(iprop((∃ d, owns (c : Thread nD τ) scM0_0 fullShare d) ∗ (∃ d, owns (c : Thread nD τ) scM0_1 fullShare d)) ∗ Gn c) := by
  unfold Pipeline.ΦA Gn bf; rw [scopedRest1_eq]; simp only [scM0_0, scM0_1, owns_whole]
  have hA : ∀ A B C : sProp 𝕄, iprop((A ∗ B) ∗ C) = iprop(A ∗ B ∗ C) := fun _ _ _ => (BI.sep_assoc).antisymm BI.sep_assoc'
  have hC : ∀ A B : sProp 𝕄, iprop(A ∗ B) = iprop(B ∗ A) := fun _ _ => (BI.sep_comm).antisymm BI.sep_comm
  have hL : ∀ A S G : sProp 𝕄, iprop(A ∗ S ∗ G) = iprop(S ∗ A ∗ G) := fun A S G => by rw [← hA, hC A S, hA]
  refine Eq.trans ?_ (hL _ _ _); simp only [hA]; rfl

set_option backward.proofsInPublic true in
set_option maxHeartbeats 1000000 in
/-- The body's run at the first point of a row block: what its stores leave of the result's block and of the left operand. -/
noncomputable def kernelRun0_A (c : Dev nD) (i : grid1.Coords) (arg2 : Memref sig .tc .vmem S18944x128 .i8) (harg2 : arg2.IsWhole) (arg3 : Memref sig .tc .vmem S384x18944 .i8) (harg3 : arg3.IsWhole) (arg4 : Memref sig .tc .vmem S384x18944 .i8) (harg4 : arg4.IsWhole) (arg5 : Memref sig .tc .vmem S1x1x256 .f32) (harg5 : arg5.IsWhole) (arg6 : Memref sig .tc .vmem S384x128 .f32) (harg6 : arg6.IsWhole) (arg7 : Memref sig .tc .vmem S384x256 .bf16) (harg7 : arg7.IsWhole) (arg8 : Memref sig .tc .vmem S768x18944 .fp8e4m3) (harg8 : arg8.IsWhole) (arg9 : Memref sig .tc .vmem S18944x256 .fp8e4m3) (harg9 : arg9.IsWhole) (hc0 : cond0_0 i)
    (x0 : Vec F S18944x128 .i8) (x1 : Vec F S384x18944 .i8) (x2 : Vec F S384x18944 .i8) (x3 : Vec F S1x1x256 .f32) (x4 : Vec F S384x128 .f32) :
    Σ' (L5 : List (View.Piece (Elt F) S384x256 .bf16)), { LS0 : List (View.Piece (Elt F) S768x18944 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ d, owns (c : Thread nD τ) arg9 fullShare d)) -∗ K ⟨⟩))
          ⊢ wp frame (wpE (defs₀ (F := F)) Variants.none c none) E (cc1_dx i arg2 harg2 arg3 harg3 arg4 harg4 arg5 harg5 arg6 harg6 arg7 harg7 arg8 harg8 arg9 harg9) K } := by
  refine ⟨?_, ?_, fun E K => ?run⟩
  case run =>
    simp only [cc1_dx_eq_skeleton]; unfold cc1_dx_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    have hrd0 : ∀ (𝒱 : Variants) (c : Dev nD) (bd : Option 𝒱.V) (i : grid1.Coords) (arg2 : Memref sig .tc .vmem S18944x128 .i8) (harg2 : arg2.IsWhole) (arg3 : Memref sig .tc .vmem S384x18944 .i8) (harg3 : arg3.IsWhole) (arg4 : Memref sig .tc .vmem S384x18944 .i8) (harg4 : arg4.IsWhole) (arg5 : Memref sig .tc .vmem S1x1x256 .f32) (harg5 : arg5.IsWhole) (arg6 : Memref sig .tc .vmem S384x128 .f32) (harg6 : arg6.IsWhole) (arg7 : Memref sig .tc .vmem S384x256 .bf16) (harg7 : arg7.IsWhole) (arg8 : Memref sig .tc .vmem S768x18944 .fp8e4m3) (harg8 : arg8.IsWhole) (arg9 : Memref sig .tc .vmem S18944x256 .fp8e4m3) (harg9 : arg9.IsWhole) (k1_h1 : k1_cond1 i = 1#1) (X_arg3 : BufTy.Contents (Elt F) arg3.view.ty) (X_arg4 : BufTy.Contents (Elt F) arg4.view.ty) (hrdF : BufTy.Contents (Elt F) arg8.view.ty) (hrdB : LoadRect S768x18944), arg8.view.readAt (Elt F) hrdB (arg8.view.writes (Elt F) hrdF (pb_k1_t1 (F := F) 𝒱 c bd i arg2 harg2 arg3 harg3 arg4 harg4 arg5 harg5 arg6 harg6 arg7 harg7 arg8 harg8 arg9 harg9 k1_h1 X_arg3 X_arg4 (Scf.trips k1_t1_loop.lb k1_t1_loop.ub k1_t1_loop.st))) = arg8.view.readCov (pb_k1_t1 (F := F) 𝒱 c bd i arg2 harg2 arg3 harg3 arg4 harg4 arg5 harg5 arg6 harg6 arg7 harg7 arg8 harg8 arg9 harg9 k1_h1 X_arg3 X_arg4 (Scf.trips k1_t1_loop.lb k1_t1_loop.ub k1_t1_loop.st)) hrdB := fun 𝒱 c bd i arg2 harg2 arg3 harg3 arg4 harg4 arg5 harg5 arg6 harg6 arg7 harg7 arg8 harg8 arg9 harg9 k1_h1 X_arg3 X_arg4 hrdF hrdB => View.readAt_writes_of_cover _ hrdF _ hrdB (fun hrdJ => View.cover_of_tiledL (pb_k1_t1 (F := F) 𝒱 c bd i arg2 harg2 arg3 harg3 arg4 harg4 arg5 harg5 arg6 harg6 arg7 harg7 arg8 harg8 arg9 harg9 k1_h1 X_arg3 X_arg4 (Scf.trips k1_t1_loop.lb k1_t1_loop.ub k1_t1_loop.st)) S384x128.size (by sl_kernel_rfl) (hrdB.idx hrdJ))
    have hrd1 : ∀ (𝒱 : Variants) (c : Dev nD) (bd : Option 𝒱.V) (i : grid1.Coords) (arg2 : Memref sig .tc .vmem S18944x128 .i8) (harg2 : arg2.IsWhole) (arg3 : Memref sig .tc .vmem S384x18944 .i8) (harg3 : arg3.IsWhole) (arg4 : Memref sig .tc .vmem S384x18944 .i8) (harg4 : arg4.IsWhole) (arg5 : Memref sig .tc .vmem S1x1x256 .f32) (harg5 : arg5.IsWhole) (arg6 : Memref sig .tc .vmem S384x128 .f32) (harg6 : arg6.IsWhole) (arg7 : Memref sig .tc .vmem S384x256 .bf16) (harg7 : arg7.IsWhole) (arg8 : Memref sig .tc .vmem S768x18944 .fp8e4m3) (harg8 : arg8.IsWhole) (arg9 : Memref sig .tc .vmem S18944x256 .fp8e4m3) (harg9 : arg9.IsWhole) (X_arg2 : BufTy.Contents (Elt F) arg2.view.ty) (hrdF : BufTy.Contents (Elt F) arg9.view.ty) (hrdB : LoadRect S18944x256), arg9.view.readAt (Elt F) hrdB (arg9.view.writes (Elt F) hrdF (pb_k1_t2 (F := F) 𝒱 c bd i arg2 harg2 arg3 harg3 arg4 harg4 arg5 harg5 arg6 harg6 arg7 harg7 arg8 harg8 arg9 harg9 X_arg2 (Scf.trips k1_t2_loop.lb k1_t2_loop.ub k1_t2_loop.st))) = arg9.view.readCov (pb_k1_t2 (F := F) 𝒱 c bd i arg2 harg2 arg3 harg3 arg4 harg4 arg5 harg5 arg6 harg6 arg7 harg7 arg8 harg8 arg9 harg9 X_arg2 (Scf.trips k1_t2_loop.lb k1_t2_loop.ub k1_t2_loop.st)) hrdB := fun 𝒱 c bd i arg2 harg2 arg3 harg3 arg4 harg4 arg5 harg5 arg6 harg6 arg7 harg7 arg8 harg8 arg9 harg9 X_arg2 hrdF hrdB => View.readAt_writes_of_cover _ hrdF _ hrdB (fun hrdJ => View.cover_of_tiledL (pb_k1_t2 (F := F) 𝒱 c bd i arg2 harg2 arg3 harg3 arg4 harg4 arg5 harg5 arg6 harg6 arg7 harg7 arg8 harg8 arg9 harg9 X_arg2 (Scf.trips k1_t2_loop.lb k1_t2_loop.ub k1_t2_loop.st)) S256x128.size (by sl_kernel_rfl) (hrdB.idx hrdJ))
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _, _; isplitr; swap; · iexact HS1
    ipureintro; rfl

end Cert.BothIdeal.Dx

end
-- ==== Proof.BothDxRunBI.lean ====
/- The body of the `dx` call in the program of the two calls at the points that do not start a row block. -/
module

public import proofs.«01_k».proof.Proof.BothDxRunAI

@[expose] public section

set_option maxRecDepth 16384

noncomputable section

namespace Cert.BothIdeal.Dx

open Cert.BothIdeal Cert.BothIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 1000000 in
/-- The body's run at every other point: the left operand is read, not written. -/
noncomputable def kernelRun0_B (c : Dev nD) (i : grid1.Coords) (arg2 : Memref sig .tc .vmem S18944x128 .i8) (harg2 : arg2.IsWhole) (arg3 : Memref sig .tc .vmem S384x18944 .i8) (harg3 : arg3.IsWhole) (arg4 : Memref sig .tc .vmem S384x18944 .i8) (harg4 : arg4.IsWhole) (arg5 : Memref sig .tc .vmem S1x1x256 .f32) (harg5 : arg5.IsWhole) (arg6 : Memref sig .tc .vmem S384x128 .f32) (harg6 : arg6.IsWhole) (arg7 : Memref sig .tc .vmem S384x256 .bf16) (harg7 : arg7.IsWhole) (arg8 : Memref sig .tc .vmem S768x18944 .fp8e4m3) (harg8 : arg8.IsWhole) (arg9 : Memref sig .tc .vmem S18944x256 .fp8e4m3) (harg9 : arg9.IsWhole) (hc0 : ¬cond0_0 i)
    (x0 : Vec F S18944x128 .i8) (x1 : Vec F S384x18944 .i8) (x2 : Vec F S384x18944 .i8) (x3 : Vec F S1x1x256 .f32) (x4 : Vec F S384x128 .f32) (xs0 : Vec F S768x18944 .fp8e4m3) :
    Σ' (L5 : List (View.Piece (Elt F) S384x256 .bf16)), { LS0 : List (View.Piece (Elt F) S768x18944 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ (∃ d, owns (c : Thread nD τ) arg9 fullShare d)) -∗ K ⟨⟩))
          ⊢ wp frame (wpE (defs₀ (F := F)) Variants.none c none) E (cc1_dx i arg2 harg2 arg3 harg3 arg4 harg4 arg5 harg5 arg6 harg6 arg7 harg7 arg8 harg8 arg9 harg9) K } := by
  refine ⟨?_, [], fun E K => ?run⟩
  case run =>
    simp only [cc1_dx_eq_skeleton]; unfold cc1_dx_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    have hrd0 : ∀ (𝒱 : Variants) (c : Dev nD) (bd : Option 𝒱.V) (i : grid1.Coords) (arg2 : Memref sig .tc .vmem S18944x128 .i8) (harg2 : arg2.IsWhole) (arg3 : Memref sig .tc .vmem S384x18944 .i8) (harg3 : arg3.IsWhole) (arg4 : Memref sig .tc .vmem S384x18944 .i8) (harg4 : arg4.IsWhole) (arg5 : Memref sig .tc .vmem S1x1x256 .f32) (harg5 : arg5.IsWhole) (arg6 : Memref sig .tc .vmem S384x128 .f32) (harg6 : arg6.IsWhole) (arg7 : Memref sig .tc .vmem S384x256 .bf16) (harg7 : arg7.IsWhole) (arg8 : Memref sig .tc .vmem S768x18944 .fp8e4m3) (harg8 : arg8.IsWhole) (arg9 : Memref sig .tc .vmem S18944x256 .fp8e4m3) (harg9 : arg9.IsWhole) (X_arg2 : BufTy.Contents (Elt F) arg2.view.ty) (hrdF : BufTy.Contents (Elt F) arg9.view.ty) (hrdB : LoadRect S18944x256), arg9.view.readAt (Elt F) hrdB (arg9.view.writes (Elt F) hrdF (pb_k1_t2 (F := F) 𝒱 c bd i arg2 harg2 arg3 harg3 arg4 harg4 arg5 harg5 arg6 harg6 arg7 harg7 arg8 harg8 arg9 harg9 X_arg2 (Scf.trips k1_t2_loop.lb k1_t2_loop.ub k1_t2_loop.st))) = arg9.view.readCov (pb_k1_t2 (F := F) 𝒱 c bd i arg2 harg2 arg3 harg3 arg4 harg4 arg5 harg5 arg6 harg6 arg7 harg7 arg8 harg8 arg9 harg9 X_arg2 (Scf.trips k1_t2_loop.lb k1_t2_loop.ub k1_t2_loop.st)) hrdB := fun 𝒱 c bd i arg2 harg2 arg3 harg3 arg4 harg4 arg5 harg5 arg6 harg6 arg7 harg7 arg8 harg8 arg9 harg9 X_arg2 hrdF hrdB => View.readAt_writes_of_cover _ hrdF _ hrdB (fun hrdJ => View.cover_of_tiledL (pb_k1_t2 (F := F) 𝒱 c bd i arg2 harg2 arg3 harg3 arg4 harg4 arg5 harg5 arg6 harg6 arg7 harg7 arg8 harg8 arg9 harg9 X_arg2 (Scf.trips k1_t2_loop.lb k1_t2_loop.ub k1_t2_loop.st)) S256x128.size (by sl_kernel_rfl) (hrdB.idx hrdJ))
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _, _; isplitr; swap; · iexact HS1
    ipureintro; rfl

end Cert.BothIdeal.Dx

end
-- ==== Proof.BothDxFrameI.lean ====
/- The `dx` call in the program of the two calls: what every grid point leaves, and the body's obligation; the buffers the
   call finds are a parameter. -/
module

public import proofs.«01_k».proof.Proof.BothDxRunBI

@[expose] public section

set_option maxRecDepth 16384

noncomputable section

namespace Cert.BothIdeal.Dx

open Cert.BothIdeal Cert.BothIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid1.Coords) (arg2 : Memref sig .tc .vmem S18944x128 .i8) (harg2 : arg2.IsWhole) (arg3 : Memref sig .tc .vmem S384x18944 .i8) (harg3 : arg3.IsWhole) (arg4 : Memref sig .tc .vmem S384x18944 .i8) (harg4 : arg4.IsWhole) (arg5 : Memref sig .tc .vmem S1x1x256 .f32) (harg5 : arg5.IsWhole) (arg6 : Memref sig .tc .vmem S384x128 .f32) (harg6 : arg6.IsWhole) (arg7 : Memref sig .tc .vmem S384x256 .bf16) (harg7 : arg7.IsWhole) (arg8 : Memref sig .tc .vmem S768x18944 .fp8e4m3) (harg8 : arg8.IsWhole) (arg9 : Memref sig .tc .vmem S18944x256 .fp8e4m3) (harg9 : arg9.IsWhole)

theorem cover0_A_5 (hc0 : cond0_0 i)
    (x0 : Vec F S18944x128 .i8) (x1 : Vec F S384x18944 .i8) (x2 : Vec F S384x18944 .i8) (x3 : Vec F S1x1x256 .f32) (x4 : Vec F S384x128 .f32) (y : S384x256.Idx) :
    ∃ pc ∈ (kernelRun0_A c i arg2 harg2 arg3 harg3 arg4 harg4 arg5 harg5 arg6 harg6 arg7 harg7 arg8 harg8 arg9 harg9 hc0 x0 x1 x2 x3 x4).1, y ∈ pc.1.set :=
  View.cover_of_tiledL (kernelRun0_A c i arg2 harg2 arg3 harg3 arg4 harg4 arg5 harg5 arg6 harg6 arg7 harg7 arg8 harg8 arg9 harg9 hc0 x0 x1 x2 x3 x4).1 S384x256.size (by sl_kernel_rfl) y

def out0_A_5 (hc0 : cond0_0 i)
    (x0 : Vec F S18944x128 .i8) (x1 : Vec F S384x18944 .i8) (x2 : Vec F S384x18944 .i8) (x3 : Vec F S1x1x256 .f32) (x4 : Vec F S384x128 .f32) : Vec F S384x256 .bf16 :=
  VO0_5.read (Elt F) (VO0_5.writes (Elt F) VO0_5.junk (kernelRun0_A c i arg2 harg2 arg3 harg3 arg4 harg4 arg5 harg5 arg6 harg6 arg7 harg7 arg8 harg8 arg9 harg9 hc0 x0 x1 x2 x3 x4).1)

theorem scover0_A_0 (hc0 : cond0_0 i)
    (x0 : Vec F S18944x128 .i8) (x1 : Vec F S384x18944 .i8) (x2 : Vec F S384x18944 .i8) (x3 : Vec F S1x1x256 .f32) (x4 : Vec F S384x128 .f32) (y : S768x18944.Idx) :
    ∃ pc ∈ (kernelRun0_A c i arg2 harg2 arg3 harg3 arg4 harg4 arg5 harg5 arg6 harg6 arg7 harg7 arg8 harg8 arg9 harg9 hc0 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 x0 x1 x2 x3 x4).2.1 S384x128.size (by sl_kernel_rfl) y

def sout0_A_0 (hc0 : cond0_0 i)
    (x0 : Vec F S18944x128 .i8) (x1 : Vec F S384x18944 .i8) (x2 : Vec F S384x18944 .i8) (x3 : Vec F S1x1x256 .f32) (x4 : Vec F S384x128 .f32) : Vec F S768x18944 .fp8e4m3 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3 x4).2.1)

theorem cover0_B_5 (hc0 : ¬cond0_0 i)
    (x0 : Vec F S18944x128 .i8) (x1 : Vec F S384x18944 .i8) (x2 : Vec F S384x18944 .i8) (x3 : Vec F S1x1x256 .f32) (x4 : Vec F S384x128 .f32) (xs0 : Vec F S768x18944 .fp8e4m3) (y : S384x256.Idx) :
    ∃ pc ∈ (kernelRun0_B c i arg2 harg2 arg3 harg3 arg4 harg4 arg5 harg5 arg6 harg6 arg7 harg7 arg8 harg8 arg9 harg9 hc0 x0 x1 x2 x3 x4 xs0).1, y ∈ pc.1.set :=
  View.cover_of_tiledL (kernelRun0_B c i arg2 harg2 arg3 harg3 arg4 harg4 arg5 harg5 arg6 harg6 arg7 harg7 arg8 harg8 arg9 harg9 hc0 x0 x1 x2 x3 x4 xs0).1 S384x256.size (by sl_kernel_rfl) y

def out0_B_5 (hc0 : ¬cond0_0 i)
    (x0 : Vec F S18944x128 .i8) (x1 : Vec F S384x18944 .i8) (x2 : Vec F S384x18944 .i8) (x3 : Vec F S1x1x256 .f32) (x4 : Vec F S384x128 .f32) (xs0 : Vec F S768x18944 .fp8e4m3) : Vec F S384x256 .bf16 :=
  VO0_5.read (Elt F) (VO0_5.writes (Elt F) VO0_5.junk (kernelRun0_B c i arg2 harg2 arg3 harg3 arg4 harg4 arg5 harg5 arg6 harg6 arg7 harg7 arg8 harg8 arg9 harg9 hc0 x0 x1 x2 x3 x4 xs0).1)

def sout0_B_0 (c : Dev nD) (i : grid1.Coords) (arg2 : Memref sig .tc .vmem S18944x128 .i8) (harg2 : arg2.IsWhole) (arg3 : Memref sig .tc .vmem S384x18944 .i8) (harg3 : arg3.IsWhole) (arg4 : Memref sig .tc .vmem S384x18944 .i8) (harg4 : arg4.IsWhole) (arg5 : Memref sig .tc .vmem S1x1x256 .f32) (harg5 : arg5.IsWhole) (arg6 : Memref sig .tc .vmem S384x128 .f32) (harg6 : arg6.IsWhole) (arg7 : Memref sig .tc .vmem S384x256 .bf16) (harg7 : arg7.IsWhole) (arg8 : Memref sig .tc .vmem S768x18944 .fp8e4m3) (harg8 : arg8.IsWhole) (arg9 : Memref sig .tc .vmem S18944x256 .fp8e4m3) (harg9 : arg9.IsWhole) (hc0 : ¬cond0_0 i)
    (x0 : Vec F S18944x128 .i8) (x1 : Vec F S384x18944 .i8) (x2 : Vec F S384x18944 .i8) (x3 : Vec F S1x1x256 .f32) (x4 : Vec F S384x128 .f32) (xs0 : Vec F S768x18944 .fp8e4m3) : Vec F S768x18944 .fp8e4m3 := xs0

end

variable (m : (c : Dev nD) → (b : Ref sig .tc) → Buf (Elt F) ((c : Thread nD τ).loc b))

/-- The buffers as the call finds them. -/
abbrev V (c : Dev nD) (b : Ref sig .tc) : Buf (Elt F) ((c : Thread nD τ).loc b) := m c b

/-- A window's block at a point, and what the inputs' staging buffers hold. -/
def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

theorem before0_0_of {c : Dev nD} (dat : Dat τ (Elt F) Unit ℕ (UR sig nD τ) ℕ cfg1 c) (hA : dat.A 0 = V m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg1 c) (hA : dat.A 1 = V m c (Pipeline.arrRef spec1 1))
    (hafter : ∀ t, dat.after 1 t = iblk m c 1 t) (t : Fin cfg1.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg1 c) (hA : dat.A 2 = V m c (Pipeline.arrRef spec1 2))
    (hafter : ∀ t, dat.after 2 t = iblk m c 2 t) (t : Fin cfg1.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg1 c) (hA : dat.A 3 = V m c (Pipeline.arrRef spec1 3))
    (hafter : ∀ t, dat.after 3 t = iblk m c 3 t) (t : Fin cfg1.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg1 c) (hA : dat.A 4 = V m c (Pipeline.arrRef spec1 4))
    (hafter : ∀ t, dat.after 4 t = iblk m c 4 t) (t : Fin cfg1.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- What the points leave in the result's block and in the left operand, point after point. -/
def outsAt0 (c : Dev nD) : (n : ℕ) → n < cfg1.N → Vec F S384x256 .bf16 × Vec F S768x18944 .fp8e4m3
  | 0, hn => (out0_A_5 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 14 = 0 then
      (out0_A_5 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

theorem outsAt0_A (c : Dev nD) (t : Fin cfg1.N) (h0 : t.val % 14 = 0) :
    outsAt0 m c t.val t.isLt = (out0_A_5 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t), sout0_A_0 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

theorem outsAt0_B (c : Dev nD) (t : Fin cfg1.N) (h0 : ¬t.val % 14 = 0) :
    outsAt0 m c t.val t.isLt = (out0_B_5 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- What the call keeps between points: the left operand at what the point before left. -/
def PhiS (c : Dev nD) : (n : ℕ) → n ≤ cfg1.N → sProp 𝕄
  | 0, _ => Pipeline.ΦA spec1 c
  | n + 1, hn => iprop(iprop(owns (c : Thread nD τ) scM0_0 fullShare ((outsAt0 m c n hn).2) ∗ (∃ d, owns (c : Thread nD τ) scM0_1 fullShare d)) ∗ Gn c)

theorem PhiS_zero (c : Dev nD) (n : ℕ) (h : n ≤ cfg1.N) (hz : n = 0) : PhiS m c n h = Pipeline.ΦA spec1 c := by
  subst hz; rfl

theorem PhiS_succ (c : Dev nD) (n : ℕ) (hn : n < cfg1.N) :
    PhiS m c (n + 1) hn = iprop(iprop(owns (c : Thread nD τ) scM0_0 fullShare ((outsAt0 m c n hn).2) ∗ (∃ d, owns (c : Thread nD τ) scM0_1 fullShare d)) ∗ Gn c) := rfl

theorem PhiS_pos (c : Dev nD) (n : ℕ) (h : n ≤ cfg1.N) (hz : n ≠ 0) :
    PhiS m c n h = iprop(iprop(owns (c : Thread nD τ) scM0_0 fullShare ((outsAt0 m c (n - 1) (by omega)).2) ∗ (∃ d, owns (c : Thread nD τ) scM0_1 fullShare d)) ∗ Gn c) := by
  cases n with
  | zero => exact absurd rfl hz
  | succ n => rfl

/-- The call's proof data. -/
def dats (_ : Fin 1) (c : Dev nD) : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg1.W) : (dats m 0 c).A w = V m c (Pipeline.arrRef spec1 w) := by
  dsimp only [dats]

theorem PhiS_castSucc (c : Dev nD) (t : Fin cfg1.N) :
    (dats m 0 c).Φ t.castSucc = PhiS m c t.val (Nat.le_of_lt t.isLt) := by
  dsimp only [dats]; exact Pipeline.Dat.Φ_castSucc (PhiS m c) t

theorem after0_0 (c : Dev nD) (t : Fin cfg1.N) : (dats m 0 c).after 0 t = iblk m c 0 t := by dsimp only [dats]
theorem after0_1 (c : Dev nD) (t : Fin cfg1.N) : (dats m 0 c).after 1 t = iblk m c 1 t := by dsimp only [dats]
theorem after0_2 (c : Dev nD) (t : Fin cfg1.N) : (dats m 0 c).after 2 t = iblk m c 2 t := by dsimp only [dats]
theorem after0_3 (c : Dev nD) (t : Fin cfg1.N) : (dats m 0 c).after 3 t = iblk m c 3 t := by dsimp only [dats]
theorem after0_4 (c : Dev nD) (t : Fin cfg1.N) : (dats m 0 c).after 4 t = iblk m c 4 t := by dsimp only [dats]
theorem after0_5 (c : Dev nD) (t : Fin cfg1.N) : (dats m 0 c).after 5 t = (outsAt0 m c t.val t.isLt).1 := by dsimp only [dats]

theorem before0_0 (c : Dev nD) (t : Fin cfg1.N) (d) : (dats m 0 c).before 0 t d = iblk m c 0 t :=
  before0_0_of m (dats m 0 c) (A_eq m c 0) (after0_0 m c) t d
theorem before0_1 (c : Dev nD) (t : Fin cfg1.N) (d) : (dats m 0 c).before 1 t d = iblk m c 1 t :=
  before0_1_of m (dats m 0 c) (A_eq m c 1) (after0_1 m c) t d
theorem before0_2 (c : Dev nD) (t : Fin cfg1.N) (d) : (dats m 0 c).before 2 t d = iblk m c 2 t :=
  before0_2_of m (dats m 0 c) (A_eq m c 2) (after0_2 m c) t d
theorem before0_3 (c : Dev nD) (t : Fin cfg1.N) (d) : (dats m 0 c).before 3 t d = iblk m c 3 t :=
  before0_3_of m (dats m 0 c) (A_eq m c 3) (after0_3 m c) t d
theorem before0_4 (c : Dev nD) (t : Fin cfg1.N) (d) : (dats m 0 c).before 4 t d = iblk m c 4 t :=
  before0_4_of m (dats m 0 c) (A_eq m c 4) (after0_4 m c) t d

def bodyPre (c : Dev nD) (t : Fin cfg1.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg1.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in
/-- The body at any point. -/
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 56 := lt_of_lt_of_eq t.isLt (show cfg1.N = 56 from N_1)
  by_cases h0 : t.val % 14 = 0
  · by_cases hz : t.val = 0
    · rw [PhiS_castSucc m c t, PhiS_zero m c _ _ hz, PhiA0_eq]
      rw [outsAt0_A m c t h0]
      unfold out0_A_5 sout0_A_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid1.coords t) _ _ _ _ _ _ _ _ _ _ _ _ _ _ _ _ ((hcond0_0 t).mpr h0) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _ _ _)
    · rw [PhiS_castSucc m c t, PhiS_pos m c _ _ hz]
      rw [outsAt0_A m c t h0]
      unfold out0_A_5 sout0_A_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid1.coords t) _ _ _ _ _ _ _ _ _ _ _ _ _ _ _ _ ((hcond0_0 t).mpr h0) (iblk m c 0 t) (iblk m c 1 t) (iblk m c 2 t) (iblk m c 3 t) (iblk m c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexact HS1
      iintro ⟨H0, H1, H2, H3, H4, ⟨%e5, H5⟩, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _ _ _ _)
  · by_cases hz : t.val = 0
    · exfalso; have hN : t.val < 56 := lt_of_lt_of_eq t.isLt (show cfg1.N = 56 from N_1); omega
    · rw [PhiS_castSucc m c t, PhiS_pos m c _ _ hz]
      rw [outsAt0_B m c t h0]
      unfold out0_B_5 sout0_B_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid1.coords t) _ _ _ _ _ _ _ _ _ _ _ _ _ _ _ _ (fun h => h0 ((hcond0_0 t).mp h)) (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _ _ _ _)

theorem defs₀_row (t : Fin cfg1.N) :
    defs₀ (F := F) .tc cfg1.body (cfg1.bodyArgs t (cfg1.slots t)) = bodyAt1 t := by
  unfold defs₀; rw [Defs.onTc_tc]

/-- The body's obligation, at every point. -/
theorem body_obligation (c : Dev nD) : BodyObligation (dats (F := F) m 0 c) (defs₀ (F := F)) Variants.none () Set.univ := fun t => by
  rw [bigSep_W1, bigSep_W1, defs₀_row]
  exact triple_restated (sound_body m c t) rfl .rfl fun _ => .rfl

theorem hin (c : Dev nD) : Pipeline.ΦA spec1 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg1.N + 1)) (ht : t.val ≠ 0) : (dats m 0 c).Φ t ⊢ Pipeline.ΦA spec1 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

theorem hout (c : Dev nD) : (dats m 0 c).Φ (Fin.last cfg1.N) ⊢ Pipeline.ΦA spec1 c :=
  Phi_out m c _ (by rw [Fin.val_last]; have : cfg1.N = 56 := N_1; omega)

end Cert.BothIdeal.Dx

end
-- ==== Proof.BothRunI.lean ====
/- The two calls run one after the other: the quantising call, the host's lines that lay out the column scales, and the `dx`
   call. Every buffer ends at a named valuation, but for the two arrays of the quantising call that no later line reads. -/
module

public import proofs.«01_k».proof.Proof.Gen.BothIdeal.Regions
public import proofs.«01_k».proof.Proof.BothQFrameI
public import proofs.«01_k».proof.Proof.BothDxFrameI
public import Idealize.ShloMosaic.Lib.Pipeline.RegionArraysF
public import Idealize.ShloMosaic.Lib.Pipeline.RegionsOwned
public import Idealize.ShloMosaic.Lib.Pipeline.Frame

@[expose] public section

set_option maxRecDepth 16384

noncomputable section

namespace Cert.BothIdeal.Joint

open Cert.BothIdeal Cert.BothIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat ucRefs ucRefsBut arrRefs hbmRefs)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the items -/

/-- What the quantising call finds. -/
abbrev E0 (c : Dev nD) (b : Ref sig .tc) : Buf (Elt F) ((c : Thread nD τ).loc b) := V1 m c (Proc.devRef .tc b)

/-- What it leaves, where that is named. -/
def W2 (c : Dev nD) : Valuation τ sig (Elt F) :=
  Function.update (Function.update (Function.update (V1 m c) main_v2_0 ((Quant.dats (E0 m) 0 c).arrAt 2 cfg0.N))
    main_v2_1 ((Quant.dats (E0 m) 0 c).arrAt 3 cfg0.N)) main_v2_4 ((Quant.dats (E0 m) 0 c).arrAt 6 cfg0.N)

/-- What the `dx` call finds. -/
def W3 (c : Dev nD) : Valuation τ sig (Elt F) := StableHlo.after hostOps1 (W2 m c)

abbrev E1 (c : Dev nD) (b : Ref sig .tc) : Buf (Elt F) ((c : Thread nD τ).loc b) := W3 m c (Proc.devRef .tc b)

/-- What the `dx` call leaves. -/
def W4 (c : Dev nD) : Valuation τ sig (Elt F) := Function.update (W3 m c) main_v6 ((Dx.dats (E1 m) 0 c).arrAt 5 cfg1.N)

/-- The two arrays that stay unnamed. -/
abbrev loose : Finset (Ref sig .tc) := {main_v2_2, main_v2_3}

/-- The buffers that are named. -/
abbrev S' : Finset (DevRef τ sig) := ucRefsBut τ sig loose

/-! ## The proof data of the two calls -/

/-- Each call's proof data. -/
def pd : (p : Fin 2) → (c : Dev nD) → Dat τ (Elt F) Unit ℕ (UR sig nD τ) ℕ (cfgs p) c
  | ⟨0, _⟩, c => Quant.dats (E0 m) 0 c
  | ⟨1, _⟩, c => Dx.dats (E1 m) 0 c
  | ⟨_ + 2, h⟩, _ => absurd h (Nat.not_lt.2 (Nat.le_add_left _ _))

/-- Which windows stay unnamed. -/
def fg : (p : Fin 2) → Fin (cfgs p).W → Bool
  | ⟨0, _⟩ => Quant.forgets
  | ⟨1, _⟩ => fun _ => false
  | ⟨_ + 2, h⟩ => absurd h (Nat.not_lt.2 (Nat.le_add_left _ _))

/-- The levels: one index at every cell of a TensorCore, all at level zero. -/
abbrev LL : GSem nD τ sig → Finset Unit := fun g => if g.1.2 = .tc then {()} else ∅
abbrev lv : GSem nD τ sig → Unit → ℕ := fun _ _ => 0

theorem cut (p : Fin 2) : Pipeline.LevelCut (pcfgs (F := F)) adm () LL lv p (fun _ => 0) (fun _ : Dev nD => 0) where
  hι _ _ _ := by simp [LL]
  hιb _ _ _ := le_rfl
  hD _ g i h := absurd h (by simp)

theorem mayWaits (c : Dev nD) : (levAts LL lv : sProp 𝕄) ⊢ Transfers.MayWaits (c : Thread nD τ) () 0 :=
  (show (levAts LL lv : sProp 𝕄) ⊢ BI.emp from by iintro -; iempintro).trans (Transfers.MayWaits.zero _ _)

/-- The unnamed arrays' contents, over the named buffers. -/
def mk0 (c : Dev nD) (A : (w : Fin cfg0.W) → Buf (Elt F) ((cfg0.win w).arr.view.loc (c.tc : Thread nD τ))) : Valuation τ sig (Elt F) :=
  Function.update (Function.update (W2 m c) main_v2_2 (A 4)) main_v2_3 (A 5)

theorem ne_dev {a b : Ref sig .tc} (h : a ≠ b) : (Proc.devRef .tc a : DevRef τ sig) ≠ Proc.devRef .tc b := StableHlo.devRef_ne_of_ne h

theorem mk0_arr (c : Dev nD) (A : (w : Fin cfg0.W) → Buf (Elt F) ((cfg0.win w).arr.view.loc (c.tc : Thread nD τ)))
    (hA : ∀ w, Quant.forgets w = false → A w = (Quant.dats (E0 m) 0 c).arrAt w cfg0.N) (w : Fin cfg0.W) :
    A w = mk0 m c A (Proc.devRef .tc (Pipeline.arrRef spec0 w)) := by
  have hin : ∀ w : Fin cfg0.W, (cfg0.win w).isOut = false → Quant.forgets w = false → A w = V1 m c (Proc.devRef .tc (Pipeline.arrRef spec0 w)) :=
    fun w ho hf => (hA w hf).trans (((Quant.dats (E0 m) 0 c).arrAt_in w ho _).trans (Quant.A_eq (E0 m) c w))
  match w with
  | ⟨0, _⟩ =>
    refine (hin 0 rfl rfl).trans ?_
    show V1 m c (Proc.devRef .tc main_v0) = mk0 m c A (Proc.devRef .tc main_v0)
    unfold mk0 W2
    rw [Function.update_of_ne (ne_dev (by decide)), Function.update_of_ne (ne_dev (by decide)), Function.update_of_ne (ne_dev (by decide)),
      Function.update_of_ne (ne_dev (by decide)), Function.update_of_ne (ne_dev (by decide))]
  | ⟨1, _⟩ =>
    refine (hin 1 rfl rfl).trans ?_
    show V1 m c (Proc.devRef .tc main_v1) = mk0 m c A (Proc.devRef .tc main_v1)
    unfold mk0 W2
    rw [Function.update_of_ne (ne_dev (by decide)), Function.update_of_ne (ne_dev (by decide)), Function.update_of_ne (ne_dev (by decide)),
      Function.update_of_ne (ne_dev (by decide)), Function.update_of_ne (ne_dev (by decide))]
  | ⟨2, _⟩ =>
    refine (hA 2 rfl).trans ?_
    show _ = mk0 m c A (Proc.devRef .tc main_v2_0)
    unfold mk0 W2
    rw [Function.update_of_ne (ne_dev (by decide)), Function.update_of_ne (ne_dev (by decide)), Function.update_of_ne (ne_dev (by decide)), Function.update_of_ne (ne_dev (by decide)), Function.update_self]
  | ⟨3, _⟩ =>
    refine (hA 3 rfl).trans ?_
    show _ = mk0 m c A (Proc.devRef .tc main_v2_1)
    unfold mk0 W2
    rw [Function.update_of_ne (ne_dev (by decide)), Function.update_of_ne (ne_dev (by decide)), Function.update_of_ne (ne_dev (by decide)), Function.update_self]
  | ⟨4, _⟩ =>
    show A 4 = mk0 m c A (Proc.devRef .tc main_v2_2)
    unfold mk0
    rw [Function.update_of_ne (ne_dev (by decide)), Function.update_self]
  | ⟨5, _⟩ =>
    show A 5 = mk0 m c A (Proc.devRef .tc main_v2_3)
    unfold mk0
    rw [Function.update_self]
  | ⟨6, _⟩ =>
    refine (hA 6 rfl).trans ?_
    show _ = mk0 m c A (Proc.devRef .tc main_v2_4)
    unfold mk0 W2
    rw [Function.update_of_ne (ne_dev (by decide)), Function.update_of_ne (ne_dev (by decide)), Function.update_self]

theorem mem_arr0 (w : Fin cfg0.W) : (Proc.devRef .tc (Pipeline.arrRef spec0 w) : DevRef τ sig) ∈ arrRefs (τ := τ) spec0 :=
  Finset.mem_map.mpr ⟨_, Finset.mem_image.mpr ⟨w, Finset.mem_univ _, rfl⟩, rfl⟩
theorem mem_arr1 (w : Fin cfg1.W) : (Proc.devRef .tc (Pipeline.arrRef spec1 w) : DevRef τ sig) ∈ arrRefs (τ := τ) spec1 :=
  Finset.mem_map.mpr ⟨_, Finset.mem_image.mpr ⟨w, Finset.mem_univ _, rfl⟩, rfl⟩

/-- Off the quantising call's arrays nothing changes. -/
theorem mk0_off (c : Dev nD) (A : (w : Fin cfg0.W) → Buf (Elt F) ((cfg0.win w).arr.view.loc (c.tc : Thread nD τ)))
    (d : DevRef τ sig) (hd : d ∉ arrRefs (τ := τ) spec0) : mk0 m c A d = V1 m c d := by
  have h : ∀ w : Fin cfg0.W, d ≠ (Proc.devRef .tc (Pipeline.arrRef spec0 w) : DevRef τ sig) := fun w e => hd (e ▸ mem_arr0 w)
  unfold mk0 W2
  rw [Function.update_of_ne (h 5), Function.update_of_ne (h 4), Function.update_of_ne (h 6), Function.update_of_ne (h 3), Function.update_of_ne (h 2)]

/-- The array of each of the `dx` call's windows, as the call leaves it. -/
theorem W4_arr (c : Dev nD) (w : Fin cfg1.W) : (Dx.dats (E1 m) 0 c).arrAt w cfg1.N = W4 m c (Proc.devRef .tc (Pipeline.arrRef spec1 w)) := by
  have hin : ∀ w : Fin cfg1.W, (cfg1.win w).isOut = false → (Dx.dats (E1 m) 0 c).arrAt w cfg1.N = W3 m c (Proc.devRef .tc (Pipeline.arrRef spec1 w)) :=
    fun w ho => ((Dx.dats (E1 m) 0 c).arrAt_in w ho _).trans (Dx.A_eq (E1 m) c w)
  match w with
  | ⟨0, _⟩ =>
    refine (hin 0 rfl).trans ?_
    show _ = W4 m c (Proc.devRef .tc main_arg2)
    unfold W4
    exact (Function.update_of_ne (ne_dev (by decide)) _ _).symm
  | ⟨1, _⟩ =>
    refine (hin 1 rfl).trans ?_
    show _ = W4 m c (Proc.devRef .tc main_v2_0)
    unfold W4
    exact (Function.update_of_ne (ne_dev (by decide)) _ _).symm
  | ⟨2, _⟩ =>
    refine (hin 2 rfl).trans ?_
    show _ = W4 m c (Proc.devRef .tc main_v2_1)
    unfold W4
    exact (Function.update_of_ne (ne_dev (by decide)) _ _).symm
  | ⟨3, _⟩ =>
    refine (hin 3 rfl).trans ?_
    show _ = W4 m c (Proc.devRef .tc main_v5)
    unfold W4
    exact (Function.update_of_ne (ne_dev (by decide)) _ _).symm
  | ⟨4, _⟩ =>
    refine (hin 4 rfl).trans ?_
    show _ = W4 m c (Proc.devRef .tc main_v2_4)
    unfold W4
    exact (Function.update_of_ne (ne_dev (by decide)) _ _).symm
  | ⟨5, _⟩ =>
    show _ = W4 m c (Proc.devRef .tc main_v6)
    unfold W4
    rw [Function.update_self]
    rfl

theorem W4_off (c : Dev nD) (d : DevRef τ sig) (hd : d ∉ arrRefs (τ := τ) spec1) : W4 m c d = W3 m c d := by
  unfold W4
  exact Function.update_of_ne (fun e => hd (by rw [e]; exact mem_arr1 5)) _ _

/-! ## The two calls as records -/

/-- The rest beside the buffers: the generator register and the core owing nothing. -/
abbrev Rest (c : Dev nD) : sProp 𝕄 := iprop((∃ r, prngReg c r) ∗ ∃ W, owes (c : Thread nD τ) (0 : CellTallies nD τ sig Unit) W)

/-- The quantising call. -/
def R0 : RDat.RegionSeg (pcfgs (F := F)) adm (Pipeline.toRsF (pcfgs (F := F)) adm (pd m) fg) () defs₀ Variants.none LL lv 0 :=
  RDat.RegionSeg.ofHeldF (pcfgs (F := F)) adm (pd m) () defs₀ Variants.none LL lv 0 (fun _ => 0) fg (K := PEmpty) () (fun k => k.elim)
    (Pipeline.OwnSemFacts.none _) ∅ ∅ (ucRefs τ sig \ arrRefs spec0) (by simp [hbmRefs]) (by simp [hbmRefs]) launch0.toP rfl
    (fun c => (Quant.body_obligation (E0 m) c).loose) (fun _ _ => rfl) (fun _ => rfl)
    (fun c => (Quant.dats (E0 m) 0 c).share_full fun _ => rfl) (fun c => mayWaits c) (V1 m) (fun c A _ => mk0 m c A)
    (fun c A _ hA w => mk0_arr m c A hA w) (fun _ _ _ b hb => absurd hb (Finset.notMem_empty b))
    (fun c A _ d hd => mk0_off m c A d (Finset.mem_sdiff.mp (Finset.mem_sdiff.mp (Finset.mem_sdiff.mp hd).1).1).2)
    (fun c A _ d hd => absurd hd (by simp [hbmRefs]))
    (fun c => by
      show _ ⊢ Pipeline.ΦA spec0 c
      unfold Pipeline.ΦA
      iintro ⟨Hr, Hp, -, -, -, -⟩
      isplitl [Hr]; · iexact Hr
      iexact Hp)
    (fun c => by
      show Pipeline.ΦA spec0 c ⊢ _
      rw [Pipeline.ownSems0_none, BI.bigSep_empty, BI.bigSep_empty]
      unfold Pipeline.ΦA
      iintro ⟨Hr, Hp⟩
      isplitl [Hr]; · iexact Hr
      isplitl [Hp]; · iexact Hp
      isplitr; · iempintro
      isplitr; · iempintro
      iempintro)
    (fun _ => 0) (cut 0) (fun _ => iprop(emp)) (fun c w => Quant.A_eq (E0 m) c w)

/-- The `dx` call. -/
def R1 : RDat.RegionSeg (pcfgs (F := F)) adm (Pipeline.toRsF (pcfgs (F := F)) adm (pd m) fg) () defs₀ Variants.none LL lv 1 :=
  RDat.RegionSeg.ofHeldF (pcfgs (F := F)) adm (pd m) () defs₀ Variants.none LL lv 1 (fun _ => 0) fg (K := PEmpty) () (fun k => k.elim)
    (Pipeline.OwnSemFacts.none _) ∅ ∅ (S' \ arrRefs spec1) (by simp [hbmRefs]) (by simp [hbmRefs]) launch1.toP rfl
    (fun c => (Dx.body_obligation (E1 m) c).loose) (fun _ _ => rfl) (fun _ => rfl)
    (fun c => (Dx.dats (E1 m) 0 c).share_full fun _ => rfl) (fun c => mayWaits c) (W3 m) (fun c _ _ => W4 m c)
    (fun c A _ hA w => (hA w rfl).trans (W4_arr m c w)) (fun _ _ _ b hb => absurd hb (Finset.notMem_empty b))
    (fun c A _ d hd => W4_off m c d (Finset.mem_sdiff.mp (Finset.mem_sdiff.mp (Finset.mem_sdiff.mp hd).1).1).2)
    (fun c A _ d hd => absurd hd (by simp [hbmRefs]))
    (fun c => (show _ ⊢ Pipeline.ΦA spec1 c by
      unfold Pipeline.ΦA
      iintro ⟨Hr, Hp, -, -, -, -⟩
      isplitl [Hr]; · iexact Hr
      iexact Hp).trans (Dx.hin (E1 m) c))
    (fun c => (Dx.hout (E1 m) c).trans (by
      rw [Pipeline.ownSems0_none, BI.bigSep_empty, BI.bigSep_empty]
      unfold Pipeline.ΦA
      iintro ⟨Hr, Hp⟩
      isplitl [Hr]; · iexact Hr
      isplitl [Hp]; · iexact Hp
      isplitr; · iempintro
      isplitr; · iempintro
      iempintro))
    (fun _ => 0) (cut 1) (fun _ => iprop(emp)) (fun c w => Dx.A_eq (E1 m) c w)

theorem arr0_sub : arrRefs (τ := τ) spec0 ⊆ ucRefs τ sig := Pipeline.arrRefs_sub_ucRefs spec0 (by decide)
theorem arr1_sub : arrRefs (τ := τ) spec1 ⊆ S' := fun d hd => by
  obtain ⟨r, hr, rfl⟩ := Finset.mem_map.mp hd
  obtain ⟨w, -, rfl⟩ := Finset.mem_image.mp hr
  exact Pipeline.mem_ucRefsBut loose _ (by revert w; decide) (by revert w; decide)

/-- The host's first lines. -/
def H0 : Pipeline.HostSeg (Ix := Unit) (Name := ℕ) (U := UR sig nD τ) (Lvl := ℕ) (pcfgs (F := F)) defs₀ Variants.none LL lv :=
  Pipeline.HostSeg.ofOps _ _ _ _ _ (ucRefs τ sig) hostOps0
    (fun op h => Pipeline.sub_ucRefs op ((List.forall_iff_forall_mem.mp hostOps0_sub) op h))
    (fun op h => (List.forall_iff_forall_mem.mp hostOps0_fresh) op h) (V0 m) Rest

theorem hostOps1_keep : (hostOps1 : List (HloOp τ sig (Elt F))).Forall fun op => ∀ b ∈ loose, (Proc.devRef .tc b : DevRef τ sig) ∉ op.bufs := by
  refine ⟨?_, ?_, ?_⟩
  · show ∀ b ∈ loose, (Proc.devRef .tc b : DevRef τ sig) ∉ ({(Proc.devRef .tc main_arg3 : DevRef τ sig), Proc.devRef .tc main_v3} : Finset (DevRef τ sig))
    decide
  · show ∀ b ∈ loose, (Proc.devRef .tc b : DevRef τ sig) ∉ ({(Proc.devRef .tc main_v3 : DevRef τ sig), Proc.devRef .tc main_v4} : Finset (DevRef τ sig))
    decide
  · show ∀ b ∈ loose, (Proc.devRef .tc b : DevRef τ sig) ∉ ({(Proc.devRef .tc main_v4 : DevRef τ sig), Proc.devRef .tc main_v5} : Finset (DevRef τ sig))
    decide

/-- The host's lines between the calls. -/
def H1 : Pipeline.HostSeg (Ix := Unit) (Name := ℕ) (U := UR sig nD τ) (Lvl := ℕ) (pcfgs (F := F)) defs₀ Variants.none LL lv :=
  Pipeline.HostSeg.ofOps _ _ _ _ _ S' hostOps1
    (fun op h => Pipeline.sub_ucRefsBut loose op ((List.forall_iff_forall_mem.mp hostOps1_sub) op h) ((List.forall_iff_forall_mem.mp hostOps1_keep) op h))
    (fun op h => (List.forall_iff_forall_mem.mp hostOps1_fresh) op h) (W2 m) Rest

/-- Into the quantising call. -/
theorem pre0 (c : Dev nD) : iprop(StableHlo.held (c : Thread nD τ) (ucRefs τ sig) (V1 m c) ∗ Rest c) ⊢ (R0 m).pre c := by
  show _ ⊢ iprop(StableHlo.held (c.tc : Thread nD τ) (arrRefs spec0) (V1 m c) ∗ (∃ r, prngReg c r)
    ∗ (StableHlo.held (c.tc : Thread nD τ) (ucRefs τ sig \ arrRefs spec0) (V1 m c) ∗ emp) ∗ ∃ Wd, owes (c : Thread nD τ) 0 Wd)
  rw [StableHlo.held_sub_split (c : Thread nD τ) arr0_sub (V1 m c)]
  iintro ⟨⟨Ha, Hr⟩, Hp, Ho⟩
  isplitl [Ha]; · iexact Ha
  isplitl [Hp]; · iexact Hp
  isplitl [Hr]
  · isplitl [Hr]; · iexact Hr
    iempintro
  iexact Ho

/-- Out of it: the unnamed arrays are let go. -/
theorem post0 (c : Dev nD) : (R0 m).post c ⊢ iprop(StableHlo.held (c : Thread nD τ) S' (W2 m c) ∗ Rest c) := by
  show iprop(∃ A g, StableHlo.held (c.tc : Thread nD τ) (arrRefs spec0) (mk0 m c A) ∗ (∃ r, prngReg c r)
    ∗ (StableHlo.held (c.tc : Thread nD τ) (ucRefs τ sig \ arrRefs spec0) (mk0 m c A) ∗ emp) ∗ ∃ Wd, owes (c : Thread nD τ) 0 Wd) ⊢ _
  iintro ⟨%A, %g, Ha, Hp, ⟨Hr, -⟩, Ho⟩
  have hs : (iprop(StableHlo.held (c : Thread nD τ) (arrRefs spec0) (mk0 m c A) ∗ StableHlo.held (c : Thread nD τ) (ucRefs τ sig \ arrRefs spec0) (mk0 m c A)) : sProp 𝕄)
      ⊢ StableHlo.held (c : Thread nD τ) S' (W2 m c) := by
    rw [← StableHlo.held_sub_split (c : Thread nD τ) arr0_sub (mk0 m c A),
      StableHlo.held_sub_split (c : Thread nD τ) (T := S') Finset.sdiff_subset (mk0 m c A),
      StableHlo.held_congr (c : Thread nD τ) (S := S') (V' := W2 m c) (fun d hd => by
        have hn : ∀ b ∈ loose, d ≠ (Proc.devRef .tc b : DevRef τ sig) := fun b hb e =>
          (Finset.mem_sdiff.mp hd).2 (e ▸ Finset.mem_map.mpr ⟨b, hb, rfl⟩)
        unfold mk0
        rw [Function.update_of_ne (hn _ (by decide)), Function.update_of_ne (hn _ (by decide))])]
    iintro ⟨H, -⟩
    iexact H
  isplitl [Ha Hr]
  · iapply hs
    isplitl [Ha] <;> iassumption
  isplitl [Hp] <;> iassumption

/-- Into the `dx` call. -/
theorem pre1 (c : Dev nD) : iprop(StableHlo.held (c : Thread nD τ) S' (W3 m c) ∗ Rest c) ⊢ (R1 m).pre c := by
  show _ ⊢ iprop(StableHlo.held (c.tc : Thread nD τ) (arrRefs spec1) (W3 m c) ∗ (∃ r, prngReg c r)
    ∗ (StableHlo.held (c.tc : Thread nD τ) (S' \ arrRefs spec1) (W3 m c) ∗ emp) ∗ ∃ Wd, owes (c : Thread nD τ) 0 Wd)
  rw [StableHlo.held_sub_split (c : Thread nD τ) arr1_sub (W3 m c)]
  iintro ⟨⟨Ha, Hr⟩, Hp, Ho⟩
  isplitl [Ha]; · iexact Ha
  isplitl [Hp]; · iexact Hp
  isplitl [Hr]
  · isplitl [Hr]; · iexact Hr
    iempintro
  iexact Ho

/-- Out of it. -/
theorem post1 (c : Dev nD) : (R1 m).post c ⊢ iprop(StableHlo.held (c : Thread nD τ) S' (W4 m c)
    ∗ ∃ W, owes (c : Thread nD τ) (0 : CellTallies nD τ sig Unit) W) := by
  show iprop(∃ A g, StableHlo.held (c.tc : Thread nD τ) (arrRefs spec1) (W4 m c) ∗ (∃ r, prngReg c r)
    ∗ (StableHlo.held (c.tc : Thread nD τ) (S' \ arrRefs spec1) (W4 m c) ∗ emp) ∗ ∃ Wd, owes (c : Thread nD τ) 0 Wd) ⊢ _
  rw [StableHlo.held_sub_split (c : Thread nD τ) arr1_sub (W4 m c)]
  iintro ⟨%A, %g, Ha, -, ⟨Hr, -⟩, Ho⟩
  isplitl [Ha Hr]
  · isplitl [Ha] <;> iassumption
  iexact Ho

/-! ## The run -/

/-- What a core is handed at the launch holds what the first lines start from. -/
theorem start (c : Dev nD) : (iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ emp) : sProp 𝕄)
    ⊢ iprop(StableHlo.held (c : Thread nD τ) (ucRefs τ sig) (V0 m c) ∗ Rest c) := by
  rw [← Pipeline.unscopedBufs_held (Ix := Unit) (Name := ℕ) (U := UR sig nD τ) (Lvl := ℕ) c (V0 m c)]
  iintro ⟨Hb, -, Ho, -, Hp, -⟩
  isplitl [Hb]; · iexact Hb
  isplitl [Hp]
  · iexists _; iexact Hp
  iexists _; iexact Ho

set_option backward.isDefEq.respectTransparency.types false in
/-- The whole program runs to its end; every named buffer ends as said and no semaphore is raised. -/
theorem run_main : θ_run defs (onTc (τ := τ) (main (F := F))) ⟨m, fun _ => 0, ρ⟩
    (fun r => (∀ c : Dev nD, ∀ d ∈ S', r.2.mem (c, d) = W4 m c d) ∧ r.2.sem = fun _ => 0) := by
  refine RDat.θ_run_regions_kit_dev_sems (pcfgs (F := F)) adm (Pipeline.toRsF (pcfgs (F := F)) adm (pd m) fg) () cellOf_inj emb₁ defs₀ Variants.none LL lv m ρ main
    (fun _ => [.host (H0 m), .region (R0 m), .host (H1 m), .region (R1 m)])
    (fun c Q => by
      rewrite [main_chain c, RDat.Seg.run_eq_chain]
      exact .rfl)
    (fun c => by simp only [RDat.Seg.pipes_host, RDat.Seg.pipes_region, RDat.Seg.pipes_nil]; decide) (fun _ => 0)
    (fun g hg => by simp [LL, hg]) (fun _ => iprop(emp))
    (initOf (Pipeline.cells cfgs cellOf_inj) (Pipeline.launchToks cfgs cellOf_inj)) ?_
    (T₀ := fun c => iprop(StableHlo.held (c : Thread nD τ) (ucRefs τ sig) (V0 m c) ∗ Rest c))
    (Tₙ := fun c => StableHlo.held (c : Thread nD τ) S' (W4 m c))
    (hch := fun c => ⟨.rfl, pre0 m c, post0 m c, pre1 m c, post1 m c⟩)
    (hinit := ?_) (QY := fun c s => ∀ d ∈ S', s.mem (c, d) = W4 m c d)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (ucRefs τ sig) (V0 m c) ∗ Rest c) : sProp 𝕄) :=
      bigSep_mono fun c _ => start m ρ c
    iintro ⟨H, -⟩
    imodintro
    iapply hsplit
    iexact H
  · unfold StableHlo.held
    iintro ⟨Hh, HSI⟩
    ihave Hr := (pointsTo_read_all S' (fun b => ((c : Thread nD τ).1, b)) (W4 m c) s') $$ [Hh HSI]
    · isplitl [Hh] <;> iassumption
    icases Hr with ⟨%h, HSI⟩
    imodintro
    isplitr
    · ipureintro; exact h
    iexact HSI

/-! ## What the buffers end at -/

theorem W3_of (c : Dev nD) (r : Ref sig .tc) (h : r ∉ hostOps1_W) : W3 m c (Proc.devRef .tc r) = W2 m c (Proc.devRef .tc r) :=
  StableHlo.after_of_writes_sub hostOps1 _ hostOps1_writes h

theorem W2_of (c : Dev nD) (r : Ref sig .tc) (h0 : r ≠ main_v2_0) (h1 : r ≠ main_v2_1) (h4 : r ≠ main_v2_4) :
    W2 m c (Proc.devRef .tc r) = V1 m c (Proc.devRef .tc r) := by
  unfold W2; rw [Function.update_of_ne (ne_dev h4), Function.update_of_ne (ne_dev h1), Function.update_of_ne (ne_dev h0)]

theorem W4_of (c : Dev nD) (r : Ref sig .tc) (h : r ≠ main_v6) : W4 m c (Proc.devRef .tc r) = W3 m c (Proc.devRef .tc r) := by
  unfold W4; rw [Function.update_of_ne (ne_dev h)]

theorem W2_v2_0 (c : Dev nD) : W2 m c (Proc.devRef .tc main_v2_0) = (Quant.dats (E0 m) 0 c).arrAt 2 cfg0.N := by
  unfold W2; rw [Function.update_of_ne (ne_dev (by decide)), Function.update_of_ne (ne_dev (by decide)), Function.update_self]
theorem W2_v2_1 (c : Dev nD) : W2 m c (Proc.devRef .tc main_v2_1) = (Quant.dats (E0 m) 0 c).arrAt 3 cfg0.N := by
  unfold W2; rw [Function.update_of_ne (ne_dev (by decide)), Function.update_self]
theorem W2_v2_4 (c : Dev nD) : W2 m c (Proc.devRef .tc main_v2_4) = (Quant.dats (E0 m) 0 c).arrAt 6 cfg0.N := by
  unfold W2; rw [Function.update_self]

/-- An argument is what it was, all along. -/
theorem W4_arg (c : Dev nD) (r : Ref sig .tc) (h : r ∈ ([main_arg0, main_arg1, main_arg2, main_arg3] : List (Ref sig .tc))) :
    W4 m c (Proc.devRef .tc r) = m ((c : Thread nD τ).loc r) := by
  have key : ∀ r : Ref sig .tc, r ∈ ([main_arg0, main_arg1, main_arg2, main_arg3] : List (Ref sig .tc)) →
      r ≠ main_v6 ∧ r ∉ hostOps1_W ∧ r ≠ main_v2_0 ∧ r ≠ main_v2_1 ∧ r ≠ main_v2_4 ∧ r ∉ hostOps0_W := by decide
  obtain ⟨k1, k2, k3, k4, k5, k6⟩ := key r h
  exact (W4_of m c r k1).trans ((W3_of m c r k2).trans ((W2_of m c r k3 k4 k5).trans ((V1_of m c r k6).trans rfl)))

theorem mem_S' (r : Ref sig .tc) (h1 : r.isScoped = false) (h2 : r ∉ loose) : (Proc.devRef .tc r : DevRef τ sig) ∈ S' :=
  Pipeline.mem_ucRefsBut loose r (fun h => Bool.false_ne_true (h1.symm.trans h)) h2

/-- The frame: the arguments end unchanged and no semaphore is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c _ (mem_S' main_arg0 (by decide) (by decide))).trans (W4_arg m c main_arg0 (by decide)),
      (h.1 c _ (mem_S' main_arg1 (by decide) (by decide))).trans (W4_arg m c main_arg1 (by decide)),
      (h.1 c _ (mem_S' main_arg2 (by decide) (by decide))).trans (W4_arg m c main_arg2 (by decide)),
      (h.1 c _ (mem_S' main_arg3 (by decide) (by decide))).trans (W4_arg m c main_arg3 (by decide))⟩, h.2⟩) (run_main m ρ)

/-- The run, its four results named: each array ends at what the points write back. -/
theorem run : θ_run defs (onTc (τ := τ) (main (F := F))) ⟨m, fun _ => 0, ρ⟩ (fun r => ∀ c : Dev nD,
      (r.2.mem ((c.tc : Thread nD τ).loc main_v6) = (Dx.dats (E1 m) 0 c).arrAt 5 cfg1.N
      ∧ r.2.mem ((c.tc : Thread nD τ).loc main_v2_0) = (Quant.dats (E0 m) 0 c).arrAt 2 cfg0.N
      ∧ r.2.mem ((c.tc : Thread nD τ).loc main_v2_1) = (Quant.dats (E0 m) 0 c).arrAt 3 cfg0.N
      ∧ r.2.mem ((c.tc : Thread nD τ).loc main_v2_4) = (Quant.dats (E0 m) 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨⟨(h.1 c _ (mem_S' main_v6 (by decide) (by decide))).trans (by unfold W4; rw [Function.update_self]),
      (h.1 c _ (mem_S' main_v2_0 (by decide) (by decide))).trans ((W4_of m c _ (by decide)).trans ((W3_of m c _ (by decide)).trans (W2_v2_0 m c))),
      (h.1 c _ (mem_S' main_v2_1 (by decide) (by decide))).trans ((W4_of m c _ (by decide)).trans ((W3_of m c _ (by decide)).trans (W2_v2_1 m c))),
      (h.1 c _ (mem_S' main_v2_4 (by decide) (by decide))).trans ((W4_of m c _ (by decide)).trans ((W3_of m c _ (by decide)).trans (W2_v2_4 m c)))⟩,
      (h.1 c _ (mem_S' main_arg0 (by decide) (by decide))).trans (W4_arg m c main_arg0 (by decide)),
      (h.1 c _ (mem_S' main_arg1 (by decide) (by decide))).trans (W4_arg m c main_arg1 (by decide)),
      (h.1 c _ (mem_S' main_arg2 (by decide) (by decide))).trans (W4_arg m c main_arg2 (by decide)),
      (h.1 c _ (mem_S' main_arg3 (by decide) (by decide))).trans (W4_arg m c main_arg3 (by decide))⟩) (run_main m ρ)

end Cert.BothIdeal.Joint

end
-- ==== Proof.BothQBody.lean ====
module

public import proofs.«01_k».proof.Proof.BothQFrameI
public import proofs.«01_k».proof.Proof.QRow
public import proofs.«01_k».proof.Proof.QSum
public import Idealize.ShloMosaic.Lib.Pointwise
public import Idealize.ShloMosaic.Lib.Pipeline.ValueKit.Tiles

@[expose] public section

set_option maxRecDepth 8192

noncomputable section

/-! The quantiser's body, read at an index: the three loops over the columns, and what they leave of the codes and of the
    row figures. -/

namespace Cert.BothQuant

open Cert.BothIdeal Cert.BothIdeal.Gen Cert.BothIdeal.Quant Idealize.ShloMosaic Idealize.ShloMosaic.TcCoe
open scoped BigOperators

/-! ## The body's operations, as arrays -/

/-- A block's codes at a scale, as numbers. -/
abbrev codeV (s v : FVec Ideal S32x128 .f32) : FVec Ideal S32x128 .f32 :=
  minimumf (broadcast S32x128 (Scalar.ofBits .f32 0x40E00000#32)) (maximumf (broadcast S32x128 (Scalar.ofBits .f32 0xC0E00000#32)) (roundeven (divf v s)))
/-- A block of the gradient. -/
abbrev extV (a : FVec Ideal S32x128 .bf16) : FVec Ideal S32x128 .f32 :=
  extf .f32 (shapeCast S32x128 a shapeCasts_S32x128_S32x128 : FVec Ideal S32x128 .bf16) bitsLt_bf16_f32
/-- What the first codes leave of a block. -/
abbrev restV (s : FVec Ideal S32x128 .f32) (a : FVec Ideal S32x128 .bf16) : FVec Ideal S32x128 .f32 :=
  subf (extV a) (mulf (codeV s (extV a)) s)
/-- The block's squared codes. -/
abbrev sqV (s v : FVec Ideal S32x128 .f32) : FVec Ideal S32x128 .f32 := mulf (codeV s v) (codeV s v)
/-- The squares of a block of packed integers. -/
abbrev packV (a : IVec S32x128 8) : FVec Ideal S32x128 .f32 :=
  sitofp .f32 (addi
    (muli (shrsi (shli (extui 32 (shapeCast S32x128 a shapeCasts_S32x128_S32x128 : IVec S32x128 8) natLt_8_32) (broadcast S32x128 28#32)) (broadcast S32x128 28#32))
      (shrsi (shli (extui 32 (shapeCast S32x128 a shapeCasts_S32x128_S32x128 : IVec S32x128 8) natLt_8_32) (broadcast S32x128 28#32)) (broadcast S32x128 28#32)))
    (muli (shrsi (shli (extui 32 (shapeCast S32x128 a shapeCasts_S32x128_S32x128 : IVec S32x128 8) natLt_8_32) (broadcast S32x128 24#32)) (broadcast S32x128 28#32))
      (shrsi (shli (extui 32 (shapeCast S32x128 a shapeCasts_S32x128_S32x128 : IVec S32x128 8) natLt_8_32) (broadcast S32x128 24#32)) (broadcast S32x128 28#32))))

theorem codeV_apply (s v : FVec Ideal S32x128 .f32) (x : S32x128.Idx) : codeV s v x = Quant.code (v x) (s x) := by
  unfold codeV
  pointwise
  rw [Quant.ofBits_seven, Quant.ofBits_neg_seven]
  rfl
theorem extV_apply (a : FVec Ideal S32x128 .bf16) (x : S32x128.Idx) : extV a x = a x := by
  unfold extV
  pointwise
theorem restV_apply (s : FVec Ideal S32x128 .f32) (a : FVec Ideal S32x128 .bf16) (x : S32x128.Idx) :
    restV s a x = a x - Quant.code (a x) (s x) * s x := by
  show extV a x - codeV s (extV a) x * s x = _
  rw [codeV_apply, extV_apply]
theorem sqV_apply (s v : FVec Ideal S32x128 .f32) (x : S32x128.Idx) : sqV s v x = Quant.code (v x) (s x) * Quant.code (v x) (s x) := by
  show codeV s v x * codeV s v x = _
  rw [codeV_apply]
/-- The squares of a packed byte's halves, by the body's shifts. -/
theorem pack_word : ∀ b : BitVec 8,
    ((((b.setWidth 32 <<< 28).sshiftRight 28) * ((b.setWidth 32 <<< 28).sshiftRight 28) + ((b.setWidth 32 <<< 24).sshiftRight 28) * ((b.setWidth 32 <<< 24).sshiftRight 28)).toInt)
      = Quant.low b * Quant.low b + Quant.high b * Quant.high b := by decide +kernel
theorem packV_apply (a : IVec S32x128 8) (x : S32x128.Idx) :
    packV a x = (((Quant.low (a x) * Quant.low (a x) + Quant.high (a x) * Quant.high (a x) : ℤ) : ℝ) : EReal) := by
  unfold packV
  pointwise
  exact congrArg (fun n : Int => (((n : ℝ)) : EReal)) (pack_word _)

/-- One trip of the maximum. -/
theorem pay47_apply (acc a b d e : FVec Ideal S32x128 .bf16) (x : S32x128.Idx) :
    k0_pay47 (F := Ideal) acc a b d e x = max (max (max (max (acc x) (Quant.mag (a x))) (Quant.mag (b x))) (Quant.mag (d x))) (Quant.mag (e x)) := by
  unfold k0_pay47
  pointwise
  rfl
/-- The first scale from the lanes' maxima. -/
theorem pay48_apply (a : FVec Ideal S32x128 .bf16) (r : Fin 32) (k : Fin 1) :
    k0_pay48 (F := Ideal) a (ix2 r k) = Quant.scale ((Finset.univ : Finset (Fin 128)).fold max ⊥ fun l => a (ix2 r l)) := by
  unfold k0_pay48
  pointwise
  rw [Quant.ofBits_bot, Quant.ofBits_seven]
  rfl
/-- The same scale on every lane. -/
theorem pay49_apply (a : FVec Ideal S32x128 .bf16) (r : Fin 32) (l : Fin 128) :
    k0_pay49 (F := Ideal) a (ix2 r l) = k0_pay48 (F := Ideal) a (ix2 r 0) := by
  unfold k0_pay49
  pointwise
/-- The second scale from the lanes' maxima. -/
theorem pay51_apply (a : FVec Ideal S32x128 .f32) (r : Fin 32) (k : Fin 1) :
    k0_pay51 (F := Ideal) a (ix2 r k) = Quant.scale ((Finset.univ : Finset (Fin 128)).fold max ⊥ fun l => a (ix2 r l)) := by
  unfold k0_pay51
  pointwise
  rw [Quant.ofBits_bot, Quant.ofBits_seven]
  rfl
/-- The same scale on every lane. -/
theorem pay52_apply (a : FVec Ideal S32x128 .f32) (r : Fin 32) (l : Fin 128) :
    k0_pay52 (F := Ideal) a (ix2 r l) = k0_pay51 (F := Ideal) a (ix2 r 0) := by
  unfold k0_pay52
  pointwise
/-- A block recast to its own shape. -/
theorem same_apply (a : FVec Ideal S32x128 .f32) (x : S32x128.Idx) : (shapeCast S32x128 a shapeCasts_S32x128_S32x128 : FVec Ideal S32x128 .f32) x = a x := by
  pointwise
/-- Zeros. -/
theorem pay45_apply (x : S32x128.Idx) : k0_pay45 (F := Ideal) x = 0 := by
  unfold k0_pay45
  pointwise
theorem pay46_apply (x : S32x128.Idx) : k0_pay46 (F := Ideal) x = 0 := by
  unfold k0_pay46
  pointwise
/-- A comparison of two lane numbers. -/
theorem lane_eq : ∀ k n : Fin 128, IntOp.cmpi CmpIPredicate.eq (BitVec.ofNat 32 k.val) (BitVec.ofNat 32 n.val) = if k.val = n.val then 1#1 else 0#1 := by decide +kernel
/-- A choice by a lane number. -/
theorem sel (k : Fin 128) (n : ℕ) (a b : EReal) (hn : n < 128 := by decide) : Scalar.select (IntOp.cmpi CmpIPredicate.eq (BitVec.ofNat 32 k.val) (BitVec.ofNat 32 n)) a b = if k.val = n then a else b := by
  rw [show IntOp.cmpi CmpIPredicate.eq (BitVec.ofNat 32 k.val) (BitVec.ofNat 32 n) = if k.val = n then 1#1 else 0#1 from lane_eq k ⟨n, hn⟩]
  by_cases h : k.val = n
  · rw [if_pos h, if_pos h]; rfl
  · rw [if_neg h, if_neg h]; rfl
/-- The row figures from the scales and the lanes' sums. -/
theorem pay1_apply (z : FVec Ideal S32x128 .f32) (a : FVec Ideal S32x1 .f32) (b : FVec Ideal S32x128 .f32) (d : FVec Ideal S32x1 .f32) (e f : FVec Ideal S32x128 .f32) (r : Fin 32) (k : Fin 128) :
    k0_pay1 (F := Ideal) z a b d e f (ix2 r k) = if k.val = 0 then a (ix2 r 0) else if k.val = 1 then d (ix2 r 0) else if k.val = 2 then ∑ l : Fin 128, b (ix2 r l)
      else if k.val = 3 then ∑ l : Fin 128, e (ix2 r l) else if k.val = 4 then ∑ l : Fin 128, f (ix2 r l) else z (ix2 r k) := by
  unfold k0_pay1
  pointwise
  rw [sel k 4, sel k 3, sel k 2, sel k 1, sel k 0]
  by_cases h : k.val < 5
  · have : k.val = 0 ∨ k.val = 1 ∨ k.val = 2 ∨ k.val = 3 ∨ k.val = 4 := by omega
    rcases this with e | e | e | e | e <;> simp [e]
  · have n0 : ¬ k.val = 0 := by omega
    have n1 : ¬ k.val = 1 := by omega
    have n2 : ¬ k.val = 2 := by omega
    have n3 : ¬ k.val = 3 := by omega
    have n4 : ¬ k.val = 4 := by omega
    simp only [if_neg n0, if_neg n1, if_neg n2, if_neg n3, if_neg n4]

/-! ## The loads -/

/-- A rectangle of 128 columns at an index. -/
theorem emb_at (off : Fin 2 → ℕ) (inb : ∀ a, off a + S32x128.size a ≤ S32x18944.size a)
    (n : ℕ) (h0 : off 0 = 0) (h1 : off 1 = n) (r : Fin 32) (l : Fin 128) (hn : n + l.val < 18944) :
    (Rect.unit (s := S32x18944) off S32x128.size inb).emb (ix2 r l) = ix2 r ⟨n + l.val, hn⟩ := by
  have e0 : ((Rect.unit (s := S32x18944) off S32x128.size inb).emb (ix2 r l) 0).val = r.val :=
    (Rect.idx_unit_val (s := S32x18944) off S32x128.size inb (ix2 r l) 0).trans (by rw [h0]; exact Nat.zero_add _)
  have e1 : ((Rect.unit (s := S32x18944) off S32x128.size inb).emb (ix2 r l) 1).val = n + l.val :=
    (Rect.idx_unit_val (s := S32x18944) off S32x128.size inb (ix2 r l) 1).trans (by rw [h1]; rfl)
  funext a
  fin_cases a
  · exact Fin.ext e0
  · exact Fin.ext e1

/-- A load of 128 columns at an index. -/
theorem load_at {e : EltTy} (arg : Memref sig .tc .vmem S32x18944 e) (X : BufTy.Contents (Elt Ideal) arg.view.ty) (off : Fin 2 → ℕ) (inb : ∀ a, off a + S32x128.size a ≤ S32x18944.size a)
    (n : ℕ) (h0 : off 0 = 0) (h1 : off 1 = n) (r : Fin 32) (l : Fin 128) (hn : n + l.val < 18944) :
    arg.view.readAt (Elt Ideal) (Rect.unit (s := S32x18944) off S32x128.size inb).toLoadRect X (ix2 r l) = arg.view.read (Elt Ideal) X (ix2 r ⟨n + l.val, hn⟩) :=
  congrArg (arg.view.read (Elt Ideal) X) (emb_at off inb n h0 h1 r l hn)

variable (𝒱 : Variants) (c : Dev nD) (bd : Option 𝒱.V) (i : grid0.Coords) (arg1 : Memref sig .tc .vmem S32x18944 .bf16) (harg1 : arg1.IsWhole) (arg2 : Memref sig .tc .vmem S32x1792 .i8) (harg2 : arg2.IsWhole) (arg3 : Memref sig .tc .vmem S32x18944 .i8) (harg3 : arg3.IsWhole) (arg4 : Memref sig .tc .vmem S32x18944 .i8) (harg4 : arg4.IsWhole) (arg5 : Memref sig .tc .vmem S1280x128 .i32) (harg5 : arg5.IsWhole) (arg6 : Memref sig .tc .vmem S256x128 .i32) (harg6 : arg6.IsWhole) (arg7 : Memref sig .tc .vmem S32x128 .f32) (harg7 : arg7.IsWhole) (arg8 : Memref sig .tc .vmem S32x18944 .f32) (harg8 : arg8.IsWhole)

/-! ## The trips, as arrays -/

/-- A load of loop 1. -/
abbrev ld1 {e : EltTy} (arg : Memref sig .tc .vmem S32x18944 e) (X : BufTy.Contents (Elt Ideal) arg.view.ty) (k : Fin k0_t1_loop.trips) (b : Fin 4) : Vec Ideal S32x128 e :=
  arg.view.readAt (Elt Ideal) (Rect.unit (s := S32x18944) (k0_off1 k (BitVec.ofNat 32 (4736 * b.val))) S32x128.size (k0_off1_inb k b)).toLoadRect X
/-- Its rectangle. -/
abbrev rc1 (k : Fin k0_t1_loop.trips) (b : Fin 4) : Rect S32x18944 := Rect.unit (s := S32x18944) (k0_off1 k (BitVec.ofNat 32 (4736 * b.val))) S32x128.size (k0_off1_inb k b)
theorem hk1 (k : Fin k0_t1_loop.trips) : k.val < 37 := Nat.lt_of_lt_of_le k.isLt k0_t1_abs.2.1
/-- The load at an index. -/
theorem ld1_apply {e : EltTy} (arg : Memref sig .tc .vmem S32x18944 e) (X : BufTy.Contents (Elt Ideal) arg.view.ty) (k : Fin k0_t1_loop.trips) (b : Fin 4) (r : Fin 32) (l : Fin 128) (hn : 4736 * b.val + 128 * k.val + l.val < 18944) :
    ld1 arg X k b (ix2 r l) = arg.view.read (Elt Ideal) X (ix2 r ⟨4736 * b.val + 128 * k.val + l.val, hn⟩) :=
  load_at arg X _ _ _ (by rw [k0_off1_eq]; rfl) (by rw [k0_off1_eq]; rfl) r l hn
/-- The rectangle at an index. -/
theorem rc1_apply (k : Fin k0_t1_loop.trips) (b : Fin 4) (r : Fin 32) (l : Fin 128) (hn : 4736 * b.val + 128 * k.val + l.val < 18944) :
    (rc1 k b).emb (ix2 r l) = ix2 r ⟨4736 * b.val + 128 * k.val + l.val, hn⟩ :=
  emb_at _ _ _ (by rw [k0_off1_eq]; rfl) (by rw [k0_off1_eq]; rfl) r l hn

/-- A load of loop 2. -/
abbrev ld2 {e : EltTy} (arg : Memref sig .tc .vmem S32x18944 e) (X : BufTy.Contents (Elt Ideal) arg.view.ty) (k : Fin k0_t2_loop.trips) (b : Fin 4) : Vec Ideal S32x128 e :=
  arg.view.readAt (Elt Ideal) (Rect.unit (s := S32x18944) (k0_off2 k (BitVec.ofNat 32 (4736 * b.val))) S32x128.size (k0_off2_inb k b)).toLoadRect X
/-- Its rectangle. -/
abbrev rc2 (k : Fin k0_t2_loop.trips) (b : Fin 4) : Rect S32x18944 := Rect.unit (s := S32x18944) (k0_off2 k (BitVec.ofNat 32 (4736 * b.val))) S32x128.size (k0_off2_inb k b)
theorem hk2 (k : Fin k0_t2_loop.trips) : k.val < 37 := Nat.lt_of_lt_of_le k.isLt k0_t2_abs.2.1
/-- The load at an index. -/
theorem ld2_apply {e : EltTy} (arg : Memref sig .tc .vmem S32x18944 e) (X : BufTy.Contents (Elt Ideal) arg.view.ty) (k : Fin k0_t2_loop.trips) (b : Fin 4) (r : Fin 32) (l : Fin 128) (hn : 4736 * b.val + 128 * k.val + l.val < 18944) :
    ld2 arg X k b (ix2 r l) = arg.view.read (Elt Ideal) X (ix2 r ⟨4736 * b.val + 128 * k.val + l.val, hn⟩) :=
  load_at arg X _ _ _ (by rw [k0_off2_eq]; rfl) (by rw [k0_off2_eq]; rfl) r l hn
/-- The rectangle at an index. -/
theorem rc2_apply (k : Fin k0_t2_loop.trips) (b : Fin 4) (r : Fin 32) (l : Fin 128) (hn : 4736 * b.val + 128 * k.val + l.val < 18944) :
    (rc2 k b).emb (ix2 r l) = ix2 r ⟨4736 * b.val + 128 * k.val + l.val, hn⟩ :=
  emb_at _ _ _ (by rw [k0_off2_eq]; rfl) (by rw [k0_off2_eq]; rfl) r l hn

/-- A load of loop 3. -/
abbrev ld3 {e : EltTy} (arg : Memref sig .tc .vmem S32x18944 e) (X : BufTy.Contents (Elt Ideal) arg.view.ty) (k : Fin k0_t3_loop.trips) (b : Fin 4) : Vec Ideal S32x128 e :=
  arg.view.readAt (Elt Ideal) (Rect.unit (s := S32x18944) (k0_off3 k (BitVec.ofNat 32 (4736 * b.val))) S32x128.size (k0_off3_inb k b)).toLoadRect X
/-- Its rectangle. -/
abbrev rc3 (k : Fin k0_t3_loop.trips) (b : Fin 4) : Rect S32x18944 := Rect.unit (s := S32x18944) (k0_off3 k (BitVec.ofNat 32 (4736 * b.val))) S32x128.size (k0_off3_inb k b)
theorem hk3 (k : Fin k0_t3_loop.trips) : k.val < 37 := Nat.lt_of_lt_of_le k.isLt k0_t3_abs.2.1
/-- The load at an index. -/
theorem ld3_apply {e : EltTy} (arg : Memref sig .tc .vmem S32x18944 e) (X : BufTy.Contents (Elt Ideal) arg.view.ty) (k : Fin k0_t3_loop.trips) (b : Fin 4) (r : Fin 32) (l : Fin 128) (hn : 4736 * b.val + 128 * k.val + l.val < 18944) :
    ld3 arg X k b (ix2 r l) = arg.view.read (Elt Ideal) X (ix2 r ⟨4736 * b.val + 128 * k.val + l.val, hn⟩) :=
  load_at arg X _ _ _ (by rw [k0_off3_eq]; rfl) (by rw [k0_off3_eq]; rfl) r l hn
/-- The rectangle at an index. -/
theorem rc3_apply (k : Fin k0_t3_loop.trips) (b : Fin 4) (r : Fin 32) (l : Fin 128) (hn : 4736 * b.val + 128 * k.val + l.val < 18944) :
    (rc3 k b).emb (ix2 r l) = ix2 r ⟨4736 * b.val + 128 * k.val + l.val, hn⟩ :=
  emb_at _ _ _ (by rw [k0_off3_eq]; rfl) (by rw [k0_off3_eq]; rfl) r l hn

theorem trip1_eq (X : BufTy.Contents (Elt Ideal) arg1.view.ty) (k : Fin k0_t1_loop.trips) (acc : FVec Ideal S32x128 .bf16) :
    tripR_k0_t1 (F := Ideal) 𝒱 c bd i arg1 harg1 arg2 harg2 arg3 harg3 arg4 harg4 arg5 harg5 arg6 harg6 arg7 harg7 arg8 harg8 X k acc = k0_pay47 (F := Ideal) acc (ld1 arg1 X k 0) (ld1 arg1 X k 1) (ld1 arg1 X k 2) (ld1 arg1 X k 3) := by
  unfold tripR_k0_t1 trip_k0_t1
  rfl

theorem trip2_eqR (X : BufTy.Contents (Elt Ideal) arg1.view.ty) (v3 : FVec Ideal S32x128 .bf16) (k : Fin k0_t2_loop.trips) (acc : FVec Ideal S32x128 .f32 × FVec Ideal S32x128 .f32) :
    tripR_k0_t2 (F := Ideal) 𝒱 c bd i arg1 harg1 arg2 harg2 arg3 harg3 arg4 harg4 arg5 harg5 arg6 harg6 arg7 harg7 arg8 harg8 v3 X k acc
      = (maximumf (maximumf (maximumf (maximumf acc.1 (absf (restV (k0_pay49 v3) (ld2 arg1 X k 0)))) (absf (restV (k0_pay49 v3) (ld2 arg1 X k 1)))) (absf (restV (k0_pay49 v3) (ld2 arg1 X k 2)))) (absf (restV (k0_pay49 v3) (ld2 arg1 X k 3))),
         addf (addf (addf (addf acc.2 (sqV (k0_pay49 v3) (extV (ld2 arg1 X k 0)))) (sqV (k0_pay49 v3) (extV (ld2 arg1 X k 1)))) (sqV (k0_pay49 v3) (extV (ld2 arg1 X k 2)))) (sqV (k0_pay49 v3) (extV (ld2 arg1 X k 3)))) := by
  unfold tripR_k0_t2 trip_k0_t2
  rfl

theorem trip2_eqL (X : BufTy.Contents (Elt Ideal) arg1.view.ty) (v3 : FVec Ideal S32x128 .bf16) (k : Fin k0_t2_loop.trips) (acc : FVec Ideal S32x128 .f32 × FVec Ideal S32x128 .f32) :
    tripL_k0_t2 (F := Ideal) 𝒱 c bd i arg1 harg1 arg2 harg2 arg3 harg3 arg4 harg4 arg5 harg5 arg6 harg6 arg7 harg7 arg8 harg8 v3 X k acc
      = ([⟨rc2 k 3, fptosi 8 (codeV (k0_pay49 v3) (extV (ld2 arg1 X k 3)))⟩, ⟨rc2 k 2, fptosi 8 (codeV (k0_pay49 v3) (extV (ld2 arg1 X k 2)))⟩,
          ⟨rc2 k 1, fptosi 8 (codeV (k0_pay49 v3) (extV (ld2 arg1 X k 1)))⟩, ⟨rc2 k 0, fptosi 8 (codeV (k0_pay49 v3) (extV (ld2 arg1 X k 0)))⟩],
         [⟨rc2 k 3, shapeCast S32x128 (restV (k0_pay49 v3) (ld2 arg1 X k 3)) shapeCasts_S32x128_S32x128⟩, ⟨rc2 k 2, shapeCast S32x128 (restV (k0_pay49 v3) (ld2 arg1 X k 2)) shapeCasts_S32x128_S32x128⟩,
          ⟨rc2 k 1, shapeCast S32x128 (restV (k0_pay49 v3) (ld2 arg1 X k 1)) shapeCasts_S32x128_S32x128⟩, ⟨rc2 k 0, shapeCast S32x128 (restV (k0_pay49 v3) (ld2 arg1 X k 0)) shapeCasts_S32x128_S32x128⟩]) := by
  unfold tripL_k0_t2 trip_k0_t2
  rfl

theorem trip3_eqR (v16 : FVec Ideal S32x128 .f32) (X3 : BufTy.Contents (Elt Ideal) arg3.view.ty) (X8 : BufTy.Contents (Elt Ideal) arg8.view.ty) (k : Fin k0_t3_loop.trips) (acc : FVec Ideal S32x128 .f32) :
    Low.tripR (F := Ideal) 𝒱 c bd i arg1 harg1 arg2 harg2 arg3 harg3 arg4 harg4 arg5 harg5 arg6 harg6 arg7 harg7 arg8 harg8 v16 X3 X8 k acc
      = addf (addf (addf (addf acc (sqV (k0_pay52 v16) (ld3 arg8 X8 k 0))) (sqV (k0_pay52 v16) (ld3 arg8 X8 k 1))) (sqV (k0_pay52 v16) (ld3 arg8 X8 k 2))) (sqV (k0_pay52 v16) (ld3 arg8 X8 k 3)) := by
  unfold Low.tripR Low.trip
  rfl

theorem trip3_eqL (v16 : FVec Ideal S32x128 .f32) (X3 : BufTy.Contents (Elt Ideal) arg3.view.ty) (X8 : BufTy.Contents (Elt Ideal) arg8.view.ty) (k : Fin k0_t3_loop.trips) (acc : FVec Ideal S32x128 .f32) :
    Low.tripL (F := Ideal) 𝒱 c bd i arg1 harg1 arg2 harg2 arg3 harg3 arg4 harg4 arg5 harg5 arg6 harg6 arg7 harg7 arg8 harg8 v16 X3 X8 k acc
      = [⟨rc3 k 3, fptosi 8 (codeV (k0_pay52 v16) (ld3 arg8 X8 k 3))⟩, ⟨rc3 k 2, fptosi 8 (codeV (k0_pay52 v16) (ld3 arg8 X8 k 2))⟩,
         ⟨rc3 k 1, fptosi 8 (codeV (k0_pay52 v16) (ld3 arg8 X8 k 1))⟩, ⟨rc3 k 0, fptosi 8 (codeV (k0_pay52 v16) (ld3 arg8 X8 k 0))⟩] := by
  unfold Low.tripL Low.trip
  rfl

theorem chain_eq (x1 : Vec Ideal S32x1792 .i8) :
    kernelRun.sl.r_27 (F := Ideal) c arg2 harg2 x1 = addf (addf (addf (addf (addf (addf (addf (addf (addf (addf (addf (addf (addf (addf k0_pay45 (packV (arg2.view.readAt (Elt Ideal) (Rect.unit (s := S32x1792) ![0, 0] S32x128.size inb_S32x1792_S32x128_0_0).toLoadRect (harg2.unread x1)))) (packV (arg2.view.readAt (Elt Ideal) (Rect.unit (s := S32x1792) ![0, 128] S32x128.size inb_S32x1792_S32x128_0_128).toLoadRect (harg2.unread x1)))) (packV (arg2.view.readAt (Elt Ideal) (Rect.unit (s := S32x1792) ![0, 256] S32x128.size inb_S32x1792_S32x128_0_256).toLoadRect (harg2.unread x1)))) (packV (arg2.view.readAt (Elt Ideal) (Rect.unit (s := S32x1792) ![0, 384] S32x128.size inb_S32x1792_S32x128_0_384).toLoadRect (harg2.unread x1)))) (packV (arg2.view.readAt (Elt Ideal) (Rect.unit (s := S32x1792) ![0, 512] S32x128.size inb_S32x1792_S32x128_0_512).toLoadRect (harg2.unread x1)))) (packV (arg2.view.readAt (Elt Ideal) (Rect.unit (s := S32x1792) ![0, 640] S32x128.size inb_S32x1792_S32x128_0_640).toLoadRect (harg2.unread x1)))) (packV (arg2.view.readAt (Elt Ideal) (Rect.unit (s := S32x1792) ![0, 768] S32x128.size inb_S32x1792_S32x128_0_768).toLoadRect (harg2.unread x1)))) (packV (arg2.view.readAt (Elt Ideal) (Rect.unit (s := S32x1792) ![0, 896] S32x128.size inb_S32x1792_S32x128_0_896).toLoadRect (harg2.unread x1)))) (packV (arg2.view.readAt (Elt Ideal) (Rect.unit (s := S32x1792) ![0, 1024] S32x128.size inb_S32x1792_S32x128_0_1024).toLoadRect (harg2.unread x1)))) (packV (arg2.view.readAt (Elt Ideal) (Rect.unit (s := S32x1792) ![0, 1152] S32x128.size inb_S32x1792_S32x128_0_1152).toLoadRect (harg2.unread x1)))) (packV (arg2.view.readAt (Elt Ideal) (Rect.unit (s := S32x1792) ![0, 1280] S32x128.size inb_S32x1792_S32x128_0_1280).toLoadRect (harg2.unread x1)))) (packV (arg2.view.readAt (Elt Ideal) (Rect.unit (s := S32x1792) ![0, 1408] S32x128.size inb_S32x1792_S32x128_0_1408).toLoadRect (harg2.unread x1)))) (packV (arg2.view.readAt (Elt Ideal) (Rect.unit (s := S32x1792) ![0, 1536] S32x128.size inb_S32x1792_S32x128_0_1536).toLoadRect (harg2.unread x1)))) (packV (arg2.view.readAt (Elt Ideal) (Rect.unit (s := S32x1792) ![0, 1664] S32x128.size inb_S32x1792_S32x128_0_1664).toLoadRect (harg2.unread x1))) := rfl

/-! ## What the loops leave -/

/-- Row `r` of a block. -/
abbrev row (x : Vec Ideal S32x18944 .f32) (r : Fin 32) (o : Fin 18944) : EReal := x (ix2 r o)
/-- The block's first codes. -/
def hiB (x : Vec Ideal S32x18944 .f32) : Vec Ideal S32x18944 .i8 := fun y => Quant.bits (x y) (Quant.sHi (row x (y 0)))
/-- What they leave. -/
def restB (x : Vec Ideal S32x18944 .f32) : Vec Ideal S32x18944 .f32 := fun y => Quant.rest (row x (y 0)) (y 1)
/-- The block's second codes. -/
def loB (x : Vec Ideal S32x18944 .f32) : Vec Ideal S32x18944 .i8 := fun y => Quant.bits (Quant.rest (row x (y 0)) (y 1)) (Quant.sLo (row x (y 0)))

section loops
variable (x0 : Vec Ideal S32x18944 .bf16)

theorem ld1_tot (k : Fin k0_t1_loop.trips) (b : Fin 4) (r : Fin 32) (l : Fin 128) :
    ld1 arg1 (harg1.unread x0) k b (ix2 r l) = Quant.tot (row x0 r) (4736 * b.val + 128 * k.val + l.val) := by
  have hn : 4736 * b.val + 128 * k.val + l.val < 18944 := by have := hk1 k; have := b.isLt; have := l.isLt; omega
  exact (ld1_apply arg1 _ k b r l hn).trans ((congrFun (harg1.read_unread x0) _).trans (Quant.tot_of (row x0 r) _ hn).symm)
theorem ld2_tot (k : Fin k0_t2_loop.trips) (b : Fin 4) (r : Fin 32) (l : Fin 128) :
    ld2 arg1 (harg1.unread x0) k b (ix2 r l) = Quant.tot (row x0 r) (4736 * b.val + 128 * k.val + l.val) := by
  have hn : 4736 * b.val + 128 * k.val + l.val < 18944 := by have := hk2 k; have := b.isLt; have := l.isLt; omega
  exact (ld2_apply arg1 _ k b r l hn).trans ((congrFun (harg1.read_unread x0) _).trans (Quant.tot_of (row x0 r) _ hn).symm)

/-- The first loop: a lane's greatest magnitude so far. -/
theorem loop1 : ∀ k : ℕ, k ≤ k0_t1_loop.trips → ∀ (r : Fin 32) (l : Fin 128),
    st_k0_t1 (F := Ideal) 𝒱 c bd i arg1 harg1 arg2 harg2 arg3 harg3 arg4 harg4 arg5 harg5 arg6 harg6 arg7 harg7 arg8 harg8 (harg1.unread x0) k0_pay46 k (ix2 r l) = Quant.colMax (fun n => Quant.mag (Quant.tot (row x0 r) n)) l.val k
  | 0, _, r, l => pay46_apply (ix2 r l)
  | k + 1, hk, r, l => by
    rw [st_k0_t1_succ (F := Ideal) 𝒱 c bd i arg1 harg1 arg2 harg2 arg3 harg3 arg4 harg4 arg5 harg5 arg6 harg6 arg7 harg7 arg8 harg8 (harg1.unread x0) k0_pay46 ⟨k, hk⟩, trip1_eq, pay47_apply]
    rw [loop1 k (Nat.le_of_succ_le hk) r l, ld1_tot, ld1_tot, ld1_tot, ld1_tot]
    rfl

/-- The first scale, on every lane. -/
theorem scale1 (r : Fin 32) (k : Fin 1) :
    k0_pay48 (F := Ideal) (st_k0_t1 (F := Ideal) 𝒱 c bd i arg1 harg1 arg2 harg2 arg3 harg3 arg4 harg4 arg5 harg5 arg6 harg6 arg7 harg7 arg8 harg8 (harg1.unread x0) k0_pay46 k0_t1_loop.trips) (ix2 r k) = Quant.sHi (row x0 r) := by
  rw [pay48_apply]
  refine congrArg Quant.scale (Eq.trans ?_ (Quant.fold_colMax (row x0 r)))
  refine congrArg (fun f => (Finset.univ : Finset (Fin 128)).fold max ⊥ f) (funext fun l => ?_)
  exact (loop1 𝒱 c bd i arg1 harg1 arg2 harg2 arg3 harg3 arg4 harg4 arg5 harg5 arg6 harg6 arg7 harg7 arg8 harg8 x0 _ le_rfl r l).trans (congrArg (Quant.colMax _ _) (by decide : k0_t1_loop.trips = 37))

variable (v3 : FVec Ideal S32x128 .bf16) (hS : ∀ (r : Fin 32) (k : Fin 1), k0_pay48 (F := Ideal) v3 (ix2 r k) = Quant.sHi (row x0 r))
include hS

theorem rest_at (k : Fin k0_t2_loop.trips) (b : Fin 4) (r : Fin 32) (l : Fin 128) :
    restV (k0_pay49 v3) (ld2 arg1 (harg1.unread x0) k b) (ix2 r l) = Quant.tot (Quant.rest (row x0 r)) (4736 * b.val + 128 * k.val + l.val) := by
  have hn : 4736 * b.val + 128 * k.val + l.val < 18944 := by have := hk2 k; have := b.isLt; have := l.isLt; omega
  rw [restV_apply, ld2_tot, pay49_apply, hS, Quant.tot_of _ _ hn, Quant.tot_of _ _ hn]
  rfl
theorem code_at (k : Fin k0_t2_loop.trips) (b : Fin 4) (r : Fin 32) (l : Fin 128) :
    codeV (k0_pay49 v3) (extV (ld2 arg1 (harg1.unread x0) k b)) (ix2 r l) = Quant.code (Quant.tot (row x0 r) (4736 * b.val + 128 * k.val + l.val)) (Quant.sHi (row x0 r)) := by
  rw [codeV_apply, extV_apply, ld2_tot, pay49_apply, hS]

/-- The second loop: a lane's greatest magnitude of what the first codes leave, so far, -/
theorem loop2_max : ∀ k : ℕ, k ≤ k0_t2_loop.trips → ∀ (r : Fin 32) (l : Fin 128),
    (st_k0_t2 (F := Ideal) 𝒱 c bd i arg1 harg1 arg2 harg2 arg3 harg3 arg4 harg4 arg5 harg5 arg6 harg6 arg7 harg7 arg8 harg8 v3 (harg1.unread x0) (k0_pay45, k0_pay45) k).1.1 (ix2 r l) = Quant.colMax (fun n => Quant.mag (Quant.tot (Quant.rest (row x0 r)) n)) l.val k
  | 0, _, r, l => pay45_apply (ix2 r l)
  | k + 1, hk, r, l => by
    rw [st_k0_t2_succ (F := Ideal) 𝒱 c bd i arg1 harg1 arg2 harg2 arg3 harg3 arg4 harg4 arg5 harg5 arg6 harg6 arg7 harg7 arg8 harg8 v3 (harg1.unread x0) (k0_pay45, k0_pay45) ⟨k, hk⟩, trip2_eqR]
    have ih := loop2_max k (Nat.le_of_succ_le hk) r l
    have h := fun b => rest_at arg1 harg1 x0 v3 hS ⟨k, hk⟩ b r l
    unfold Quant.colMax
    rw [← ih]
    exact congrArg₂ max (congrArg₂ max (congrArg₂ max (congrArg₂ max rfl (congrArg Quant.mag (h 0))) (congrArg Quant.mag (h 1))) (congrArg Quant.mag (h 2))) (congrArg Quant.mag (h 3))
/-- and the sum of the squares of a lane's first codes, so far. -/
theorem loop2_sum : ∀ k : ℕ, k ≤ k0_t2_loop.trips → ∀ (r : Fin 32) (l : Fin 128),
    (st_k0_t2 (F := Ideal) 𝒱 c bd i arg1 harg1 arg2 harg2 arg3 harg3 arg4 harg4 arg5 harg5 arg6 harg6 arg7 harg7 arg8 harg8 v3 (harg1.unread x0) (k0_pay45, k0_pay45) k).1.2 (ix2 r l)
      = Quant.colSum (fun n => Quant.code (Quant.tot (row x0 r) n) (Quant.sHi (row x0 r)) * Quant.code (Quant.tot (row x0 r) n) (Quant.sHi (row x0 r))) l.val k
  | 0, _, r, l => pay45_apply (ix2 r l)
  | k + 1, hk, r, l => by
    rw [st_k0_t2_succ (F := Ideal) 𝒱 c bd i arg1 harg1 arg2 harg2 arg3 harg3 arg4 harg4 arg5 harg5 arg6 harg6 arg7 harg7 arg8 harg8 v3 (harg1.unread x0) (k0_pay45, k0_pay45) ⟨k, hk⟩, trip2_eqR]
    have ih := loop2_sum k (Nat.le_of_succ_le hk) r l
    have h := fun b => code_at arg1 harg1 x0 v3 hS ⟨k, hk⟩ b r l
    have h' := fun b => congrArg₂ (fun a b : EReal => a * b) (h b) (h b)
    unfold Quant.colSum
    rw [← ih]
    exact congrArg₂ (fun a b : EReal => a + b) (congrArg₂ (fun a b : EReal => a + b) (congrArg₂ (fun a b : EReal => a + b) (congrArg₂ (fun a b : EReal => a + b) rfl (h' 0)) (h' 1)) (h' 2)) (h' 3)

theorem hi_piece (k : Fin k0_t2_loop.trips) (b : Fin 4) (x : S32x128.Idx) :
    fptosi 8 (codeV (k0_pay49 v3) (extV (ld2 arg1 (harg1.unread x0) k b))) x = hiB x0 ((rc2 k b).emb x) := by
  rw [← ix2_eta x]
  have hn : 4736 * b.val + 128 * k.val + (x 1).val < 18944 := by have := hk2 k; have := b.isLt; have := (x 1).isLt; change (x 1).val < 128 at this; omega
  refine Eq.trans ?_ (congrArg (hiB x0) (rc2_apply k b (x 0) (x 1) hn)).symm
  refine (congrArg (Ideal.fptosi 8) (code_at arg1 harg1 x0 v3 hS k b (x 0) (x 1))).trans ?_
  rw [Quant.tot_of _ _ hn]
  rfl
theorem rest_piece (k : Fin k0_t2_loop.trips) (b : Fin 4) (x : S32x128.Idx) :
    (shapeCast S32x128 (restV (k0_pay49 v3) (ld2 arg1 (harg1.unread x0) k b)) shapeCasts_S32x128_S32x128 : FVec Ideal S32x128 .f32) x = restB x0 ((rc2 k b).emb x) := by
  rw [← ix2_eta x]
  have hn : 4736 * b.val + 128 * k.val + (x 1).val < 18944 := by have := hk2 k; have := b.isLt; have := (x 1).isLt; change (x 1).val < 128 at this; omega
  refine Eq.trans ?_ (congrArg (restB x0) (rc2_apply k b (x 0) (x 1) hn)).symm
  refine (same_apply _ _).trans ((rest_at arg1 harg1 x0 v3 hS k b (x 0) (x 1)).trans ?_)
  rw [Quant.tot_of _ _ hn]
  rfl

/-- Every piece of the second loop is the first codes on its rectangle, -/
theorem loop2_hi : ∀ k : ℕ, k ≤ k0_t2_loop.trips → ∀ p ∈ (st_k0_t2 (F := Ideal) 𝒱 c bd i arg1 harg1 arg2 harg2 arg3 harg3 arg4 harg4 arg5 harg5 arg6 harg6 arg7 harg7 arg8 harg8 v3 (harg1.unread x0) (k0_pay45, k0_pay45) k).2.1,
    ∀ x : p.1.shape.Idx, p.2 x = hiB x0 (p.1.emb x)
  | 0, _, p, hp => absurd hp List.not_mem_nil
  | k + 1, hk, p, hp => by
    rw [st_k0_t2_succ (F := Ideal) 𝒱 c bd i arg1 harg1 arg2 harg2 arg3 harg3 arg4 harg4 arg5 harg5 arg6 harg6 arg7 harg7 arg8 harg8 v3 (harg1.unread x0) (k0_pay45, k0_pay45) ⟨k, hk⟩, trip2_eqL] at hp
    rcases List.mem_append.mp hp with h | h
    · simp only [List.mem_cons, List.not_mem_nil, or_false] at h
      rcases h with rfl | rfl | rfl | rfl <;> exact fun x => hi_piece arg1 harg1 x0 v3 hS ⟨k, hk⟩ _ x
    · exact loop2_hi k (Nat.le_of_succ_le hk) p h
/-- and what they leave. -/
theorem loop2_rest : ∀ k : ℕ, k ≤ k0_t2_loop.trips → ∀ p ∈ (st_k0_t2 (F := Ideal) 𝒱 c bd i arg1 harg1 arg2 harg2 arg3 harg3 arg4 harg4 arg5 harg5 arg6 harg6 arg7 harg7 arg8 harg8 v3 (harg1.unread x0) (k0_pay45, k0_pay45) k).2.2,
    ∀ x : p.1.shape.Idx, p.2 x = restB x0 (p.1.emb x)
  | 0, _, p, hp => absurd hp List.not_mem_nil
  | k + 1, hk, p, hp => by
    rw [st_k0_t2_succ (F := Ideal) 𝒱 c bd i arg1 harg1 arg2 harg2 arg3 harg3 arg4 harg4 arg5 harg5 arg6 harg6 arg7 harg7 arg8 harg8 v3 (harg1.unread x0) (k0_pay45, k0_pay45) ⟨k, hk⟩, trip2_eqL] at hp
    rcases List.mem_append.mp hp with h | h
    · simp only [List.mem_cons, List.not_mem_nil, or_false] at h
      rcases h with rfl | rfl | rfl | rfl <;> exact fun x => rest_piece arg1 harg1 x0 v3 hS ⟨k, hk⟩ _ x
    · exact loop2_rest k (Nat.le_of_succ_le hk) p h

/-- The second scale. -/
theorem scale2 (r : Fin 32) (k : Fin 1) :
    k0_pay51 (F := Ideal) (st_k0_t2 (F := Ideal) 𝒱 c bd i arg1 harg1 arg2 harg2 arg3 harg3 arg4 harg4 arg5 harg5 arg6 harg6 arg7 harg7 arg8 harg8 v3 (harg1.unread x0) (k0_pay45, k0_pay45) k0_t2_loop.trips).1.1 (ix2 r k) = Quant.sLo (row x0 r) := by
  rw [pay51_apply]
  refine congrArg Quant.scale (Eq.trans ?_ (Quant.fold_colMax (Quant.rest (row x0 r))))
  refine congrArg (fun f => (Finset.univ : Finset (Fin 128)).fold max ⊥ f) (funext fun l => ?_)
  exact (loop2_max 𝒱 c bd i arg1 harg1 arg2 harg2 arg3 harg3 arg4 harg4 arg5 harg5 arg6 harg6 arg7 harg7 arg8 harg8 x0 v3 hS _ le_rfl r l).trans (congrArg (Quant.colMax _ _) (by decide : k0_t2_loop.trips = 37))

end loops

section loop3
variable (x0 : Vec Ideal S32x18944 .bf16) (v16 : FVec Ideal S32x128 .f32) (hS : ∀ (r : Fin 32) (k : Fin 1), k0_pay51 (F := Ideal) v16 (ix2 r k) = Quant.sLo (row x0 r))
  (X3 : BufTy.Contents (Elt Ideal) arg3.view.ty) (X8 : BufTy.Contents (Elt Ideal) arg8.view.ty) (hX : arg8.view.read (Elt Ideal) X8 = restB x0)
include hS hX

omit hS in
theorem ld3_tot (k : Fin k0_t3_loop.trips) (b : Fin 4) (r : Fin 32) (l : Fin 128) :
    ld3 arg8 X8 k b (ix2 r l) = Quant.tot (Quant.rest (row x0 r)) (4736 * b.val + 128 * k.val + l.val) := by
  have hn : 4736 * b.val + 128 * k.val + l.val < 18944 := by have := hk3 k; have := b.isLt; have := l.isLt; omega
  exact (ld3_apply arg8 _ k b r l hn).trans ((congrFun hX _).trans (Quant.tot_of (Quant.rest (row x0 r)) _ hn).symm)
theorem code3_at (k : Fin k0_t3_loop.trips) (b : Fin 4) (r : Fin 32) (l : Fin 128) :
    codeV (k0_pay52 v16) (ld3 arg8 X8 k b) (ix2 r l) = Quant.code (Quant.tot (Quant.rest (row x0 r)) (4736 * b.val + 128 * k.val + l.val)) (Quant.sLo (row x0 r)) := by
  rw [codeV_apply, ld3_tot arg8 x0 X8 hX, pay52_apply, hS]

/-- The third loop: the sum of the squares of a lane's second codes, so far, -/
theorem loop3_sum : ∀ k : ℕ, k ≤ k0_t3_loop.trips → ∀ (r : Fin 32) (l : Fin 128),
    (Low.st (F := Ideal) 𝒱 c bd i arg1 harg1 arg2 harg2 arg3 harg3 arg4 harg4 arg5 harg5 arg6 harg6 arg7 harg7 arg8 harg8 v16 X3 X8 k0_pay45 k).1 (ix2 r l)
      = Quant.colSum (fun n => Quant.code (Quant.tot (Quant.rest (row x0 r)) n) (Quant.sLo (row x0 r)) * Quant.code (Quant.tot (Quant.rest (row x0 r)) n) (Quant.sLo (row x0 r))) l.val k
  | 0, _, r, l => pay45_apply (ix2 r l)
  | k + 1, hk, r, l => by
    rw [Low.st_succ (F := Ideal) 𝒱 c bd i arg1 harg1 arg2 harg2 arg3 harg3 arg4 harg4 arg5 harg5 arg6 harg6 arg7 harg7 arg8 harg8 v16 X3 X8 k0_pay45 ⟨k, hk⟩, trip3_eqR]
    have ih := loop3_sum k (Nat.le_of_succ_le hk) r l
    have h := fun b => code3_at arg8 x0 v16 hS X8 hX ⟨k, hk⟩ b r l
    have h' := fun b => congrArg₂ (fun a b : EReal => a * b) (h b) (h b)
    unfold Quant.colSum
    rw [← ih]
    exact congrArg₂ (fun a b : EReal => a + b) (congrArg₂ (fun a b : EReal => a + b) (congrArg₂ (fun a b : EReal => a + b) (congrArg₂ (fun a b : EReal => a + b) rfl (h' 0)) (h' 1)) (h' 2)) (h' 3)

theorem lo_piece (k : Fin k0_t3_loop.trips) (b : Fin 4) (x : S32x128.Idx) :
    fptosi 8 (codeV (k0_pay52 v16) (ld3 arg8 X8 k b)) x = loB x0 ((rc3 k b).emb x) := by
  rw [← ix2_eta x]
  have hn : 4736 * b.val + 128 * k.val + (x 1).val < 18944 := by have := hk3 k; have := b.isLt; have := (x 1).isLt; change (x 1).val < 128 at this; omega
  refine Eq.trans ?_ (congrArg (loB x0) (rc3_apply k b (x 0) (x 1) hn)).symm
  refine (congrArg (Ideal.fptosi 8) (code3_at arg8 x0 v16 hS X8 hX k b (x 0) (x 1))).trans ?_
  rw [Quant.tot_of _ _ hn]
  rfl
/-- and every piece is the second codes on its rectangle. -/
theorem loop3_lo : ∀ k : ℕ, k ≤ k0_t3_loop.trips → ∀ p ∈ (Low.st (F := Ideal) 𝒱 c bd i arg1 harg1 arg2 harg2 arg3 harg3 arg4 harg4 arg5 harg5 arg6 harg6 arg7 harg7 arg8 harg8 v16 X3 X8 k0_pay45 k).2,
    ∀ x : p.1.shape.Idx, p.2 x = loB x0 (p.1.emb x)
  | 0, _, p, hp => absurd hp List.not_mem_nil
  | k + 1, hk, p, hp => by
    rw [Low.st_succ (F := Ideal) 𝒱 c bd i arg1 harg1 arg2 harg2 arg3 harg3 arg4 harg4 arg5 harg5 arg6 harg6 arg7 harg7 arg8 harg8 v16 X3 X8 k0_pay45 ⟨k, hk⟩, trip3_eqL] at hp
    rcases List.mem_append.mp hp with h | h
    · simp only [List.mem_cons, List.not_mem_nil, or_false] at h
      rcases h with rfl | rfl | rfl | rfl <;> exact fun x => lo_piece arg8 x0 v16 hS X8 hX ⟨k, hk⟩ _ x
    · exact loop3_lo k (Nat.le_of_succ_le hk) p h

end loop3

/-! ## What a point leaves -/

theorem hz2 : (![0, 0] : Fin 2 → ℕ) = fun _ => 0 := by decide

section point
omit 𝒱 bd
variable (x0 : Vec Ideal S32x18944 .bf16) (x1 : Vec Ideal S32x1792 .i8)

/-- The high codes. -/
theorem out2_eq : out2 (F := Ideal) c i arg1 harg1 arg2 harg2 arg3 harg3 arg4 harg4 arg5 harg5 arg6 harg6 arg7 harg7 arg8 harg8 x0 x1 = hiB x0 := by
  unfold out2
  rw [View.read_writes_junk_eq_canon, run2]
  funext y
  exact View.canon_apply_of_pieces _ _ (loop2_hi Variants.none c none i arg1 harg1 arg2 harg2 arg3 harg3 arg4 harg4 arg5 harg5 arg6 harg6 arg7 harg7 arg8 harg8 x0 _ (scale1 Variants.none c none i arg1 harg1 arg2 harg2 arg3 harg3 arg4 harg4 arg5 harg5 arg6 harg6 arg7 harg7 arg8 harg8 x0) _ le_rfl) y (midCover3 c i arg1 harg1 arg2 harg2 arg3 harg3 arg4 harg4 arg5 harg5 arg6 harg6 arg7 harg7 arg8 harg8 x0 y)

/-- The residual, after the second loop. -/
theorem rest_eq (g : BufTy.Contents (Elt Ideal) arg8.view.ty) : arg8.view.read (Elt Ideal) (arg8.view.writes (Elt Ideal) g (mid c i arg1 harg1 arg2 harg2 arg3 harg3 arg4 harg4 arg5 harg5 arg6 harg6 arg7 harg7 arg8 harg8 x0).2.2) = restB x0 := by
  rw [mid8 c i arg1 harg1 arg2 harg2 arg3 harg3 arg4 harg4 arg5 harg5 arg6 harg6 arg7 harg7 arg8 harg8 x0 g arg8.view.junk, View.read_writes_junk_eq_canon]
  funext y
  exact View.canon_apply_of_pieces _ _ (loop2_rest Variants.none c none i arg1 harg1 arg2 harg2 arg3 harg3 arg4 harg4 arg5 harg5 arg6 harg6 arg7 harg7 arg8 harg8 x0 _ (scale1 Variants.none c none i arg1 harg1 arg2 harg2 arg3 harg3 arg4 harg4 arg5 harg5 arg6 harg6 arg7 harg7 arg8 harg8 x0) _ le_rfl) y (midCover8 c i arg1 harg1 arg2 harg2 arg3 harg3 arg4 harg4 arg5 harg5 arg6 harg6 arg7 harg7 arg8 harg8 x0 y)

/-- The low codes. -/
theorem out3_eq : out3 (F := Ideal) c i arg1 harg1 arg2 harg2 arg3 harg3 arg4 harg4 arg5 harg5 arg6 harg6 arg7 harg7 arg8 harg8 x0 x1 = loB x0 := by
  unfold out3
  rw [View.read_writes_junk_eq_canon]
  funext y
  refine View.canon_apply_of_pieces _ _ ?_ y (cover3 c i arg1 harg1 arg2 harg2 arg3 harg3 arg4 harg4 arg5 harg5 arg6 harg6 arg7 harg7 arg8 harg8 x0 x1 _ _ y)
  rw [run3]
  exact loop3_lo Variants.none c none i arg1 harg1 arg2 harg2 arg3 harg3 arg4 harg4 arg5 harg5 arg6 harg6 arg7 harg7 arg8 harg8 x0 _ (scale2 Variants.none c none i arg1 harg1 arg2 harg2 arg3 harg3 arg4 harg4 arg5 harg5 arg6 harg6 arg7 harg7 arg8 harg8 x0 _ (scale1 Variants.none c none i arg1 harg1 arg2 harg2 arg3 harg3 arg4 harg4 arg5 harg5 arg6 harg6 arg7 harg7 arg8 harg8 x0)) _ _ (rest_eq c i arg1 harg1 arg2 harg2 arg3 harg3 arg4 harg4 arg5 harg5 arg6 harg6 arg7 harg7 arg8 harg8 x0 _) _ le_rfl

/-- The squares of a packed byte of a row, zeros after the row's end. -/
def packT (x1 : Vec Ideal S32x1792 .i8) (r : Fin 32) (n : ℕ) : EReal :=
  if h : n < 1792 then (((Quant.low (x1 (ix2 r ⟨n, h⟩)) * Quant.low (x1 (ix2 r ⟨n, h⟩)) + Quant.high (x1 (ix2 r ⟨n, h⟩)) * Quant.high (x1 (ix2 r ⟨n, h⟩)) : ℤ) : ℝ) : EReal) else 0

/-- The squares of 128 columns of packed integers at an index. -/
theorem pack_load (arg2 : Memref sig .tc .vmem S32x1792 .i8) (harg2 : arg2.IsWhole) (x1 : Vec Ideal S32x1792 .i8) (off : Fin 2 → ℕ) (inb : ∀ a, off a + S32x128.size a ≤ S32x1792.size a)
    (n : ℕ) (h0 : off 0 = 0) (h1 : off 1 = n) (r : Fin 32) (l : Fin 128) :
    packV (arg2.view.readAt (Elt Ideal) (Rect.unit (s := S32x1792) off S32x128.size inb).toLoadRect (harg2.unread x1)) (ix2 r l) = packT x1 r (n + l.val) := by
  have hn : n + l.val < 1792 := by
    have := inb 1
    rw [h1] at this
    have hl := l.isLt
    change n + 128 ≤ 1792 at this
    omega
  have e0 : ((Rect.unit (s := S32x1792) off S32x128.size inb).emb (ix2 r l) 0).val = r.val :=
    (Rect.idx_unit_val (s := S32x1792) off S32x128.size inb (ix2 r l) 0).trans (by rw [h0]; exact Nat.zero_add _)
  have e1 : ((Rect.unit (s := S32x1792) off S32x128.size inb).emb (ix2 r l) 1).val = n + l.val :=
    (Rect.idx_unit_val (s := S32x1792) off S32x128.size inb (ix2 r l) 1).trans (by rw [h1]; rfl)
  have e : (Rect.unit (s := S32x1792) off S32x128.size inb).emb (ix2 r l) = ix2 r ⟨n + l.val, hn⟩ := by
    funext a
    fin_cases a
    · exact Fin.ext e0
    · exact Fin.ext e1
  have el : arg2.view.readAt (Elt Ideal) (Rect.unit (s := S32x1792) off S32x128.size inb).toLoadRect (harg2.unread x1) (ix2 r l) = x1 (ix2 r ⟨n + l.val, hn⟩) :=
    (congrArg (arg2.view.read (Elt Ideal) (harg2.unread x1)) e).trans (congrFun (harg2.read_unread x1) _)
  rw [packV_apply, el]
  unfold packT
  rw [dif_pos hn]

/-- A lane's squares of the packed integers, chunk by chunk. -/
theorem chain_lane (r : Fin 32) (l : Fin 128) : kernelRun.sl.r_27 (F := Ideal) c arg2 harg2 x1 (ix2 r l) = ∑ j ∈ Finset.range 14, packT x1 r (128 * j + l.val) := by
  rw [chain_eq]
  simp only [Finset.sum_range_succ, Finset.sum_range_zero]
  exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (pay45_apply (ix2 r l)) (pack_load arg2 harg2 x1 _ _ 0 rfl rfl r l)) (pack_load arg2 harg2 x1 _ _ 128 rfl rfl r l)) (pack_load arg2 harg2 x1 _ _ 256 rfl rfl r l)) (pack_load arg2 harg2 x1 _ _ 384 rfl rfl r l)) (pack_load arg2 harg2 x1 _ _ 512 rfl rfl r l)) (pack_load arg2 harg2 x1 _ _ 640 rfl rfl r l)) (pack_load arg2 harg2 x1 _ _ 768 rfl rfl r l)) (pack_load arg2 harg2 x1 _ _ 896 rfl rfl r l)) (pack_load arg2 harg2 x1 _ _ 1024 rfl rfl r l)) (pack_load arg2 harg2 x1 _ _ 1152 rfl rfl r l)) (pack_load arg2 harg2 x1 _ _ 1280 rfl rfl r l)) (pack_load arg2 harg2 x1 _ _ 1408 rfl rfl r l)) (pack_load arg2 harg2 x1 _ _ 1536 rfl rfl r l)) (pack_load arg2 harg2 x1 _ _ 1664 rfl rfl r l))

/-- The sum of the squares of the packed integers of a row. -/
theorem chain_apply (r : Fin 32) : ∑ l : Fin 128, kernelRun.sl.r_27 (F := Ideal) c arg2 harg2 x1 (ix2 r l) = Quant.sqX (fun i : Fin 1792 => x1 (ix2 r i)) := by
  refine (Finset.sum_congr rfl fun l _ => chain_lane c arg2 harg2 x1 r l).trans ((Quant.sum_chunks (packT x1 r)).trans ?_)
  exact Finset.sum_congr rfl fun i _ => dif_pos i.isLt

/-- The row figures. -/
theorem out6_eq (r : Fin 32) (k : Fin 128) : out6 (F := Ideal) c i arg1 harg1 arg2 harg2 arg3 harg3 arg4 harg4 arg5 harg5 arg6 harg6 arg7 harg7 arg8 harg8 x0 x1 (ix2 r k) = Quant.stat (row x0 r) (fun i => x1 (ix2 r i)) k := by
  unfold out6
  rw [View.read_writes_junk_eq_canon, run6]
  refine (congrFun (View.canon_unit_zero hz2 _ _) _).trans ?_
  refine (pay1_apply _ _ _ _ _ _ r k).trans ?_
  have e1 := scale1 Variants.none c none i arg1 harg1 arg2 harg2 arg3 harg3 arg4 harg4 arg5 harg5 arg6 harg6 arg7 harg7 arg8 harg8 x0 r 0
  have e2 := scale2 Variants.none c none i arg1 harg1 arg2 harg2 arg3 harg3 arg4 harg4 arg5 harg5 arg6 harg6 arg7 harg7 arg8 harg8 x0 _ (scale1 Variants.none c none i arg1 harg1 arg2 harg2 arg3 harg3 arg4 harg4 arg5 harg5 arg6 harg6 arg7 harg7 arg8 harg8 x0) r 0
  have e3 : ∑ l : Fin 128, (mid c i arg1 harg1 arg2 harg2 arg3 harg3 arg4 harg4 arg5 harg5 arg6 harg6 arg7 harg7 arg8 harg8 x0).1.2 (ix2 r l) = Quant.sqSum (row x0 r) (Quant.sHi (row x0 r)) := by
    refine (Finset.sum_congr rfl fun l _ => (loop2_sum Variants.none c none i arg1 harg1 arg2 harg2 arg3 harg3 arg4 harg4 arg5 harg5 arg6 harg6 arg7 harg7 arg8 harg8 x0 _ (scale1 Variants.none c none i arg1 harg1 arg2 harg2 arg3 harg3 arg4 harg4 arg5 harg5 arg6 harg6 arg7 harg7 arg8 harg8 x0) _ le_rfl r l).trans (congrArg (Quant.colSum _ _) (by decide : k0_t2_loop.trips = 37))).trans ((Quant.sum_colSum _).trans ?_)
    exact Finset.sum_congr rfl fun o _ => by rw [Quant.tot_val]
  have e4 : ∑ l : Fin 128, (fin c i arg1 harg1 arg2 harg2 arg3 harg3 arg4 harg4 arg5 harg5 arg6 harg6 arg7 harg7 arg8 harg8 x0 (arg3.view.writes (Elt Ideal) arg3.view.junk (mid c i arg1 harg1 arg2 harg2 arg3 harg3 arg4 harg4 arg5 harg5 arg6 harg6 arg7 harg7 arg8 harg8 x0).2.1) (arg8.view.writes (Elt Ideal) arg8.view.junk (mid c i arg1 harg1 arg2 harg2 arg3 harg3 arg4 harg4 arg5 harg5 arg6 harg6 arg7 harg7 arg8 harg8 x0).2.2)).1 (ix2 r l) = Quant.sqSum (Quant.rest (row x0 r)) (Quant.sLo (row x0 r)) := by
    refine (Finset.sum_congr rfl fun l _ => (loop3_sum Variants.none c none i arg1 harg1 arg2 harg2 arg3 harg3 arg4 harg4 arg5 harg5 arg6 harg6 arg7 harg7 arg8 harg8 x0 _ (scale2 Variants.none c none i arg1 harg1 arg2 harg2 arg3 harg3 arg4 harg4 arg5 harg5 arg6 harg6 arg7 harg7 arg8 harg8 x0 _ (scale1 Variants.none c none i arg1 harg1 arg2 harg2 arg3 harg3 arg4 harg4 arg5 harg5 arg6 harg6 arg7 harg7 arg8 harg8 x0)) _ _ (rest_eq c i arg1 harg1 arg2 harg2 arg3 harg3 arg4 harg4 arg5 harg5 arg6 harg6 arg7 harg7 arg8 harg8 x0 _) _ le_rfl r l).trans (congrArg (Quant.colSum _ _) (by decide : k0_t3_loop.trips = 37))).trans ((Quant.sum_colSum _).trans ?_)
    exact Finset.sum_congr rfl fun o _ => by rw [Quant.tot_val]
  have e5 := chain_apply c arg2 harg2 x1 r
  unfold Quant.stat
  refine if_congr Iff.rfl e1 (if_congr Iff.rfl e2 (if_congr Iff.rfl e3 (if_congr Iff.rfl e4 (if_congr Iff.rfl e5 (pay45_apply (ix2 r k))))))

end point

end Cert.BothQuant
end
-- ==== Proof.BothQPoints.lean ====
module

public import proofs.«01_k».proof.Proof.BothQBody

@[expose] public section

set_option maxRecDepth 8192

noncomputable section

/-! The quantiser's three result arrays, read at an index: every grid point's input blocks as pieces of the contents the call finds, and
    the arrays the points fill. -/

namespace Cert.BothQuant

open Cert.BothIdeal Cert.BothIdeal.Gen Cert.BothIdeal.Quant Idealize.ShloMosaic Idealize.ShloMosaic.TcCoe
open scoped BigOperators

variable (m : (c : Dev nD) → (b : Ref sig .tc) → Buf (Elt Ideal) ((c : Thread nD τ).loc b)) (c : Dev nD)

/-- The gradient and the packed integers, one row per token. -/
abbrev dyRows : FVec Ideal S1536x18944 .bf16 := m c main_v0
abbrev xRows : IVec S1536x1792 8 := m c main_v1
/-- Row `r` of each. -/
abbrev dyRow (r : Fin 1536) (o : Fin 18944) : EReal := dyRows m c (ix2 r o)
abbrev xRow (r : Fin 1536) (i : Fin 1792) : BitVec 8 := xRows m c (ix2 r i)

/-- The pipeline finds them in its first two operands. -/
theorem V_dy : V m c main_v0 = dyRows m c := rfl
theorem V_x : V m c main_v1 = xRows m c := rfl

theorem lt48 (t : Fin cfg0.N) : t.val < 48 := lt_of_lt_of_eq t.isLt N_0

/-! Point `t` is the block of 32 rows from `32 t` on, in every window. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

/-- The gradient's block. -/
theorem blk_dy (t : Fin cfg0.N) (r : Fin 32) (o : Fin 18944) :
    iblk m c 0 t (ix2 r o : S32x18944.Idx) = dyRows m c (ix2 ⟨32 * t.val + r.val, by have := lt48 t; omega⟩ o) := by
  obtain ⟨e0, e1⟩ := idx0 t
  have hV := congrFun (V_dy m c) (((cfg0.win 0).blk t).view.emb (ix2 r o : S32x18944.Idx))
  refine hV.trans (congrArg (dyRows m c) (funext fun a => Fin.ext ?_))
  match a with
  | ⟨0, _⟩ => show win0_0.index t (0 : Fin 2) * 32 + 1 * r.val = 32 * t.val + r.val; rw [e0]; omega
  | ⟨1, _⟩ => show win0_0.index t (1 : Fin 2) * 18944 + 1 * o.val = o.val; rw [e1]; omega

/-- The packed integers' block. -/
theorem blk_x (t : Fin cfg0.N) (r : Fin 32) (o : Fin 1792) :
    iblk m c 1 t (ix2 r o : S32x1792.Idx) = xRows m c (ix2 ⟨32 * t.val + r.val, by have := lt48 t; omega⟩ o) := by
  obtain ⟨e0, e1⟩ := idx1 t
  have hV := congrFun (V_x m c) (((cfg0.win 1).blk t).view.emb (ix2 r o : S32x1792.Idx))
  refine hV.trans (congrArg (xRows m c) (funext fun a => Fin.ext ?_))
  match a with
  | ⟨0, _⟩ => show win0_1.index t (0 : Fin 2) * 32 + 1 * r.val = 32 * t.val + r.val; rw [e0]; omega
  | ⟨1, _⟩ => show win0_1.index t (1 : Fin 2) * 1792 + 1 * o.val = o.val; rw [e1]; omega

/-- A block's row is the array's. -/
theorem row_blk (t : Fin cfg0.N) (r : Fin 32) (R : Fin 1536) (h : R.val = 32 * t.val + r.val) : row (iblk m c 0 t) r = dyRow m c R :=
  funext fun o => (blk_dy m c t r o).trans (congrArg (fun q => dyRows m c (ix2 q o)) (Fin.ext h.symm))
theorem xrow_blk (t : Fin cfg0.N) (r : Fin 32) (R : Fin 1536) (h : R.val = 32 * t.val + r.val) : (fun i => iblk m c 1 t (ix2 r i : S32x1792.Idx)) = xRow m c R :=
  funext fun o => (blk_x m c t r o).trans (congrArg (fun q => xRows m c (ix2 q o)) (Fin.ext h.symm))

/-- The three arrays. -/
def hiG : Vec Ideal S1536x18944 .i8 := fun y => Quant.bits (dyRow m c (y 0) (y 1)) (Quant.sHi (dyRow m c (y 0)))
def loG : Vec Ideal S1536x18944 .i8 := fun y => Quant.bits (Quant.rest (dyRow m c (y 0)) (y 1)) (Quant.sLo (dyRow m c (y 0)))
def stG : Vec Ideal S1536x128 .f32 := fun y => Quant.stat (dyRow m c (y 0)) (xRow m c (y 0)) (y 1)

/-- What a point leaves, at an index. -/
theorem hiAt_apply (t : Fin cfg0.N) (r : Fin 32) (o : Fin 18944) (R : Fin 1536) (h : R.val = 32 * t.val + r.val) : hiAt m c t (ix2 r o) = hiG m c (ix2 R o) := by
  unfold hiAt
  rw [out2_eq]
  exact congrArg (fun v : Fin 18944 → EReal => Quant.bits (v o) (Quant.sHi v)) (row_blk m c t r R h)
theorem loAt_apply (t : Fin cfg0.N) (r : Fin 32) (o : Fin 18944) (R : Fin 1536) (h : R.val = 32 * t.val + r.val) : loAt m c t (ix2 r o) = loG m c (ix2 R o) := by
  unfold loAt
  rw [out3_eq]
  exact congrArg (fun v : Fin 18944 → EReal => Quant.bits (Quant.rest v o) (Quant.sLo v)) (row_blk m c t r R h)
theorem stAt_apply (t : Fin cfg0.N) (r : Fin 32) (k : Fin 128) (R : Fin 1536) (h : R.val = 32 * t.val + r.val) : stAt m c t (ix2 r k) = stG m c (ix2 R k) := by
  unfold stAt
  rw [out6_eq]
  exact congrArg₂ (fun (v : Fin 18944 → EReal) (x : Fin 1792 → BitVec 8) => Quant.stat v x k) (row_blk m c t r R h) (xrow_blk m c t r R h)

/-- What point `t` writes back is block `t` of the array. -/
theorem flushed2 (t : Fin cfg0.N) (_ : (cfg0.win 2).flush t = true) :
    (dats m 0 c).flushed 2 t = ((cfg0.win 2).blk t).view.read (Elt Ideal) (hiG m c) := by
  show (cfg0.win 2).cut (grid0.coords t) ((dats m 0 c).after 2 t) = _
  rw [after0_2]
  obtain ⟨e0, e1⟩ := idx2 t
  funext y
  have hy0 : (y 0).val < 32 := (y 0).isLt
  have hy1 : (y 1).val < 18944 := (y 1).isLt
  have ht := lt48 t
  have key := hiAt_apply m c t ⟨(y 0).val, hy0⟩ ⟨(y 1).val, hy1⟩ ⟨32 * t.val + (y 0).val, by omega⟩ rfl
  have hl : (cfg0.win 2).xinj (grid0.coords t) y = (ix2 ⟨(y 0).val, hy0⟩ ⟨(y 1).val, hy1⟩ : S32x18944.Idx) := by
    funext a
    match a with
    | ⟨0, _⟩ => rfl
    | ⟨1, _⟩ => rfl
  have hr : ((cfg0.win 2).blk t).view.emb y = (ix2 ⟨32 * t.val + (y 0).val, by omega⟩ ⟨(y 1).val, hy1⟩ : S1536x18944.Idx) := by
    funext a
    refine Fin.ext ?_
    match a with
    | ⟨0, _⟩ => show win0_2.index t (0 : Fin 2) * 32 + 1 * (y 0).val = 32 * t.val + (y 0).val; rw [e0]; omega
    | ⟨1, _⟩ => show win0_2.index t (1 : Fin 2) * 18944 + 1 * (y 1).val = (y 1).val; rw [e1]; omega
  show hiAt m c t ((cfg0.win 2).xinj (grid0.coords t) y) = hiG m c (((cfg0.win 2).blk t).view.emb y)
  rw [hl, hr]
  exact key

/-- Every index is in a block that is written back. -/
theorem covered2 (i : S1536x18944.Idx) : ∃ t : Fin cfg0.N, (cfg0.win 2).flush t = true ∧ i ∈ ((cfg0.win 2).blk t).view.set := by
  have hi0 : (i 0).val < 1536 := (i 0).isLt
  have hi1 : (i 1).val < 18944 := (i 1).isLt
  have hN : (i 0).val / 32 < grid0.N := lt_of_lt_of_eq (by omega) N_0.symm
  refine ⟨⟨(i 0).val / 32, hN⟩, (by decide +kernel : ∀ t : Fin grid0.N, win0_2.flush t = true) _, ?_⟩
  obtain ⟨e0, e1⟩ := idx2 ⟨(i 0).val / 32, hN⟩
  show i ∈ ((View.whole main_v2_0).slice (win0_2.rect ⟨(i 0).val / 32, hN⟩)).set
  rw [View.set_slice_whole, Rect.mem_set_unit]
  intro a
  match a with
  | ⟨0, _⟩ =>
    show win0_2.index ⟨(i 0).val / 32, hN⟩ (0 : Fin 2) * 32 ≤ (i 0).val ∧ (i 0).val < win0_2.index ⟨(i 0).val / 32, hN⟩ (0 : Fin 2) * 32 + 32
    rw [e0]
    show (i 0).val / 32 * 32 ≤ (i 0).val ∧ (i 0).val < (i 0).val / 32 * 32 + 32
    omega
  | ⟨1, _⟩ =>
    show win0_2.index ⟨(i 0).val / 32, hN⟩ (1 : Fin 2) * 18944 ≤ (i 1).val ∧ (i 1).val < win0_2.index ⟨(i 0).val / 32, hN⟩ (1 : Fin 2) * 18944 + 18944
    rw [e1]
    omega

/-- The array after the run. -/
theorem final2 : (dats m 0 c).arrAt 2 cfg0.N = hiG m c :=
  (dats m 0 c).arrAt_eq_of_cover 2 _ (fun t hf => flushed2 m c t hf) (fun i => covered2 i)

/-- What point `t` writes back is block `t` of the array. -/
theorem flushed3 (t : Fin cfg0.N) (_ : (cfg0.win 3).flush t = true) :
    (dats m 0 c).flushed 3 t = ((cfg0.win 3).blk t).view.read (Elt Ideal) (loG m c) := by
  show (cfg0.win 3).cut (grid0.coords t) ((dats m 0 c).after 3 t) = _
  rw [after0_3]
  obtain ⟨e0, e1⟩ := idx3 t
  funext y
  have hy0 : (y 0).val < 32 := (y 0).isLt
  have hy1 : (y 1).val < 18944 := (y 1).isLt
  have ht := lt48 t
  have key := loAt_apply m c t ⟨(y 0).val, hy0⟩ ⟨(y 1).val, hy1⟩ ⟨32 * t.val + (y 0).val, by omega⟩ rfl
  have hl : (cfg0.win 3).xinj (grid0.coords t) y = (ix2 ⟨(y 0).val, hy0⟩ ⟨(y 1).val, hy1⟩ : S32x18944.Idx) := by
    funext a
    match a with
    | ⟨0, _⟩ => rfl
    | ⟨1, _⟩ => rfl
  have hr : ((cfg0.win 3).blk t).view.emb y = (ix2 ⟨32 * t.val + (y 0).val, by omega⟩ ⟨(y 1).val, hy1⟩ : S1536x18944.Idx) := by
    funext a
    refine Fin.ext ?_
    match a with
    | ⟨0, _⟩ => show win0_3.index t (0 : Fin 2) * 32 + 1 * (y 0).val = 32 * t.val + (y 0).val; rw [e0]; omega
    | ⟨1, _⟩ => show win0_3.index t (1 : Fin 2) * 18944 + 1 * (y 1).val = (y 1).val; rw [e1]; omega
  show loAt m c t ((cfg0.win 3).xinj (grid0.coords t) y) = loG m c (((cfg0.win 3).blk t).view.emb y)
  rw [hl, hr]
  exact key

/-- Every index is in a block that is written back. -/
theorem covered3 (i : S1536x18944.Idx) : ∃ t : Fin cfg0.N, (cfg0.win 3).flush t = true ∧ i ∈ ((cfg0.win 3).blk t).view.set := by
  have hi0 : (i 0).val < 1536 := (i 0).isLt
  have hi1 : (i 1).val < 18944 := (i 1).isLt
  have hN : (i 0).val / 32 < grid0.N := lt_of_lt_of_eq (by omega) N_0.symm
  refine ⟨⟨(i 0).val / 32, hN⟩, (by decide +kernel : ∀ t : Fin grid0.N, win0_3.flush t = true) _, ?_⟩
  obtain ⟨e0, e1⟩ := idx3 ⟨(i 0).val / 32, hN⟩
  show i ∈ ((View.whole main_v2_1).slice (win0_3.rect ⟨(i 0).val / 32, hN⟩)).set
  rw [View.set_slice_whole, Rect.mem_set_unit]
  intro a
  match a with
  | ⟨0, _⟩ =>
    show win0_3.index ⟨(i 0).val / 32, hN⟩ (0 : Fin 2) * 32 ≤ (i 0).val ∧ (i 0).val < win0_3.index ⟨(i 0).val / 32, hN⟩ (0 : Fin 2) * 32 + 32
    rw [e0]
    show (i 0).val / 32 * 32 ≤ (i 0).val ∧ (i 0).val < (i 0).val / 32 * 32 + 32
    omega
  | ⟨1, _⟩ =>
    show win0_3.index ⟨(i 0).val / 32, hN⟩ (1 : Fin 2) * 18944 ≤ (i 1).val ∧ (i 1).val < win0_3.index ⟨(i 0).val / 32, hN⟩ (1 : Fin 2) * 18944 + 18944
    rw [e1]
    omega

/-- The array after the run. -/
theorem final3 : (dats m 0 c).arrAt 3 cfg0.N = loG m c :=
  (dats m 0 c).arrAt_eq_of_cover 3 _ (fun t hf => flushed3 m c t hf) (fun i => covered3 i)

/-- What point `t` writes back is block `t` of the array. -/
theorem flushed6 (t : Fin cfg0.N) (_ : (cfg0.win 6).flush t = true) :
    (dats m 0 c).flushed 6 t = ((cfg0.win 6).blk t).view.read (Elt Ideal) (stG m c) := by
  show (cfg0.win 6).cut (grid0.coords t) ((dats m 0 c).after 6 t) = _
  rw [after0_6]
  obtain ⟨e0, e1⟩ := idx6 t
  funext y
  have hy0 : (y 0).val < 32 := (y 0).isLt
  have hy1 : (y 1).val < 128 := (y 1).isLt
  have ht := lt48 t
  have key := stAt_apply m c t ⟨(y 0).val, hy0⟩ ⟨(y 1).val, hy1⟩ ⟨32 * t.val + (y 0).val, by omega⟩ rfl
  have hl : (cfg0.win 6).xinj (grid0.coords t) y = (ix2 ⟨(y 0).val, hy0⟩ ⟨(y 1).val, hy1⟩ : S32x128.Idx) := by
    funext a
    match a with
    | ⟨0, _⟩ => rfl
    | ⟨1, _⟩ => rfl
  have hr : ((cfg0.win 6).blk t).view.emb y = (ix2 ⟨32 * t.val + (y 0).val, by omega⟩ ⟨(y 1).val, hy1⟩ : S1536x128.Idx) := by
    funext a
    refine Fin.ext ?_
    match a with
    | ⟨0, _⟩ => show win0_6.index t (0 : Fin 2) * 32 + 1 * (y 0).val = 32 * t.val + (y 0).val; rw [e0]; omega
    | ⟨1, _⟩ => show win0_6.index t (1 : Fin 2) * 128 + 1 * (y 1).val = (y 1).val; rw [e1]; omega
  show stAt m c t ((cfg0.win 6).xinj (grid0.coords t) y) = stG m c (((cfg0.win 6).blk t).view.emb y)
  rw [hl, hr]
  exact key

/-- Every index is in a block that is written back. -/
theorem covered6 (i : S1536x128.Idx) : ∃ t : Fin cfg0.N, (cfg0.win 6).flush t = true ∧ i ∈ ((cfg0.win 6).blk t).view.set := by
  have hi0 : (i 0).val < 1536 := (i 0).isLt
  have hi1 : (i 1).val < 128 := (i 1).isLt
  have hN : (i 0).val / 32 < grid0.N := lt_of_lt_of_eq (by omega) N_0.symm
  refine ⟨⟨(i 0).val / 32, hN⟩, (by decide +kernel : ∀ t : Fin grid0.N, win0_6.flush t = true) _, ?_⟩
  obtain ⟨e0, e1⟩ := idx6 ⟨(i 0).val / 32, hN⟩
  show i ∈ ((View.whole main_v2_4).slice (win0_6.rect ⟨(i 0).val / 32, hN⟩)).set
  rw [View.set_slice_whole, Rect.mem_set_unit]
  intro a
  match a with
  | ⟨0, _⟩ =>
    show win0_6.index ⟨(i 0).val / 32, hN⟩ (0 : Fin 2) * 32 ≤ (i 0).val ∧ (i 0).val < win0_6.index ⟨(i 0).val / 32, hN⟩ (0 : Fin 2) * 32 + 32
    rw [e0]
    show (i 0).val / 32 * 32 ≤ (i 0).val ∧ (i 0).val < (i 0).val / 32 * 32 + 32
    omega
  | ⟨1, _⟩ =>
    show win0_6.index ⟨(i 0).val / 32, hN⟩ (1 : Fin 2) * 128 ≤ (i 1).val ∧ (i 1).val < win0_6.index ⟨(i 0).val / 32, hN⟩ (1 : Fin 2) * 128 + 128
    rw [e1]
    omega

/-- The array after the run. -/
theorem final6 : (dats m 0 c).arrAt 6 cfg0.N = stG m c :=
  (dats m 0 c).arrAt_eq_of_cover 6 _ (fun t hf => flushed6 m c t hf) (fun i => covered6 i)

end Cert.BothQuant
end
-- ==== Proof.BothDxBody.lean ====
module

public import proofs.«01_k».proof.Proof.BothDxFrameI
public import proofs.«01_k».proof.Proof.DxSpec
public import Idealize.ShloMosaic.Lib.Pointwise
public import Idealize.ShloMosaic.Lib.Pipeline.ValueKit.Tiles

@[expose] public section

noncomputable section

/-! What one grid point's body leaves: the two scratches the loops fill, read at an index, and the block it stores. -/

namespace Cert.BothDx

open Cert.BothIdeal Cert.BothIdeal.Gen Cert.BothIdeal.Dx Idealize.ShloMosaic Idealize.ShloMosaic.TcCoe
open scoped BigOperators

/-- The left operand: the first codes on rows 0 to 383, the second codes below. -/
def lhs (x1 x2 : S384x18944.Idx → BitVec 8) : S768x18944.Idx → EReal := fun y =>
  if h : (y 0).val < 384 then Dx.num (x1 (ix2 ⟨(y 0).val, h⟩ (y 1)))
  else Dx.num (x2 (ix2 ⟨(y 0).val - 384, by have := (y 0).isLt; change (y 0).val < 768 at this; omega⟩ (y 1)))

/-- The right operand: the low halves of a block of packed weights on columns 0 to 127, the high halves beside them. -/
def rhs (x0 : S18944x128.Idx → BitVec 8) : S18944x256.Idx → EReal := fun y =>
  if h : (y 1).val < 128 then ((Dx.low (x0 (ix2 (y 0) ⟨(y 1).val, h⟩)) : ℝ) : EReal)
  else ((Dx.high (x0 (ix2 (y 0) ⟨(y 1).val - 128, by have := (y 1).isLt; change (y 1).val < 256 at this; omega⟩)) : ℝ) : EReal)

/-- A code widened to a number, from the first plane. -/
theorem pay2_apply (v : S384x128.Idx → BitVec 8) (x : S384x128.Idx) : k1_pay2 (F := Ideal) v x = Dx.num (v x) := by
  unfold k1_pay2
  pointwise
  rfl

/-- A code widened to a number, from the second plane. -/
theorem pay3_apply (v : S384x128.Idx → BitVec 8) (x : S384x128.Idx) : k1_pay3 (F := Ideal) v x = Dx.num (v x) := by
  unfold k1_pay3
  pointwise
  rfl

/-- Shifting the byte up by 28 and back down, signed, leaves the low half's two's complement value. -/
theorem low_shift : ∀ b : BitVec 8, (IntOp.shrsi .vector (IntOp.shli .vector (BitVec.setWidth 32 b) 28#32) 28#32).toInt = Dx.low b := by
  decide +kernel

/-- Shifting the byte up by 24 and down by 28, signed, leaves the high half's two's complement value. -/
theorem high_shift : ∀ b : BitVec 8, (IntOp.shrsi .vector (IntOp.shli .vector (BitVec.setWidth 32 b) 24#32) 28#32).toInt = Dx.high b := by
  decide +kernel

/-- The low half of a packed weight. -/
theorem pay5_apply (v : S256x128.Idx → BitVec 8) (x : S256x128.Idx) : k1_pay5 (F := Ideal) v x = ((Dx.low (v x) : ℝ) : EReal) := by
  unfold k1_pay5 k1_pay4
  pointwise
  exact congrArg (fun n : Int => (((n : ℝ)) : EReal)) (low_shift _)

/-- The high half of a packed weight. -/
theorem pay6_apply (v : S256x128.Idx → BitVec 8) (x : S256x128.Idx) : k1_pay6 (F := Ideal) v x = ((Dx.high (v x) : ℝ) : EReal) := by
  unfold k1_pay6 k1_pay4
  pointwise
  exact congrArg (fun n : Int => (((n : ℝ)) : EReal)) (high_shift _)

/-- The zero offsets of a whole load. -/
theorem hz2 : (![0, 0] : Fin 2 → ℕ) = fun _ => 0 := by decide
theorem hz3 : (![0, 0, 0] : Fin 3 → ℕ) = fun _ => 0 := by decide
/-- Where access 1 starts, row and column. -/
theorem k1_off1_row (k : Fin k1_t1_loop.trips) : k1_off1 k 0 = 0 := by rw [k1_off1_eq]; rfl
theorem k1_off1_col (k : Fin k1_t1_loop.trips) : k1_off1 k 1 = 128 * k.val := by rw [k1_off1_eq]; rfl
/-- Where access 2 starts, row and column. -/
theorem k1_off2_row (k : Fin k1_t1_loop.trips) : k1_off2 k 0 = 0 := by rw [k1_off2_eq]; rfl
theorem k1_off2_col (k : Fin k1_t1_loop.trips) : k1_off2 k 1 = 128 * k.val := by rw [k1_off2_eq]; rfl
/-- Where access 3 starts, row and column. -/
theorem k1_off3_row (k : Fin k1_t1_loop.trips) : k1_off3 k 0 = 384 := by rw [k1_off3_eq]; rfl
theorem k1_off3_col (k : Fin k1_t1_loop.trips) : k1_off3 k 1 = 128 * k.val := by rw [k1_off3_eq]; rfl
/-- Where access 4 starts, row and column. -/
theorem k1_off4_row (k : Fin k1_t2_loop.trips) : k1_off4 k 0 = 256 * k.val := by rw [k1_off4_eq]; rfl
theorem k1_off4_col (k : Fin k1_t2_loop.trips) : k1_off4 k 1 = 0 := by rw [k1_off4_eq]; rfl
/-- Where access 5 starts, row and column. -/
theorem k1_off5_row (k : Fin k1_t2_loop.trips) : k1_off5 k 0 = 256 * k.val := by rw [k1_off5_eq]; rfl
theorem k1_off5_col (k : Fin k1_t2_loop.trips) : k1_off5 k 1 = 0 := by rw [k1_off5_eq]; rfl
/-- Where access 6 starts, row and column. -/
theorem k1_off6_row (k : Fin k1_t2_loop.trips) : k1_off6 k 0 = 256 * k.val := by rw [k1_off6_eq]; rfl
theorem k1_off6_col (k : Fin k1_t2_loop.trips) : k1_off6 k 1 = 128 := by rw [k1_off6_eq]; rfl

section
variable (𝒱 : Variants) (c : Dev nD) (bd : Option 𝒱.V) (i : grid1.Coords) (arg2 : Memref sig .tc .vmem S18944x128 .i8) (harg2 : arg2.IsWhole) (arg3 : Memref sig .tc .vmem S384x18944 .i8) (harg3 : arg3.IsWhole) (arg4 : Memref sig .tc .vmem S384x18944 .i8) (harg4 : arg4.IsWhole) (arg5 : Memref sig .tc .vmem S1x1x256 .f32) (harg5 : arg5.IsWhole) (arg6 : Memref sig .tc .vmem S384x128 .f32) (harg6 : arg6.IsWhole) (arg7 : Memref sig .tc .vmem S384x256 .bf16) (harg7 : arg7.IsWhole) (arg8 : Memref sig .tc .vmem S768x18944 .fp8e4m3) (harg8 : arg8.IsWhole) (arg9 : Memref sig .tc .vmem S18944x256 .fp8e4m3) (harg9 : arg9.IsWhole)

/-- The two pieces of one trip of the first loop: a block of columns of the second codes on the lower rows, of the first
    codes on the upper rows. -/
theorem trip1_eq (k1_h1 : k1_cond1 i = 1#1) (X3 : BufTy.Contents (Elt Ideal) arg3.view.ty) (X4 : BufTy.Contents (Elt Ideal) arg4.view.ty) (k : Fin k1_t1_loop.trips) :
    tripL_k1_t1 (F := Ideal) 𝒱 c bd i arg2 harg2 arg3 harg3 arg4 harg4 arg5 harg5 arg6 harg6 arg7 harg7 arg8 harg8 arg9 harg9 k1_h1 X3 X4 k =
      [⟨Rect.unit (k1_off3 k) S384x128.size (k1_off3_inb i k k1_h1), k1_pay3 (F := Ideal) (arg4.view.readAt (Elt Ideal) (Rect.unit (s := S384x18944) (k1_off1 k) S384x128.size (k1_off1_inb i k k1_h1)).toLoadRect X4)⟩,
       ⟨Rect.unit (k1_off2 k) S384x128.size (k1_off2_inb i k k1_h1), k1_pay2 (F := Ideal) (arg3.view.readAt (Elt Ideal) (Rect.unit (s := S384x18944) (k1_off1 k) S384x128.size (k1_off1_inb i k k1_h1)).toLoadRect X3)⟩] := by
  unfold tripL_k1_t1 trip_k1_t1
  rfl

/-- Every piece of one trip of the first loop is the left operand on its rectangle. -/
theorem trip1_pieces (k1_h1 : k1_cond1 i = 1#1) (X3 : BufTy.Contents (Elt Ideal) arg3.view.ty) (X4 : BufTy.Contents (Elt Ideal) arg4.view.ty) (k : Fin k1_t1_loop.trips) :
    ∀ p ∈ tripL_k1_t1 (F := Ideal) 𝒱 c bd i arg2 harg2 arg3 harg3 arg4 harg4 arg5 harg5 arg6 harg6 arg7 harg7 arg8 harg8 arg9 harg9 k1_h1 X3 X4 k,
      ∀ x : p.1.shape.Idx, p.2 x = lhs (arg3.view.read (Elt Ideal) X3) (arg4.view.read (Elt Ideal) X4) (p.1.emb x) := by
  rw [trip1_eq]
  intro p hp
  simp only [List.mem_cons, List.not_mem_nil, or_false] at hp
  rcases hp with rfl | rfl
  · intro x
    have h0 : ((Rect.unit (s := S768x18944) (k1_off3 k) S384x128.size (k1_off3_inb i k k1_h1)).emb x 0).val = 384 + (x 0).val := by
      exact (Rect.idx_unit_val _ _ _ x 0).trans (congrArg (· + (x 0).val) (k1_off3_row k))
    have h1 : ((Rect.unit (s := S768x18944) (k1_off3 k) S384x128.size (k1_off3_inb i k k1_h1)).emb x 1).val = 128 * k.val + (x 1).val := by
      exact (Rect.idx_unit_val _ _ _ x 1).trans (congrArg (· + (x 1).val) (k1_off3_col k))
    refine (pay3_apply _ x).trans ?_
    unfold lhs
    rw [dif_neg (by rw [h0]; omega)]
    refine congrArg Dx.num (congrArg (arg4.view.read (Elt Ideal) X4) (funext fun a => Fin.ext ?_))
    match a with
    | ⟨0, _⟩ =>
      refine (Rect.idx_unit_val (s := S384x18944) (k1_off1 k) S384x128.size (k1_off1_inb i k k1_h1) x 0).trans ((congrArg (· + (x 0).val) (k1_off1_row k)).trans ?_)
      show (0 + (x 0).val : ℕ) = ((Rect.unit (s := S768x18944) (k1_off3 k) S384x128.size (k1_off3_inb i k k1_h1)).emb x 0).val - 384; rw [h0]; omega
    | ⟨1, _⟩ =>
      refine (Rect.idx_unit_val (s := S384x18944) (k1_off1 k) S384x128.size (k1_off1_inb i k k1_h1) x 1).trans ((congrArg (· + (x 1).val) (k1_off1_col k)).trans ?_)
      exact h1.symm
  · intro x
    have hx : (x 0).val < 384 := (x 0).isLt
    have h0 : ((Rect.unit (s := S768x18944) (k1_off2 k) S384x128.size (k1_off2_inb i k k1_h1)).emb x 0).val = 0 + (x 0).val := by
      exact (Rect.idx_unit_val _ _ _ x 0).trans (congrArg (· + (x 0).val) (k1_off2_row k))
    have h1 : ((Rect.unit (s := S768x18944) (k1_off2 k) S384x128.size (k1_off2_inb i k k1_h1)).emb x 1).val = 128 * k.val + (x 1).val := by
      exact (Rect.idx_unit_val _ _ _ x 1).trans (congrArg (· + (x 1).val) (k1_off2_col k))
    refine (pay2_apply _ x).trans ?_
    unfold lhs
    rw [dif_pos (by rw [h0]; omega)]
    refine congrArg Dx.num (congrArg (arg3.view.read (Elt Ideal) X3) (funext fun a => Fin.ext ?_))
    match a with
    | ⟨0, _⟩ =>
      refine (Rect.idx_unit_val (s := S384x18944) (k1_off1 k) S384x128.size (k1_off1_inb i k k1_h1) x 0).trans ((congrArg (· + (x 0).val) (k1_off1_row k)).trans ?_)
      exact h0.symm
    | ⟨1, _⟩ =>
      refine (Rect.idx_unit_val (s := S384x18944) (k1_off1 k) S384x128.size (k1_off1_inb i k k1_h1) x 1).trans ((congrArg (· + (x 1).val) (k1_off1_col k)).trans ?_)
      exact h1.symm

/-- So is every piece of the trips before `k`. -/
theorem loop1_pieces (k1_h1 : k1_cond1 i = 1#1) (X3 : BufTy.Contents (Elt Ideal) arg3.view.ty) (X4 : BufTy.Contents (Elt Ideal) arg4.view.ty) :
    ∀ k : ℕ, k ≤ k1_t1_loop.trips → ∀ p ∈ pb_k1_t1 (F := Ideal) 𝒱 c bd i arg2 harg2 arg3 harg3 arg4 harg4 arg5 harg5 arg6 harg6 arg7 harg7 arg8 harg8 arg9 harg9 k1_h1 X3 X4 k,
      ∀ x : p.1.shape.Idx, p.2 x = lhs (arg3.view.read (Elt Ideal) X3) (arg4.view.read (Elt Ideal) X4) (p.1.emb x)
  | 0, _, p, hp => absurd hp List.not_mem_nil
  | k + 1, hk, p, hp => by
    rw [pb_k1_t1_succ (F := Ideal) 𝒱 c bd i arg2 harg2 arg3 harg3 arg4 harg4 arg5 harg5 arg6 harg6 arg7 harg7 arg8 harg8 arg9 harg9 k1_h1 X3 X4 ⟨k, hk⟩] at hp
    rcases List.mem_append.mp hp with h | h
    · exact trip1_pieces 𝒱 c bd i arg2 harg2 arg3 harg3 arg4 harg4 arg5 harg5 arg6 harg6 arg7 harg7 arg8 harg8 arg9 harg9 k1_h1 X3 X4 ⟨k, hk⟩ p h
    · exact loop1_pieces k1_h1 X3 X4 k (Nat.le_of_succ_le hk) p h

/-- After the first loop the scratch holds the left operand. -/
theorem loop1_canon (k1_h1 : k1_cond1 i = 1#1) (x1 x2 : Vec Ideal S384x18944 .i8) :
    View.canon (pb_k1_t1 (F := Ideal) 𝒱 c bd i arg2 harg2 arg3 harg3 arg4 harg4 arg5 harg5 arg6 harg6 arg7 harg7 arg8 harg8 arg9 harg9 k1_h1 (harg3.unread x1) (harg4.unread x2) k1_t1_loop.trips) = lhs x1 x2 := by
  funext y
  refine (View.canon_apply_of_pieces _ _ (loop1_pieces 𝒱 c bd i arg2 harg2 arg3 harg3 arg4 harg4 arg5 harg5 arg6 harg6 arg7 harg7 arg8 harg8 arg9 harg9 k1_h1 _ _ _ le_rfl) y ?_).trans ?_
  · exact View.cover_of_tiledL (pb_k1_t1 (F := Ideal) 𝒱 c bd i arg2 harg2 arg3 harg3 arg4 harg4 arg5 harg5 arg6 harg6 arg7 harg7 arg8 harg8 arg9 harg9 k1_h1 (harg3.unread x1) (harg4.unread x2) k1_t1_loop.trips) S384x128.size (by sl_kernel_rfl) y
  · rw [harg3.read_unread, harg4.read_unread]

/-- The two pieces of one trip of the second loop: a block of rows of the weights' high halves on the right columns, of
    their low halves on the left ones. -/
theorem trip2_eq (X2 : BufTy.Contents (Elt Ideal) arg2.view.ty) (k : Fin k1_t2_loop.trips) :
    tripL_k1_t2 (F := Ideal) 𝒱 c bd i arg2 harg2 arg3 harg3 arg4 harg4 arg5 harg5 arg6 harg6 arg7 harg7 arg8 harg8 arg9 harg9 X2 k =
      [⟨Rect.unit (k1_off6 k) S256x128.size (k1_off6_inb k), k1_pay6 (F := Ideal) (arg2.view.readAt (Elt Ideal) (Rect.unit (s := S18944x128) (k1_off4 k) S256x128.size (k1_off4_inb k)).toLoadRect X2)⟩,
       ⟨Rect.unit (k1_off5 k) S256x128.size (k1_off5_inb k), k1_pay5 (F := Ideal) (arg2.view.readAt (Elt Ideal) (Rect.unit (s := S18944x128) (k1_off4 k) S256x128.size (k1_off4_inb k)).toLoadRect X2)⟩] := by
  unfold tripL_k1_t2 trip_k1_t2
  rfl

/-- Every piece of one trip of the second loop is the right operand on its rectangle. -/
theorem trip2_pieces (X2 : BufTy.Contents (Elt Ideal) arg2.view.ty) (k : Fin k1_t2_loop.trips) :
    ∀ p ∈ tripL_k1_t2 (F := Ideal) 𝒱 c bd i arg2 harg2 arg3 harg3 arg4 harg4 arg5 harg5 arg6 harg6 arg7 harg7 arg8 harg8 arg9 harg9 X2 k,
      ∀ x : p.1.shape.Idx, p.2 x = rhs (arg2.view.read (Elt Ideal) X2) (p.1.emb x) := by
  rw [trip2_eq]
  intro p hp
  simp only [List.mem_cons, List.not_mem_nil, or_false] at hp
  rcases hp with rfl | rfl
  · intro x
    have h0 : ((Rect.unit (s := S18944x256) (k1_off6 k) S256x128.size (k1_off6_inb k)).emb x 0).val = 256 * k.val + (x 0).val := by
      exact (Rect.idx_unit_val _ _ _ x 0).trans (congrArg (· + (x 0).val) (k1_off6_row k))
    have h1 : ((Rect.unit (s := S18944x256) (k1_off6 k) S256x128.size (k1_off6_inb k)).emb x 1).val = 128 + (x 1).val := by
      exact (Rect.idx_unit_val _ _ _ x 1).trans (congrArg (· + (x 1).val) (k1_off6_col k))
    refine (pay6_apply _ x).trans ?_
    unfold rhs
    rw [dif_neg (by rw [h1]; omega)]
    refine congrArg (fun b => ((Dx.high b : ℝ) : EReal)) (congrArg (arg2.view.read (Elt Ideal) X2) (funext fun a => Fin.ext ?_))
    match a with
    | ⟨0, _⟩ =>
      refine (Rect.idx_unit_val (s := S18944x128) (k1_off4 k) S256x128.size (k1_off4_inb k) x 0).trans ((congrArg (· + (x 0).val) (k1_off4_row k)).trans ?_)
      exact h0.symm
    | ⟨1, _⟩ =>
      refine (Rect.idx_unit_val (s := S18944x128) (k1_off4 k) S256x128.size (k1_off4_inb k) x 1).trans ((congrArg (· + (x 1).val) (k1_off4_col k)).trans ?_)
      show (0 + (x 1).val : ℕ) = ((Rect.unit (s := S18944x256) (k1_off6 k) S256x128.size (k1_off6_inb k)).emb x 1).val - 128; rw [h1]; omega
  · intro x
    have hx : (x 1).val < 128 := (x 1).isLt
    have h0 : ((Rect.unit (s := S18944x256) (k1_off5 k) S256x128.size (k1_off5_inb k)).emb x 0).val = 256 * k.val + (x 0).val := by
      exact (Rect.idx_unit_val _ _ _ x 0).trans (congrArg (· + (x 0).val) (k1_off5_row k))
    have h1 : ((Rect.unit (s := S18944x256) (k1_off5 k) S256x128.size (k1_off5_inb k)).emb x 1).val = 0 + (x 1).val := by
      exact (Rect.idx_unit_val _ _ _ x 1).trans (congrArg (· + (x 1).val) (k1_off5_col k))
    refine (pay5_apply _ x).trans ?_
    unfold rhs
    rw [dif_pos (by rw [h1]; omega)]
    refine congrArg (fun b => ((Dx.low b : ℝ) : EReal)) (congrArg (arg2.view.read (Elt Ideal) X2) (funext fun a => Fin.ext ?_))
    match a with
    | ⟨0, _⟩ =>
      refine (Rect.idx_unit_val (s := S18944x128) (k1_off4 k) S256x128.size (k1_off4_inb k) x 0).trans ((congrArg (· + (x 0).val) (k1_off4_row k)).trans ?_)
      exact h0.symm
    | ⟨1, _⟩ =>
      refine (Rect.idx_unit_val (s := S18944x128) (k1_off4 k) S256x128.size (k1_off4_inb k) x 1).trans ((congrArg (· + (x 1).val) (k1_off4_col k)).trans ?_)
      exact h1.symm

/-- So is every piece of the trips before `k`. -/
theorem loop2_pieces (X2 : BufTy.Contents (Elt Ideal) arg2.view.ty) :
    ∀ k : ℕ, k ≤ k1_t2_loop.trips → ∀ p ∈ pb_k1_t2 (F := Ideal) 𝒱 c bd i arg2 harg2 arg3 harg3 arg4 harg4 arg5 harg5 arg6 harg6 arg7 harg7 arg8 harg8 arg9 harg9 X2 k,
      ∀ x : p.1.shape.Idx, p.2 x = rhs (arg2.view.read (Elt Ideal) X2) (p.1.emb x)
  | 0, _, p, hp => absurd hp List.not_mem_nil
  | k + 1, hk, p, hp => by
    rw [pb_k1_t2_succ (F := Ideal) 𝒱 c bd i arg2 harg2 arg3 harg3 arg4 harg4 arg5 harg5 arg6 harg6 arg7 harg7 arg8 harg8 arg9 harg9 X2 ⟨k, hk⟩] at hp
    rcases List.mem_append.mp hp with h | h
    · exact trip2_pieces 𝒱 c bd i arg2 harg2 arg3 harg3 arg4 harg4 arg5 harg5 arg6 harg6 arg7 harg7 arg8 harg8 arg9 harg9 X2 ⟨k, hk⟩ p h
    · exact loop2_pieces X2 k (Nat.le_of_succ_le hk) p h

/-- After the second loop the scratch holds the right operand. -/
theorem loop2_canon (x0 : Vec Ideal S18944x128 .i8) :
    View.canon (pb_k1_t2 (F := Ideal) 𝒱 c bd i arg2 harg2 arg3 harg3 arg4 harg4 arg5 harg5 arg6 harg6 arg7 harg7 arg8 harg8 arg9 harg9 (harg2.unread x0) k1_t2_loop.trips) = rhs x0 := by
  funext y
  refine (View.canon_apply_of_pieces _ _ (loop2_pieces 𝒱 c bd i arg2 harg2 arg3 harg3 arg4 harg4 arg5 harg5 arg6 harg6 arg7 harg7 arg8 harg8 arg9 harg9 _ _ le_rfl) y ?_).trans ?_
  · exact View.cover_of_tiledL (pb_k1_t2 (F := Ideal) 𝒱 c bd i arg2 harg2 arg3 harg3 arg4 harg4 arg5 harg5 arg6 harg6 arg7 harg7 arg8 harg8 arg9 harg9 (harg2.unread x0) k1_t2_loop.trips) S256x128.size (by sl_kernel_rfl) y
  · rw [harg2.read_unread]

end

/-- The block a point stores, from its two operands, its rows' scales and its columns' scales. -/
abbrev block (a : Vec Ideal S768x18944 .fp8e4m3) (b : Vec Ideal S18944x256 .fp8e4m3) (x4 : Vec Ideal S384x128 .f32) (x3 : Vec Ideal S1x1x256 .f32) : Vec Ideal S384x256 .bf16 :=
  k1_pay1 (F := Ideal) (k1_pay7 (F := Ideal) a b x4 x3) (k1_pay8 (F := Ideal)) (constant S384x256 .f32 0x00000000#32)

section
variable (c : Dev nD) (i : grid1.Coords) (arg2 : Memref sig .tc .vmem S18944x128 .i8) (harg2 : arg2.IsWhole) (arg3 : Memref sig .tc .vmem S384x18944 .i8) (harg3 : arg3.IsWhole) (arg4 : Memref sig .tc .vmem S384x18944 .i8) (harg4 : arg4.IsWhole) (arg5 : Memref sig .tc .vmem S1x1x256 .f32) (harg5 : arg5.IsWhole) (arg6 : Memref sig .tc .vmem S384x128 .f32) (harg6 : arg6.IsWhole) (arg7 : Memref sig .tc .vmem S384x256 .bf16) (harg7 : arg7.IsWhole) (arg8 : Memref sig .tc .vmem S768x18944 .fp8e4m3) (harg8 : arg8.IsWhole) (arg9 : Memref sig .tc .vmem S18944x256 .fp8e4m3) (harg9 : arg9.IsWhole)
  (x0 : Vec Ideal S18944x128 .i8) (x1 : Vec Ideal S384x18944 .i8) (x2 : Vec Ideal S384x18944 .i8) (x3 : Vec Ideal S1x1x256 .f32) (x4 : Vec Ideal S384x128 .f32)

/-- Where the first loop runs, it leaves the left operand in its scratch. -/
theorem sout_A (hc0 : cond0_0 i) : sout0_A_0 (F := Ideal) c i arg2 harg2 arg3 harg3 arg4 harg4 arg5 harg5 arg6 harg6 arg7 harg7 arg8 harg8 arg9 harg9 hc0 x0 x1 x2 x3 x4 = lhs x1 x2 := by
  unfold sout0_A_0
  rw [View.read_writes_junk_eq_canon]
  unfold kernelRun0_A
  exact loop1_canon Variants.none c none i arg2 harg2 arg3 harg3 arg4 harg4 arg5 harg5 arg6 harg6 arg7 harg7 arg8 harg8 arg9 harg9 hc0 x1 x2

/-- Where the first loop runs, the point stores the block of the two operands. -/
theorem out_A (hc0 : cond0_0 i) : out0_A_5 (F := Ideal) c i arg2 harg2 arg3 harg3 arg4 harg4 arg5 harg5 arg6 harg6 arg7 harg7 arg8 harg8 arg9 harg9 hc0 x0 x1 x2 x3 x4 = block (lhs x1 x2) (rhs x0) x4 x3 := by
  unfold out0_A_5
  rw [View.read_writes_junk_eq_canon]
  unfold kernelRun0_A
  dsimp only
  sl_unfold_words
  have e1 := loop1_canon Variants.none c none i arg2 harg2 arg3 harg3 arg4 harg4 arg5 harg5 arg6 harg6 arg7 harg7 arg8 harg8 arg9 harg9 hc0 x1 x2
  have e2 := loop2_canon Variants.none c none i arg2 harg2 arg3 harg3 arg4 harg4 arg5 harg5 arg6 harg6 arg7 harg7 arg8 harg8 arg9 harg9 x0
  rw [View.canon_unit_zero hz2]
  refine congrArg (fun v => k1_pay1 (F := Ideal) v (k1_pay8 (F := Ideal)) (constant S384x256 .f32 0x00000000#32)) (congr (congr (congr (congrArg (k1_pay7 (F := Ideal)) ?_) ?_) ?_) ?_)
  · rw [View.readCov_eq_canon']
    exact (View.ld_unit_zero hz2 _ _).trans e1
  · rw [View.readCov_eq_canon']
    exact (View.ld_unit_zero hz2 _ _).trans e2
  · rw [View.readAt_eq_ld, View.ld_unit_zero hz2, harg6.read_unread]
  · rw [View.readAt_eq_ld, View.ld_unit_zero hz3, harg5.read_unread]

/-- Elsewhere, the point stores the block of what the scratch held and the right operand. -/
theorem out_B (hc0 : ¬ cond0_0 i) (xs : Vec Ideal S768x18944 .fp8e4m3) :
    out0_B_5 (F := Ideal) c i arg2 harg2 arg3 harg3 arg4 harg4 arg5 harg5 arg6 harg6 arg7 harg7 arg8 harg8 arg9 harg9 hc0 x0 x1 x2 x3 x4 xs = block xs (rhs x0) x4 x3 := by
  unfold out0_B_5
  rw [View.read_writes_junk_eq_canon]
  unfold kernelRun0_B
  dsimp only
  sl_unfold_words
  have e2 := loop2_canon Variants.none c none i arg2 harg2 arg3 harg3 arg4 harg4 arg5 harg5 arg6 harg6 arg7 harg7 arg8 harg8 arg9 harg9 x0
  rw [View.canon_unit_zero hz2]
  refine congrArg (fun v => k1_pay1 (F := Ideal) v (k1_pay8 (F := Ideal)) (constant S384x256 .f32 0x00000000#32)) (congr (congr (congr (congrArg (k1_pay7 (F := Ideal)) ?_) ?_) ?_) ?_)
  · rw [View.readAt_eq_ld, View.ld_unit_zero hz2, harg8.read_unread]
  · rw [View.readCov_eq_canon']
    exact (View.ld_unit_zero hz2 _ _).trans e2
  · rw [View.readAt_eq_ld, View.ld_unit_zero hz2, harg6.read_unread]
  · rw [View.readAt_eq_ld, View.ld_unit_zero hz3, harg5.read_unread]

end
end Cert.BothDx
end
-- ==== Proof.BothDxTile.lean ====
module

public import proofs.«01_k».proof.Proof.BothDxBody
public import proofs.«01_k».proof.Proof.DxTile
public import Idealize.ShloMosaic.Lib.Pointwise

@[expose] public section

noncomputable section

/-! The block a grid point stores, read at an index. -/

namespace Cert.BothDx

open Cert.BothIdeal Cert.BothIdeal.Gen Idealize.ShloMosaic Idealize.ShloMosaic.TcCoe
open scoped BigOperators

/-- The column of the weighted product that column `cc` of the block is. -/
abbrev src := Cert.DxBody.src

/-- The block is the reordered weighted product. -/
theorem block_eq (a : Vec Ideal S768x18944 .fp8e4m3) (b : Vec Ideal S18944x256 .fp8e4m3) (x4 : Vec Ideal S384x128 .f32) (x3 : Vec Ideal S1x1x256 .f32) :
    block a b x4 x3 = Cert.DxBody.reorder (Cert.DxBody.weighted (Cert.DxBody.prod a b) (shapeCast S384x128 x4 shapeCasts_S384x128_S384x128) x3) Cert.DxBody.hot := rfl

/-- A reshape to the same shape changes nothing. -/
theorem same_apply (x : FVec Ideal S384x128 .f32) (r : Fin 384) (j : Fin 128) : shapeCast S384x128 x shapeCasts_S384x128_S384x128 (ix2 r j) = x (ix2 r j) := by
  pointwise

/-- The block at a row and a column. -/
theorem block_apply (a : Vec Ideal S768x18944 .fp8e4m3) (b : Vec Ideal S18944x256 .fp8e4m3) (x4 : Vec Ideal S384x128 .f32) (x3 : Vec Ideal S1x1x256 .f32)
    (r : Fin 384) (cc : Fin 256) :
    block a b x4 x3 (ix2 r cc) =
      ((x4 (ix2 r 0) * ∑ o : Fin 18944, a (ix2 ⟨r.val, by omega⟩ o) * b (ix2 o (src cc))
        + x4 (ix2 r 1) * ∑ o : Fin 18944, a (ix2 ⟨384 + r.val, by omega⟩ o) * b (ix2 o (src cc))) * x3 (ix3 0 0 (src cc)) : EReal) := by
  rw [block_eq, Cert.DxBody.reorder_apply, Finset.sum_eq_single (src cc)]
  · rw [Cert.DxBody.hot_apply, if_pos rfl, Cert.DxBody.weighted_apply, Cert.DxBody.prod_apply, Cert.DxBody.prod_apply, same_apply, same_apply]
    exact mul_one _
  · intro j _ hj
    rw [Cert.DxBody.hot_apply, if_neg hj]
    exact mul_zero _
  · intro h; exact absurd (Finset.mem_univ _) h

end Cert.BothDx
end
-- ==== Proof.BothDxPoints.lean ====
module

public import proofs.«01_k».proof.Proof.BothDxTile

@[expose] public section

noncomputable section

/-! The kernel's result, read at an index: every grid point's input blocks as pieces of the contents the call finds, the scratch over a
    sweep of a block of rows, and the array the points fill. -/

namespace Cert.BothDx

open Cert.BothIdeal Cert.BothIdeal.Gen Cert.BothIdeal.Dx Idealize.ShloMosaic Idealize.ShloMosaic.TcCoe
open scoped BigOperators

variable (m : (c : Dev nD) → (b : Ref sig .tc) → Buf (Elt Ideal) ((c : Thread nD τ).loc b)) (c : Dev nD)

/-! ## The input blocks of a point -/

/-- The block indices of the five input windows: point `t` is row block `t / 14` and column block `t % 14`. -/
theorem idx0 : ∀ t : Fin cfg1.N, win1_0.index t (0 : Fin 2) = 0 ∧ win1_0.index t (1 : Fin 2) = t.val % 14 :=
  (by decide +kernel : ∀ t : Fin grid1.N, _)
theorem idx1 : ∀ t : Fin cfg1.N, win1_1.index t (0 : Fin 2) = t.val / 14 ∧ win1_1.index t (1 : Fin 2) = 0 :=
  (by decide +kernel : ∀ t : Fin grid1.N, _)
theorem idx2 : ∀ t : Fin cfg1.N, win1_2.index t (0 : Fin 2) = t.val / 14 ∧ win1_2.index t (1 : Fin 2) = 0 :=
  (by decide +kernel : ∀ t : Fin grid1.N, _)
theorem idx3 : ∀ t : Fin cfg1.N, win1_3.index t (0 : Fin 3) = t.val % 14 ∧ win1_3.index t (1 : Fin 3) = 0 ∧ win1_3.index t (2 : Fin 3) = 0 :=
  (by decide +kernel : ∀ t : Fin grid1.N, _)
theorem idx4 : ∀ t : Fin cfg1.N, win1_4.index t (0 : Fin 2) = t.val / 14 ∧ win1_4.index t (1 : Fin 2) = 0 :=
  (by decide +kernel : ∀ t : Fin grid1.N, _)

theorem lt56 (t : Fin cfg1.N) : t.val < 56 := lt_of_lt_of_eq t.isLt N_1

/-- The packed weights' block: columns `128 * (t % 14)` and on. -/
theorem blk_wp (t : Fin cfg1.N) (o : Fin 18944) (i : Fin 128) :
    iblk m c 0 t (ix2 o i : S18944x128.Idx) = m c main_arg2 (ix2 o ⟨t.val % 14 * 128 + i.val, by omega⟩ : S18944x1792.Idx) := by
  obtain ⟨e0, e1⟩ := idx0 t
  have hV := congrFun (rfl : V m c main_arg2 = m c main_arg2) (((cfg1.win 0).blk t).view.emb (ix2 o i : S18944x128.Idx))
  refine hV.trans (congrArg (m c main_arg2) (funext fun a => Fin.ext ?_))
  match a with
  | ⟨0, _⟩ => show win1_0.index t (0 : Fin 2) * 18944 + 1 * o.val = o.val; rw [e0]; omega
  | ⟨1, _⟩ => show win1_0.index t (1 : Fin 2) * 128 + 1 * i.val = t.val % 14 * 128 + i.val; rw [e1]; omega

/-- The first codes' block: rows `384 * (t / 14)` and on. -/
theorem blk_qh (t : Fin cfg1.N) (r : Fin 384) (o : Fin 18944) :
    iblk m c 1 t (ix2 r o : S384x18944.Idx) = m c main_v2_0 (ix2 ⟨t.val / 14 * 384 + r.val, by have := lt56 t; omega⟩ o : S1536x18944.Idx) := by
  obtain ⟨e0, e1⟩ := idx1 t
  have hV := congrFun (rfl : V m c main_v2_0 = m c main_v2_0) (((cfg1.win 1).blk t).view.emb (ix2 r o : S384x18944.Idx))
  refine hV.trans (congrArg (m c main_v2_0) (funext fun a => Fin.ext ?_))
  match a with
  | ⟨0, _⟩ => show win1_1.index t (0 : Fin 2) * 384 + 1 * r.val = t.val / 14 * 384 + r.val; rw [e0]; omega
  | ⟨1, _⟩ => show win1_1.index t (1 : Fin 2) * 18944 + 1 * o.val = o.val; rw [e1]; omega

/-- The second codes' block: rows `384 * (t / 14)` and on. -/
theorem blk_ql (t : Fin cfg1.N) (r : Fin 384) (o : Fin 18944) :
    iblk m c 2 t (ix2 r o : S384x18944.Idx) = m c main_v2_1 (ix2 ⟨t.val / 14 * 384 + r.val, by have := lt56 t; omega⟩ o : S1536x18944.Idx) := by
  obtain ⟨e0, e1⟩ := idx2 t
  have hV := congrFun (rfl : V m c main_v2_1 = m c main_v2_1) (((cfg1.win 2).blk t).view.emb (ix2 r o : S384x18944.Idx))
  refine hV.trans (congrArg (m c main_v2_1) (funext fun a => Fin.ext ?_))
  match a with
  | ⟨0, _⟩ => show win1_2.index t (0 : Fin 2) * 384 + 1 * r.val = t.val / 14 * 384 + r.val; rw [e0]; omega
  | ⟨1, _⟩ => show win1_2.index t (1 : Fin 2) * 18944 + 1 * o.val = o.val; rw [e1]; omega

/-- The rows' scales' block: rows `384 * (t / 14)` and on. -/
theorem blk_st (t : Fin cfg1.N) (r : Fin 384) (o : Fin 128) :
    iblk m c 4 t (ix2 r o : S384x128.Idx) = m c main_v2_4 (ix2 ⟨t.val / 14 * 384 + r.val, by have := lt56 t; omega⟩ o : S1536x128.Idx) := by
  obtain ⟨e0, e1⟩ := idx4 t
  have hV := congrFun (rfl : V m c main_v2_4 = m c main_v2_4) (((cfg1.win 4).blk t).view.emb (ix2 r o : S384x128.Idx))
  refine hV.trans (congrArg (m c main_v2_4) (funext fun a => Fin.ext ?_))
  match a with
  | ⟨0, _⟩ => show win1_4.index t (0 : Fin 2) * 384 + 1 * r.val = t.val / 14 * 384 + r.val; rw [e0]; omega
  | ⟨1, _⟩ => show win1_4.index t (1 : Fin 2) * 128 + 1 * o.val = o.val; rw [e1]; omega

/-- The columns' scales as the host lays them out: even columns first in each block of 256. -/
abbrev laid (s : FVec Ideal S3584 .f32) : FVec Ideal S14x1x256 .f32 :=
  shapeCast S14x1x256 (transpose S14x2x128 [0, 2, 1] (shapeCast S14x128x2 s shapeCasts_S3584_S14x128x2) transposes_S14x128x2_S14x2x128_0_2_1) shapeCasts_S14x2x128_S14x1x256

/-- The layout at an index. -/
theorem laid_apply (s : FVec Ideal S3584 .f32) (n : Fin 14) (j : Fin 256) :
    laid s (ix3 n 0 j) = s (ix1 ⟨n.val * 256 + (j.val % 128) * 2 + j.val / 128, by omega⟩) := by
  unfold laid
  pointwise

/- The call finds that layout of the scales `sc` in its fourth operand. -/
variable (sc : FVec Ideal S3584 .f32) (hs : m c main_v5 = laid sc)
include hs

/-- The columns' scales' block. -/
theorem blk_ws (t : Fin cfg1.N) (j : Fin 256) :
    iblk m c 3 t (ix3 0 0 j : S1x1x256.Idx) = sc (ix1 ⟨t.val % 14 * 256 + (j.val % 128) * 2 + j.val / 128, by omega⟩ : S3584.Idx) := by
  obtain ⟨e0, e1, e2⟩ := idx3 t
  have hV := congrFun (hs) (((cfg1.win 3).blk t).view.emb (ix3 0 0 j : S1x1x256.Idx))
  refine (hV.trans (congrArg (laid sc) (?_ : _ = (ix3 ⟨t.val % 14, by omega⟩ 0 j : S14x1x256.Idx)))).trans (laid_apply _ _ _)
  funext a
  refine Fin.ext ?_
  match a with
  | ⟨0, _⟩ => show win1_3.index t (0 : Fin 3) * 1 + 1 * 0 = t.val % 14; rw [e0]; omega
  | ⟨1, _⟩ => show win1_3.index t (1 : Fin 3) * 1 + 1 * 0 = 0; rw [e1]
  | ⟨2, _⟩ => show win1_3.index t (2 : Fin 3) * 256 + 1 * j.val = j.val; rw [e2]; omega

omit hs

/-! ## What every point leaves -/

/-- The blocks of codes are those of the row block alone. -/
theorem blk1_congr (t t' : Fin cfg1.N) (h : t.val / 14 = t'.val / 14) : (iblk m c 1 t : S384x18944.Idx → BitVec 8) = iblk m c 1 t' := by
  funext y
  rw [← ix2_eta y]
  exact (blk_qh m c t _ _).trans ((congrArg (fun r => m c main_v2_0 (ix2 r (y 1) : S1536x18944.Idx)) (Fin.ext (by simp only [h]))).trans (blk_qh m c t' _ _).symm)
theorem blk2_congr (t t' : Fin cfg1.N) (h : t.val / 14 = t'.val / 14) : (iblk m c 2 t : S384x18944.Idx → BitVec 8) = iblk m c 2 t' := by
  funext y
  rw [← ix2_eta y]
  exact (blk_ql m c t _ _).trans ((congrArg (fun r => m c main_v2_1 (ix2 r (y 1) : S1536x18944.Idx)) (Fin.ext (by simp only [h]))).trans (blk_ql m c t' _ _).symm)

/-- After every point the scratch holds the left operand of the point's row block. -/
theorem scratch : ∀ (n : ℕ) (hn : n < cfg1.N), (outsAt0 m c n hn).2 = lhs (iblk m c 1 ⟨n, hn⟩) (iblk m c 2 ⟨n, hn⟩)
  | 0, hn => by
    rw [outsAt0_A m c ⟨0, hn⟩ (Nat.zero_mod _)]
    exact sout_A ..
  | n + 1, hn => by
    by_cases h0 : (n + 1) % 14 = 0
    · rw [outsAt0_A m c ⟨n + 1, hn⟩ h0]
      exact sout_A ..
    · rw [outsAt0_B m c ⟨n + 1, hn⟩ h0]
      refine (scratch n (Nat.lt_of_succ_lt hn)).trans ?_
      rw [blk1_congr m c ⟨n, Nat.lt_of_succ_lt hn⟩ ⟨n + 1, hn⟩ (by show n / 14 = (n + 1) / 14; omega),
        blk2_congr m c ⟨n, Nat.lt_of_succ_lt hn⟩ ⟨n + 1, hn⟩ (by show n / 14 = (n + 1) / 14; omega)]

/-- Every point stores the block of its own blocks. -/
theorem stored (t : Fin cfg1.N) : (outsAt0 m c t.val t.isLt).1 = block (lhs (iblk m c 1 t) (iblk m c 2 t)) (rhs (iblk m c 0 t)) (iblk m c 4 t) (iblk m c 3 t) := by
  by_cases h0 : t.val % 14 = 0
  · rw [outsAt0_A m c t h0]
    exact out_A ..
  · rw [outsAt0_B m c t h0]
    have hs := scratch m c (t.val - 1) (Nat.lt_of_le_of_lt (Nat.sub_le _ _) t.isLt)
    have e1 := blk1_congr m c ⟨t.val - 1, Nat.lt_of_le_of_lt (Nat.sub_le _ _) t.isLt⟩ t (by show (t.val - 1) / 14 = t.val / 14; omega)
    have e2 := blk2_congr m c ⟨t.val - 1, Nat.lt_of_le_of_lt (Nat.sub_le _ _) t.isLt⟩ t (by show (t.val - 1) / 14 = t.val / 14; omega)
    rw [e1, e2] at hs
    rw [hs]
    have key := out_B c (grid1.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (fun h => h0 ((hcond0_0 t).mp h)) (lhs (iblk m c 1 t) (iblk m c 2 t))
    dsimp only
    with_reducible exact key

include hs in
/-- The stored block at an index, from the arrays. -/
theorem stored_apply (t : Fin cfg1.N) (r : Fin 384) (j : Fin 256) (hr : t.val / 14 * 384 + r.val < 1536) (hq : t.val % 14 * 256 + j.val < 3584) :
    (outsAt0 m c t.val t.isLt).1 (ix2 r j) = Dx.out (m c main_v2_0) (m c main_v2_1) (m c main_arg2) sc (m c main_v2_4)
      ⟨t.val / 14 * 384 + r.val, hr⟩ ⟨t.val % 14 * 256 + j.val, hq⟩ := by
  have hR : ∀ o : Fin 18944, rhs (iblk m c 0 t) (ix2 o (src j)) = Dx.weight (m c main_arg2) o ⟨t.val % 14 * 256 + j.val, hq⟩ := by
    intro o
    unfold rhs Dx.weight
    by_cases h : j.val % 2 < 1
    · have h1 : (ix2 o (src j) 1).val < 128 := by show j.val / 2 + j.val % 2 * 128 < 128; omega
      rw [dif_pos h1, if_pos (by show (t.val % 14 * 256 + j.val) % 2 < 1; omega)]
      refine congrArg (fun b => ((Dx.low b : ℝ) : EReal)) ((blk_wp m c t o _).trans (congrArg (fun q => m c main_arg2 (ix2 o q : S18944x1792.Idx)) (Fin.ext ?_)))
      show t.val % 14 * 128 + (j.val / 2 + j.val % 2 * 128) = (t.val % 14 * 256 + j.val) / 2
      omega
    · have h1 : ¬ (ix2 o (src j) 1).val < 128 := by show ¬ j.val / 2 + j.val % 2 * 128 < 128; omega
      rw [dif_neg h1, if_neg (by show ¬ (t.val % 14 * 256 + j.val) % 2 < 1; omega)]
      refine congrArg (fun b => ((Dx.high b : ℝ) : EReal)) ((blk_wp m c t o _).trans (congrArg (fun q => m c main_arg2 (ix2 o q : S18944x1792.Idx)) (Fin.ext ?_)))
      show t.val % 14 * 128 + (j.val / 2 + j.val % 2 * 128 - 128) = (t.val % 14 * 256 + j.val) / 2
      omega
  have hH : ∀ o : Fin 18944, lhs (iblk m c 1 t) (iblk m c 2 t) (ix2 ⟨r.val, by omega⟩ o) = Dx.num (m c main_v2_0 (ix2 ⟨t.val / 14 * 384 + r.val, hr⟩ o : S1536x18944.Idx)) := by
    intro o
    unfold lhs
    refine (dif_pos (show r.val < 384 from r.isLt)).trans ?_
    exact congrArg Dx.num (blk_qh m c t r o)
  have hL : ∀ o : Fin 18944, lhs (iblk m c 1 t) (iblk m c 2 t) (ix2 ⟨384 + r.val, by omega⟩ o) = Dx.num (m c main_v2_1 (ix2 ⟨t.val / 14 * 384 + r.val, hr⟩ o : S1536x18944.Idx)) := by
    intro o
    unfold lhs
    refine (dif_neg (show ¬ 384 + r.val < 384 by omega)).trans ?_
    refine congrArg Dx.num ((blk_ql m c t _ o).trans (congrArg (fun q => m c main_v2_1 (ix2 q o : S1536x18944.Idx)) (Fin.ext ?_)))
    show t.val / 14 * 384 + (384 + r.val - 384) = t.val / 14 * 384 + r.val
    omega
  have hS : iblk m c 3 t (ix3 0 0 (src j) : S1x1x256.Idx) = sc (ix1 ⟨t.val % 14 * 256 + j.val, hq⟩ : S3584.Idx) := by
    refine (blk_ws m c sc hs t (src j)).trans (congrArg (fun q => sc (ix1 q : S3584.Idx)) (Fin.ext ?_))
    show t.val % 14 * 256 + (j.val / 2 + j.val % 2 * 128) % 128 * 2 + (j.val / 2 + j.val % 2 * 128) / 128 = t.val % 14 * 256 + j.val
    omega
  rw [stored, block_apply]
  unfold Dx.out
  simp only [hR, hH, hL]
  rw [hS, show iblk m c 4 t (ix2 r 0 : S384x128.Idx) = _ from blk_st m c t r 0, show iblk m c 4 t (ix2 r 1 : S384x128.Idx) = _ from blk_st m c t r 1]

/-- The call's result array. -/
def dxG : Vec Ideal S1536x3584 .bf16 := fun y => Dx.out (m c main_v2_0) (m c main_v2_1) (m c main_arg2) sc (m c main_v2_4) (y 0) (y 1)

/-- The result window's block indices. -/
theorem idx5 : ∀ t : Fin cfg1.N, win1_5.index t (0 : Fin 2) = t.val / 14 ∧ win1_5.index t (1 : Fin 2) = t.val % 14 :=
  (by decide +kernel : ∀ t : Fin grid1.N, _)

include hs in
/-- What point `t` writes back is block `t` of the array. -/
theorem flushed5 (t : Fin cfg1.N) (_ : (cfg1.win 5).flush t = true) :
    (dats m 0 c).flushed 5 t = ((cfg1.win 5).blk t).view.read (Elt Ideal) (dxG m c sc) := by
  show (cfg1.win 5).cut (grid1.coords t) ((dats m 0 c).after 5 t) = _
  rw [after0_5]
  obtain ⟨e0, e1⟩ := idx5 t
  funext y
  have hy0 : (y 0).val < 384 := (y 0).isLt
  have hy1 : (y 1).val < 256 := (y 1).isLt
  have ht := lt56 t
  have key := stored_apply m c sc hs t ⟨(y 0).val, hy0⟩ ⟨(y 1).val, hy1⟩ (by show t.val / 14 * 384 + (y 0).val < 1536; omega) (by show t.val % 14 * 256 + (y 1).val < 3584; omega)
  have hl : (cfg1.win 5).xinj (grid1.coords t) y = (ix2 ⟨(y 0).val, hy0⟩ ⟨(y 1).val, hy1⟩ : S384x256.Idx) := by
    funext a
    match a with
    | ⟨0, _⟩ => rfl
    | ⟨1, _⟩ => rfl
  have hr : ((cfg1.win 5).blk t).view.emb y = (ix2 ⟨t.val / 14 * 384 + (y 0).val, by omega⟩ ⟨t.val % 14 * 256 + (y 1).val, by omega⟩ : S1536x3584.Idx) := by
    funext a
    refine Fin.ext ?_
    match a with
    | ⟨0, _⟩ => show win1_5.index t (0 : Fin 2) * 384 + 1 * (y 0).val = t.val / 14 * 384 + (y 0).val; rw [e0]; omega
    | ⟨1, _⟩ => show win1_5.index t (1 : Fin 2) * 256 + 1 * (y 1).val = t.val % 14 * 256 + (y 1).val; rw [e1]; omega
  show (outsAt0 m c t.val t.isLt).1 ((cfg1.win 5).xinj (grid1.coords t) y) = dxG m c sc (((cfg1.win 5).blk t).view.emb y)
  rw [hl, hr]
  exact key

/-- Every index is in a block that is written back. -/
theorem covered5 (i : S1536x3584.Idx) : ∃ t : Fin cfg1.N, (cfg1.win 5).flush t = true ∧ i ∈ ((cfg1.win 5).blk t).view.set := by
  have hi0 : (i 0).val < 1536 := (i 0).isLt
  have hi1 : (i 1).val < 3584 := (i 1).isLt
  have hN : 14 * ((i 0).val / 384) + (i 1).val / 256 < grid1.N := lt_of_lt_of_eq (by omega) N_1.symm
  refine ⟨⟨14 * ((i 0).val / 384) + (i 1).val / 256, hN⟩, (by decide +kernel : ∀ t : Fin grid1.N, win1_5.flush t = true) _, ?_⟩
  obtain ⟨e0, e1⟩ := idx5 ⟨14 * ((i 0).val / 384) + (i 1).val / 256, hN⟩
  generalize ht : (⟨14 * ((i 0).val / 384) + (i 1).val / 256, hN⟩ : Fin cfg1.N) = t at e0 e1 ⊢
  have hv : t.val = 14 * ((i 0).val / 384) + (i 1).val / 256 := by rw [← ht]
  show i ∈ ((View.whole main_v6).slice (win1_5.rect t)).set
  rw [View.set_slice_whole, Rect.mem_set_unit]
  intro a
  match a with
  | ⟨0, _⟩ =>
    show win1_5.index t (0 : Fin 2) * 384 ≤ (i 0).val ∧ (i 0).val < win1_5.index t (0 : Fin 2) * 384 + 384
    rw [e0]
    omega
  | ⟨1, _⟩ =>
    show win1_5.index t (1 : Fin 2) * 256 ≤ (i 1).val ∧ (i 1).val < win1_5.index t (1 : Fin 2) * 256 + 256
    rw [e1]
    omega

include hs in
/-- The array after the run. -/
theorem final5 : (dats m 0 c).arrAt 5 cfg1.N = dxG m c sc :=
  (dats m 0 c).arrAt_eq_of_cover 5 _ (fun t hf => flushed5 m c sc hs t hf) (fun i => covered5 i)

end Cert.BothDx
end
-- ==== Proof.BothPoints.lean ====
module

public import proofs.«01_k».proof.Proof.BothRunI
public import proofs.«01_k».proof.Proof.BothQPoints
public import proofs.«01_k».proof.Proof.BothDxPoints

@[expose] public section

set_option maxRecDepth 8192

noncomputable section

/-! The two calls together: what the second finds is what the first left, and the four results from the program's
    arguments. -/

namespace Cert.BothPoints

open Cert.BothIdeal Cert.BothIdeal.Gen Cert.BothIdeal.Joint Idealize.ShloMosaic Idealize.ShloMosaic.TcCoe

variable (m : (ℓ : Loc nD τ sig) → Buf (Elt Ideal) ℓ) (ρ : Dev nD → PrngReg) (c : Dev nD)

/-- The gradient and the packed integers the first call finds, one row per token. -/
theorem E0_dy : E0 m c main_v0 = shapeCast S1536x18944 (m ((c.tc : Thread nD τ).loc main_arg0)) shapeCasts_S6x256x18944_S1536x18944 := rfl
theorem E0_x : E0 m c main_v1 = shapeCast S1536x1792 (m ((c.tc : Thread nD τ).loc main_arg1)) shapeCasts_S6x256x1792_S1536x1792 := rfl

/-- The first call's arrays, from the program's arguments. -/
abbrev hi : Vec Ideal S1536x18944 .i8 := Cert.BothQuant.hiG (E0 m) c
abbrev lo : Vec Ideal S1536x18944 .i8 := Cert.BothQuant.loG (E0 m) c
abbrev st : Vec Ideal S1536x128 .f32 := Cert.BothQuant.stG (E0 m) c

/-- The second call finds them, -/
theorem E1_hi : E1 m c main_v2_0 = hi m c := (W3_of m c main_v2_0 (by decide)).trans ((W2_v2_0 m c).trans (Cert.BothQuant.final2 (E0 m) c))
theorem E1_lo : E1 m c main_v2_1 = lo m c := (W3_of m c main_v2_1 (by decide)).trans ((W2_v2_1 m c).trans (Cert.BothQuant.final3 (E0 m) c))
theorem E1_st : E1 m c main_v2_4 = st m c := (W3_of m c main_v2_4 (by decide)).trans ((W2_v2_4 m c).trans (Cert.BothQuant.final6 (E0 m) c))
/-- the packed weights, -/
theorem E1_wp : E1 m c main_arg2 = m ((c.tc : Thread nD τ).loc main_arg2) :=
  (W3_of m c main_arg2 (by decide)).trans ((W2_of m c main_arg2 (by decide) (by decide) (by decide)).trans ((V1_of m c main_arg2 (by decide)).trans rfl))
/-- and the columns' scales in their layout. -/
theorem E1_sc : E1 m c main_v5 = Cert.BothDx.laid (m ((c.tc : Thread nD τ).loc main_arg3)) := by
  have h : W2 m c (Proc.devRef .tc main_arg3) = m ((c.tc : Thread nD τ).loc main_arg3) :=
    (W2_of m c main_arg3 (by decide) (by decide) (by decide)).trans ((V1_of m c main_arg3 (by decide)).trans rfl)
  have k : ∀ V : Valuation τ sig (Elt Ideal), StableHlo.after hostOps1 V (Proc.devRef .tc main_v5) = Cert.BothDx.laid (V (Proc.devRef .tc main_arg3)) := fun _ => rfl
  exact (k (W2 m c)).trans (congrArg Cert.BothDx.laid h)

/-- The second call's array, from the program's arguments. -/
def dx : Vec Ideal S1536x3584 .bf16 := fun y =>
  Cert.Dx.out (hi m c) (lo m c) (m ((c.tc : Thread nD τ).loc main_arg2)) (m ((c.tc : Thread nD τ).loc main_arg3)) (st m c) (y 0) (y 1)

theorem final : (Dx.dats (E1 m) 0 c).arrAt 5 cfg1.N = dx m c := by
  refine (Cert.BothDx.final5 (E1 m) c (m ((c.tc : Thread nD τ).loc main_arg3)) (E1_sc m c)).trans ?_
  unfold Cert.BothDx.dxG dx
  rw [E1_hi, E1_lo, E1_st, E1_wp]

/-- Every run ends with the four results at those arrays and the arguments unchanged. -/
theorem run : θ_run defs (onTc (τ := τ) (main (F := Ideal))) ⟨m, fun _ => 0, ρ⟩ (fun r => ∀ c : Dev nD,
      r.2.mem ((c.tc : Thread nD τ).loc main_v6) = dx m c
      ∧ r.2.mem ((c.tc : Thread nD τ).loc main_v2_0) = hi m c
      ∧ r.2.mem ((c.tc : Thread nD τ).loc main_v2_1) = lo m c
      ∧ r.2.mem ((c.tc : Thread nD τ).loc main_v2_4) = st m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.1.trans (final m c), (h c).1.2.1.trans (Cert.BothQuant.final2 (E0 m) c),
    (h c).1.2.2.1.trans (Cert.BothQuant.final3 (E0 m) c), (h c).1.2.2.2.trans (Cert.BothQuant.final6 (E0 m) c), (h c).2⟩)
    (Joint.run (F := Ideal) m ρ)

end Cert.BothPoints
end
-- ==== Proof.BothRef.lean ====
module

public import proofs.«01_k».proof.Proof.Gen.BothReferenceIdeal.Run
public import proofs.«01_k».proof.Proof.QRef
public import proofs.«01_k».proof.Proof.DxRef

@[expose] public section

set_option maxRecDepth 16384

noncomputable section

/-! The reference of the two calls together: its codes and row figures are those of the quantiser's reference, and its
    gradient is the `dx` reference's term of them. -/

namespace Cert.BothRef

open Cert.BothReferenceIdeal Cert.BothReferenceIdeal.Gen Cert.BothReferenceIdeal.Value Idealize.ShloMosaic Idealize.ShloMosaic.TcCoe
  Idealize.ShloMosaic.StableHlo

variable (V0 : Valuation τ sig (Elt Ideal))

/-- The first codes. -/
theorem hi_eq : res_main_v15 V0 = Cert.QuantRef.q1 (V0 (Proc.devRef .tc main_arg0)) := rfl
/-- The second codes. -/
theorem lo_eq : res_main_v35 V0 = Cert.QuantRef.q2 (V0 (Proc.devRef .tc main_arg0)) := rfl
/-- The row figures. -/
theorem st_eq : res_main_v76 V0 = Cert.QuantRef.figures (V0 (Proc.devRef .tc main_arg0)) (V0 (Proc.devRef .tc main_arg1)) := rfl
/-- The two planes of codes as numbers. -/
theorem parts_eq : res_main_v105 V0 = Cert.DxRef.parts (res_main_v15 V0) (res_main_v35 V0) := rfl
/-- Their products with the low and with the high halves of the weights. -/
theorem lowDots_eq : res_main_v106 V0 = Cert.DxRef.dots (res_main_v105 V0) (Cert.DxRef.wLo (V0 (Proc.devRef .tc main_arg2))) := rfl
theorem highDots_eq : res_main_v107 V0 = Cert.DxRef.dots (res_main_v105 V0) (Cert.DxRef.wHi (V0 (Proc.devRef .tc main_arg2))) := rfl

/-- The gradient of the codes, the weights, the scales and the figures of a launch's contents. -/
abbrev dx : FVec Ideal S1536x3584 .bf16 :=
  Cert.DxRef.weave
    (Cert.DxRef.half (res_main_v76 V0) (res_main_v106 V0) (Cert.DxRef.evenScales (V0 (Proc.devRef .tc main_arg3))))
    (Cert.DxRef.half (res_main_v76 V0) (res_main_v107 V0) (Cert.DxRef.oddScales (V0 (Proc.devRef .tc main_arg3))))

/-- It at row `r` and column `q`. -/
theorem dx_apply (r : Fin 1536) (q : Fin 3584) :
    dx V0 (ix2 r q) = Cert.Dx.out (Cert.QuantRef.q1 (V0 (Proc.devRef .tc main_arg0))) (Cert.QuantRef.q2 (V0 (Proc.devRef .tc main_arg0)))
      (V0 (Proc.devRef .tc main_arg2)) (V0 (Proc.devRef .tc main_arg3))
      (Cert.QuantRef.figures (V0 (Proc.devRef .tc main_arg0)) (V0 (Proc.devRef .tc main_arg1))) r q := by
  unfold dx
  rw [lowDots_eq, highDots_eq, parts_eq, hi_eq, lo_eq, st_eq]
  exact Cert.DxRef.term_apply ..

/-- Every run ends with the four results at those terms and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v140) = dx (launchContents m c)
      ∧ r.2.mem ((c.tc : Thread nD τ).loc main_v15) = Cert.QuantRef.q1 (m ((c.tc : Thread nD τ).loc main_arg0))
      ∧ r.2.mem ((c.tc : Thread nD τ).loc main_v35) = Cert.QuantRef.q2 (m ((c.tc : Thread nD τ).loc main_arg0))
      ∧ r.2.mem ((c.tc : Thread nD τ).loc main_v76) = Cert.QuantRef.figures (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans (hi_eq _), (h c).2.2.1.trans (lo_eq _), (h c).2.2.2.1.trans (st_eq _), (h c).2.2.2.2⟩)
    (Cert.BothReferenceIdeal.Value.run (F := Ideal) m ρ)

end Cert.BothRef
end
-- ==== Proof.lean ====
/- The claims of this folder, put together. The `dx` call: its frames are its generated frame modules, and its result is
   Proof/DxPoints.lean's on the kernel's side and Proof/DxRef.lean's on the reference's. The quantising call: its frames are
   Proof/QFrameK.lean and Proof/QFrameI.lean, and its three results are Proof/QPoints.lean's and Proof/QRef.lean's. The two
   calls one after the other: the run is Proof/BothRunK.lean's and Proof/BothRunI.lean's, the four results are
   Proof/BothPoints.lean's and Proof/BothRef.lean's. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.DxPoints
public import proofs.«01_k».proof.Proof.DxRef
public import proofs.«01_k».proof.Proof.Gen.Quantise.Frame
public import proofs.«01_k».proof.Proof.Gen.QuantiseIdeal.Frame
public import proofs.«01_k».proof.Proof.Gen.QuantiseReferenceIdeal.Run
public import proofs.«01_k».proof.Proof.QFrameK
public import proofs.«01_k».proof.Proof.QPoints
public import proofs.«01_k».proof.Proof.QRef
public import proofs.«01_k».proof.Proof.Gen.BothReferenceIdeal.Run
public import proofs.«01_k».proof.Proof.BothRunK
public import proofs.«01_k».proof.Proof.BothPoints
public import proofs.«01_k».proof.Proof.BothRef

@[expose] public section

noncomputable section

namespace Cert.Proof

open Idealize.ShloMosaic Idealize.SL.Sem

/-- The reference runs to its end, touches nothing but its result and leaves no semaphore raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals, from equal arguments, the kernel and the reference leave the same result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine (h c).1.trans ?_
  obtain ⟨h0, h1, h2, h3, h4⟩ := hagree c
  funext i
  obtain ⟨r, q, rfl⟩ : ∃ (r : Fin 1536) (q : Fin 3584), i = ix2 r q := ⟨i 0, i 1, (ix2_eta i).symm⟩
  refine (Cert.DxRef.res_apply m' c r q).trans (Eq.trans ?_ (Cert.DxBody.G5_apply m c r q).symm)
  rw [h0, h1, h2, h3, h4]

/-- The quantiser's reference runs to its end, touches nothing but its results and leaves no semaphore raised. -/
theorem quiescent_QuantiseReferenceIdeal : quiescent_QuantiseReferenceIdeal := fun m ρ _ =>
  (θ_run Cert.QuantiseReferenceIdeal.defs _ _).mono (fun r h => ⟨fun c => (h c).2.2.2, sem_eq_zero_of_no_sems (by decide) r.2⟩)
    (Cert.QuantiseReferenceIdeal.Value.run (F := Ideal) m ρ)

/-- Over the reals, from equal arguments, the quantising call and its reference leave the same codes and row figures. -/
theorem algebraic_QuantiseIdeal_QuantiseReferenceIdeal : algebraic_QuantiseIdeal_QuantiseReferenceIdeal := by
  intro m ρ m' ρ' _ hagree
  refine ⟨fun c => Cert.QuantBody.hiG m c, fun c => Cert.QuantBody.loG m c, fun c => Cert.QuantBody.stG m c, ?_, ?_⟩
  · refine (θ_run Cert.QuantiseIdeal.defs _ _).mono (fun _ h c => ?_) (Cert.QuantiseIdeal.Quant.run (F := Ideal) m ρ)
    obtain ⟨⟨k0, k1, k2⟩, k3⟩ := h c
    exact ⟨k0.trans (Cert.QuantBody.final2 m c), k1.trans (Cert.QuantBody.final3 m c), k2.trans (Cert.QuantBody.final6 m c), k3⟩
  · refine (θ_run Cert.QuantiseReferenceIdeal.defs _ _).mono (fun _ h c => ?_) (Cert.QuantiseReferenceIdeal.Value.run (F := Ideal) m' ρ')
    obtain ⟨k0, k1, k2, k3⟩ := h c
    obtain ⟨h0, h1⟩ := hagree c
    let d : FVec Ideal Cert.QuantiseIdeal.S6x256x18944 .bf16 := m' ((c.tc : Thread Cert.QuantiseReferenceIdeal.nD Cert.QuantiseReferenceIdeal.τ).loc Cert.QuantiseReferenceIdeal.main_arg0)
    let x : IVec Cert.QuantiseIdeal.S6x256x1792 8 := m' ((c.tc : Thread Cert.QuantiseReferenceIdeal.nD Cert.QuantiseReferenceIdeal.τ).loc Cert.QuantiseReferenceIdeal.main_arg1)
    have hrow : ∀ r : Fin 1536, Cert.QuantRef.row d r = Cert.QuantBody.dyRow m c r := fun r => funext fun o =>
      congrArg (fun A : FVec Ideal Cert.QuantiseIdeal.S6x256x18944 .bf16 => (shapeCast Cert.QuantiseIdeal.S1536x18944 A Cert.QuantiseIdeal.Gen.shapeCasts_S6x256x18944_S1536x18944) (ix2 r o)) h0
    have hx : ∀ r : Fin 1536, Cert.QuantRef.xrow x r = Cert.QuantBody.xRow m c r := fun r => funext fun o =>
      congrArg (fun A : IVec Cert.QuantiseIdeal.S6x256x1792 8 => (shapeCast Cert.QuantiseIdeal.S1536x1792 A Cert.QuantiseIdeal.Gen.shapeCasts_S6x256x1792_S1536x1792) (ix2 r o)) h1
    refine ⟨k0.trans ?_, (k1.trans (Cert.QuantRef.lowRes_eq m' c)).trans ?_, (k2.trans (Cert.QuantRef.statRes_eq m' c)).trans ?_, k3⟩
    · show Cert.QuantRef.q1 d = Cert.QuantBody.hiG m c
      funext i
      obtain ⟨r, o, rfl⟩ : ∃ (r : Fin 1536) (o : Fin 18944), i = ix2 r o := ⟨i 0, i 1, (ix2_eta i).symm⟩
      exact (Cert.QuantRef.q1_apply d r o).trans (congrArg (fun v : Fin 18944 → EReal => Cert.Quant.bits (v o) (Cert.Quant.sHi v)) (hrow r))
    · funext i
      obtain ⟨r, o, rfl⟩ : ∃ (r : Fin 1536) (o : Fin 18944), i = ix2 r o := ⟨i 0, i 1, (ix2_eta i).symm⟩
      exact (Cert.QuantRef.q2_apply d r o).trans (congrArg (fun v : Fin 18944 → EReal => Cert.Quant.bits (Cert.Quant.rest v o) (Cert.Quant.sLo v)) (hrow r))
    · funext i
      obtain ⟨r, k, rfl⟩ : ∃ (r : Fin 1536) (k : Fin 128), i = ix2 r k := ⟨i 0, i 1, (ix2_eta i).symm⟩
      exact (Cert.QuantRef.figures_apply d x r k).trans
        (congrArg₂ (fun (v : Fin 18944 → EReal) (x : Fin 1792 → BitVec 8) => Cert.Quant.stat v x k) (hrow r) (hx r))

/-- The reference of the two calls together runs to its end, touches nothing but its results and leaves no semaphore raised. -/
theorem quiescent_BothReferenceIdeal : quiescent_BothReferenceIdeal := fun m ρ _ =>
  (θ_run Cert.BothReferenceIdeal.defs _ _).mono (fun r h => ⟨fun c => (h c).2.2.2.2, sem_eq_zero_of_no_sems (by decide) r.2⟩)
    (Cert.BothReferenceIdeal.Value.run (F := Ideal) m ρ)

/-- Over the reals, from equal arguments, the two calls together and their reference leave the same gradient, codes and row
    figures. -/
theorem algebraic_BothIdeal_BothReferenceIdeal : algebraic_BothIdeal_BothReferenceIdeal := by
  intro m ρ m' ρ' _ hagree
  refine ⟨fun c => Cert.BothPoints.dx m c, fun c => Cert.BothPoints.hi m c, fun c => Cert.BothPoints.lo m c, fun c => Cert.BothPoints.st m c,
    Cert.BothPoints.run m ρ, ?_⟩
  refine (θ_run Cert.BothReferenceIdeal.defs _ _).mono (fun _ h c => ?_) (Cert.BothRef.run m' ρ')
  obtain ⟨k0, k1, k2, k3, k4⟩ := h c
  obtain ⟨h0, h1, h2, h3⟩ := hagree c
  let d : FVec Ideal Cert.BothIdeal.S6x256x18944 .bf16 := m ((c.tc : Thread Cert.BothIdeal.nD Cert.BothIdeal.τ).loc Cert.BothIdeal.main_arg0)
  let x : IVec Cert.BothIdeal.S6x256x1792 8 := m ((c.tc : Thread Cert.BothIdeal.nD Cert.BothIdeal.τ).loc Cert.BothIdeal.main_arg1)
  have hrow : ∀ r : Fin 1536, Cert.QuantRef.row d r = Cert.BothQuant.dyRow (Cert.BothIdeal.Joint.E0 m) c r := fun r => funext fun o =>
    (congrFun (Cert.BothPoints.E0_dy m c) (ix2 r o)).symm
  have hx : ∀ r : Fin 1536, Cert.QuantRef.xrow x r = Cert.BothQuant.xRow (Cert.BothIdeal.Joint.E0 m) c r := fun r => funext fun o =>
    (congrFun (Cert.BothPoints.E0_x m c) (ix2 r o)).symm
  have e1 : Cert.QuantRef.q1 d = Cert.BothPoints.hi m c := by
    funext i
    obtain ⟨r, o, rfl⟩ : ∃ (r : Fin 1536) (o : Fin 18944), i = ix2 r o := ⟨i 0, i 1, (ix2_eta i).symm⟩
    exact (Cert.QuantRef.q1_apply d r o).trans (congrArg (fun v : Fin 18944 → EReal => Cert.Quant.bits (v o) (Cert.Quant.sHi v)) (hrow r))
  have e2 : Cert.QuantRef.q2 d = Cert.BothPoints.lo m c := by
    funext i
    obtain ⟨r, o, rfl⟩ : ∃ (r : Fin 1536) (o : Fin 18944), i = ix2 r o := ⟨i 0, i 1, (ix2_eta i).symm⟩
    exact (Cert.QuantRef.q2_apply d r o).trans (congrArg (fun v : Fin 18944 → EReal => Cert.Quant.bits (Cert.Quant.rest v o) (Cert.Quant.sLo v)) (hrow r))
  have e3 : Cert.QuantRef.figures d x = Cert.BothPoints.st m c := by
    funext i
    obtain ⟨r, k, rfl⟩ : ∃ (r : Fin 1536) (k : Fin 128), i = ix2 r k := ⟨i 0, i 1, (ix2_eta i).symm⟩
    exact (Cert.QuantRef.figures_apply d x r k).trans
      (congrArg₂ (fun (v : Fin 18944 → EReal) (x : Fin 1792 → BitVec 8) => Cert.Quant.stat v x k) (hrow r) (hx r))
  refine ⟨k0.trans ?_, (k1.trans (congrArg Cert.QuantRef.q1 h0)).trans e1, (k2.trans (congrArg Cert.QuantRef.q2 h0)).trans e2,
    (k3.trans (congrArg₂ Cert.QuantRef.figures h0 h1)).trans e3, k4⟩
  funext i
  obtain ⟨r, q, rfl⟩ : ∃ (r : Fin 1536) (q : Fin 3584), i = ix2 r q := ⟨i 0, i 1, (ix2_eta i).symm⟩
  refine (Cert.BothRef.dx_apply (StableHlo.launchContents m' c) r q).trans ?_
  have a0 : StableHlo.launchContents m' c (Proc.devRef .tc Cert.BothReferenceIdeal.main_arg0) = d := h0
  have a1 : StableHlo.launchContents m' c (Proc.devRef .tc Cert.BothReferenceIdeal.main_arg1) = x := h1
  have a2 : StableHlo.launchContents m' c (Proc.devRef .tc Cert.BothReferenceIdeal.main_arg2)
    = m ((c.tc : Thread Cert.BothIdeal.nD Cert.BothIdeal.τ).loc Cert.BothIdeal.main_arg2) := h2
  have a3 : StableHlo.launchContents m' c (Proc.devRef .tc Cert.BothReferenceIdeal.main_arg3)
    = m ((c.tc : Thread Cert.BothIdeal.nD Cert.BothIdeal.τ).loc Cert.BothIdeal.main_arg3) := h3
  rw [a0, a1, a2, a3, e1, e2, e3]
  rfl

/-- All the claims together. -/
theorem claim : Cert.Claim := ⟨Cert.Kernel.Gen.facts, Cert.KernelIdeal.Gen.facts, Cert.ReferenceIdeal.Gen.facts,
  Cert.Quantise.Gen.facts, Cert.QuantiseIdeal.Gen.facts, Cert.QuantiseReferenceIdeal.Gen.facts,
  Cert.Both.Gen.facts, Cert.BothIdeal.Gen.facts, Cert.BothReferenceIdeal.Gen.facts,
  fun m ρ _ => Cert.Kernel.Gen.frame m ρ, fun m ρ _ => Cert.KernelIdeal.Gen.frame m ρ, quiescent_ReferenceIdeal,
  fun m ρ _ => Cert.Quantise.Quant.frame m ρ, fun m ρ _ => Cert.QuantiseIdeal.Quant.frame m ρ, quiescent_QuantiseReferenceIdeal,
  fun m ρ _ => Cert.Both.Joint.frame m ρ, fun m ρ _ => Cert.BothIdeal.Joint.frame m ρ, quiescent_BothReferenceIdeal,
  (trivial : preserves_Kernel_KernelIdeal), algebraic_KernelIdeal_ReferenceIdeal,
  (trivial : preserves_Quantise_QuantiseIdeal), algebraic_QuantiseIdeal_QuantiseReferenceIdeal,
  (trivial : preserves_Both_BothIdeal), algebraic_BothIdeal_BothReferenceIdeal⟩

end Cert.Proof

end
